-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelReferenceIdeal (m : (ℓ : Loc Cert.KernelReferenceIdeal.nD Cert.KernelReferenceIdeal.τ Cert.KernelReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_PoolValue (m : (ℓ : Loc Cert.PoolValue.nD Cert.PoolValue.τ Cert.PoolValue.sig) → Buf (Elt Bits) ℓ) : Prop :=
  True

def Pre_PoolValueIdeal (m : (ℓ : Loc Cert.PoolValueIdeal.nD Cert.PoolValueIdeal.τ Cert.PoolValueIdeal.sig) → Buf (Elt Ideal) ℓ) : Prop :=
  True

def Pre_PoolValueReferenceIdeal (m : (ℓ : Loc Cert.PoolValueReferenceIdeal.nD Cert.PoolValueReferenceIdeal.τ Cert.PoolValueReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormReferenceIdeal (m : (ℓ : Loc Cert.OutNormReferenceIdeal.nD Cert.OutNormReferenceIdeal.τ Cert.OutNormReferenceIdeal.sig) → Buf (Elt Ideal) ℓ) : Prop :=
  True

def Pre_OutFinal (m : (ℓ : Loc Cert.OutFinal.nD Cert.OutFinal.τ Cert.OutFinal.sig) → Buf (Elt Bits) ℓ) : Prop :=
  True

def Pre_OutFinalIdeal (m : (ℓ : Loc Cert.OutFinalIdeal.nD Cert.OutFinalIdeal.τ Cert.OutFinalIdeal.sig) → Buf (Elt Ideal) ℓ) : Prop :=
  True

def Pre_OutFinalReferenceIdeal (m : (ℓ : Loc Cert.OutFinalReferenceIdeal.nD Cert.OutFinalReferenceIdeal.τ Cert.OutFinalReferenceIdeal.sig) → Buf (Elt Ideal) ℓ) : Prop :=
  True

def Pre_QueriesKeys (m : (ℓ : Loc Cert.QueriesKeys.nD Cert.QueriesKeys.τ Cert.QueriesKeys.sig) → Buf (Elt Bits) ℓ) : Prop :=
  True

def Pre_QueriesKeysIdeal (m : (ℓ : Loc Cert.QueriesKeysIdeal.nD Cert.QueriesKeysIdeal.τ Cert.QueriesKeysIdeal.sig) → Buf (Elt Ideal) ℓ) : Prop :=
  True

def Pre_QueriesKeysIdeal_tables_rotate [hPre_tables_rotate : Cert.Pre_tables_rotate.Facts] (m : (ℓ : Loc Cert.QueriesKeysIdeal.nD Cert.QueriesKeysIdeal.τ Cert.QueriesKeysIdeal.sig) → Buf (Elt Ideal) ℓ) : Prop :=
  ∀ c : Dev Cert.QueriesKeysIdeal.nD,
    (Cert.Pre_tables_rotate.fn (F := Ideal) (m ((c.tc : Thread Cert.QueriesKeysIdeal.nD Cert.QueriesKeysIdeal.τ).loc Cert.QueriesKeysIdeal.main_arg0)) (m ((c.tc : Thread Cert.QueriesKeysIdeal.nD Cert.QueriesKeysIdeal.τ).loc Cert.QueriesKeysIdeal.main_arg1)) (m ((c.tc : Thread Cert.QueriesKeysIdeal.nD Cert.QueriesKeysIdeal.τ).loc Cert.QueriesKeysIdeal.main_arg2))) = (fun _ => 1#1)

def Pre_QueriesKeysReferenceIdeal (m : (ℓ : Loc Cert.QueriesKeysReferenceIdeal.nD Cert.QueriesKeysReferenceIdeal.τ Cert.QueriesKeysReferenceIdeal.sig) → Buf (Elt Ideal) ℓ) : Prop :=
  True

def Pre_QueriesKeysReferenceIdeal_tables_rotate [hPre_tables_rotate : Cert.Pre_tables_rotate.Facts] (m : (ℓ : Loc Cert.QueriesKeysReferenceIdeal.nD Cert.QueriesKeysReferenceIdeal.τ Cert.QueriesKeysReferenceIdeal.sig) → Buf (Elt Ideal) ℓ) : Prop :=
  ∀ c : Dev Cert.QueriesKeysReferenceIdeal.nD,
    (Cert.Pre_tables_rotate.fn (F := Ideal) (m ((c.tc : Thread Cert.QueriesKeysReferenceIdeal.nD Cert.QueriesKeysReferenceIdeal.τ).loc Cert.QueriesKeysReferenceIdeal.main_arg0)) (m ((c.tc : Thread Cert.QueriesKeysReferenceIdeal.nD Cert.QueriesKeysReferenceIdeal.τ).loc Cert.QueriesKeysReferenceIdeal.main_arg1)) (m ((c.tc : Thread Cert.QueriesKeysReferenceIdeal.nD Cert.QueriesKeysReferenceIdeal.τ).loc Cert.QueriesKeysReferenceIdeal.main_arg2))) = (fun _ => 1#1)

def Pre_Indexer (m : (ℓ : Loc Cert.Indexer.nD Cert.Indexer.τ Cert.Indexer.sig) → Buf (Elt Bits) ℓ) : Prop :=
  True

def Pre_IndexerIdeal (m : (ℓ : Loc Cert.IndexerIdeal.nD Cert.IndexerIdeal.τ Cert.IndexerIdeal.sig) → Buf (Elt Ideal) ℓ) : Prop :=
  True

def Pre_IndexerIdeal_indexer_tables_rotate [hPre_indexer_tables_rotate : Cert.Pre_indexer_tables_rotate.Facts] (m : (ℓ : Loc Cert.IndexerIdeal.nD Cert.IndexerIdeal.τ Cert.IndexerIdeal.sig) → Buf (Elt Ideal) ℓ) : Prop :=
  ∀ c : Dev Cert.IndexerIdeal.nD,
    (Cert.Pre_indexer_tables_rotate.fn (F := Ideal) (m ((c.tc : Thread Cert.IndexerIdeal.nD Cert.IndexerIdeal.τ).loc Cert.IndexerIdeal.main_arg0)) (m ((c.tc : Thread Cert.IndexerIdeal.nD Cert.IndexerIdeal.τ).loc Cert.IndexerIdeal.main_arg1)) (m ((c.tc : Thread Cert.IndexerIdeal.nD Cert.IndexerIdeal.τ).loc Cert.IndexerIdeal.main_arg2))) = (fun _ => 1#1)

def Pre_IndexerReferenceIdeal (m : (ℓ : Loc Cert.IndexerReferenceIdeal.nD Cert.IndexerReferenceIdeal.τ Cert.IndexerReferenceIdeal.sig) → Buf (Elt Ideal) ℓ) : Prop :=
  True

def Pre_IndexerReferenceIdeal_indexer_tables_rotate [hPre_indexer_tables_rotate : Cert.Pre_indexer_tables_rotate.Facts] (m : (ℓ : Loc Cert.IndexerReferenceIdeal.nD Cert.IndexerReferenceIdeal.τ Cert.IndexerReferenceIdeal.sig) → Buf (Elt Ideal) ℓ) : Prop :=
  ∀ c : Dev Cert.IndexerReferenceIdeal.nD,
    (Cert.Pre_indexer_tables_rotate.fn (F := Ideal) (m ((c.tc : Thread Cert.IndexerReferenceIdeal.nD Cert.IndexerReferenceIdeal.τ).loc Cert.IndexerReferenceIdeal.main_arg0)) (m ((c.tc : Thread Cert.IndexerReferenceIdeal.nD Cert.IndexerReferenceIdeal.τ).loc Cert.IndexerReferenceIdeal.main_arg1)) (m ((c.tc : Thread Cert.IndexerReferenceIdeal.nD Cert.IndexerReferenceIdeal.τ).loc Cert.IndexerReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelReferenceIdeal [hKernelReferenceIdeal : Cert.KernelReferenceIdeal.Facts] : Prop :=
  ∀ (m : (ℓ : Loc Cert.KernelReferenceIdeal.nD Cert.KernelReferenceIdeal.τ Cert.KernelReferenceIdeal.sig) → Buf (Elt Ideal) ℓ) (g : Dev Cert.KernelReferenceIdeal.nD → PrngReg), Pre_KernelReferenceIdeal m →
    θ_run (Cert.KernelReferenceIdeal.defs (F := Ideal)) (onTc (τ := Cert.KernelReferenceIdeal.τ) (Cert.KernelReferenceIdeal.main (F := Ideal))) ⟨m, fun _ => 0, g⟩ (fun r => (∀ c : Dev Cert.KernelReferenceIdeal.nD,
      r.2.mem ((c.tc : Thread Cert.KernelReferenceIdeal.nD Cert.KernelReferenceIdeal.τ).loc Cert.KernelReferenceIdeal.main_arg0) = m ((c.tc : Thread Cert.KernelReferenceIdeal.nD Cert.KernelReferenceIdeal.τ).loc Cert.KernelReferenceIdeal.main_arg0)
      ∧ r.2.mem ((c.tc : Thread Cert.KernelReferenceIdeal.nD Cert.KernelReferenceIdeal.τ).loc Cert.KernelReferenceIdeal.main_arg1) = m ((c.tc : Thread Cert.KernelReferenceIdeal.nD Cert.KernelReferenceIdeal.τ).loc Cert.KernelReferenceIdeal.main_arg1)
      ∧ r.2.mem ((c.tc : Thread Cert.KernelReferenceIdeal.nD Cert.KernelReferenceIdeal.τ).loc Cert.KernelReferenceIdeal.main_arg2) = m ((c.tc : Thread Cert.KernelReferenceIdeal.nD Cert.KernelReferenceIdeal.τ).loc Cert.KernelReferenceIdeal.main_arg2)
      ∧ r.2.mem ((c.tc : Thread Cert.KernelReferenceIdeal.nD Cert.KernelReferenceIdeal.τ).loc Cert.KernelReferenceIdeal.main_arg3) = m ((c.tc : Thread Cert.KernelReferenceIdeal.nD Cert.KernelReferenceIdeal.τ).loc Cert.KernelReferenceIdeal.main_arg3)
      ∧ r.2.mem ((c.tc : Thread Cert.KernelReferenceIdeal.nD Cert.KernelReferenceIdeal.τ).loc Cert.KernelReferenceIdeal.main_arg4) = m ((c.tc : Thread Cert.KernelReferenceIdeal.nD Cert.KernelReferenceIdeal.τ).loc Cert.KernelReferenceIdeal.main_arg4)
      ∧ r.2.mem ((c.tc : Thread Cert.KernelReferenceIdeal.nD Cert.KernelReferenceIdeal.τ).loc Cert.KernelReferenceIdeal.main_arg5) = m ((c.tc : Thread Cert.KernelReferenceIdeal.nD Cert.KernelReferenceIdeal.τ).loc Cert.KernelReferenceIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_PoolValue [hPoolValue : Cert.PoolValue.Facts] : Prop :=
  ∀ (m : (ℓ : Loc Cert.PoolValue.nD Cert.PoolValue.τ Cert.PoolValue.sig) → Buf (Elt Bits) ℓ) (g : Dev Cert.PoolValue.nD → PrngReg), Pre_PoolValue m →
    θ_run (Cert.PoolValue.defs (F := Bits)) (onTc (τ := Cert.PoolValue.τ) (Cert.PoolValue.main (F := Bits))) ⟨m, fun _ => 0, g⟩ (fun r => (∀ c : Dev Cert.PoolValue.nD,
      r.2.mem ((c.tc : Thread Cert.PoolValue.nD Cert.PoolValue.τ).loc Cert.PoolValue.main_arg0) = m ((c.tc : Thread Cert.PoolValue.nD Cert.PoolValue.τ).loc Cert.PoolValue.main_arg0)
      ∧ r.2.mem ((c.tc : Thread Cert.PoolValue.nD Cert.PoolValue.τ).loc Cert.PoolValue.main_arg1) = m ((c.tc : Thread Cert.PoolValue.nD Cert.PoolValue.τ).loc Cert.PoolValue.main_arg1))
      ∧ r.2.sem = fun _ => 0)

def quiescent_PoolValueIdeal [hPoolValueIdeal : Cert.PoolValueIdeal.Facts] : Prop :=
  ∀ (m : (ℓ : Loc Cert.PoolValueIdeal.nD Cert.PoolValueIdeal.τ Cert.PoolValueIdeal.sig) → Buf (Elt Ideal) ℓ) (g : Dev Cert.PoolValueIdeal.nD → PrngReg), Pre_PoolValueIdeal m →
    θ_run (Cert.PoolValueIdeal.defs (F := Ideal)) (onTc (τ := Cert.PoolValueIdeal.τ) (Cert.PoolValueIdeal.main (F := Ideal))) ⟨m, fun _ => 0, g⟩ (fun r => (∀ c : Dev Cert.PoolValueIdeal.nD,
      r.2.mem ((c.tc : Thread Cert.PoolValueIdeal.nD Cert.PoolValueIdeal.τ).loc Cert.PoolValueIdeal.main_arg0) = m ((c.tc : Thread Cert.PoolValueIdeal.nD Cert.PoolValueIdeal.τ).loc Cert.PoolValueIdeal.main_arg0)
      ∧ r.2.mem ((c.tc : Thread Cert.PoolValueIdeal.nD Cert.PoolValueIdeal.τ).loc Cert.PoolValueIdeal.main_arg1) = m ((c.tc : Thread Cert.PoolValueIdeal.nD Cert.PoolValueIdeal.τ).loc Cert.PoolValueIdeal.main_arg1))
      ∧ r.2.sem = fun _ => 0)

def quiescent_PoolValueReferenceIdeal [hPoolValueReferenceIdeal : Cert.PoolValueReferenceIdeal.Facts] : Prop :=
  ∀ (m : (ℓ : Loc Cert.PoolValueReferenceIdeal.nD Cert.PoolValueReferenceIdeal.τ Cert.PoolValueReferenceIdeal.sig) → Buf (Elt Ideal) ℓ) (g : Dev Cert.PoolValueReferenceIdeal.nD → PrngReg), Pre_PoolValueReferenceIdeal m →
    θ_run (Cert.PoolValueReferenceIdeal.defs (F := Ideal)) (onTc (τ := Cert.PoolValueReferenceIdeal.τ) (Cert.PoolValueReferenceIdeal.main (F := Ideal))) ⟨m, fun _ => 0, g⟩ (fun r => (∀ c : Dev Cert.PoolValueReferenceIdeal.nD,
      r.2.mem ((c.tc : Thread Cert.PoolValueReferenceIdeal.nD Cert.PoolValueReferenceIdeal.τ).loc Cert.PoolValueReferenceIdeal.main_arg0) = m ((c.tc : Thread Cert.PoolValueReferenceIdeal.nD Cert.PoolValueReferenceIdeal.τ).loc Cert.PoolValueReferenceIdeal.main_arg0)
      ∧ r.2.mem ((c.tc : Thread Cert.PoolValueReferenceIdeal.nD Cert.PoolValueReferenceIdeal.τ).loc Cert.PoolValueReferenceIdeal.main_arg1) = m ((c.tc : Thread Cert.PoolValueReferenceIdeal.nD Cert.PoolValueReferenceIdeal.τ).loc Cert.PoolValueReferenceIdeal.main_arg1))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3)
      ∧ r.2.mem ((c.tc : Thread Cert.OutNorm.nD Cert.OutNorm.τ).loc Cert.OutNorm.main_arg4) = m ((c.tc : Thread Cert.OutNorm.nD Cert.OutNorm.τ).loc Cert.OutNorm.main_arg4)
      ∧ r.2.mem ((c.tc : Thread Cert.OutNorm.nD Cert.OutNorm.τ).loc Cert.OutNorm.main_arg5) = m ((c.tc : Thread Cert.OutNorm.nD Cert.OutNorm.τ).loc Cert.OutNorm.main_arg5)
      ∧ r.2.mem ((c.tc : Thread Cert.OutNorm.nD Cert.OutNorm.τ).loc Cert.OutNorm.main_arg6) = m ((c.tc : Thread Cert.OutNorm.nD Cert.OutNorm.τ).loc Cert.OutNorm.main_arg6))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
      ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4)
      ∧ r.2.mem ((c.tc : Thread Cert.OutNormIdeal.nD Cert.OutNormIdeal.τ).loc Cert.OutNormIdeal.main_arg5) = m ((c.tc : Thread Cert.OutNormIdeal.nD Cert.OutNormIdeal.τ).loc Cert.OutNormIdeal.main_arg5)
      ∧ r.2.mem ((c.tc : Thread Cert.OutNormIdeal.nD Cert.OutNormIdeal.τ).loc Cert.OutNormIdeal.main_arg6) = m ((c.tc : Thread Cert.OutNormIdeal.nD Cert.OutNormIdeal.τ).loc Cert.OutNormIdeal.main_arg6))
      ∧ r.2.sem = fun _ => 0)

def quiescent_OutNormReferenceIdeal [hOutNormReferenceIdeal : Cert.OutNormReferenceIdeal.Facts] : Prop :=
  ∀ (m : (ℓ : Loc Cert.OutNormReferenceIdeal.nD Cert.OutNormReferenceIdeal.τ Cert.OutNormReferenceIdeal.sig) → Buf (Elt Ideal) ℓ) (g : Dev Cert.OutNormReferenceIdeal.nD → PrngReg), Pre_OutNormReferenceIdeal m →
    θ_run (Cert.OutNormReferenceIdeal.defs (F := Ideal)) (onTc (τ := Cert.OutNormReferenceIdeal.τ) (Cert.OutNormReferenceIdeal.main (F := Ideal))) ⟨m, fun _ => 0, g⟩ (fun r => (∀ c : Dev Cert.OutNormReferenceIdeal.nD,
      r.2.mem ((c.tc : Thread Cert.OutNormReferenceIdeal.nD Cert.OutNormReferenceIdeal.τ).loc Cert.OutNormReferenceIdeal.main_arg0) = m ((c.tc : Thread Cert.OutNormReferenceIdeal.nD Cert.OutNormReferenceIdeal.τ).loc Cert.OutNormReferenceIdeal.main_arg0)
      ∧ r.2.mem ((c.tc : Thread Cert.OutNormReferenceIdeal.nD Cert.OutNormReferenceIdeal.τ).loc Cert.OutNormReferenceIdeal.main_arg1) = m ((c.tc : Thread Cert.OutNormReferenceIdeal.nD Cert.OutNormReferenceIdeal.τ).loc Cert.OutNormReferenceIdeal.main_arg1)
      ∧ r.2.mem ((c.tc : Thread Cert.OutNormReferenceIdeal.nD Cert.OutNormReferenceIdeal.τ).loc Cert.OutNormReferenceIdeal.main_arg2) = m ((c.tc : Thread Cert.OutNormReferenceIdeal.nD Cert.OutNormReferenceIdeal.τ).loc Cert.OutNormReferenceIdeal.main_arg2)
      ∧ r.2.mem ((c.tc : Thread Cert.OutNormReferenceIdeal.nD Cert.OutNormReferenceIdeal.τ).loc Cert.OutNormReferenceIdeal.main_arg3) = m ((c.tc : Thread Cert.OutNormReferenceIdeal.nD Cert.OutNormReferenceIdeal.τ).loc Cert.OutNormReferenceIdeal.main_arg3)
      ∧ r.2.mem ((c.tc : Thread Cert.OutNormReferenceIdeal.nD Cert.OutNormReferenceIdeal.τ).loc Cert.OutNormReferenceIdeal.main_arg4) = m ((c.tc : Thread Cert.OutNormReferenceIdeal.nD Cert.OutNormReferenceIdeal.τ).loc Cert.OutNormReferenceIdeal.main_arg4)
      ∧ r.2.mem ((c.tc : Thread Cert.OutNormReferenceIdeal.nD Cert.OutNormReferenceIdeal.τ).loc Cert.OutNormReferenceIdeal.main_arg5) = m ((c.tc : Thread Cert.OutNormReferenceIdeal.nD Cert.OutNormReferenceIdeal.τ).loc Cert.OutNormReferenceIdeal.main_arg5)
      ∧ r.2.mem ((c.tc : Thread Cert.OutNormReferenceIdeal.nD Cert.OutNormReferenceIdeal.τ).loc Cert.OutNormReferenceIdeal.main_arg6) = m ((c.tc : Thread Cert.OutNormReferenceIdeal.nD Cert.OutNormReferenceIdeal.τ).loc Cert.OutNormReferenceIdeal.main_arg6))
      ∧ r.2.sem = fun _ => 0)

def quiescent_OutFinal [hOutFinal : Cert.OutFinal.Facts] : Prop :=
  ∀ (m : (ℓ : Loc Cert.OutFinal.nD Cert.OutFinal.τ Cert.OutFinal.sig) → Buf (Elt Bits) ℓ) (g : Dev Cert.OutFinal.nD → PrngReg), Pre_OutFinal m →
    θ_run (Cert.OutFinal.defs (F := Bits)) (onTc (τ := Cert.OutFinal.τ) (Cert.OutFinal.main (F := Bits))) ⟨m, fun _ => 0, g⟩ (fun r => (∀ c : Dev Cert.OutFinal.nD,
      r.2.mem ((c.tc : Thread Cert.OutFinal.nD Cert.OutFinal.τ).loc Cert.OutFinal.main_arg0) = m ((c.tc : Thread Cert.OutFinal.nD Cert.OutFinal.τ).loc Cert.OutFinal.main_arg0)
      ∧ r.2.mem ((c.tc : Thread Cert.OutFinal.nD Cert.OutFinal.τ).loc Cert.OutFinal.main_arg1) = m ((c.tc : Thread Cert.OutFinal.nD Cert.OutFinal.τ).loc Cert.OutFinal.main_arg1)
      ∧ r.2.mem ((c.tc : Thread Cert.OutFinal.nD Cert.OutFinal.τ).loc Cert.OutFinal.main_arg2) = m ((c.tc : Thread Cert.OutFinal.nD Cert.OutFinal.τ).loc Cert.OutFinal.main_arg2)
      ∧ r.2.mem ((c.tc : Thread Cert.OutFinal.nD Cert.OutFinal.τ).loc Cert.OutFinal.main_arg3) = m ((c.tc : Thread Cert.OutFinal.nD Cert.OutFinal.τ).loc Cert.OutFinal.main_arg3)
      ∧ r.2.mem ((c.tc : Thread Cert.OutFinal.nD Cert.OutFinal.τ).loc Cert.OutFinal.main_arg4) = m ((c.tc : Thread Cert.OutFinal.nD Cert.OutFinal.τ).loc Cert.OutFinal.main_arg4))
      ∧ r.2.sem = fun _ => 0)

def quiescent_OutFinalIdeal [hOutFinalIdeal : Cert.OutFinalIdeal.Facts] : Prop :=
  ∀ (m : (ℓ : Loc Cert.OutFinalIdeal.nD Cert.OutFinalIdeal.τ Cert.OutFinalIdeal.sig) → Buf (Elt Ideal) ℓ) (g : Dev Cert.OutFinalIdeal.nD → PrngReg), Pre_OutFinalIdeal m →
    θ_run (Cert.OutFinalIdeal.defs (F := Ideal)) (onTc (τ := Cert.OutFinalIdeal.τ) (Cert.OutFinalIdeal.main (F := Ideal))) ⟨m, fun _ => 0, g⟩ (fun r => (∀ c : Dev Cert.OutFinalIdeal.nD,
      r.2.mem ((c.tc : Thread Cert.OutFinalIdeal.nD Cert.OutFinalIdeal.τ).loc Cert.OutFinalIdeal.main_arg0) = m ((c.tc : Thread Cert.OutFinalIdeal.nD Cert.OutFinalIdeal.τ).loc Cert.OutFinalIdeal.main_arg0)
      ∧ r.2.mem ((c.tc : Thread Cert.OutFinalIdeal.nD Cert.OutFinalIdeal.τ).loc Cert.OutFinalIdeal.main_arg1) = m ((c.tc : Thread Cert.OutFinalIdeal.nD Cert.OutFinalIdeal.τ).loc Cert.OutFinalIdeal.main_arg1)
      ∧ r.2.mem ((c.tc : Thread Cert.OutFinalIdeal.nD Cert.OutFinalIdeal.τ).loc Cert.OutFinalIdeal.main_arg2) = m ((c.tc : Thread Cert.OutFinalIdeal.nD Cert.OutFinalIdeal.τ).loc Cert.OutFinalIdeal.main_arg2)
      ∧ r.2.mem ((c.tc : Thread Cert.OutFinalIdeal.nD Cert.OutFinalIdeal.τ).loc Cert.OutFinalIdeal.main_arg3) = m ((c.tc : Thread Cert.OutFinalIdeal.nD Cert.OutFinalIdeal.τ).loc Cert.OutFinalIdeal.main_arg3)
      ∧ r.2.mem ((c.tc : Thread Cert.OutFinalIdeal.nD Cert.OutFinalIdeal.τ).loc Cert.OutFinalIdeal.main_arg4) = m ((c.tc : Thread Cert.OutFinalIdeal.nD Cert.OutFinalIdeal.τ).loc Cert.OutFinalIdeal.main_arg4))
      ∧ r.2.sem = fun _ => 0)

def quiescent_OutFinalReferenceIdeal [hOutFinalReferenceIdeal : Cert.OutFinalReferenceIdeal.Facts] : Prop :=
  ∀ (m : (ℓ : Loc Cert.OutFinalReferenceIdeal.nD Cert.OutFinalReferenceIdeal.τ Cert.OutFinalReferenceIdeal.sig) → Buf (Elt Ideal) ℓ) (g : Dev Cert.OutFinalReferenceIdeal.nD → PrngReg), Pre_OutFinalReferenceIdeal m →
    θ_run (Cert.OutFinalReferenceIdeal.defs (F := Ideal)) (onTc (τ := Cert.OutFinalReferenceIdeal.τ) (Cert.OutFinalReferenceIdeal.main (F := Ideal))) ⟨m, fun _ => 0, g⟩ (fun r => (∀ c : Dev Cert.OutFinalReferenceIdeal.nD,
      r.2.mem ((c.tc : Thread Cert.OutFinalReferenceIdeal.nD Cert.OutFinalReferenceIdeal.τ).loc Cert.OutFinalReferenceIdeal.main_arg0) = m ((c.tc : Thread Cert.OutFinalReferenceIdeal.nD Cert.OutFinalReferenceIdeal.τ).loc Cert.OutFinalReferenceIdeal.main_arg0)
      ∧ r.2.mem ((c.tc : Thread Cert.OutFinalReferenceIdeal.nD Cert.OutFinalReferenceIdeal.τ).loc Cert.OutFinalReferenceIdeal.main_arg1) = m ((c.tc : Thread Cert.OutFinalReferenceIdeal.nD Cert.OutFinalReferenceIdeal.τ).loc Cert.OutFinalReferenceIdeal.main_arg1)
      ∧ r.2.mem ((c.tc : Thread Cert.OutFinalReferenceIdeal.nD Cert.OutFinalReferenceIdeal.τ).loc Cert.OutFinalReferenceIdeal.main_arg2) = m ((c.tc : Thread Cert.OutFinalReferenceIdeal.nD Cert.OutFinalReferenceIdeal.τ).loc Cert.OutFinalReferenceIdeal.main_arg2)
      ∧ r.2.mem ((c.tc : Thread Cert.OutFinalReferenceIdeal.nD Cert.OutFinalReferenceIdeal.τ).loc Cert.OutFinalReferenceIdeal.main_arg3) = m ((c.tc : Thread Cert.OutFinalReferenceIdeal.nD Cert.OutFinalReferenceIdeal.τ).loc Cert.OutFinalReferenceIdeal.main_arg3)
      ∧ r.2.mem ((c.tc : Thread Cert.OutFinalReferenceIdeal.nD Cert.OutFinalReferenceIdeal.τ).loc Cert.OutFinalReferenceIdeal.main_arg4) = m ((c.tc : Thread Cert.OutFinalReferenceIdeal.nD Cert.OutFinalReferenceIdeal.τ).loc Cert.OutFinalReferenceIdeal.main_arg4))
      ∧ r.2.sem = fun _ => 0)

def quiescent_QueriesKeys [hQueriesKeys : Cert.QueriesKeys.Facts] : Prop :=
  ∀ (m : (ℓ : Loc Cert.QueriesKeys.nD Cert.QueriesKeys.τ Cert.QueriesKeys.sig) → Buf (Elt Bits) ℓ) (g : Dev Cert.QueriesKeys.nD → PrngReg), Pre_QueriesKeys m →
    θ_run (Cert.QueriesKeys.defs (F := Bits)) (onTc (τ := Cert.QueriesKeys.τ) (Cert.QueriesKeys.main (F := Bits))) ⟨m, fun _ => 0, g⟩ (fun r => (∀ c : Dev Cert.QueriesKeys.nD,
      r.2.mem ((c.tc : Thread Cert.QueriesKeys.nD Cert.QueriesKeys.τ).loc Cert.QueriesKeys.main_arg0) = m ((c.tc : Thread Cert.QueriesKeys.nD Cert.QueriesKeys.τ).loc Cert.QueriesKeys.main_arg0)
      ∧ r.2.mem ((c.tc : Thread Cert.QueriesKeys.nD Cert.QueriesKeys.τ).loc Cert.QueriesKeys.main_arg1) = m ((c.tc : Thread Cert.QueriesKeys.nD Cert.QueriesKeys.τ).loc Cert.QueriesKeys.main_arg1)
      ∧ r.2.mem ((c.tc : Thread Cert.QueriesKeys.nD Cert.QueriesKeys.τ).loc Cert.QueriesKeys.main_arg2) = m ((c.tc : Thread Cert.QueriesKeys.nD Cert.QueriesKeys.τ).loc Cert.QueriesKeys.main_arg2))
      ∧ r.2.sem = fun _ => 0)

def quiescent_QueriesKeysIdeal [hQueriesKeysIdeal : Cert.QueriesKeysIdeal.Facts] : Prop :=
  ∀ (m : (ℓ : Loc Cert.QueriesKeysIdeal.nD Cert.QueriesKeysIdeal.τ Cert.QueriesKeysIdeal.sig) → Buf (Elt Ideal) ℓ) (g : Dev Cert.QueriesKeysIdeal.nD → PrngReg), Pre_QueriesKeysIdeal m →
    θ_run (Cert.QueriesKeysIdeal.defs (F := Ideal)) (onTc (τ := Cert.QueriesKeysIdeal.τ) (Cert.QueriesKeysIdeal.main (F := Ideal))) ⟨m, fun _ => 0, g⟩ (fun r => (∀ c : Dev Cert.QueriesKeysIdeal.nD,
      r.2.mem ((c.tc : Thread Cert.QueriesKeysIdeal.nD Cert.QueriesKeysIdeal.τ).loc Cert.QueriesKeysIdeal.main_arg0) = m ((c.tc : Thread Cert.QueriesKeysIdeal.nD Cert.QueriesKeysIdeal.τ).loc Cert.QueriesKeysIdeal.main_arg0)
      ∧ r.2.mem ((c.tc : Thread Cert.QueriesKeysIdeal.nD Cert.QueriesKeysIdeal.τ).loc Cert.QueriesKeysIdeal.main_arg1) = m ((c.tc : Thread Cert.QueriesKeysIdeal.nD Cert.QueriesKeysIdeal.τ).loc Cert.QueriesKeysIdeal.main_arg1)
      ∧ r.2.mem ((c.tc : Thread Cert.QueriesKeysIdeal.nD Cert.QueriesKeysIdeal.τ).loc Cert.QueriesKeysIdeal.main_arg2) = m ((c.tc : Thread Cert.QueriesKeysIdeal.nD Cert.QueriesKeysIdeal.τ).loc Cert.QueriesKeysIdeal.main_arg2))
      ∧ r.2.sem = fun _ => 0)

def quiescent_QueriesKeysIdeal_pre_tables_rotate [hQueriesKeysIdeal : Cert.QueriesKeysIdeal.Facts] [hPre_tables_rotate : Cert.Pre_tables_rotate.Facts] : Prop :=
  ∀ (m : (ℓ : Loc Cert.QueriesKeysIdeal.nD Cert.QueriesKeysIdeal.τ Cert.QueriesKeysIdeal.sig) → Buf (Elt Ideal) ℓ) (g : Dev Cert.QueriesKeysIdeal.nD → PrngReg), Pre_QueriesKeysIdeal_tables_rotate m →
    θ_run (Cert.QueriesKeysIdeal.defs (F := Ideal)) (onTc (τ := Cert.QueriesKeysIdeal.τ) (Cert.QueriesKeysIdeal.main (F := Ideal))) ⟨m, fun _ => 0, g⟩ (fun r => (∀ c : Dev Cert.QueriesKeysIdeal.nD,
      r.2.mem ((c.tc : Thread Cert.QueriesKeysIdeal.nD Cert.QueriesKeysIdeal.τ).loc Cert.QueriesKeysIdeal.main_arg0) = m ((c.tc : Thread Cert.QueriesKeysIdeal.nD Cert.QueriesKeysIdeal.τ).loc Cert.QueriesKeysIdeal.main_arg0)
      ∧ r.2.mem ((c.tc : Thread Cert.QueriesKeysIdeal.nD Cert.QueriesKeysIdeal.τ).loc Cert.QueriesKeysIdeal.main_arg1) = m ((c.tc : Thread Cert.QueriesKeysIdeal.nD Cert.QueriesKeysIdeal.τ).loc Cert.QueriesKeysIdeal.main_arg1)
      ∧ r.2.mem ((c.tc : Thread Cert.QueriesKeysIdeal.nD Cert.QueriesKeysIdeal.τ).loc Cert.QueriesKeysIdeal.main_arg2) = m ((c.tc : Thread Cert.QueriesKeysIdeal.nD Cert.QueriesKeysIdeal.τ).loc Cert.QueriesKeysIdeal.main_arg2))
      ∧ r.2.sem = fun _ => 0)

def quiescent_QueriesKeysReferenceIdeal [hQueriesKeysReferenceIdeal : Cert.QueriesKeysReferenceIdeal.Facts] : Prop :=
  ∀ (m : (ℓ : Loc Cert.QueriesKeysReferenceIdeal.nD Cert.QueriesKeysReferenceIdeal.τ Cert.QueriesKeysReferenceIdeal.sig) → Buf (Elt Ideal) ℓ) (g : Dev Cert.QueriesKeysReferenceIdeal.nD → PrngReg), Pre_QueriesKeysReferenceIdeal m →
    θ_run (Cert.QueriesKeysReferenceIdeal.defs (F := Ideal)) (onTc (τ := Cert.QueriesKeysReferenceIdeal.τ) (Cert.QueriesKeysReferenceIdeal.main (F := Ideal))) ⟨m, fun _ => 0, g⟩ (fun r => (∀ c : Dev Cert.QueriesKeysReferenceIdeal.nD,
      r.2.mem ((c.tc : Thread Cert.QueriesKeysReferenceIdeal.nD Cert.QueriesKeysReferenceIdeal.τ).loc Cert.QueriesKeysReferenceIdeal.main_arg0) = m ((c.tc : Thread Cert.QueriesKeysReferenceIdeal.nD Cert.QueriesKeysReferenceIdeal.τ).loc Cert.QueriesKeysReferenceIdeal.main_arg0)
      ∧ r.2.mem ((c.tc : Thread Cert.QueriesKeysReferenceIdeal.nD Cert.QueriesKeysReferenceIdeal.τ).loc Cert.QueriesKeysReferenceIdeal.main_arg1) = m ((c.tc : Thread Cert.QueriesKeysReferenceIdeal.nD Cert.QueriesKeysReferenceIdeal.τ).loc Cert.QueriesKeysReferenceIdeal.main_arg1)
      ∧ r.2.mem ((c.tc : Thread Cert.QueriesKeysReferenceIdeal.nD Cert.QueriesKeysReferenceIdeal.τ).loc Cert.QueriesKeysReferenceIdeal.main_arg2) = m ((c.tc : Thread Cert.QueriesKeysReferenceIdeal.nD Cert.QueriesKeysReferenceIdeal.τ).loc Cert.QueriesKeysReferenceIdeal.main_arg2))
      ∧ r.2.sem = fun _ => 0)

def quiescent_QueriesKeysReferenceIdeal_pre_tables_rotate [hQueriesKeysReferenceIdeal : Cert.QueriesKeysReferenceIdeal.Facts] [hPre_tables_rotate : Cert.Pre_tables_rotate.Facts] : Prop :=
  ∀ (m : (ℓ : Loc Cert.QueriesKeysReferenceIdeal.nD Cert.QueriesKeysReferenceIdeal.τ Cert.QueriesKeysReferenceIdeal.sig) → Buf (Elt Ideal) ℓ) (g : Dev Cert.QueriesKeysReferenceIdeal.nD → PrngReg), Pre_QueriesKeysReferenceIdeal_tables_rotate m →
    θ_run (Cert.QueriesKeysReferenceIdeal.defs (F := Ideal)) (onTc (τ := Cert.QueriesKeysReferenceIdeal.τ) (Cert.QueriesKeysReferenceIdeal.main (F := Ideal))) ⟨m, fun _ => 0, g⟩ (fun r => (∀ c : Dev Cert.QueriesKeysReferenceIdeal.nD,
      r.2.mem ((c.tc : Thread Cert.QueriesKeysReferenceIdeal.nD Cert.QueriesKeysReferenceIdeal.τ).loc Cert.QueriesKeysReferenceIdeal.main_arg0) = m ((c.tc : Thread Cert.QueriesKeysReferenceIdeal.nD Cert.QueriesKeysReferenceIdeal.τ).loc Cert.QueriesKeysReferenceIdeal.main_arg0)
      ∧ r.2.mem ((c.tc : Thread Cert.QueriesKeysReferenceIdeal.nD Cert.QueriesKeysReferenceIdeal.τ).loc Cert.QueriesKeysReferenceIdeal.main_arg1) = m ((c.tc : Thread Cert.QueriesKeysReferenceIdeal.nD Cert.QueriesKeysReferenceIdeal.τ).loc Cert.QueriesKeysReferenceIdeal.main_arg1)
      ∧ r.2.mem ((c.tc : Thread Cert.QueriesKeysReferenceIdeal.nD Cert.QueriesKeysReferenceIdeal.τ).loc Cert.QueriesKeysReferenceIdeal.main_arg2) = m ((c.tc : Thread Cert.QueriesKeysReferenceIdeal.nD Cert.QueriesKeysReferenceIdeal.τ).loc Cert.QueriesKeysReferenceIdeal.main_arg2))
      ∧ r.2.sem = fun _ => 0)

def quiescent_Indexer [hIndexer : Cert.Indexer.Facts] : Prop :=
  ∀ (m : (ℓ : Loc Cert.Indexer.nD Cert.Indexer.τ Cert.Indexer.sig) → Buf (Elt Bits) ℓ) (g : Dev Cert.Indexer.nD → PrngReg), Pre_Indexer m →
    θ_run (Cert.Indexer.defs (F := Bits)) (onTc (τ := Cert.Indexer.τ) (Cert.Indexer.main (F := Bits))) ⟨m, fun _ => 0, g⟩ (fun r => (∀ c : Dev Cert.Indexer.nD,
      r.2.mem ((c.tc : Thread Cert.Indexer.nD Cert.Indexer.τ).loc Cert.Indexer.main_arg0) = m ((c.tc : Thread Cert.Indexer.nD Cert.Indexer.τ).loc Cert.Indexer.main_arg0)
      ∧ r.2.mem ((c.tc : Thread Cert.Indexer.nD Cert.Indexer.τ).loc Cert.Indexer.main_arg1) = m ((c.tc : Thread Cert.Indexer.nD Cert.Indexer.τ).loc Cert.Indexer.main_arg1)
      ∧ r.2.mem ((c.tc : Thread Cert.Indexer.nD Cert.Indexer.τ).loc Cert.Indexer.main_arg2) = m ((c.tc : Thread Cert.Indexer.nD Cert.Indexer.τ).loc Cert.Indexer.main_arg2))
      ∧ r.2.sem = fun _ => 0)

def quiescent_IndexerIdeal [hIndexerIdeal : Cert.IndexerIdeal.Facts] : Prop :=
  ∀ (m : (ℓ : Loc Cert.IndexerIdeal.nD Cert.IndexerIdeal.τ Cert.IndexerIdeal.sig) → Buf (Elt Ideal) ℓ) (g : Dev Cert.IndexerIdeal.nD → PrngReg), Pre_IndexerIdeal m →
    θ_run (Cert.IndexerIdeal.defs (F := Ideal)) (onTc (τ := Cert.IndexerIdeal.τ) (Cert.IndexerIdeal.main (F := Ideal))) ⟨m, fun _ => 0, g⟩ (fun r => (∀ c : Dev Cert.IndexerIdeal.nD,
      r.2.mem ((c.tc : Thread Cert.IndexerIdeal.nD Cert.IndexerIdeal.τ).loc Cert.IndexerIdeal.main_arg0) = m ((c.tc : Thread Cert.IndexerIdeal.nD Cert.IndexerIdeal.τ).loc Cert.IndexerIdeal.main_arg0)
      ∧ r.2.mem ((c.tc : Thread Cert.IndexerIdeal.nD Cert.IndexerIdeal.τ).loc Cert.IndexerIdeal.main_arg1) = m ((c.tc : Thread Cert.IndexerIdeal.nD Cert.IndexerIdeal.τ).loc Cert.IndexerIdeal.main_arg1)
      ∧ r.2.mem ((c.tc : Thread Cert.IndexerIdeal.nD Cert.IndexerIdeal.τ).loc Cert.IndexerIdeal.main_arg2) = m ((c.tc : Thread Cert.IndexerIdeal.nD Cert.IndexerIdeal.τ).loc Cert.IndexerIdeal.main_arg2))
      ∧ r.2.sem = fun _ => 0)

def quiescent_IndexerIdeal_pre_indexer_tables_rotate [hIndexerIdeal : Cert.IndexerIdeal.Facts] [hPre_indexer_tables_rotate : Cert.Pre_indexer_tables_rotate.Facts] : Prop :=
  ∀ (m : (ℓ : Loc Cert.IndexerIdeal.nD Cert.IndexerIdeal.τ Cert.IndexerIdeal.sig) → Buf (Elt Ideal) ℓ) (g : Dev Cert.IndexerIdeal.nD → PrngReg), Pre_IndexerIdeal_indexer_tables_rotate m →
    θ_run (Cert.IndexerIdeal.defs (F := Ideal)) (onTc (τ := Cert.IndexerIdeal.τ) (Cert.IndexerIdeal.main (F := Ideal))) ⟨m, fun _ => 0, g⟩ (fun r => (∀ c : Dev Cert.IndexerIdeal.nD,
      r.2.mem ((c.tc : Thread Cert.IndexerIdeal.nD Cert.IndexerIdeal.τ).loc Cert.IndexerIdeal.main_arg0) = m ((c.tc : Thread Cert.IndexerIdeal.nD Cert.IndexerIdeal.τ).loc Cert.IndexerIdeal.main_arg0)
      ∧ r.2.mem ((c.tc : Thread Cert.IndexerIdeal.nD Cert.IndexerIdeal.τ).loc Cert.IndexerIdeal.main_arg1) = m ((c.tc : Thread Cert.IndexerIdeal.nD Cert.IndexerIdeal.τ).loc Cert.IndexerIdeal.main_arg1)
      ∧ r.2.mem ((c.tc : Thread Cert.IndexerIdeal.nD Cert.IndexerIdeal.τ).loc Cert.IndexerIdeal.main_arg2) = m ((c.tc : Thread Cert.IndexerIdeal.nD Cert.IndexerIdeal.τ).loc Cert.IndexerIdeal.main_arg2))
      ∧ r.2.sem = fun _ => 0)

def quiescent_IndexerReferenceIdeal [hIndexerReferenceIdeal : Cert.IndexerReferenceIdeal.Facts] : Prop :=
  ∀ (m : (ℓ : Loc Cert.IndexerReferenceIdeal.nD Cert.IndexerReferenceIdeal.τ Cert.IndexerReferenceIdeal.sig) → Buf (Elt Ideal) ℓ) (g : Dev Cert.IndexerReferenceIdeal.nD → PrngReg), Pre_IndexerReferenceIdeal m →
    θ_run (Cert.IndexerReferenceIdeal.defs (F := Ideal)) (onTc (τ := Cert.IndexerReferenceIdeal.τ) (Cert.IndexerReferenceIdeal.main (F := Ideal))) ⟨m, fun _ => 0, g⟩ (fun r => (∀ c : Dev Cert.IndexerReferenceIdeal.nD,
      r.2.mem ((c.tc : Thread Cert.IndexerReferenceIdeal.nD Cert.IndexerReferenceIdeal.τ).loc Cert.IndexerReferenceIdeal.main_arg0) = m ((c.tc : Thread Cert.IndexerReferenceIdeal.nD Cert.IndexerReferenceIdeal.τ).loc Cert.IndexerReferenceIdeal.main_arg0)
      ∧ r.2.mem ((c.tc : Thread Cert.IndexerReferenceIdeal.nD Cert.IndexerReferenceIdeal.τ).loc Cert.IndexerReferenceIdeal.main_arg1) = m ((c.tc : Thread Cert.IndexerReferenceIdeal.nD Cert.IndexerReferenceIdeal.τ).loc Cert.IndexerReferenceIdeal.main_arg1)
      ∧ r.2.mem ((c.tc : Thread Cert.IndexerReferenceIdeal.nD Cert.IndexerReferenceIdeal.τ).loc Cert.IndexerReferenceIdeal.main_arg2) = m ((c.tc : Thread Cert.IndexerReferenceIdeal.nD Cert.IndexerReferenceIdeal.τ).loc Cert.IndexerReferenceIdeal.main_arg2))
      ∧ r.2.sem = fun _ => 0)

def quiescent_IndexerReferenceIdeal_pre_indexer_tables_rotate [hIndexerReferenceIdeal : Cert.IndexerReferenceIdeal.Facts] [hPre_indexer_tables_rotate : Cert.Pre_indexer_tables_rotate.Facts] : Prop :=
  ∀ (m : (ℓ : Loc Cert.IndexerReferenceIdeal.nD Cert.IndexerReferenceIdeal.τ Cert.IndexerReferenceIdeal.sig) → Buf (Elt Ideal) ℓ) (g : Dev Cert.IndexerReferenceIdeal.nD → PrngReg), Pre_IndexerReferenceIdeal_indexer_tables_rotate m →
    θ_run (Cert.IndexerReferenceIdeal.defs (F := Ideal)) (onTc (τ := Cert.IndexerReferenceIdeal.τ) (Cert.IndexerReferenceIdeal.main (F := Ideal))) ⟨m, fun _ => 0, g⟩ (fun r => (∀ c : Dev Cert.IndexerReferenceIdeal.nD,
      r.2.mem ((c.tc : Thread Cert.IndexerReferenceIdeal.nD Cert.IndexerReferenceIdeal.τ).loc Cert.IndexerReferenceIdeal.main_arg0) = m ((c.tc : Thread Cert.IndexerReferenceIdeal.nD Cert.IndexerReferenceIdeal.τ).loc Cert.IndexerReferenceIdeal.main_arg0)
      ∧ r.2.mem ((c.tc : Thread Cert.IndexerReferenceIdeal.nD Cert.IndexerReferenceIdeal.τ).loc Cert.IndexerReferenceIdeal.main_arg1) = m ((c.tc : Thread Cert.IndexerReferenceIdeal.nD Cert.IndexerReferenceIdeal.τ).loc Cert.IndexerReferenceIdeal.main_arg1)
      ∧ r.2.mem ((c.tc : Thread Cert.IndexerReferenceIdeal.nD Cert.IndexerReferenceIdeal.τ).loc Cert.IndexerReferenceIdeal.main_arg2) = m ((c.tc : Thread Cert.IndexerReferenceIdeal.nD Cert.IndexerReferenceIdeal.τ).loc Cert.IndexerReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_KernelReferenceIdeal_on_first_tile [hKernelIdeal : Cert.KernelIdeal.Facts] [hKernelReferenceIdeal : Cert.KernelReferenceIdeal.Facts] [hOn_first_tile : Cert.On_first_tile.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KernelReferenceIdeal.nD Cert.KernelReferenceIdeal.τ Cert.KernelReferenceIdeal.sig) → Buf (Elt Ideal) ℓ) (g' : Dev Cert.KernelReferenceIdeal.nD → PrngReg), Pre_KernelIdeal m →
    (∀ c : Dev Cert.KernelIdeal.nD,
      m' ((c.tc : Thread Cert.KernelReferenceIdeal.nD Cert.KernelReferenceIdeal.τ).loc Cert.KernelReferenceIdeal.main_arg0) = m ((c.tc : Thread Cert.KernelIdeal.nD Cert.KernelIdeal.τ).loc Cert.KernelIdeal.main_arg0)
      ∧ m' ((c.tc : Thread Cert.KernelReferenceIdeal.nD Cert.KernelReferenceIdeal.τ).loc Cert.KernelReferenceIdeal.main_arg1) = m ((c.tc : Thread Cert.KernelIdeal.nD Cert.KernelIdeal.τ).loc Cert.KernelIdeal.main_arg1)
      ∧ m' ((c.tc : Thread Cert.KernelReferenceIdeal.nD Cert.KernelReferenceIdeal.τ).loc Cert.KernelReferenceIdeal.main_arg2) = m ((c.tc : Thread Cert.KernelIdeal.nD Cert.KernelIdeal.τ).loc Cert.KernelIdeal.main_arg2)
      ∧ m' ((c.tc : Thread Cert.KernelReferenceIdeal.nD Cert.KernelReferenceIdeal.τ).loc Cert.KernelReferenceIdeal.main_arg3) = m ((c.tc : Thread Cert.KernelIdeal.nD Cert.KernelIdeal.τ).loc Cert.KernelIdeal.main_arg3)
      ∧ m' ((c.tc : Thread Cert.KernelReferenceIdeal.nD Cert.KernelReferenceIdeal.τ).loc Cert.KernelReferenceIdeal.main_arg4) = m ((c.tc : Thread Cert.KernelIdeal.nD Cert.KernelIdeal.τ).loc Cert.KernelIdeal.main_arg4)
      ∧ m' ((c.tc : Thread Cert.KernelReferenceIdeal.nD Cert.KernelReferenceIdeal.τ).loc Cert.KernelReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 2048]⟩ : Shape).Idx, (Cert.On_first_tile.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.KernelReferenceIdeal.defs (F := Ideal)) (onTc (τ := Cert.KernelReferenceIdeal.τ) (Cert.KernelReferenceIdeal.main (F := Ideal))) ⟨m', fun _ => 0, g'⟩ (fun r => ∀ c : Dev Cert.KernelReferenceIdeal.nD,
          (∀ i : (⟨2, ![8192, 2048]⟩ : Shape).Idx, (Cert.On_first_tile.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelReferenceIdeal.nD Cert.KernelReferenceIdeal.τ).loc Cert.KernelReferenceIdeal.main_v56) i = v0 c i)
          ∧ r.2.mem ((c.tc : Thread Cert.KernelReferenceIdeal.nD Cert.KernelReferenceIdeal.τ).loc Cert.KernelReferenceIdeal.main_arg0) = m' ((c.tc : Thread Cert.KernelReferenceIdeal.nD Cert.KernelReferenceIdeal.τ).loc Cert.KernelReferenceIdeal.main_arg0)
          ∧ r.2.mem ((c.tc : Thread Cert.KernelReferenceIdeal.nD Cert.KernelReferenceIdeal.τ).loc Cert.KernelReferenceIdeal.main_arg1) = m' ((c.tc : Thread Cert.KernelReferenceIdeal.nD Cert.KernelReferenceIdeal.τ).loc Cert.KernelReferenceIdeal.main_arg1)
          ∧ r.2.mem ((c.tc : Thread Cert.KernelReferenceIdeal.nD Cert.KernelReferenceIdeal.τ).loc Cert.KernelReferenceIdeal.main_arg2) = m' ((c.tc : Thread Cert.KernelReferenceIdeal.nD Cert.KernelReferenceIdeal.τ).loc Cert.KernelReferenceIdeal.main_arg2)
          ∧ r.2.mem ((c.tc : Thread Cert.KernelReferenceIdeal.nD Cert.KernelReferenceIdeal.τ).loc Cert.KernelReferenceIdeal.main_arg3) = m' ((c.tc : Thread Cert.KernelReferenceIdeal.nD Cert.KernelReferenceIdeal.τ).loc Cert.KernelReferenceIdeal.main_arg3)
          ∧ r.2.mem ((c.tc : Thread Cert.KernelReferenceIdeal.nD Cert.KernelReferenceIdeal.τ).loc Cert.KernelReferenceIdeal.main_arg4) = m' ((c.tc : Thread Cert.KernelReferenceIdeal.nD Cert.KernelReferenceIdeal.τ).loc Cert.KernelReferenceIdeal.main_arg4)
          ∧ r.2.mem ((c.tc : Thread Cert.KernelReferenceIdeal.nD Cert.KernelReferenceIdeal.τ).loc Cert.KernelReferenceIdeal.main_arg5) = m' ((c.tc : Thread Cert.KernelReferenceIdeal.nD Cert.KernelReferenceIdeal.τ).loc Cert.KernelReferenceIdeal.main_arg5))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v4) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_PoolValue_PoolValueIdeal : Prop :=
  True

def algebraic_PoolValueIdeal_PoolValueReferenceIdeal [hPoolValueIdeal : Cert.PoolValueIdeal.Facts] [hPoolValueReferenceIdeal : Cert.PoolValueReferenceIdeal.Facts] : Prop :=
  ∀ (m : (ℓ : Loc Cert.PoolValueIdeal.nD Cert.PoolValueIdeal.τ Cert.PoolValueIdeal.sig) → Buf (Elt Ideal) ℓ) (g : Dev Cert.PoolValueIdeal.nD → PrngReg)
    (m' : (ℓ : Loc Cert.PoolValueReferenceIdeal.nD Cert.PoolValueReferenceIdeal.τ Cert.PoolValueReferenceIdeal.sig) → Buf (Elt Ideal) ℓ) (g' : Dev Cert.PoolValueReferenceIdeal.nD → PrngReg), Pre_PoolValueIdeal m →
    (∀ c : Dev Cert.PoolValueIdeal.nD,
      m' ((c.tc : Thread Cert.PoolValueReferenceIdeal.nD Cert.PoolValueReferenceIdeal.τ).loc Cert.PoolValueReferenceIdeal.main_arg0) = m ((c.tc : Thread Cert.PoolValueIdeal.nD Cert.PoolValueIdeal.τ).loc Cert.PoolValueIdeal.main_arg0)
      ∧ m' ((c.tc : Thread Cert.PoolValueReferenceIdeal.nD Cert.PoolValueReferenceIdeal.τ).loc Cert.PoolValueReferenceIdeal.main_arg1) = m ((c.tc : Thread Cert.PoolValueIdeal.nD Cert.PoolValueIdeal.τ).loc Cert.PoolValueIdeal.main_arg1)) →
    ∃ (v0 : (c : Dev Cert.PoolValueIdeal.nD) → Buf (Elt Ideal) ((c.tc : Thread Cert.PoolValueIdeal.nD Cert.PoolValueIdeal.τ).loc Cert.PoolValueIdeal.main_v2)),
      θ_run (Cert.PoolValueIdeal.defs (F := Ideal)) (onTc (τ := Cert.PoolValueIdeal.τ) (Cert.PoolValueIdeal.main (F := Ideal))) ⟨m, fun _ => 0, g⟩ (fun r => ∀ c : Dev Cert.PoolValueIdeal.nD,
          r.2.mem ((c.tc : Thread Cert.PoolValueIdeal.nD Cert.PoolValueIdeal.τ).loc Cert.PoolValueIdeal.main_v2) = v0 c
          ∧ r.2.mem ((c.tc : Thread Cert.PoolValueIdeal.nD Cert.PoolValueIdeal.τ).loc Cert.PoolValueIdeal.main_arg0) = m ((c.tc : Thread Cert.PoolValueIdeal.nD Cert.PoolValueIdeal.τ).loc Cert.PoolValueIdeal.main_arg0)
          ∧ r.2.mem ((c.tc : Thread Cert.PoolValueIdeal.nD Cert.PoolValueIdeal.τ).loc Cert.PoolValueIdeal.main_arg1) = m ((c.tc : Thread Cert.PoolValueIdeal.nD Cert.PoolValueIdeal.τ).loc Cert.PoolValueIdeal.main_arg1))
      ∧ θ_run (Cert.PoolValueReferenceIdeal.defs (F := Ideal)) (onTc (τ := Cert.PoolValueReferenceIdeal.τ) (Cert.PoolValueReferenceIdeal.main (F := Ideal))) ⟨m', fun _ => 0, g'⟩ (fun r => ∀ c : Dev Cert.PoolValueReferenceIdeal.nD,
          r.2.mem ((c.tc : Thread Cert.PoolValueReferenceIdeal.nD Cert.PoolValueReferenceIdeal.τ).loc Cert.PoolValueReferenceIdeal.main_v2) = v0 c
          ∧ r.2.mem ((c.tc : Thread Cert.PoolValueReferenceIdeal.nD Cert.PoolValueReferenceIdeal.τ).loc Cert.PoolValueReferenceIdeal.main_arg0) = m' ((c.tc : Thread Cert.PoolValueReferenceIdeal.nD Cert.PoolValueReferenceIdeal.τ).loc Cert.PoolValueReferenceIdeal.main_arg0)
          ∧ r.2.mem ((c.tc : Thread Cert.PoolValueReferenceIdeal.nD Cert.PoolValueReferenceIdeal.τ).loc Cert.PoolValueReferenceIdeal.main_arg1) = m' ((c.tc : Thread Cert.PoolValueReferenceIdeal.nD Cert.PoolValueReferenceIdeal.τ).loc Cert.PoolValueReferenceIdeal.main_arg1))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v3)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v3) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v5) = v0 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1))

def preserves_OutNorm_OutNormIdeal : Prop :=
  True

def algebraic_OutNormIdeal_OutNormReferenceIdeal [hOutNormIdeal : Cert.OutNormIdeal.Facts] [hOutNormReferenceIdeal : Cert.OutNormReferenceIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormReferenceIdeal.nD Cert.OutNormReferenceIdeal.τ Cert.OutNormReferenceIdeal.sig) → Buf (Elt Ideal) ℓ) (g' : Dev Cert.OutNormReferenceIdeal.nD → PrngReg), Pre_OutNormIdeal m →
    (∀ c : Dev Cert.OutNormIdeal.nD,
      m' ((c.tc : Thread Cert.OutNormReferenceIdeal.nD Cert.OutNormReferenceIdeal.τ).loc Cert.OutNormReferenceIdeal.main_arg0) = m ((c.tc : Thread Cert.OutNormIdeal.nD Cert.OutNormIdeal.τ).loc Cert.OutNormIdeal.main_arg0)
      ∧ m' ((c.tc : Thread Cert.OutNormReferenceIdeal.nD Cert.OutNormReferenceIdeal.τ).loc Cert.OutNormReferenceIdeal.main_arg1) = m ((c.tc : Thread Cert.OutNormIdeal.nD Cert.OutNormIdeal.τ).loc Cert.OutNormIdeal.main_arg1)
      ∧ m' ((c.tc : Thread Cert.OutNormReferenceIdeal.nD Cert.OutNormReferenceIdeal.τ).loc Cert.OutNormReferenceIdeal.main_arg2) = m ((c.tc : Thread Cert.OutNormIdeal.nD Cert.OutNormIdeal.τ).loc Cert.OutNormIdeal.main_arg2)
      ∧ m' ((c.tc : Thread Cert.OutNormReferenceIdeal.nD Cert.OutNormReferenceIdeal.τ).loc Cert.OutNormReferenceIdeal.main_arg3) = m ((c.tc : Thread Cert.OutNormIdeal.nD Cert.OutNormIdeal.τ).loc Cert.OutNormIdeal.main_arg3)
      ∧ m' ((c.tc : Thread Cert.OutNormReferenceIdeal.nD Cert.OutNormReferenceIdeal.τ).loc Cert.OutNormReferenceIdeal.main_arg4) = m ((c.tc : Thread Cert.OutNormIdeal.nD Cert.OutNormIdeal.τ).loc Cert.OutNormIdeal.main_arg4)
      ∧ m' ((c.tc : Thread Cert.OutNormReferenceIdeal.nD Cert.OutNormReferenceIdeal.τ).loc Cert.OutNormReferenceIdeal.main_arg5) = m ((c.tc : Thread Cert.OutNormIdeal.nD Cert.OutNormIdeal.τ).loc Cert.OutNormIdeal.main_arg5)
      ∧ m' ((c.tc : Thread Cert.OutNormReferenceIdeal.nD Cert.OutNormReferenceIdeal.τ).loc Cert.OutNormReferenceIdeal.main_arg6) = m ((c.tc : Thread Cert.OutNormIdeal.nD Cert.OutNormIdeal.τ).loc Cert.OutNormIdeal.main_arg6)) →
    ∃ (v0 : (c : Dev Cert.OutNormIdeal.nD) → Buf (Elt Ideal) ((c.tc : Thread Cert.OutNormIdeal.nD Cert.OutNormIdeal.τ).loc Cert.OutNormIdeal.main_v2_0)) (v1 : (c : Dev Cert.OutNormIdeal.nD) → Buf (Elt Ideal) ((c.tc : Thread Cert.OutNormIdeal.nD Cert.OutNormIdeal.τ).loc Cert.OutNormIdeal.main_v2_1)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v2_0) = v0 c
          ∧ r.2.mem ((c.tc : Thread Cert.OutNormIdeal.nD Cert.OutNormIdeal.τ).loc Cert.OutNormIdeal.main_v2_1) = v1 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
          ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4)
          ∧ r.2.mem ((c.tc : Thread Cert.OutNormIdeal.nD Cert.OutNormIdeal.τ).loc Cert.OutNormIdeal.main_arg5) = m ((c.tc : Thread Cert.OutNormIdeal.nD Cert.OutNormIdeal.τ).loc Cert.OutNormIdeal.main_arg5)
          ∧ r.2.mem ((c.tc : Thread Cert.OutNormIdeal.nD Cert.OutNormIdeal.τ).loc Cert.OutNormIdeal.main_arg6) = m ((c.tc : Thread Cert.OutNormIdeal.nD Cert.OutNormIdeal.τ).loc Cert.OutNormIdeal.main_arg6))
      ∧ θ_run (Cert.OutNormReferenceIdeal.defs (F := Ideal)) (onTc (τ := Cert.OutNormReferenceIdeal.τ) (Cert.OutNormReferenceIdeal.main (F := Ideal))) ⟨m', fun _ => 0, g'⟩ (fun r => ∀ c : Dev Cert.OutNormReferenceIdeal.nD,
          r.2.mem ((c.tc : Thread Cert.OutNormReferenceIdeal.nD Cert.OutNormReferenceIdeal.τ).loc Cert.OutNormReferenceIdeal.main_v4) = v0 c
          ∧ r.2.mem ((c.tc : Thread Cert.OutNormReferenceIdeal.nD Cert.OutNormReferenceIdeal.τ).loc Cert.OutNormReferenceIdeal.main_v24) = v1 c
          ∧ r.2.mem ((c.tc : Thread Cert.OutNormReferenceIdeal.nD Cert.OutNormReferenceIdeal.τ).loc Cert.OutNormReferenceIdeal.main_arg0) = m' ((c.tc : Thread Cert.OutNormReferenceIdeal.nD Cert.OutNormReferenceIdeal.τ).loc Cert.OutNormReferenceIdeal.main_arg0)
          ∧ r.2.mem ((c.tc : Thread Cert.OutNormReferenceIdeal.nD Cert.OutNormReferenceIdeal.τ).loc Cert.OutNormReferenceIdeal.main_arg1) = m' ((c.tc : Thread Cert.OutNormReferenceIdeal.nD Cert.OutNormReferenceIdeal.τ).loc Cert.OutNormReferenceIdeal.main_arg1)
          ∧ r.2.mem ((c.tc : Thread Cert.OutNormReferenceIdeal.nD Cert.OutNormReferenceIdeal.τ).loc Cert.OutNormReferenceIdeal.main_arg2) = m' ((c.tc : Thread Cert.OutNormReferenceIdeal.nD Cert.OutNormReferenceIdeal.τ).loc Cert.OutNormReferenceIdeal.main_arg2)
          ∧ r.2.mem ((c.tc : Thread Cert.OutNormReferenceIdeal.nD Cert.OutNormReferenceIdeal.τ).loc Cert.OutNormReferenceIdeal.main_arg3) = m' ((c.tc : Thread Cert.OutNormReferenceIdeal.nD Cert.OutNormReferenceIdeal.τ).loc Cert.OutNormReferenceIdeal.main_arg3)
          ∧ r.2.mem ((c.tc : Thread Cert.OutNormReferenceIdeal.nD Cert.OutNormReferenceIdeal.τ).loc Cert.OutNormReferenceIdeal.main_arg4) = m' ((c.tc : Thread Cert.OutNormReferenceIdeal.nD Cert.OutNormReferenceIdeal.τ).loc Cert.OutNormReferenceIdeal.main_arg4)
          ∧ r.2.mem ((c.tc : Thread Cert.OutNormReferenceIdeal.nD Cert.OutNormReferenceIdeal.τ).loc Cert.OutNormReferenceIdeal.main_arg5) = m' ((c.tc : Thread Cert.OutNormReferenceIdeal.nD Cert.OutNormReferenceIdeal.τ).loc Cert.OutNormReferenceIdeal.main_arg5)
          ∧ r.2.mem ((c.tc : Thread Cert.OutNormReferenceIdeal.nD Cert.OutNormReferenceIdeal.τ).loc Cert.OutNormReferenceIdeal.main_arg6) = m' ((c.tc : Thread Cert.OutNormReferenceIdeal.nD Cert.OutNormReferenceIdeal.τ).loc Cert.OutNormReferenceIdeal.main_arg6))

def preserves_OutFinal_OutFinalIdeal : Prop :=
  True

def algebraic_OutFinalIdeal_OutFinalReferenceIdeal [hOutFinalIdeal : Cert.OutFinalIdeal.Facts] [hOutFinalReferenceIdeal : Cert.OutFinalReferenceIdeal.Facts] : Prop :=
  ∀ (m : (ℓ : Loc Cert.OutFinalIdeal.nD Cert.OutFinalIdeal.τ Cert.OutFinalIdeal.sig) → Buf (Elt Ideal) ℓ) (g : Dev Cert.OutFinalIdeal.nD → PrngReg)
    (m' : (ℓ : Loc Cert.OutFinalReferenceIdeal.nD Cert.OutFinalReferenceIdeal.τ Cert.OutFinalReferenceIdeal.sig) → Buf (Elt Ideal) ℓ) (g' : Dev Cert.OutFinalReferenceIdeal.nD → PrngReg), Pre_OutFinalIdeal m →
    (∀ c : Dev Cert.OutFinalIdeal.nD,
      m' ((c.tc : Thread Cert.OutFinalReferenceIdeal.nD Cert.OutFinalReferenceIdeal.τ).loc Cert.OutFinalReferenceIdeal.main_arg0) = m ((c.tc : Thread Cert.OutFinalIdeal.nD Cert.OutFinalIdeal.τ).loc Cert.OutFinalIdeal.main_arg0)
      ∧ m' ((c.tc : Thread Cert.OutFinalReferenceIdeal.nD Cert.OutFinalReferenceIdeal.τ).loc Cert.OutFinalReferenceIdeal.main_arg1) = m ((c.tc : Thread Cert.OutFinalIdeal.nD Cert.OutFinalIdeal.τ).loc Cert.OutFinalIdeal.main_arg1)
      ∧ m' ((c.tc : Thread Cert.OutFinalReferenceIdeal.nD Cert.OutFinalReferenceIdeal.τ).loc Cert.OutFinalReferenceIdeal.main_arg2) = m ((c.tc : Thread Cert.OutFinalIdeal.nD Cert.OutFinalIdeal.τ).loc Cert.OutFinalIdeal.main_arg2)
      ∧ m' ((c.tc : Thread Cert.OutFinalReferenceIdeal.nD Cert.OutFinalReferenceIdeal.τ).loc Cert.OutFinalReferenceIdeal.main_arg3) = m ((c.tc : Thread Cert.OutFinalIdeal.nD Cert.OutFinalIdeal.τ).loc Cert.OutFinalIdeal.main_arg3)
      ∧ m' ((c.tc : Thread Cert.OutFinalReferenceIdeal.nD Cert.OutFinalReferenceIdeal.τ).loc Cert.OutFinalReferenceIdeal.main_arg4) = m ((c.tc : Thread Cert.OutFinalIdeal.nD Cert.OutFinalIdeal.τ).loc Cert.OutFinalIdeal.main_arg4)) →
    ∃ (v0 : (c : Dev Cert.OutFinalIdeal.nD) → Buf (Elt Ideal) ((c.tc : Thread Cert.OutFinalIdeal.nD Cert.OutFinalIdeal.τ).loc Cert.OutFinalIdeal.main_v3)),
      θ_run (Cert.OutFinalIdeal.defs (F := Ideal)) (onTc (τ := Cert.OutFinalIdeal.τ) (Cert.OutFinalIdeal.main (F := Ideal))) ⟨m, fun _ => 0, g⟩ (fun r => ∀ c : Dev Cert.OutFinalIdeal.nD,
          r.2.mem ((c.tc : Thread Cert.OutFinalIdeal.nD Cert.OutFinalIdeal.τ).loc Cert.OutFinalIdeal.main_v3) = v0 c
          ∧ r.2.mem ((c.tc : Thread Cert.OutFinalIdeal.nD Cert.OutFinalIdeal.τ).loc Cert.OutFinalIdeal.main_arg0) = m ((c.tc : Thread Cert.OutFinalIdeal.nD Cert.OutFinalIdeal.τ).loc Cert.OutFinalIdeal.main_arg0)
          ∧ r.2.mem ((c.tc : Thread Cert.OutFinalIdeal.nD Cert.OutFinalIdeal.τ).loc Cert.OutFinalIdeal.main_arg1) = m ((c.tc : Thread Cert.OutFinalIdeal.nD Cert.OutFinalIdeal.τ).loc Cert.OutFinalIdeal.main_arg1)
          ∧ r.2.mem ((c.tc : Thread Cert.OutFinalIdeal.nD Cert.OutFinalIdeal.τ).loc Cert.OutFinalIdeal.main_arg2) = m ((c.tc : Thread Cert.OutFinalIdeal.nD Cert.OutFinalIdeal.τ).loc Cert.OutFinalIdeal.main_arg2)
          ∧ r.2.mem ((c.tc : Thread Cert.OutFinalIdeal.nD Cert.OutFinalIdeal.τ).loc Cert.OutFinalIdeal.main_arg3) = m ((c.tc : Thread Cert.OutFinalIdeal.nD Cert.OutFinalIdeal.τ).loc Cert.OutFinalIdeal.main_arg3)
          ∧ r.2.mem ((c.tc : Thread Cert.OutFinalIdeal.nD Cert.OutFinalIdeal.τ).loc Cert.OutFinalIdeal.main_arg4) = m ((c.tc : Thread Cert.OutFinalIdeal.nD Cert.OutFinalIdeal.τ).loc Cert.OutFinalIdeal.main_arg4))
      ∧ θ_run (Cert.OutFinalReferenceIdeal.defs (F := Ideal)) (onTc (τ := Cert.OutFinalReferenceIdeal.τ) (Cert.OutFinalReferenceIdeal.main (F := Ideal))) ⟨m', fun _ => 0, g'⟩ (fun r => ∀ c : Dev Cert.OutFinalReferenceIdeal.nD,
          r.2.mem ((c.tc : Thread Cert.OutFinalReferenceIdeal.nD Cert.OutFinalReferenceIdeal.τ).loc Cert.OutFinalReferenceIdeal.main_v17) = v0 c
          ∧ r.2.mem ((c.tc : Thread Cert.OutFinalReferenceIdeal.nD Cert.OutFinalReferenceIdeal.τ).loc Cert.OutFinalReferenceIdeal.main_arg0) = m' ((c.tc : Thread Cert.OutFinalReferenceIdeal.nD Cert.OutFinalReferenceIdeal.τ).loc Cert.OutFinalReferenceIdeal.main_arg0)
          ∧ r.2.mem ((c.tc : Thread Cert.OutFinalReferenceIdeal.nD Cert.OutFinalReferenceIdeal.τ).loc Cert.OutFinalReferenceIdeal.main_arg1) = m' ((c.tc : Thread Cert.OutFinalReferenceIdeal.nD Cert.OutFinalReferenceIdeal.τ).loc Cert.OutFinalReferenceIdeal.main_arg1)
          ∧ r.2.mem ((c.tc : Thread Cert.OutFinalReferenceIdeal.nD Cert.OutFinalReferenceIdeal.τ).loc Cert.OutFinalReferenceIdeal.main_arg2) = m' ((c.tc : Thread Cert.OutFinalReferenceIdeal.nD Cert.OutFinalReferenceIdeal.τ).loc Cert.OutFinalReferenceIdeal.main_arg2)
          ∧ r.2.mem ((c.tc : Thread Cert.OutFinalReferenceIdeal.nD Cert.OutFinalReferenceIdeal.τ).loc Cert.OutFinalReferenceIdeal.main_arg3) = m' ((c.tc : Thread Cert.OutFinalReferenceIdeal.nD Cert.OutFinalReferenceIdeal.τ).loc Cert.OutFinalReferenceIdeal.main_arg3)
          ∧ r.2.mem ((c.tc : Thread Cert.OutFinalReferenceIdeal.nD Cert.OutFinalReferenceIdeal.τ).loc Cert.OutFinalReferenceIdeal.main_arg4) = m' ((c.tc : Thread Cert.OutFinalReferenceIdeal.nD Cert.OutFinalReferenceIdeal.τ).loc Cert.OutFinalReferenceIdeal.main_arg4))

def preserves_QueriesKeys_QueriesKeysIdeal : Prop :=
  True

def algebraic_QueriesKeysIdeal_QueriesKeysReferenceIdeal_pre_tables_rotate [hQueriesKeysIdeal : Cert.QueriesKeysIdeal.Facts] [hQueriesKeysReferenceIdeal : Cert.QueriesKeysReferenceIdeal.Facts] [hPre_tables_rotate : Cert.Pre_tables_rotate.Facts] : Prop :=
  ∀ (m : (ℓ : Loc Cert.QueriesKeysIdeal.nD Cert.QueriesKeysIdeal.τ Cert.QueriesKeysIdeal.sig) → Buf (Elt Ideal) ℓ) (g : Dev Cert.QueriesKeysIdeal.nD → PrngReg)
    (m' : (ℓ : Loc Cert.QueriesKeysReferenceIdeal.nD Cert.QueriesKeysReferenceIdeal.τ Cert.QueriesKeysReferenceIdeal.sig) → Buf (Elt Ideal) ℓ) (g' : Dev Cert.QueriesKeysReferenceIdeal.nD → PrngReg), Pre_QueriesKeysIdeal_tables_rotate m →
    (∀ c : Dev Cert.QueriesKeysIdeal.nD,
      m' ((c.tc : Thread Cert.QueriesKeysReferenceIdeal.nD Cert.QueriesKeysReferenceIdeal.τ).loc Cert.QueriesKeysReferenceIdeal.main_arg0) = m ((c.tc : Thread Cert.QueriesKeysIdeal.nD Cert.QueriesKeysIdeal.τ).loc Cert.QueriesKeysIdeal.main_arg0)
      ∧ m' ((c.tc : Thread Cert.QueriesKeysReferenceIdeal.nD Cert.QueriesKeysReferenceIdeal.τ).loc Cert.QueriesKeysReferenceIdeal.main_arg1) = m ((c.tc : Thread Cert.QueriesKeysIdeal.nD Cert.QueriesKeysIdeal.τ).loc Cert.QueriesKeysIdeal.main_arg1)
      ∧ m' ((c.tc : Thread Cert.QueriesKeysReferenceIdeal.nD Cert.QueriesKeysReferenceIdeal.τ).loc Cert.QueriesKeysReferenceIdeal.main_arg2) = m ((c.tc : Thread Cert.QueriesKeysIdeal.nD Cert.QueriesKeysIdeal.τ).loc Cert.QueriesKeysIdeal.main_arg2)) →
    ∃ (v0 : (c : Dev Cert.QueriesKeysIdeal.nD) → Buf (Elt Ideal) ((c.tc : Thread Cert.QueriesKeysIdeal.nD Cert.QueriesKeysIdeal.τ).loc Cert.QueriesKeysIdeal.main_v2)),
      θ_run (Cert.QueriesKeysIdeal.defs (F := Ideal)) (onTc (τ := Cert.QueriesKeysIdeal.τ) (Cert.QueriesKeysIdeal.main (F := Ideal))) ⟨m, fun _ => 0, g⟩ (fun r => ∀ c : Dev Cert.QueriesKeysIdeal.nD,
          r.2.mem ((c.tc : Thread Cert.QueriesKeysIdeal.nD Cert.QueriesKeysIdeal.τ).loc Cert.QueriesKeysIdeal.main_v2) = v0 c
          ∧ r.2.mem ((c.tc : Thread Cert.QueriesKeysIdeal.nD Cert.QueriesKeysIdeal.τ).loc Cert.QueriesKeysIdeal.main_arg0) = m ((c.tc : Thread Cert.QueriesKeysIdeal.nD Cert.QueriesKeysIdeal.τ).loc Cert.QueriesKeysIdeal.main_arg0)
          ∧ r.2.mem ((c.tc : Thread Cert.QueriesKeysIdeal.nD Cert.QueriesKeysIdeal.τ).loc Cert.QueriesKeysIdeal.main_arg1) = m ((c.tc : Thread Cert.QueriesKeysIdeal.nD Cert.QueriesKeysIdeal.τ).loc Cert.QueriesKeysIdeal.main_arg1)
          ∧ r.2.mem ((c.tc : Thread Cert.QueriesKeysIdeal.nD Cert.QueriesKeysIdeal.τ).loc Cert.QueriesKeysIdeal.main_arg2) = m ((c.tc : Thread Cert.QueriesKeysIdeal.nD Cert.QueriesKeysIdeal.τ).loc Cert.QueriesKeysIdeal.main_arg2))
      ∧ θ_run (Cert.QueriesKeysReferenceIdeal.defs (F := Ideal)) (onTc (τ := Cert.QueriesKeysReferenceIdeal.τ) (Cert.QueriesKeysReferenceIdeal.main (F := Ideal))) ⟨m', fun _ => 0, g'⟩ (fun r => ∀ c : Dev Cert.QueriesKeysReferenceIdeal.nD,
          r.2.mem ((c.tc : Thread Cert.QueriesKeysReferenceIdeal.nD Cert.QueriesKeysReferenceIdeal.τ).loc Cert.QueriesKeysReferenceIdeal.main_v29) = v0 c
          ∧ r.2.mem ((c.tc : Thread Cert.QueriesKeysReferenceIdeal.nD Cert.QueriesKeysReferenceIdeal.τ).loc Cert.QueriesKeysReferenceIdeal.main_arg0) = m' ((c.tc : Thread Cert.QueriesKeysReferenceIdeal.nD Cert.QueriesKeysReferenceIdeal.τ).loc Cert.QueriesKeysReferenceIdeal.main_arg0)
          ∧ r.2.mem ((c.tc : Thread Cert.QueriesKeysReferenceIdeal.nD Cert.QueriesKeysReferenceIdeal.τ).loc Cert.QueriesKeysReferenceIdeal.main_arg1) = m' ((c.tc : Thread Cert.QueriesKeysReferenceIdeal.nD Cert.QueriesKeysReferenceIdeal.τ).loc Cert.QueriesKeysReferenceIdeal.main_arg1)
          ∧ r.2.mem ((c.tc : Thread Cert.QueriesKeysReferenceIdeal.nD Cert.QueriesKeysReferenceIdeal.τ).loc Cert.QueriesKeysReferenceIdeal.main_arg2) = m' ((c.tc : Thread Cert.QueriesKeysReferenceIdeal.nD Cert.QueriesKeysReferenceIdeal.τ).loc Cert.QueriesKeysReferenceIdeal.main_arg2))

def preserves_Indexer_IndexerIdeal : Prop :=
  True

def algebraic_IndexerIdeal_IndexerReferenceIdeal_pre_indexer_tables_rotate [hIndexerIdeal : Cert.IndexerIdeal.Facts] [hIndexerReferenceIdeal : Cert.IndexerReferenceIdeal.Facts] [hPre_indexer_tables_rotate : Cert.Pre_indexer_tables_rotate.Facts] : Prop :=
  ∀ (m : (ℓ : Loc Cert.IndexerIdeal.nD Cert.IndexerIdeal.τ Cert.IndexerIdeal.sig) → Buf (Elt Ideal) ℓ) (g : Dev Cert.IndexerIdeal.nD → PrngReg)
    (m' : (ℓ : Loc Cert.IndexerReferenceIdeal.nD Cert.IndexerReferenceIdeal.τ Cert.IndexerReferenceIdeal.sig) → Buf (Elt Ideal) ℓ) (g' : Dev Cert.IndexerReferenceIdeal.nD → PrngReg), Pre_IndexerIdeal_indexer_tables_rotate m →
    (∀ c : Dev Cert.IndexerIdeal.nD,
      m' ((c.tc : Thread Cert.IndexerReferenceIdeal.nD Cert.IndexerReferenceIdeal.τ).loc Cert.IndexerReferenceIdeal.main_arg0) = m ((c.tc : Thread Cert.IndexerIdeal.nD Cert.IndexerIdeal.τ).loc Cert.IndexerIdeal.main_arg0)
      ∧ m' ((c.tc : Thread Cert.IndexerReferenceIdeal.nD Cert.IndexerReferenceIdeal.τ).loc Cert.IndexerReferenceIdeal.main_arg1) = m ((c.tc : Thread Cert.IndexerIdeal.nD Cert.IndexerIdeal.τ).loc Cert.IndexerIdeal.main_arg1)
      ∧ m' ((c.tc : Thread Cert.IndexerReferenceIdeal.nD Cert.IndexerReferenceIdeal.τ).loc Cert.IndexerReferenceIdeal.main_arg2) = m ((c.tc : Thread Cert.IndexerIdeal.nD Cert.IndexerIdeal.τ).loc Cert.IndexerIdeal.main_arg2)) →
    ∃ (v0 : (c : Dev Cert.IndexerIdeal.nD) → Buf (Elt Ideal) ((c.tc : Thread Cert.IndexerIdeal.nD Cert.IndexerIdeal.τ).loc Cert.IndexerIdeal.main_v3_0)) (v1 : (c : Dev Cert.IndexerIdeal.nD) → Buf (Elt Ideal) ((c.tc : Thread Cert.IndexerIdeal.nD Cert.IndexerIdeal.τ).loc Cert.IndexerIdeal.main_v3_1)),
      θ_run (Cert.IndexerIdeal.defs (F := Ideal)) (onTc (τ := Cert.IndexerIdeal.τ) (Cert.IndexerIdeal.main (F := Ideal))) ⟨m, fun _ => 0, g⟩ (fun r => ∀ c : Dev Cert.IndexerIdeal.nD,
          r.2.mem ((c.tc : Thread Cert.IndexerIdeal.nD Cert.IndexerIdeal.τ).loc Cert.IndexerIdeal.main_v3_0) = v0 c
          ∧ r.2.mem ((c.tc : Thread Cert.IndexerIdeal.nD Cert.IndexerIdeal.τ).loc Cert.IndexerIdeal.main_v3_1) = v1 c
          ∧ r.2.mem ((c.tc : Thread Cert.IndexerIdeal.nD Cert.IndexerIdeal.τ).loc Cert.IndexerIdeal.main_arg0) = m ((c.tc : Thread Cert.IndexerIdeal.nD Cert.IndexerIdeal.τ).loc Cert.IndexerIdeal.main_arg0)
          ∧ r.2.mem ((c.tc : Thread Cert.IndexerIdeal.nD Cert.IndexerIdeal.τ).loc Cert.IndexerIdeal.main_arg1) = m ((c.tc : Thread Cert.IndexerIdeal.nD Cert.IndexerIdeal.τ).loc Cert.IndexerIdeal.main_arg1)
          ∧ r.2.mem ((c.tc : Thread Cert.IndexerIdeal.nD Cert.IndexerIdeal.τ).loc Cert.IndexerIdeal.main_arg2) = m ((c.tc : Thread Cert.IndexerIdeal.nD Cert.IndexerIdeal.τ).loc Cert.IndexerIdeal.main_arg2))
      ∧ θ_run (Cert.IndexerReferenceIdeal.defs (F := Ideal)) (onTc (τ := Cert.IndexerReferenceIdeal.τ) (Cert.IndexerReferenceIdeal.main (F := Ideal))) ⟨m', fun _ => 0, g'⟩ (fun r => ∀ c : Dev Cert.IndexerReferenceIdeal.nD,
          r.2.mem ((c.tc : Thread Cert.IndexerReferenceIdeal.nD Cert.IndexerReferenceIdeal.τ).loc Cert.IndexerReferenceIdeal.main_v55) = v0 c
          ∧ r.2.mem ((c.tc : Thread Cert.IndexerReferenceIdeal.nD Cert.IndexerReferenceIdeal.τ).loc Cert.IndexerReferenceIdeal.main_v53) = v1 c
          ∧ r.2.mem ((c.tc : Thread Cert.IndexerReferenceIdeal.nD Cert.IndexerReferenceIdeal.τ).loc Cert.IndexerReferenceIdeal.main_arg0) = m' ((c.tc : Thread Cert.IndexerReferenceIdeal.nD Cert.IndexerReferenceIdeal.τ).loc Cert.IndexerReferenceIdeal.main_arg0)
          ∧ r.2.mem ((c.tc : Thread Cert.IndexerReferenceIdeal.nD Cert.IndexerReferenceIdeal.τ).loc Cert.IndexerReferenceIdeal.main_arg1) = m' ((c.tc : Thread Cert.IndexerReferenceIdeal.nD Cert.IndexerReferenceIdeal.τ).loc Cert.IndexerReferenceIdeal.main_arg1)
          ∧ r.2.mem ((c.tc : Thread Cert.IndexerReferenceIdeal.nD Cert.IndexerReferenceIdeal.τ).loc Cert.IndexerReferenceIdeal.main_arg2) = m' ((c.tc : Thread Cert.IndexerReferenceIdeal.nD Cert.IndexerReferenceIdeal.τ).loc Cert.IndexerReferenceIdeal.main_arg2))

def Claim : Prop :=
  ∃ (hKernel : Cert.Kernel.Facts) (hKernelIdeal : Cert.KernelIdeal.Facts) (hKernelReferenceIdeal : Cert.KernelReferenceIdeal.Facts) (hGate : Cert.Gate.Facts) (hGateIdeal : Cert.GateIdeal.Facts) (hGateReferenceIdeal : Cert.GateReferenceIdeal.Facts) (hPoolValue : Cert.PoolValue.Facts) (hPoolValueIdeal : Cert.PoolValueIdeal.Facts) (hPoolValueReferenceIdeal : Cert.PoolValueReferenceIdeal.Facts) (hValues : Cert.Values.Facts) (hValuesIdeal : Cert.ValuesIdeal.Facts) (hValuesReferenceIdeal : Cert.ValuesReferenceIdeal.Facts) (hOutNorm : Cert.OutNorm.Facts) (hOutNormIdeal : Cert.OutNormIdeal.Facts) (hOutNormReferenceIdeal : Cert.OutNormReferenceIdeal.Facts) (hOutFinal : Cert.OutFinal.Facts) (hOutFinalIdeal : Cert.OutFinalIdeal.Facts) (hOutFinalReferenceIdeal : Cert.OutFinalReferenceIdeal.Facts) (hQueriesKeys : Cert.QueriesKeys.Facts) (hQueriesKeysIdeal : Cert.QueriesKeysIdeal.Facts) (hQueriesKeysReferenceIdeal : Cert.QueriesKeysReferenceIdeal.Facts) (hIndexer : Cert.Indexer.Facts) (hIndexerIdeal : Cert.IndexerIdeal.Facts) (hIndexerReferenceIdeal : Cert.IndexerReferenceIdeal.Facts) (hPre_tables_rotate : Cert.Pre_tables_rotate.Facts) (hPre_indexer_tables_rotate : Cert.Pre_indexer_tables_rotate.Facts) (hOn_first_tile : Cert.On_first_tile.Facts),
    quiescent_Kernel (hKernel := hKernel)
    ∧ quiescent_KernelIdeal (hKernelIdeal := hKernelIdeal)
    ∧ quiescent_KernelReferenceIdeal (hKernelReferenceIdeal := hKernelReferenceIdeal)
    ∧ quiescent_Gate (hGate := hGate)
    ∧ quiescent_GateIdeal (hGateIdeal := hGateIdeal)
    ∧ quiescent_GateReferenceIdeal (hGateReferenceIdeal := hGateReferenceIdeal)
    ∧ quiescent_PoolValue (hPoolValue := hPoolValue)
    ∧ quiescent_PoolValueIdeal (hPoolValueIdeal := hPoolValueIdeal)
    ∧ quiescent_PoolValueReferenceIdeal (hPoolValueReferenceIdeal := hPoolValueReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ quiescent_OutNorm (hOutNorm := hOutNorm)
    ∧ quiescent_OutNormIdeal (hOutNormIdeal := hOutNormIdeal)
    ∧ quiescent_OutNormReferenceIdeal (hOutNormReferenceIdeal := hOutNormReferenceIdeal)
    ∧ quiescent_OutFinal (hOutFinal := hOutFinal)
    ∧ quiescent_OutFinalIdeal (hOutFinalIdeal := hOutFinalIdeal)
    ∧ quiescent_OutFinalReferenceIdeal (hOutFinalReferenceIdeal := hOutFinalReferenceIdeal)
    ∧ quiescent_QueriesKeys (hQueriesKeys := hQueriesKeys)
    ∧ quiescent_QueriesKeysIdeal (hQueriesKeysIdeal := hQueriesKeysIdeal)
    ∧ quiescent_QueriesKeysIdeal_pre_tables_rotate (hQueriesKeysIdeal := hQueriesKeysIdeal) (hPre_tables_rotate := hPre_tables_rotate)
    ∧ quiescent_QueriesKeysReferenceIdeal (hQueriesKeysReferenceIdeal := hQueriesKeysReferenceIdeal)
    ∧ quiescent_QueriesKeysReferenceIdeal_pre_tables_rotate (hQueriesKeysReferenceIdeal := hQueriesKeysReferenceIdeal) (hPre_tables_rotate := hPre_tables_rotate)
    ∧ quiescent_Indexer (hIndexer := hIndexer)
    ∧ quiescent_IndexerIdeal (hIndexerIdeal := hIndexerIdeal)
    ∧ quiescent_IndexerIdeal_pre_indexer_tables_rotate (hIndexerIdeal := hIndexerIdeal) (hPre_indexer_tables_rotate := hPre_indexer_tables_rotate)
    ∧ quiescent_IndexerReferenceIdeal (hIndexerReferenceIdeal := hIndexerReferenceIdeal)
    ∧ quiescent_IndexerReferenceIdeal_pre_indexer_tables_rotate (hIndexerReferenceIdeal := hIndexerReferenceIdeal) (hPre_indexer_tables_rotate := hPre_indexer_tables_rotate)
    ∧ preserves_Kernel_KernelIdeal
    ∧ algebraic_KernelIdeal_KernelReferenceIdeal_on_first_tile (hKernelIdeal := hKernelIdeal) (hKernelReferenceIdeal := hKernelReferenceIdeal) (hOn_first_tile := hOn_first_tile)
    ∧ preserves_Gate_GateIdeal
    ∧ algebraic_GateIdeal_GateReferenceIdeal (hGateIdeal := hGateIdeal) (hGateReferenceIdeal := hGateReferenceIdeal)
    ∧ preserves_PoolValue_PoolValueIdeal
    ∧ algebraic_PoolValueIdeal_PoolValueReferenceIdeal (hPoolValueIdeal := hPoolValueIdeal) (hPoolValueReferenceIdeal := hPoolValueReferenceIdeal)
    ∧ preserves_Values_ValuesIdeal
    ∧ algebraic_ValuesIdeal_ValuesReferenceIdeal (hValuesIdeal := hValuesIdeal) (hValuesReferenceIdeal := hValuesReferenceIdeal)
    ∧ preserves_OutNorm_OutNormIdeal
    ∧ algebraic_OutNormIdeal_OutNormReferenceIdeal (hOutNormIdeal := hOutNormIdeal) (hOutNormReferenceIdeal := hOutNormReferenceIdeal)
    ∧ preserves_OutFinal_OutFinalIdeal
    ∧ algebraic_OutFinalIdeal_OutFinalReferenceIdeal (hOutFinalIdeal := hOutFinalIdeal) (hOutFinalReferenceIdeal := hOutFinalReferenceIdeal)
    ∧ preserves_QueriesKeys_QueriesKeysIdeal
    ∧ algebraic_QueriesKeysIdeal_QueriesKeysReferenceIdeal_pre_tables_rotate (hQueriesKeysIdeal := hQueriesKeysIdeal) (hQueriesKeysReferenceIdeal := hQueriesKeysReferenceIdeal) (hPre_tables_rotate := hPre_tables_rotate)
    ∧ preserves_Indexer_IndexerIdeal
    ∧ algebraic_IndexerIdeal_IndexerReferenceIdeal_pre_indexer_tables_rotate (hIndexerIdeal := hIndexerIdeal) (hIndexerReferenceIdeal := hIndexerReferenceIdeal) (hPre_indexer_tables_rotate := hPre_indexer_tables_rotate)
-- ==== On_first_tile.lean ====
abbrev S32x8192x128 : Shape := ⟨3, ![32, 8192, 128]⟩
abbrev S16x128x8192 : Shape := ⟨3, ![16, 128, 8192]⟩
abbrev S8192x2048 : Shape := ⟨2, ![8192, 2048]⟩
abbrev S8192x1024 : Shape := ⟨2, ![8192, 1024]⟩
abbrev S16x8192 : Shape := ⟨2, ![16, 8192]⟩
abbrev S64x256x128 : Shape := ⟨3, ![64, 256, 128]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S32x8192x128 .bf16) (main_arg1 : FVec F S16x128x8192 .bf16) (main_arg2 : FVec F S8192x2048 .bf16) (main_arg3 : FVec F S8192x1024 .bf16) (main_arg4 : FVec F S16x8192 .f32) (main_arg5 : FVec F S64x256x128 .bf16) : IVec S8192x2048 1 :=
  let main_v0 : IVec S8192x2048 32 := iotaInDim S8192x2048 32 0
  let main_v1 : IVec S8192x2048 32 := iotaInDim S8192x2048 32 1
  let main_c : IVec S_ 32 := constantI S_ 32 256#32
  let main_v2 : IVec S8192x2048 32 := broadcastInDim S8192x2048 ![] bcast_S_S8192x2048 main_c
  let main_v3 : IVec S8192x2048 1 := cmpi .slt main_v0 main_v2
  let main_c_0 : IVec S_ 32 := constantI S_ 32 128#32
  let main_v4 : IVec S8192x2048 32 := broadcastInDim S8192x2048 ![] bcast_S_S8192x2048 main_c_0
  let main_v5 : IVec S8192x2048 1 := cmpi .slt main_v1 main_v4
  let main_v6 : IVec S8192x2048 1 := andi main_v3 main_v5
  main_v6
-- ==== Pre_indexer_tables_rotate.lean ====
abbrev S8192x2048 : Shape := ⟨2, ![8192, 2048]⟩
abbrev S2048x9296 : Shape := ⟨2, ![2048, 9296]⟩
abbrev S4x8192x384 : Shape := ⟨3, ![4, 8192, 384]⟩
abbrev S2x8192x384 : Shape := ⟨3, ![2, 8192, 384]⟩
abbrev S_ : Shape := ⟨0, ![]⟩

class Facts : Prop where
  bcast_S_S2x8192x384 : S_.BroadcastsInDim S2x8192x384 (![] : Fin 0 → Fin S2x8192x384.rank)
  slices_S4x8192x384_S2x8192x384_2_0_0 : S4x8192x384.Slices ![2, 0, 0] S2x8192x384

variable [Facts]

def fn_part1 {F : FTy → Type} [FloatOps F] (main_arg2 : FVec F S4x8192x384 .f32) (main_v0 : IVec S2x8192x384 32) (main_v3 : IVec S2x8192x384 1) (main_v15 : IVec S2x8192x384 1) (main_v17 : IVec S2x8192x384 1) : IVec S2x8192x384 1 :=
  let main_c_5 : IVec S_ 32 := constantI S_ 32 264#32
  let main_v18 : IVec S2x8192x384 32 := broadcastInDim S2x8192x384 ![] bcast_S_S2x8192x384 main_c_5
  let main_v19 : IVec S2x8192x384 1 := cmpi .slt main_v0 main_v18
  let main_v20 : IVec S2x8192x384 1 := andi main_v17 main_v19
  let main_c_6 : IVec S_ 32 := constantI S_ 32 320#32
  let main_v21 : IVec S2x8192x384 32 := broadcastInDim S2x8192x384 ![] bcast_S_S2x8192x384 main_c_6
  let main_v22 : IVec S2x8192x384 1 := cmpi .sge main_v0 main_v21
  let main_v23 : IVec S2x8192x384 1 := andi main_v3 main_v22
  let main_c_7 : IVec S_ 32 := constantI S_ 32 328#32
  let main_v24 : IVec S2x8192x384 32 := broadcastInDim S2x8192x384 ![] bcast_S_S2x8192x384 main_c_7
  let main_v25 : IVec S2x8192x384 1 := cmpi .slt main_v0 main_v24
  let main_v26 : IVec S2x8192x384 1 := andi main_v23 main_v25
  let main_v27 : IVec S2x8192x384 1 := ori main_v20 main_v26
  let main_c_8 : IVec S_ 32 := constantI S_ 32 128#32
  let main_v28 : IVec S2x8192x384 32 := broadcastInDim S2x8192x384 ![] bcast_S_S2x8192x384 main_c_8
  let main_v29 : IVec S2x8192x384 1 := cmpi .slt main_v0 main_v28
  let main_v30 : IVec S2x8192x384 1 := ori main_v29 main_v15
  let main_v31 : IVec S2x8192x384 1 := ori main_v30 main_v27
  let main_v32 : FVec F S2x8192x384 .f32 := (extractStridedSlice S2x8192x384 ![2, 0, 0] · slices_S4x8192x384_S2x8192x384_2_0_0) main_arg2
  let main_cst : FVec F S_ .f32 := constant S_ .f32 0x00000000#32
  let main_v33 : FVec F S2x8192x384 .f32 := broadcastInDim S2x8192x384 ![] bcast_S_S2x8192x384 main_cst
  let main_v34 : IVec S2x8192x384 1 := cmpf .oeq main_v32 main_v33
  let main_v35 : IVec S2x8192x384 1 := ori main_v31 main_v34
  main_v35

def fn {F : FTy → Type} [FloatOps F] (main_arg0 : FVec F S8192x2048 .bf16) (main_arg1 : FVec F S2048x9296 .f32) (main_arg2 : FVec F S4x8192x384 .f32) : IVec S2x8192x384 1 :=
  let main_v0 : IVec S2x8192x384 32 := iotaInDim S2x8192x384 32 2
  let main_v1 : IVec S2x8192x384 32 := iotaInDim S2x8192x384 32 0
  let main_c : IVec S_ 32 := constantI S_ 32 0#32
  let main_v2 : IVec S2x8192x384 32 := broadcastInDim S2x8192x384 ![] bcast_S_S2x8192x384 main_c
  let main_v3 : IVec S2x8192x384 1 := cmpi .eq main_v1 main_v2
  let main_c_0 : IVec S_ 32 := constantI S_ 32 136#32
  let main_v4 : IVec S2x8192x384 32 := broadcastInDim S2x8192x384 ![] bcast_S_S2x8192x384 main_c_0
  let main_v5 : IVec S2x8192x384 1 := cmpi .sge main_v0 main_v4
  let main_c_1 : IVec S_ 32 := constantI S_ 32 144#32
  let main_v6 : IVec S2x8192x384 32 := broadcastInDim S2x8192x384 ![] bcast_S_S2x8192x384 main_c_1
  let main_v7 : IVec S2x8192x384 1 := cmpi .slt main_v0 main_v6
  let main_v8 : IVec S2x8192x384 1 := andi main_v5 main_v7
  let main_c_2 : IVec S_ 32 := constantI S_ 32 200#32
  let main_v9 : IVec S2x8192x384 32 := broadcastInDim S2x8192x384 ![] bcast_S_S2x8192x384 main_c_2
  let main_v10 : IVec S2x8192x384 1 := cmpi .sge main_v0 main_v9
  let main_v11 : IVec S2x8192x384 1 := andi main_v3 main_v10
  let main_c_3 : IVec S_ 32 := constantI S_ 32 208#32
  let main_v12 : IVec S2x8192x384 32 := broadcastInDim S2x8192x384 ![] bcast_S_S2x8192x384 main_c_3
  let main_v13 : IVec S2x8192x384 1 := cmpi .slt main_v0 main_v12
  let main_v14 : IVec S2x8192x384 1 := andi main_v11 main_v13
  let main_v15 : IVec S2x8192x384 1 := ori main_v8 main_v14
  let main_c_4 : IVec S_ 32 := constantI S_ 32 256#32
  let main_v16 : IVec S2x8192x384 32 := broadcastInDim S2x8192x384 ![] bcast_S_S2x8192x384 main_c_4
  let main_v17 : IVec S2x8192x384 1 := cmpi .sge main_v0 main_v16
  fn_part1 (F := F) main_arg2 main_v0 main_v3 main_v15 main_v17
-- ==== Pre_tables_rotate.lean ====
abbrev S8192x2048 : Shape := ⟨2, ![8192, 2048]⟩
abbrev S2048x9296 : Shape := ⟨2, ![2048, 9296]⟩
abbrev S4x8192x384 : Shape := ⟨3, ![4, 8192, 384]⟩
abbrev S2x8192x384 : Shape := ⟨3, ![2, 8192, 384]⟩
abbrev S_ : Shape := ⟨0, ![]⟩

class Facts : Prop where
  bcast_S_S2x8192x384 : S_.BroadcastsInDim S2x8192x384 (![] : Fin 0 → Fin S2x8192x384.rank)
  slices_S4x8192x384_S2x8192x384_0_0_0 : S4x8192x384.Slices ![0, 0, 0] S2x8192x384

variable [Facts]

def fn_part1 {F : FTy → Type} [FloatOps F] (main_v14 : IVec S2x8192x384 1) (main_v17 : IVec S2x8192x384 1) : IVec S2x8192x384 1 :=
  let main_v18 : IVec S2x8192x384 1 := ori main_v14 main_v17
  main_v18

def fn {F : FTy → Type} [FloatOps F] (main_arg0 : FVec F S8192x2048 .bf16) (main_arg1 : FVec F S2048x9296 .f32) (main_arg2 : FVec F S4x8192x384 .f32) : IVec S2x8192x384 1 :=
  let main_v0 : IVec S2x8192x384 32 := iotaInDim S2x8192x384 32 2
  let main_c : IVec S_ 32 := constantI S_ 32 128#32
  let main_v1 : IVec S2x8192x384 32 := broadcastInDim S2x8192x384 ![] bcast_S_S2x8192x384 main_c
  let main_v2 : IVec S2x8192x384 1 := cmpi .slt main_v0 main_v1
  let main_c_0 : IVec S_ 32 := constantI S_ 32 144#32
  let main_v3 : IVec S2x8192x384 32 := broadcastInDim S2x8192x384 ![] bcast_S_S2x8192x384 main_c_0
  let main_v4 : IVec S2x8192x384 1 := cmpi .sge main_v0 main_v3
  let main_c_1 : IVec S_ 32 := constantI S_ 32 160#32
  let main_v5 : IVec S2x8192x384 32 := broadcastInDim S2x8192x384 ![] bcast_S_S2x8192x384 main_c_1
  let main_v6 : IVec S2x8192x384 1 := cmpi .slt main_v0 main_v5
  let main_v7 : IVec S2x8192x384 1 := andi main_v4 main_v6
  let main_v8 : IVec S2x8192x384 1 := ori main_v2 main_v7
  let main_c_2 : IVec S_ 32 := constantI S_ 32 256#32
  let main_v9 : IVec S2x8192x384 32 := broadcastInDim S2x8192x384 ![] bcast_S_S2x8192x384 main_c_2
  let main_v10 : IVec S2x8192x384 1 := cmpi .sge main_v0 main_v9
  let main_c_3 : IVec S_ 32 := constantI S_ 32 272#32
  let main_v11 : IVec S2x8192x384 32 := broadcastInDim S2x8192x384 ![] bcast_S_S2x8192x384 main_c_3
  let main_v12 : IVec S2x8192x384 1 := cmpi .slt main_v0 main_v11
  let main_v13 : IVec S2x8192x384 1 := andi main_v10 main_v12
  let main_v14 : IVec S2x8192x384 1 := ori main_v8 main_v13
  let main_v15 : FVec F S2x8192x384 .f32 := (extractStridedSlice S2x8192x384 ![0, 0, 0] · slices_S4x8192x384_S2x8192x384_0_0_0) main_arg2
  let main_cst : FVec F S_ .f32 := constant S_ .f32 0x00000000#32
  let main_v16 : FVec F S2x8192x384 .f32 := broadcastInDim S2x8192x384 ![] bcast_S_S2x8192x384 main_cst
  let main_v17 : IVec S2x8192x384 1 := cmpf .oeq main_v15 main_v16
  fn_part1 (F := F) main_v14 main_v17
-- ==== Kernel.lean ====
abbrev S32x8192x128 : Shape := ⟨3, ![32, 8192, 128]⟩
abbrev S16x128x8192 : Shape := ⟨3, ![16, 128, 8192]⟩
abbrev S8192x2048 : Shape := ⟨2, ![8192, 2048]⟩
abbrev S8192x1024 : Shape := ⟨2, ![8192, 1024]⟩
abbrev S16x8192 : Shape := ⟨2, ![16, 8192]⟩
abbrev S64x256x128 : Shape := ⟨3, ![64, 256, 128]⟩
abbrev S272 : Shape := ⟨1, ![272]⟩
abbrev S16x256x128 : Shape := ⟨3, ![16, 256, 128]⟩
abbrev S1 : Shape := ⟨1, ![1]⟩
abbrev S16x512x128 : Shape := ⟨3, ![16, 512, 128]⟩
abbrev S16x128x512 : Shape := ⟨3, ![16, 128, 512]⟩
abbrev S256x2048 : Shape := ⟨2, ![256, 2048]⟩
abbrev S256x1024 : Shape := ⟨2, ![256, 1024]⟩
abbrev S16x256 : Shape := ⟨2, ![16, 256]⟩
abbrev S8192x256 : Shape := ⟨2, ![8192, 256]⟩
abbrev S3x512x256 : Shape := ⟨3, ![3, 512, 256]⟩
abbrev S2x512x256 : Shape := ⟨3, ![2, 512, 256]⟩
abbrev S2x8x256 : Shape := ⟨3, ![2, 8, 256]⟩
abbrev S16x8x256 : Shape := ⟨3, ![16, 8, 256]⟩
abbrev S16x128x256 : Shape := ⟨3, ![16, 128, 256]⟩
abbrev S8x256 : Shape := ⟨2, ![8, 256]⟩
abbrev S128x256 : Shape := ⟨2, ![128, 256]⟩
abbrev S1x256x128 : Shape := ⟨3, ![1, 256, 128]⟩
abbrev S256x128 : Shape := ⟨2, ![256, 128]⟩
abbrev S256x256 : Shape := ⟨2, ![256, 256]⟩
abbrev S1x256 : Shape := ⟨2, ![1, 256]⟩
abbrev S4x4x8x256 : Shape := ⟨4, ![4, 4, 8, 256]⟩
abbrev S4x8x256 : Shape := ⟨3, ![4, 8, 256]⟩
abbrev S1x1x256 : Shape := ⟨3, ![1, 1, 256]⟩
abbrev S1x1x1 : Shape := ⟨3, ![1, 1, 1]⟩
abbrev S512x256 : Shape := ⟨2, ![512, 256]⟩
abbrev S64x8x256 : Shape := ⟨3, ![64, 8, 256]⟩
abbrev S1x8x256 : Shape := ⟨3, ![1, 8, 256]⟩
abbrev S16x4x8x256 : Shape := ⟨4, ![16, 4, 8, 256]⟩
abbrev S16x512 : Shape := ⟨2, ![16, 512]⟩
abbrev S1x512x128 : Shape := ⟨3, ![1, 512, 128]⟩
abbrev S512x128 : Shape := ⟨2, ![512, 128]⟩
abbrev S1x512x256 : Shape := ⟨3, ![1, 512, 256]⟩
abbrev S1x128x512 : Shape := ⟨3, ![1, 128, 512]⟩
abbrev S128x512 : Shape := ⟨2, ![128, 512]⟩
abbrev S144x512 : Shape := ⟨2, ![144, 512]⟩
abbrev S144x256 : Shape := ⟨2, ![144, 256]⟩
abbrev S1x128x256 : Shape := ⟨3, ![1, 128, 256]⟩

abbrev nBuf : Space → Nat
  | .hbm => 7
  | .vmem => 25
  | .smem => 2
  | _ => 0

abbrev bufTy : (tb : Table) → Fin (tcTables nBuf tb) → BufTy
  | .hbm, ⟨0, _⟩ => ⟨S32x8192x128, .bf16⟩
  | .hbm, ⟨1, _⟩ => ⟨S16x128x8192, .bf16⟩
  | .hbm, ⟨2, _⟩ => ⟨S8192x2048, .bf16⟩
  | .hbm, ⟨3, _⟩ => ⟨S8192x1024, .bf16⟩
  | .hbm, ⟨4, _⟩ => ⟨S16x8192, .f32⟩
  | .hbm, ⟨5, _⟩ => ⟨S64x256x128, .bf16⟩
  | .hbm, ⟨6, _⟩ => ⟨S8192x2048, .bf16⟩
  | .local _ .vmem, ⟨0, _⟩ => ⟨S16x256x128, .bf16⟩
  | .local _ .vmem, ⟨1, _⟩ => ⟨S16x256x128, .bf16⟩
  | .local _ .vmem, ⟨2, _⟩ => ⟨S16x512x128, .bf16⟩
  | .local _ .vmem, ⟨3, _⟩ => ⟨S16x512x128, .bf16⟩
  | .local _ .vmem, ⟨4, _⟩ => ⟨S16x128x512, .bf16⟩
  | .local _ .vmem, ⟨5, _⟩ => ⟨S16x128x512, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .bf16⟩
  | .local _ .vmem, ⟨9, _⟩ => ⟨S256x1024, .bf16⟩
  | .local _ .vmem, ⟨10, _⟩ => ⟨S16x256, .f32⟩
  | .local _ .vmem, ⟨11, _⟩ => ⟨S16x256, .f32⟩
  | .local _ .vmem, ⟨12, _⟩ => ⟨S64x256x128, .bf16⟩
  | .local _ .vmem, ⟨13, _⟩ => ⟨S256x2048, .bf16⟩
  | .local _ .vmem, ⟨14, _⟩ => ⟨S256x2048, .bf16⟩
  | .local _ .vmem, ⟨15, _⟩ => ⟨S8192x256, .f32⟩
  | .local _ .vmem, ⟨16, _⟩ => ⟨S3x512x256, .f32⟩
  | .local _ .vmem, ⟨17, _⟩ => ⟨S2x512x256, .bf16⟩
  | .local _ .vmem, ⟨18, _⟩ => ⟨S2x8x256, .f32⟩
  | .local _ .vmem, ⟨19, _⟩ => ⟨S16x8x256, .f32⟩
  | .local _ .vmem, ⟨20, _⟩ => ⟨S16x8x256, .f32⟩
  | .local _ .vmem, ⟨21, _⟩ => ⟨S16x128x256, .f32⟩
  | .local _ .vmem, ⟨22, _⟩ => ⟨S8x256, .f32⟩
  | .local _ .vmem, ⟨23, _⟩ => ⟨S8x256, .f32⟩
  | .local _ .vmem, ⟨24, _⟩ => ⟨S8x256, .f32⟩
  | .local _ .smem, ⟨0, _⟩ => ⟨S272, .i32⟩
  | .local _ .smem, ⟨1, _⟩ => ⟨S272, .i32⟩
  | _, _ => ⟨S32x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![272], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_844 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_841 : BitVec 32 := 1#32
  let v1173 : BitVec 32 := Scalar.addi v23 c1_i32_841
  let v1176 : BitVec 32 := Scalar.subi v1173 c0_i32_844
  let c1_i32_845 : BitVec 32 := 1#32
  let v1178 : BitVec 32 := Scalar.divsi v1176 c1_i32_845
  let v1179 : BitVec 32 := Scalar.muli v1178 c1_i32_845
  let v1180 : BitVec 32 := Scalar.addi c0_i32_844 v1179
  let c1_i32_846 : BitVec 32 := 1#32
  ⟨c0_i32_844, v1180, c1_i32_846⟩
def k0_cond1 (v3 : BitVec 32) : BitVec 1 :=
  let c0_i32_6 : BitVec 32 := 0#32
  let v24 : BitVec 1 := Scalar.cmpi .eq v3 c0_i32_6
  let v25 : BitVec 32 := Scalar.extui v24
  let c0_i32_7 : BitVec 32 := 0#32
  let v26 : BitVec 1 := Scalar.cmpi .ne v25 c0_i32_7
  v26

def k0_mult1 (v1 : BitVec 32) (k0_t1 : Fin (k0_t1_loop v1).trips) : BitVec 32 :=
  let c0_i32_844 : BitVec 32 := 0#32
  let c1_i32_846 : BitVec 32 := 1#32
  let arg21 : BitVec 32 := Scf.iv c0_i32_844 c1_i32_846 k0_t1
  let c4_i32_909 : BitVec 32 := 4#32
  let v1281 : BitVec 32 := Scalar.muli arg21 c4_i32_909
  let c0_i32_910 : BitVec 32 := 0#32
  let v1282 : BitVec 32 := Scalar.addi v1281 c0_i32_910
  let c128_i32 : BitVec 32 := 128#32
  let v1283 : BitVec 32 := Scalar.muli v1282 c128_i32
  v1283
def k0_off2 (v1 : BitVec 32) (k0_t1 : Fin (k0_t1_loop v1).trips) (c0_i32_910 : BitVec 32) : Fin 3 → Nat :=
  let c0_i32_844 : BitVec 32 := 0#32
  let c1_i32_846 : BitVec 32 := 1#32
  let arg21 : BitVec 32 := Scf.iv c0_i32_844 c1_i32_846 k0_t1
  let c4_i32_909 : BitVec 32 := 4#32
  let v1281 : BitVec 32 := Scalar.muli arg21 c4_i32_909
  let v1282 : BitVec 32 := Scalar.addi v1281 c0_i32_910
  let v1286 : Index := Scalar.indexCast v1282
  let c0_912 : Index := 0#32
  let c0_913 : Index := 0#32
  ![v1286.toNat, 0, 0]
def k0_off3 (v1 : BitVec 32) (k0_t1 : Fin (k0_t1_loop v1).trips) (c0_i32_910 : BitVec 32) : Fin 2 → Nat :=
  let c0_i32_844 : BitVec 32 := 0#32
  let c1_i32_846 : BitVec 32 := 1#32
  let arg21 : BitVec 32 := Scf.iv c0_i32_844 c1_i32_846 k0_t1
  let c4_i32_909 : BitVec 32 := 4#32
  let v1281 : BitVec 32 := Scalar.muli arg21 c4_i32_909
  let v1282 : BitVec 32 := Scalar.addi v1281 c0_i32_910
  let c128_i32 : BitVec 32 := 128#32
  let v1283 : BitVec 32 := Scalar.muli v1282 c128_i32
  let v1284 : BitVec 32 := v1283
  let v1424 : Index := Scalar.indexCast v1284
  let c0_981 : Index := 0#32
  ![v1424.toNat, 0]
def k0_mult2 (v1 : BitVec 32) (k0_t1 : Fin (k0_t1_loop v1).trips) : BitVec 32 :=
  let c0_i32_844 : BitVec 32 := 0#32
  let c1_i32_846 : BitVec 32 := 1#32
  let arg21 : BitVec 32 := Scf.iv c0_i32_844 c1_i32_846 k0_t1
  let c4_i32_988 : BitVec 32 := 4#32
  let v1442 : BitVec 32 := Scalar.muli arg21 c4_i32_988
  let c1_i32_989 : BitVec 32 := 1#32
  let v1443 : BitVec 32 := Scalar.addi v1442 c1_i32_989
  let c128_i32_990 : BitVec 32 := 128#32
  let v1444 : BitVec 32 := Scalar.muli v1443 c128_i32_990
  v1444
def k0_mult3 (v1 : BitVec 32) (k0_t1 : Fin (k0_t1_loop v1).trips) : BitVec 32 :=
  let c0_i32_844 : BitVec 32 := 0#32
  let c1_i32_846 : BitVec 32 := 1#32
  let arg21 : BitVec 32 := Scf.iv c0_i32_844 c1_i32_846 k0_t1
  let c4_i32_1075 : BitVec 32 := 4#32
  let v1603 : BitVec 32 := Scalar.muli arg21 c4_i32_1075
  let c2_i32_1076 : BitVec 32 := 2#32
  let v1604 : BitVec 32 := Scalar.addi v1603 c2_i32_1076
  let c128_i32_1077 : BitVec 32 := 128#32
  let v1605 : BitVec 32 := Scalar.muli v1604 c128_i32_1077
  v1605
def k0_mult4 (v1 : BitVec 32) (k0_t1 : Fin (k0_t1_loop v1).trips) : BitVec 32 :=
  let c0_i32_844 : BitVec 32 := 0#32
  let c1_i32_846 : BitVec 32 := 1#32
  let arg21 : BitVec 32 := Scf.iv c0_i32_844 c1_i32_846 k0_t1
  let c4_i32_1162 : BitVec 32 := 4#32
  let v1764 : BitVec 32 := Scalar.muli arg21 c4_i32_1162
  let c3_i32 : BitVec 32 := 3#32
  let v1765 : BitVec 32 := Scalar.addi v1764 c3_i32
  let c128_i32_1163 : BitVec 32 := 128#32
  let v1766 : BitVec 32 := Scalar.muli v1765 c128_i32_1163
  v1766
@[reducible] def k0_t2_loop (v1 : BitVec 32) : Scf.Loop 32 :=
  let c0_i32_844 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_841 : BitVec 32 := 1#32
  let v1173 : BitVec 32 := Scalar.addi v23 c1_i32_841
  let v1176 : BitVec 32 := Scalar.subi v1173 c0_i32_844
  let c1_i32_845 : BitVec 32 := 1#32
  let v1178 : BitVec 32 := Scalar.divsi v1176 c1_i32_845
  let v1179 : BitVec 32 := Scalar.muli v1178 c1_i32_845
  let v1180 : BitVec 32 := Scalar.addi c0_i32_844 v1179
  let v1177 : BitVec 32 := Scalar.addi c0_i32_844 v1176
  let c1_i32_847 : BitVec 32 := 1#32
  ⟨v1180, v1177, c1_i32_847⟩
def k0_mult5 (v1 : BitVec 32) (k0_t2 : Fin (k0_t2_loop v1).trips) : BitVec 32 :=
  let c0_i32_844 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_841 : BitVec 32 := 1#32
  let v1173 : BitVec 32 := Scalar.addi v23 c1_i32_841
  let v1176 : BitVec 32 := Scalar.subi v1173 c0_i32_844
  let c1_i32_845 : BitVec 32 := 1#32
  let v1178 : BitVec 32 := Scalar.divsi v1176 c1_i32_845
  let v1179 : BitVec 32 := Scalar.muli v1178 c1_i32_845
  let v1180 : BitVec 32 := Scalar.addi c0_i32_844 v1179
  let c1_i32_847 : BitVec 32 := 1#32
  let arg21 : BitVec 32 := Scf.iv v1180 c1_i32_847 k0_t2
  let c4_i32_909 : BitVec 32 := 4#32
  let v1281 : BitVec 32 := Scalar.muli arg21 c4_i32_909
  let c0_i32_910 : BitVec 32 := 0#32
  let v1282 : BitVec 32 := Scalar.addi v1281 c0_i32_910
  let c128_i32 : BitVec 32 := 128#32
  let v1283 : BitVec 32 := Scalar.muli v1282 c128_i32
  v1283
def k0_off4 (v1 : BitVec 32) (k0_t2 : Fin (k0_t2_loop v1).trips) (c0_i32_910 : BitVec 32) : Fin 3 → Nat :=
  let c0_i32_844 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_841 : BitVec 32 := 1#32
  let v1173 : BitVec 32 := Scalar.addi v23 c1_i32_841
  let v1176 : BitVec 32 := Scalar.subi v1173 c0_i32_844
  let c1_i32_845 : BitVec 32 := 1#32
  let v1178 : BitVec 32 := Scalar.divsi v1176 c1_i32_845
  let v1179 : BitVec 32 := Scalar.muli v1178 c1_i32_845
  let v1180 : BitVec 32 := Scalar.addi c0_i32_844 v1179
  let c1_i32_847 : BitVec 32 := 1#32
  let arg21 : BitVec 32 := Scf.iv v1180 c1_i32_847 k0_t2
  let c4_i32_909 : BitVec 32 := 4#32
  let v1281 : BitVec 32 := Scalar.muli arg21 c4_i32_909
  let v1282 : BitVec 32 := Scalar.addi v1281 c0_i32_910
  let v1286 : Index := Scalar.indexCast v1282
  let c0_912 : Index := 0#32
  let c0_913 : Index := 0#32
  ![v1286.toNat, 0, 0]
def k0_off5 (v1 : BitVec 32) (k0_t2 : Fin (k0_t2_loop v1).trips) (c0_i32_910 : BitVec 32) : Fin 2 → Nat :=
  let c0_i32_844 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_841 : BitVec 32 := 1#32
  let v1173 : BitVec 32 := Scalar.addi v23 c1_i32_841
  let v1176 : BitVec 32 := Scalar.subi v1173 c0_i32_844
  let c1_i32_845 : BitVec 32 := 1#32
  let v1178 : BitVec 32 := Scalar.divsi v1176 c1_i32_845
  let v1179 : BitVec 32 := Scalar.muli v1178 c1_i32_845
  let v1180 : BitVec 32 := Scalar.addi c0_i32_844 v1179
  let c1_i32_847 : BitVec 32 := 1#32
  let arg21 : BitVec 32 := Scf.iv v1180 c1_i32_847 k0_t2
  let c4_i32_909 : BitVec 32 := 4#32
  let v1281 : BitVec 32 := Scalar.muli arg21 c4_i32_909
  let v1282 : BitVec 32 := Scalar.addi v1281 c0_i32_910
  let c128_i32 : BitVec 32 := 128#32
  let v1283 : BitVec 32 := Scalar.muli v1282 c128_i32
  let v1284 : BitVec 32 := v1283
  let v1424 : Index := Scalar.indexCast v1284
  let c0_981 : Index := 0#32
  ![v1424.toNat, 0]
def k0_mult6 (v1 : BitVec 32) (k0_t2 : Fin (k0_t2_loop v1).trips) : BitVec 32 :=
  let c0_i32_844 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_841 : BitVec 32 := 1#32
  let v1173 : BitVec 32 := Scalar.addi v23 c1_i32_841
  let v1176 : BitVec 32 := Scalar.subi v1173 c0_i32_844
  let c1_i32_845 : BitVec 32 := 1#32
  let v1178 : BitVec 32 := Scalar.divsi v1176 c1_i32_845
  let v1179 : BitVec 32 := Scalar.muli v1178 c1_i32_845
  let v1180 : BitVec 32 := Scalar.addi c0_i32_844 v1179
  let c1_i32_847 : BitVec 32 := 1#32
  let arg21 : BitVec 32 := Scf.iv v1180 c1_i32_847 k0_t2
  let c4_i32_988 : BitVec 32 := 4#32
  let v1442 : BitVec 32 := Scalar.muli arg21 c4_i32_988
  let c1_i32_989 : BitVec 32 := 1#32
  let v1443 : BitVec 32 := Scalar.addi v1442 c1_i32_989
  let c128_i32_990 : BitVec 32 := 128#32
  let v1444 : BitVec 32 := Scalar.muli v1443 c128_i32_990
  v1444
def k0_mult7 (v1 : BitVec 32) (k0_t2 : Fin (k0_t2_loop v1).trips) : BitVec 32 :=
  let c0_i32_844 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_841 : BitVec 32 := 1#32
  let v1173 : BitVec 32 := Scalar.addi v23 c1_i32_841
  let v1176 : BitVec 32 := Scalar.subi v1173 c0_i32_844
  let c1_i32_845 : BitVec 32 := 1#32
  let v1178 : BitVec 32 := Scalar.divsi v1176 c1_i32_845
  let v1179 : BitVec 32 := Scalar.muli v1178 c1_i32_845
  let v1180 : BitVec 32 := Scalar.addi c0_i32_844 v1179
  let c1_i32_847 : BitVec 32 := 1#32
  let arg21 : BitVec 32 := Scf.iv v1180 c1_i32_847 k0_t2
  let c4_i32_1075 : BitVec 32 := 4#32
  let v1603 : BitVec 32 := Scalar.muli arg21 c4_i32_1075
  let c2_i32_1076 : BitVec 32 := 2#32
  let v1604 : BitVec 32 := Scalar.addi v1603 c2_i32_1076
  let c128_i32_1077 : BitVec 32 := 128#32
  let v1605 : BitVec 32 := Scalar.muli v1604 c128_i32_1077
  v1605
def k0_mult8 (v1 : BitVec 32) (k0_t2 : Fin (k0_t2_loop v1).trips) : BitVec 32 :=
  let c0_i32_844 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_841 : BitVec 32 := 1#32
  let v1173 : BitVec 32 := Scalar.addi v23 c1_i32_841
  let v1176 : BitVec 32 := Scalar.subi v1173 c0_i32_844
  let c1_i32_845 : BitVec 32 := 1#32
  let v1178 : BitVec 32 := Scalar.divsi v1176 c1_i32_845
  let v1179 : BitVec 32 := Scalar.muli v1178 c1_i32_845
  let v1180 : BitVec 32 := Scalar.addi c0_i32_844 v1179
  let c1_i32_847 : BitVec 32 := 1#32
  let arg21 : BitVec 32 := Scf.iv v1180 c1_i32_847 k0_t2
  let c4_i32_1162 : BitVec 32 := 4#32
  let v1764 : BitVec 32 := Scalar.muli arg21 c4_i32_1162
  let c3_i32 : BitVec 32 := 3#32
  let v1765 : BitVec 32 := Scalar.addi v1764 c3_i32
  let c128_i32_1163 : BitVec 32 := 128#32
  let v1766 : BitVec 32 := Scalar.muli v1765 c128_i32_1163
  v1766
@[reducible] def k0_t3_loop : Scf.Loop 32 :=
  let c0_i32_879 : BitVec 32 := 0#32
  let c64_i32 : BitVec 32 := 64#32
  let v1245 : BitVec 32 := Scalar.addi c0_i32_879 c64_i32
  let c1_i32_880 : BitVec 32 := 1#32
  ⟨c0_i32_879, v1245, c1_i32_880⟩
@[reducible] def k0_t4_loop (v1 : BitVec 32) : Scf.Loop 32 :=
  let c0_i32_927 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_920 : BitVec 32 := 0#32
  let v1299 : BitVec 1 := Scalar.cmpi .sgt v1196 c0_i32_920
  let v1300 : BitVec 32 := Scalar.extui v1299
  let c0_i32_921 : BitVec 32 := 0#32
  let v1301 : BitVec 1 := Scalar.cmpi .slt v1196 c0_i32_921
  let v1302 : BitVec 32 := Scalar.extui v1301
  let v1303 : BitVec 32 := Scalar.subi v1300 v1302
  let c2_i32_919 : BitVec 32 := 2#32
  let c0_i32_922 : BitVec 32 := 0#32
  let v1304 : BitVec 1 := Scalar.cmpi .sgt c2_i32_919 c0_i32_922
  let v1305 : BitVec 32 := Scalar.extui v1304
  let c0_i32_923 : BitVec 32 := 0#32
  let v1306 : BitVec 1 := Scalar.cmpi .slt c2_i32_919 c0_i32_923
  let v1307 : BitVec 32 := Scalar.extui v1306
  let v1308 : BitVec 32 := Scalar.subi v1305 v1307
  let v1309 : BitVec 1 := Scalar.cmpi .ne v1303 v1308
  let v1310 : BitVec 32 := Scalar.remsi v1196 c2_i32_919
  let c0_i32_924 : BitVec 32 := 0#32
  let v1311 : BitVec 1 := Scalar.cmpi .ne v1310 c0_i32_924
  let v1312 : BitVec 1 := Scalar.andi v1309 v1311
  let v1298 : BitVec 32 := Scalar.divsi v1196 c2_i32_919
  let c1_i32_925 : BitVec 32 := 1#32
  let v1313 : BitVec 32 := Scalar.subi v1298 c1_i32_925
  let v1314 : BitVec 32 := Scalar.select v1312 v1313 v1298
  let v1316 : BitVec 32 := Scalar.subi v1314 c0_i32_927
  let c1_i32_928 : BitVec 32 := 1#32
  let v1318 : BitVec 32 := Scalar.divsi v1316 c1_i32_928
  let v1319 : BitVec 32 := Scalar.muli v1318 c1_i32_928
  let v1320 : BitVec 32 := Scalar.addi c0_i32_927 v1319
  let c1_i32_929 : BitVec 32 := 1#32
  ⟨c0_i32_927, v1320, c1_i32_929⟩
def k0_cond2 (v1281 : BitVec 1) : BitVec 1 :=
  let v1282 : BitVec 32 := Scalar.extui v1281
  let c0_i32_910 : BitVec 32 := 0#32
  let v1283 : BitVec 1 := Scalar.cmpi .ne v1282 c0_i32_910
  v1283

def k0_mult9 (v1 : BitVec 32) (k0_t4 : Fin (k0_t4_loop v1).trips) : BitVec 32 :=
  let c2_i32_961 : BitVec 32 := 2#32
  let c0_i32_927 : BitVec 32 := 0#32
  let c1_i32_929 : BitVec 32 := 1#32
  let arg23 : BitVec 32 := Scf.iv c0_i32_927 c1_i32_929 k0_t4
  let v1381 : BitVec 32 := Scalar.muli c2_i32_961 arg23
  let c512_i32_962 : BitVec 32 := 512#32
  let v1382 : BitVec 32 := Scalar.muli v1381 c512_i32_962
  v1382
def k0_off6 (v1 : BitVec 32) (k0_t4 : Fin (k0_t4_loop v1).trips) : Fin 2 → Nat :=
  let c2_i32_961 : BitVec 32 := 2#32
  let c0_i32_927 : BitVec 32 := 0#32
  let c1_i32_929 : BitVec 32 := 1#32
  let arg23 : BitVec 32 := Scf.iv c0_i32_927 c1_i32_929 k0_t4
  let v1381 : BitVec 32 := Scalar.muli c2_i32_961 arg23
  let c512_i32_962 : BitVec 32 := 512#32
  let v1382 : BitVec 32 := Scalar.muli v1381 c512_i32_962
  let v1383 : BitVec 32 := v1382
  let v1384 : Index := Scalar.indexCast v1383
  let c0_963 : Index := 0#32
  ![v1384.toNat, 0]
def k0_mult10 (v1 : BitVec 32) (k0_t4 : Fin (k0_t4_loop v1).trips) : BitVec 32 :=
  let c2_i32_968 : BitVec 32 := 2#32
  let c0_i32_927 : BitVec 32 := 0#32
  let c1_i32_929 : BitVec 32 := 1#32
  let arg23 : BitVec 32 := Scf.iv c0_i32_927 c1_i32_929 k0_t4
  let v1397 : BitVec 32 := Scalar.muli c2_i32_968 arg23
  let c1_i32_969 : BitVec 32 := 1#32
  let v1398 : BitVec 32 := Scalar.addi v1397 c1_i32_969
  let c512_i32_970 : BitVec 32 := 512#32
  let v1399 : BitVec 32 := Scalar.muli v1398 c512_i32_970
  v1399
def k0_off7 (v1 : BitVec 32) (k0_t4 : Fin (k0_t4_loop v1).trips) : Fin 2 → Nat :=
  let c2_i32_968 : BitVec 32 := 2#32
  let c0_i32_927 : BitVec 32 := 0#32
  let c1_i32_929 : BitVec 32 := 1#32
  let arg23 : BitVec 32 := Scf.iv c0_i32_927 c1_i32_929 k0_t4
  let v1397 : BitVec 32 := Scalar.muli c2_i32_968 arg23
  let c1_i32_969 : BitVec 32 := 1#32
  let v1398 : BitVec 32 := Scalar.addi v1397 c1_i32_969
  let c512_i32_970 : BitVec 32 := 512#32
  let v1399 : BitVec 32 := Scalar.muli v1398 c512_i32_970
  let v1400 : BitVec 32 := v1399
  let v1401 : Index := Scalar.indexCast v1400
  let c0_971 : Index := 0#32
  ![v1401.toNat, 0]
@[reducible] def k0_t5_loop (v1 : BitVec 32) : Scf.Loop 32 :=
  let c0_i32_927 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_920 : BitVec 32 := 0#32
  let v1299 : BitVec 1 := Scalar.cmpi .sgt v1196 c0_i32_920
  let v1300 : BitVec 32 := Scalar.extui v1299
  let c0_i32_921 : BitVec 32 := 0#32
  let v1301 : BitVec 1 := Scalar.cmpi .slt v1196 c0_i32_921
  let v1302 : BitVec 32 := Scalar.extui v1301
  let v1303 : BitVec 32 := Scalar.subi v1300 v1302
  let c2_i32_919 : BitVec 32 := 2#32
  let c0_i32_922 : BitVec 32 := 0#32
  let v1304 : BitVec 1 := Scalar.cmpi .sgt c2_i32_919 c0_i32_922
  let v1305 : BitVec 32 := Scalar.extui v1304
  let c0_i32_923 : BitVec 32 := 0#32
  let v1306 : BitVec 1 := Scalar.cmpi .slt c2_i32_919 c0_i32_923
  let v1307 : BitVec 32 := Scalar.extui v1306
  let v1308 : BitVec 32 := Scalar.subi v1305 v1307
  let v1309 : BitVec 1 := Scalar.cmpi .ne v1303 v1308
  let v1310 : BitVec 32 := Scalar.remsi v1196 c2_i32_919
  let c0_i32_924 : BitVec 32 := 0#32
  let v1311 : BitVec 1 := Scalar.cmpi .ne v1310 c0_i32_924
  let v1312 : BitVec 1 := Scalar.andi v1309 v1311
  let v1298 : BitVec 32 := Scalar.divsi v1196 c2_i32_919
  let c1_i32_925 : BitVec 32 := 1#32
  let v1313 : BitVec 32 := Scalar.subi v1298 c1_i32_925
  let v1314 : BitVec 32 := Scalar.select v1312 v1313 v1298
  let v1316 : BitVec 32 := Scalar.subi v1314 c0_i32_927
  let c1_i32_928 : BitVec 32 := 1#32
  let v1318 : BitVec 32 := Scalar.divsi v1316 c1_i32_928
  let v1319 : BitVec 32 := Scalar.muli v1318 c1_i32_928
  let v1320 : BitVec 32 := Scalar.addi c0_i32_927 v1319
  let v1317 : BitVec 32 := Scalar.addi c0_i32_927 v1316
  let c1_i32_930 : BitVec 32 := 1#32
  ⟨v1320, v1317, c1_i32_930⟩
def k0_mult11 (v1 : BitVec 32) (k0_t5 : Fin (k0_t5_loop v1).trips) : BitVec 32 :=
  let c2_i32_961 : BitVec 32 := 2#32
  let c0_i32_927 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_920 : BitVec 32 := 0#32
  let v1299 : BitVec 1 := Scalar.cmpi .sgt v1196 c0_i32_920
  let v1300 : BitVec 32 := Scalar.extui v1299
  let c0_i32_921 : BitVec 32 := 0#32
  let v1301 : BitVec 1 := Scalar.cmpi .slt v1196 c0_i32_921
  let v1302 : BitVec 32 := Scalar.extui v1301
  let v1303 : BitVec 32 := Scalar.subi v1300 v1302
  let c2_i32_919 : BitVec 32 := 2#32
  let c0_i32_922 : BitVec 32 := 0#32
  let v1304 : BitVec 1 := Scalar.cmpi .sgt c2_i32_919 c0_i32_922
  let v1305 : BitVec 32 := Scalar.extui v1304
  let c0_i32_923 : BitVec 32 := 0#32
  let v1306 : BitVec 1 := Scalar.cmpi .slt c2_i32_919 c0_i32_923
  let v1307 : BitVec 32 := Scalar.extui v1306
  let v1308 : BitVec 32 := Scalar.subi v1305 v1307
  let v1309 : BitVec 1 := Scalar.cmpi .ne v1303 v1308
  let v1310 : BitVec 32 := Scalar.remsi v1196 c2_i32_919
  let c0_i32_924 : BitVec 32 := 0#32
  let v1311 : BitVec 1 := Scalar.cmpi .ne v1310 c0_i32_924
  let v1312 : BitVec 1 := Scalar.andi v1309 v1311
  let v1298 : BitVec 32 := Scalar.divsi v1196 c2_i32_919
  let c1_i32_925 : BitVec 32 := 1#32
  let v1313 : BitVec 32 := Scalar.subi v1298 c1_i32_925
  let v1314 : BitVec 32 := Scalar.select v1312 v1313 v1298
  let v1316 : BitVec 32 := Scalar.subi v1314 c0_i32_927
  let c1_i32_928 : BitVec 32 := 1#32
  let v1318 : BitVec 32 := Scalar.divsi v1316 c1_i32_928
  let v1319 : BitVec 32 := Scalar.muli v1318 c1_i32_928
  let v1320 : BitVec 32 := Scalar.addi c0_i32_927 v1319
  let c1_i32_930 : BitVec 32 := 1#32
  let arg23 : BitVec 32 := Scf.iv v1320 c1_i32_930 k0_t5
  let v1381 : BitVec 32 := Scalar.muli c2_i32_961 arg23
  let c512_i32_962 : BitVec 32 := 512#32
  let v1382 : BitVec 32 := Scalar.muli v1381 c512_i32_962
  v1382
def k0_off8 (v1 : BitVec 32) (k0_t5 : Fin (k0_t5_loop v1).trips) : Fin 2 → Nat :=
  let c2_i32_961 : BitVec 32 := 2#32
  let c0_i32_927 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_920 : BitVec 32 := 0#32
  let v1299 : BitVec 1 := Scalar.cmpi .sgt v1196 c0_i32_920
  let v1300 : BitVec 32 := Scalar.extui v1299
  let c0_i32_921 : BitVec 32 := 0#32
  let v1301 : BitVec 1 := Scalar.cmpi .slt v1196 c0_i32_921
  let v1302 : BitVec 32 := Scalar.extui v1301
  let v1303 : BitVec 32 := Scalar.subi v1300 v1302
  let c2_i32_919 : BitVec 32 := 2#32
  let c0_i32_922 : BitVec 32 := 0#32
  let v1304 : BitVec 1 := Scalar.cmpi .sgt c2_i32_919 c0_i32_922
  let v1305 : BitVec 32 := Scalar.extui v1304
  let c0_i32_923 : BitVec 32 := 0#32
  let v1306 : BitVec 1 := Scalar.cmpi .slt c2_i32_919 c0_i32_923
  let v1307 : BitVec 32 := Scalar.extui v1306
  let v1308 : BitVec 32 := Scalar.subi v1305 v1307
  let v1309 : BitVec 1 := Scalar.cmpi .ne v1303 v1308
  let v1310 : BitVec 32 := Scalar.remsi v1196 c2_i32_919
  let c0_i32_924 : BitVec 32 := 0#32
  let v1311 : BitVec 1 := Scalar.cmpi .ne v1310 c0_i32_924
  let v1312 : BitVec 1 := Scalar.andi v1309 v1311
  let v1298 : BitVec 32 := Scalar.divsi v1196 c2_i32_919
  let c1_i32_925 : BitVec 32 := 1#32
  let v1313 : BitVec 32 := Scalar.subi v1298 c1_i32_925
  let v1314 : BitVec 32 := Scalar.select v1312 v1313 v1298
  let v1316 : BitVec 32 := Scalar.subi v1314 c0_i32_927
  let c1_i32_928 : BitVec 32 := 1#32
  let v1318 : BitVec 32 := Scalar.divsi v1316 c1_i32_928
  let v1319 : BitVec 32 := Scalar.muli v1318 c1_i32_928
  let v1320 : BitVec 32 := Scalar.addi c0_i32_927 v1319
  let c1_i32_930 : BitVec 32 := 1#32
  let arg23 : BitVec 32 := Scf.iv v1320 c1_i32_930 k0_t5
  let v1381 : BitVec 32 := Scalar.muli c2_i32_961 arg23
  let c512_i32_962 : BitVec 32 := 512#32
  let v1382 : BitVec 32 := Scalar.muli v1381 c512_i32_962
  let v1383 : BitVec 32 := v1382
  let v1384 : Index := Scalar.indexCast v1383
  let c0_963 : Index := 0#32
  ![v1384.toNat, 0]
def k0_mult12 (v1 : BitVec 32) (k0_t5 : Fin (k0_t5_loop v1).trips) : BitVec 32 :=
  let c2_i32_968 : BitVec 32 := 2#32
  let c0_i32_927 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_920 : BitVec 32 := 0#32
  let v1299 : BitVec 1 := Scalar.cmpi .sgt v1196 c0_i32_920
  let v1300 : BitVec 32 := Scalar.extui v1299
  let c0_i32_921 : BitVec 32 := 0#32
  let v1301 : BitVec 1 := Scalar.cmpi .slt v1196 c0_i32_921
  let v1302 : BitVec 32 := Scalar.extui v1301
  let v1303 : BitVec 32 := Scalar.subi v1300 v1302
  let c2_i32_919 : BitVec 32 := 2#32
  let c0_i32_922 : BitVec 32 := 0#32
  let v1304 : BitVec 1 := Scalar.cmpi .sgt c2_i32_919 c0_i32_922
  let v1305 : BitVec 32 := Scalar.extui v1304
  let c0_i32_923 : BitVec 32 := 0#32
  let v1306 : BitVec 1 := Scalar.cmpi .slt c2_i32_919 c0_i32_923
  let v1307 : BitVec 32 := Scalar.extui v1306
  let v1308 : BitVec 32 := Scalar.subi v1305 v1307
  let v1309 : BitVec 1 := Scalar.cmpi .ne v1303 v1308
  let v1310 : BitVec 32 := Scalar.remsi v1196 c2_i32_919
  let c0_i32_924 : BitVec 32 := 0#32
  let v1311 : BitVec 1 := Scalar.cmpi .ne v1310 c0_i32_924
  let v1312 : BitVec 1 := Scalar.andi v1309 v1311
  let v1298 : BitVec 32 := Scalar.divsi v1196 c2_i32_919
  let c1_i32_925 : BitVec 32 := 1#32
  let v1313 : BitVec 32 := Scalar.subi v1298 c1_i32_925
  let v1314 : BitVec 32 := Scalar.select v1312 v1313 v1298
  let v1316 : BitVec 32 := Scalar.subi v1314 c0_i32_927
  let c1_i32_928 : BitVec 32 := 1#32
  let v1318 : BitVec 32 := Scalar.divsi v1316 c1_i32_928
  let v1319 : BitVec 32 := Scalar.muli v1318 c1_i32_928
  let v1320 : BitVec 32 := Scalar.addi c0_i32_927 v1319
  let c1_i32_930 : BitVec 32 := 1#32
  let arg23 : BitVec 32 := Scf.iv v1320 c1_i32_930 k0_t5
  let v1397 : BitVec 32 := Scalar.muli c2_i32_968 arg23
  let c1_i32_969 : BitVec 32 := 1#32
  let v1398 : BitVec 32 := Scalar.addi v1397 c1_i32_969
  let c512_i32_970 : BitVec 32 := 512#32
  let v1399 : BitVec 32 := Scalar.muli v1398 c512_i32_970
  v1399
def k0_off9 (v1 : BitVec 32) (k0_t5 : Fin (k0_t5_loop v1).trips) : Fin 2 → Nat :=
  let c2_i32_968 : BitVec 32 := 2#32
  let c0_i32_927 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_920 : BitVec 32 := 0#32
  let v1299 : BitVec 1 := Scalar.cmpi .sgt v1196 c0_i32_920
  let v1300 : BitVec 32 := Scalar.extui v1299
  let c0_i32_921 : BitVec 32 := 0#32
  let v1301 : BitVec 1 := Scalar.cmpi .slt v1196 c0_i32_921
  let v1302 : BitVec 32 := Scalar.extui v1301
  let v1303 : BitVec 32 := Scalar.subi v1300 v1302
  let c2_i32_919 : BitVec 32 := 2#32
  let c0_i32_922 : BitVec 32 := 0#32
  let v1304 : BitVec 1 := Scalar.cmpi .sgt c2_i32_919 c0_i32_922
  let v1305 : BitVec 32 := Scalar.extui v1304
  let c0_i32_923 : BitVec 32 := 0#32
  let v1306 : BitVec 1 := Scalar.cmpi .slt c2_i32_919 c0_i32_923
  let v1307 : BitVec 32 := Scalar.extui v1306
  let v1308 : BitVec 32 := Scalar.subi v1305 v1307
  let v1309 : BitVec 1 := Scalar.cmpi .ne v1303 v1308
  let v1310 : BitVec 32 := Scalar.remsi v1196 c2_i32_919
  let c0_i32_924 : BitVec 32 := 0#32
  let v1311 : BitVec 1 := Scalar.cmpi .ne v1310 c0_i32_924
  let v1312 : BitVec 1 := Scalar.andi v1309 v1311
  let v1298 : BitVec 32 := Scalar.divsi v1196 c2_i32_919
  let c1_i32_925 : BitVec 32 := 1#32
  let v1313 : BitVec 32 := Scalar.subi v1298 c1_i32_925
  let v1314 : BitVec 32 := Scalar.select v1312 v1313 v1298
  let v1316 : BitVec 32 := Scalar.subi v1314 c0_i32_927
  let c1_i32_928 : BitVec 32 := 1#32
  let v1318 : BitVec 32 := Scalar.divsi v1316 c1_i32_928
  let v1319 : BitVec 32 := Scalar.muli v1318 c1_i32_928
  let v1320 : BitVec 32 := Scalar.addi c0_i32_927 v1319
  let c1_i32_930 : BitVec 32 := 1#32
  let arg23 : BitVec 32 := Scf.iv v1320 c1_i32_930 k0_t5
  let v1397 : BitVec 32 := Scalar.muli c2_i32_968 arg23
  let c1_i32_969 : BitVec 32 := 1#32
  let v1398 : BitVec 32 := Scalar.addi v1397 c1_i32_969
  let c512_i32_970 : BitVec 32 := 512#32
  let v1399 : BitVec 32 := Scalar.muli v1398 c512_i32_970
  let v1400 : BitVec 32 := v1399
  let v1401 : Index := Scalar.indexCast v1400
  let c0_971 : Index := 0#32
  ![v1401.toNat, 0]
def k0_mult13 (v1 : BitVec 32) : BitVec 32 :=
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c1_i32_961 : BitVec 32 := 1#32
  let v1381 : BitVec 32 := Scalar.subi v1196 c1_i32_961
  let c512_i32_962 : BitVec 32 := 512#32
  let v1382 : BitVec 32 := Scalar.muli v1381 c512_i32_962
  v1382
def k0_cond3 (v1 : BitVec 32) : BitVec 1 :=
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c2_i32_931 : BitVec 32 := 2#32
  let c0_i32_932 : BitVec 32 := 0#32
  let v1323 : BitVec 1 := Scalar.cmpi .eq c2_i32_931 c0_i32_932
  let c1_i32_933 : BitVec 32 := 1#32
  let v1324 : BitVec 32 := Scalar.select v1323 c1_i32_933 c2_i32_931
  let v1325 : BitVec 32 := Scalar.remsi v1196 v1324
  let c0_i32_935 : BitVec 32 := 0#32
  let v1327 : BitVec 1 := Scalar.cmpi .slt v1325 c0_i32_935
  let c0_i32_936 : BitVec 32 := 0#32
  let v1328 : BitVec 1 := Scalar.cmpi .slt v1324 c0_i32_936
  let v1329 : BitVec 1 := Scalar.xori v1327 v1328
  let c0_i32_934 : BitVec 32 := 0#32
  let v1326 : BitVec 1 := Scalar.cmpi .ne v1325 c0_i32_934
  let v1330 : BitVec 1 := Scalar.andi v1329 v1326
  let v1331 : BitVec 32 := Scalar.addi v1325 v1324
  let v1332 : BitVec 32 := Scalar.select v1330 v1331 v1325
  let c1_i32_937 : BitVec 32 := 1#32
  let v1333 : BitVec 1 := Scalar.cmpi .eq v1332 c1_i32_937
  let v1334 : BitVec 32 := Scalar.extui v1333
  let c0_i32_938 : BitVec 32 := 0#32
  let v1335 : BitVec 1 := Scalar.cmpi .ne v1334 c0_i32_938
  v1335

def k0_off10 (v1 : BitVec 32) : Fin 2 → Nat :=
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c1_i32_961 : BitVec 32 := 1#32
  let v1381 : BitVec 32 := Scalar.subi v1196 c1_i32_961
  let c512_i32_962 : BitVec 32 := 512#32
  let v1382 : BitVec 32 := Scalar.muli v1381 c512_i32_962
  let v1383 : BitVec 32 := v1382
  let v1384 : Index := Scalar.indexCast v1383
  let c0_963 : Index := 0#32
  ![v1384.toNat, 0]

def k0_chk2 (v1 : BitVec 32) (v3 : BitVec 32) (v1281 : BitVec 1) : Prop :=
  (∀ (k0_h1 : k0_cond1 v3 = 1#1), ∀ (k0_h2 : k0_cond2 v1281 = 1#1), (k0_t4_loop v1).OK) ∧
  (∀ k0_t4 : Fin (k0_t4_loop v1).trips, ∀ (k0_h1 : k0_cond1 v3 = 1#1), ∀ (k0_h2 : k0_cond2 v1281 = 1#1), 512 ∣ (k0_mult9 v1 k0_t4).toNat) ∧
  (∀ k0_t4 : Fin (k0_t4_loop v1).trips, ∀ (k0_h1 : k0_cond1 v3 = 1#1), ∀ (k0_h2 : k0_cond2 v1281 = 1#1), ∀ a, (k0_off6 v1 k0_t4) a + S512x256.size a ≤ S8192x256.size a) ∧
  (∀ k0_t4 : Fin (k0_t4_loop v1).trips, ∀ (k0_h1 : k0_cond1 v3 = 1#1), ∀ (k0_h2 : k0_cond2 v1281 = 1#1), 512 ∣ (k0_mult10 v1 k0_t4).toNat) ∧
  (∀ k0_t4 : Fin (k0_t4_loop v1).trips, ∀ (k0_h1 : k0_cond1 v3 = 1#1), ∀ (k0_h2 : k0_cond2 v1281 = 1#1), ∀ a, (k0_off7 v1 k0_t4) a + S512x256.size a ≤ S8192x256.size a) ∧
  (∀ (k0_h1 : k0_cond1 v3 = 1#1), ∀ (k0_h2 : k0_cond2 v1281 = 1#1), (k0_t5_loop v1).OK) ∧
  (∀ k0_t5 : Fin (k0_t5_loop v1).trips, ∀ (k0_h1 : k0_cond1 v3 = 1#1), ∀ (k0_h2 : k0_cond2 v1281 = 1#1), 512 ∣ (k0_mult11 v1 k0_t5).toNat) ∧
  (∀ k0_t5 : Fin (k0_t5_loop v1).trips, ∀ (k0_h1 : k0_cond1 v3 = 1#1), ∀ (k0_h2 : k0_cond2 v1281 = 1#1), ∀ a, (k0_off8 v1 k0_t5) a + S512x256.size a ≤ S8192x256.size a) ∧
  (∀ k0_t5 : Fin (k0_t5_loop v1).trips, ∀ (k0_h1 : k0_cond1 v3 = 1#1), ∀ (k0_h2 : k0_cond2 v1281 = 1#1), 512 ∣ (k0_mult12 v1 k0_t5).toNat) ∧
  (∀ k0_t5 : Fin (k0_t5_loop v1).trips, ∀ (k0_h1 : k0_cond1 v3 = 1#1), ∀ (k0_h2 : k0_cond2 v1281 = 1#1), ∀ a, (k0_off9 v1 k0_t5) a + S512x256.size a ≤ S8192x256.size a) ∧
  (∀ (k0_h1 : k0_cond1 v3 = 1#1), ∀ (k0_h2 : k0_cond2 v1281 = 1#1), ∀ (k0_h3 : k0_cond3 v1 = 1#1), 512 ∣ (k0_mult13 v1).toNat) ∧
  (∀ (k0_h1 : k0_cond1 v3 = 1#1), ∀ (k0_h2 : k0_cond2 v1281 = 1#1), ∀ (k0_h3 : k0_cond3 v1 = 1#1), ∀ a, (k0_off10 v1) a + S512x256.size a ≤ S8192x256.size a)
theorem k0_t4_ok : ∀ (v1 : BitVec 32) (v3 : BitVec 32) (v1281 : BitVec 1) (k0_hw2 : k0_chk2 v1 v3 v1281), ∀ (k0_h1 : k0_cond1 v3 = 1#1), ∀ (k0_h2 : k0_cond2 v1281 = 1#1), (k0_t4_loop v1).OK := fun v1 v3 v1281 k0_hw2 k0_h1 k0_h2 => k0_hw2.1 k0_h1 k0_h2
theorem k0_mult9_dvd : ∀ (v1 : BitVec 32) (v3 : BitVec 32) (v1281 : BitVec 1) (k0_hw2 : k0_chk2 v1 v3 v1281) (k0_t4 : Fin (k0_t4_loop v1).trips), ∀ (k0_h1 : k0_cond1 v3 = 1#1), ∀ (k0_h2 : k0_cond2 v1281 = 1#1), 512 ∣ (k0_mult9 v1 k0_t4).toNat := fun v1 v3 v1281 k0_hw2 k0_t4 k0_h1 k0_h2 => k0_hw2.2.1 k0_t4 k0_h1 k0_h2
theorem k0_off6_inb : ∀ (v1 : BitVec 32) (v3 : BitVec 32) (v1281 : BitVec 1) (k0_hw2 : k0_chk2 v1 v3 v1281) (k0_t4 : Fin (k0_t4_loop v1).trips), ∀ (k0_h1 : k0_cond1 v3 = 1#1), ∀ (k0_h2 : k0_cond2 v1281 = 1#1), ∀ a, (k0_off6 v1 k0_t4) a + S512x256.size a ≤ S8192x256.size a := fun v1 v3 v1281 k0_hw2 k0_t4 k0_h1 k0_h2 => k0_hw2.2.2.1 k0_t4 k0_h1 k0_h2
theorem k0_mult10_dvd : ∀ (v1 : BitVec 32) (v3 : BitVec 32) (v1281 : BitVec 1) (k0_hw2 : k0_chk2 v1 v3 v1281) (k0_t4 : Fin (k0_t4_loop v1).trips), ∀ (k0_h1 : k0_cond1 v3 = 1#1), ∀ (k0_h2 : k0_cond2 v1281 = 1#1), 512 ∣ (k0_mult10 v1 k0_t4).toNat := fun v1 v3 v1281 k0_hw2 k0_t4 k0_h1 k0_h2 => k0_hw2.2.2.2.1 k0_t4 k0_h1 k0_h2
theorem k0_off7_inb : ∀ (v1 : BitVec 32) (v3 : BitVec 32) (v1281 : BitVec 1) (k0_hw2 : k0_chk2 v1 v3 v1281) (k0_t4 : Fin (k0_t4_loop v1).trips), ∀ (k0_h1 : k0_cond1 v3 = 1#1), ∀ (k0_h2 : k0_cond2 v1281 = 1#1), ∀ a, (k0_off7 v1 k0_t4) a + S512x256.size a ≤ S8192x256.size a := fun v1 v3 v1281 k0_hw2 k0_t4 k0_h1 k0_h2 => k0_hw2.2.2.2.2.1 k0_t4 k0_h1 k0_h2
theorem k0_t5_ok : ∀ (v1 : BitVec 32) (v3 : BitVec 32) (v1281 : BitVec 1) (k0_hw2 : k0_chk2 v1 v3 v1281), ∀ (k0_h1 : k0_cond1 v3 = 1#1), ∀ (k0_h2 : k0_cond2 v1281 = 1#1), (k0_t5_loop v1).OK := fun v1 v3 v1281 k0_hw2 k0_h1 k0_h2 => k0_hw2.2.2.2.2.2.1 k0_h1 k0_h2
theorem k0_mult11_dvd : ∀ (v1 : BitVec 32) (v3 : BitVec 32) (v1281 : BitVec 1) (k0_hw2 : k0_chk2 v1 v3 v1281) (k0_t5 : Fin (k0_t5_loop v1).trips), ∀ (k0_h1 : k0_cond1 v3 = 1#1), ∀ (k0_h2 : k0_cond2 v1281 = 1#1), 512 ∣ (k0_mult11 v1 k0_t5).toNat := fun v1 v3 v1281 k0_hw2 k0_t5 k0_h1 k0_h2 => k0_hw2.2.2.2.2.2.2.1 k0_t5 k0_h1 k0_h2
theorem k0_off8_inb : ∀ (v1 : BitVec 32) (v3 : BitVec 32) (v1281 : BitVec 1) (k0_hw2 : k0_chk2 v1 v3 v1281) (k0_t5 : Fin (k0_t5_loop v1).trips), ∀ (k0_h1 : k0_cond1 v3 = 1#1), ∀ (k0_h2 : k0_cond2 v1281 = 1#1), ∀ a, (k0_off8 v1 k0_t5) a + S512x256.size a ≤ S8192x256.size a := fun v1 v3 v1281 k0_hw2 k0_t5 k0_h1 k0_h2 => k0_hw2.2.2.2.2.2.2.2.1 k0_t5 k0_h1 k0_h2
theorem k0_mult12_dvd : ∀ (v1 : BitVec 32) (v3 : BitVec 32) (v1281 : BitVec 1) (k0_hw2 : k0_chk2 v1 v3 v1281) (k0_t5 : Fin (k0_t5_loop v1).trips), ∀ (k0_h1 : k0_cond1 v3 = 1#1), ∀ (k0_h2 : k0_cond2 v1281 = 1#1), 512 ∣ (k0_mult12 v1 k0_t5).toNat := fun v1 v3 v1281 k0_hw2 k0_t5 k0_h1 k0_h2 => k0_hw2.2.2.2.2.2.2.2.2.1 k0_t5 k0_h1 k0_h2
theorem k0_off9_inb : ∀ (v1 : BitVec 32) (v3 : BitVec 32) (v1281 : BitVec 1) (k0_hw2 : k0_chk2 v1 v3 v1281) (k0_t5 : Fin (k0_t5_loop v1).trips), ∀ (k0_h1 : k0_cond1 v3 = 1#1), ∀ (k0_h2 : k0_cond2 v1281 = 1#1), ∀ a, (k0_off9 v1 k0_t5) a + S512x256.size a ≤ S8192x256.size a := fun v1 v3 v1281 k0_hw2 k0_t5 k0_h1 k0_h2 => k0_hw2.2.2.2.2.2.2.2.2.2.1 k0_t5 k0_h1 k0_h2
theorem k0_mult13_dvd : ∀ (v1 : BitVec 32) (v3 : BitVec 32) (v1281 : BitVec 1) (k0_hw2 : k0_chk2 v1 v3 v1281), ∀ (k0_h1 : k0_cond1 v3 = 1#1), ∀ (k0_h2 : k0_cond2 v1281 = 1#1), ∀ (k0_h3 : k0_cond3 v1 = 1#1), 512 ∣ (k0_mult13 v1).toNat := fun v1 v3 v1281 k0_hw2 k0_h1 k0_h2 k0_h3 => k0_hw2.2.2.2.2.2.2.2.2.2.2.1 k0_h1 k0_h2 k0_h3
theorem k0_off10_inb : ∀ (v1 : BitVec 32) (v3 : BitVec 32) (v1281 : BitVec 1) (k0_hw2 : k0_chk2 v1 v3 v1281), ∀ (k0_h1 : k0_cond1 v3 = 1#1), ∀ (k0_h2 : k0_cond2 v1281 = 1#1), ∀ (k0_h3 : k0_cond3 v1 = 1#1), ∀ a, (k0_off10 v1) a + S512x256.size a ≤ S8192x256.size a := fun v1 v3 v1281 k0_hw2 k0_h1 k0_h2 k0_h3 => k0_hw2.2.2.2.2.2.2.2.2.2.2.2 k0_h1 k0_h2 k0_h3

@[reducible] def k0_t6_loop (v1 : BitVec 32) : Scf.Loop 32 :=
  let c0_i32_917 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_910 : BitVec 32 := 0#32
  let v1282 : BitVec 1 := Scalar.cmpi .sgt v1196 c0_i32_910
  let v1283 : BitVec 32 := Scalar.extui v1282
  let c0_i32_911 : BitVec 32 := 0#32
  let v1284 : BitVec 1 := Scalar.cmpi .slt v1196 c0_i32_911
  let v1285 : BitVec 32 := Scalar.extui v1284
  let v1286 : BitVec 32 := Scalar.subi v1283 v1285
  let c2_i32_909 : BitVec 32 := 2#32
  let c0_i32_912 : BitVec 32 := 0#32
  let v1287 : BitVec 1 := Scalar.cmpi .sgt c2_i32_909 c0_i32_912
  let v1288 : BitVec 32 := Scalar.extui v1287
  let c0_i32_913 : BitVec 32 := 0#32
  let v1289 : BitVec 1 := Scalar.cmpi .slt c2_i32_909 c0_i32_913
  let v1290 : BitVec 32 := Scalar.extui v1289
  let v1291 : BitVec 32 := Scalar.subi v1288 v1290
  let v1292 : BitVec 1 := Scalar.cmpi .ne v1286 v1291
  let v1293 : BitVec 32 := Scalar.remsi v1196 c2_i32_909
  let c0_i32_914 : BitVec 32 := 0#32
  let v1294 : BitVec 1 := Scalar.cmpi .ne v1293 c0_i32_914
  let v1295 : BitVec 1 := Scalar.andi v1292 v1294
  let v1281 : BitVec 32 := Scalar.divsi v1196 c2_i32_909
  let c1_i32_915 : BitVec 32 := 1#32
  let v1296 : BitVec 32 := Scalar.subi v1281 c1_i32_915
  let v1297 : BitVec 32 := Scalar.select v1295 v1296 v1281
  let v1299 : BitVec 32 := Scalar.subi v1297 c0_i32_917
  let c1_i32_918 : BitVec 32 := 1#32
  let v1301 : BitVec 32 := Scalar.divsi v1299 c1_i32_918
  let v1302 : BitVec 32 := Scalar.muli v1301 c1_i32_918
  let v1303 : BitVec 32 := Scalar.addi c0_i32_917 v1302
  let c1_i32_919 : BitVec 32 := 1#32
  ⟨c0_i32_917, v1303, c1_i32_919⟩
def k0_cond4 (v1263 : BitVec 1) : BitVec 1 :=
  let v1264 : BitVec 32 := Scalar.extui v1263
  let c0_i32_893 : BitVec 32 := 0#32
  let v1265 : BitVec 1 := Scalar.cmpi .ne v1264 c0_i32_893
  v1265

def k0_mult14 (v1 : BitVec 32) (k0_t6 : Fin (k0_t6_loop v1).trips) : BitVec 32 :=
  let c2_i32_943 : BitVec 32 := 2#32
  let c0_i32_917 : BitVec 32 := 0#32
  let c1_i32_919 : BitVec 32 := 1#32
  let arg21 : BitVec 32 := Scf.iv c0_i32_917 c1_i32_919 k0_t6
  let v1342 : BitVec 32 := Scalar.muli c2_i32_943 arg21
  let c512_i32_944 : BitVec 32 := 512#32
  let v1343 : BitVec 32 := Scalar.muli v1342 c512_i32_944
  v1343
def k0_off11 (v1 : BitVec 32) (k0_t6 : Fin (k0_t6_loop v1).trips) : Fin 2 → Nat :=
  let c2_i32_943 : BitVec 32 := 2#32
  let c0_i32_917 : BitVec 32 := 0#32
  let c1_i32_919 : BitVec 32 := 1#32
  let arg21 : BitVec 32 := Scf.iv c0_i32_917 c1_i32_919 k0_t6
  let v1342 : BitVec 32 := Scalar.muli c2_i32_943 arg21
  let c512_i32_944 : BitVec 32 := 512#32
  let v1343 : BitVec 32 := Scalar.muli v1342 c512_i32_944
  let v1344 : BitVec 32 := v1343
  let v1345 : Index := Scalar.indexCast v1344
  let c0_945 : Index := 0#32
  ![v1345.toNat, 0]
def k0_mult15 (v1 : BitVec 32) (k0_t6 : Fin (k0_t6_loop v1).trips) : BitVec 32 :=
  let c2_i32_950 : BitVec 32 := 2#32
  let c0_i32_917 : BitVec 32 := 0#32
  let c1_i32_919 : BitVec 32 := 1#32
  let arg21 : BitVec 32 := Scf.iv c0_i32_917 c1_i32_919 k0_t6
  let v1358 : BitVec 32 := Scalar.muli c2_i32_950 arg21
  let c1_i32_951 : BitVec 32 := 1#32
  let v1359 : BitVec 32 := Scalar.addi v1358 c1_i32_951
  let c512_i32_952 : BitVec 32 := 512#32
  let v1360 : BitVec 32 := Scalar.muli v1359 c512_i32_952
  v1360
def k0_off12 (v1 : BitVec 32) (k0_t6 : Fin (k0_t6_loop v1).trips) : Fin 2 → Nat :=
  let c2_i32_950 : BitVec 32 := 2#32
  let c0_i32_917 : BitVec 32 := 0#32
  let c1_i32_919 : BitVec 32 := 1#32
  let arg21 : BitVec 32 := Scf.iv c0_i32_917 c1_i32_919 k0_t6
  let v1358 : BitVec 32 := Scalar.muli c2_i32_950 arg21
  let c1_i32_951 : BitVec 32 := 1#32
  let v1359 : BitVec 32 := Scalar.addi v1358 c1_i32_951
  let c512_i32_952 : BitVec 32 := 512#32
  let v1360 : BitVec 32 := Scalar.muli v1359 c512_i32_952
  let v1361 : BitVec 32 := v1360
  let v1362 : Index := Scalar.indexCast v1361
  let c0_953 : Index := 0#32
  ![v1362.toNat, 0]
@[reducible] def k0_t7_loop (v1 : BitVec 32) : Scf.Loop 32 :=
  let c0_i32_917 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_910 : BitVec 32 := 0#32
  let v1282 : BitVec 1 := Scalar.cmpi .sgt v1196 c0_i32_910
  let v1283 : BitVec 32 := Scalar.extui v1282
  let c0_i32_911 : BitVec 32 := 0#32
  let v1284 : BitVec 1 := Scalar.cmpi .slt v1196 c0_i32_911
  let v1285 : BitVec 32 := Scalar.extui v1284
  let v1286 : BitVec 32 := Scalar.subi v1283 v1285
  let c2_i32_909 : BitVec 32 := 2#32
  let c0_i32_912 : BitVec 32 := 0#32
  let v1287 : BitVec 1 := Scalar.cmpi .sgt c2_i32_909 c0_i32_912
  let v1288 : BitVec 32 := Scalar.extui v1287
  let c0_i32_913 : BitVec 32 := 0#32
  let v1289 : BitVec 1 := Scalar.cmpi .slt c2_i32_909 c0_i32_913
  let v1290 : BitVec 32 := Scalar.extui v1289
  let v1291 : BitVec 32 := Scalar.subi v1288 v1290
  let v1292 : BitVec 1 := Scalar.cmpi .ne v1286 v1291
  let v1293 : BitVec 32 := Scalar.remsi v1196 c2_i32_909
  let c0_i32_914 : BitVec 32 := 0#32
  let v1294 : BitVec 1 := Scalar.cmpi .ne v1293 c0_i32_914
  let v1295 : BitVec 1 := Scalar.andi v1292 v1294
  let v1281 : BitVec 32 := Scalar.divsi v1196 c2_i32_909
  let c1_i32_915 : BitVec 32 := 1#32
  let v1296 : BitVec 32 := Scalar.subi v1281 c1_i32_915
  let v1297 : BitVec 32 := Scalar.select v1295 v1296 v1281
  let v1299 : BitVec 32 := Scalar.subi v1297 c0_i32_917
  let c1_i32_918 : BitVec 32 := 1#32
  let v1301 : BitVec 32 := Scalar.divsi v1299 c1_i32_918
  let v1302 : BitVec 32 := Scalar.muli v1301 c1_i32_918
  let v1303 : BitVec 32 := Scalar.addi c0_i32_917 v1302
  let v1300 : BitVec 32 := Scalar.addi c0_i32_917 v1299
  let c1_i32_920 : BitVec 32 := 1#32
  ⟨v1303, v1300, c1_i32_920⟩
def k0_mult16 (v1 : BitVec 32) (k0_t7 : Fin (k0_t7_loop v1).trips) : BitVec 32 :=
  let c2_i32_943 : BitVec 32 := 2#32
  let c0_i32_917 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_910 : BitVec 32 := 0#32
  let v1282 : BitVec 1 := Scalar.cmpi .sgt v1196 c0_i32_910
  let v1283 : BitVec 32 := Scalar.extui v1282
  let c0_i32_911 : BitVec 32 := 0#32
  let v1284 : BitVec 1 := Scalar.cmpi .slt v1196 c0_i32_911
  let v1285 : BitVec 32 := Scalar.extui v1284
  let v1286 : BitVec 32 := Scalar.subi v1283 v1285
  let c2_i32_909 : BitVec 32 := 2#32
  let c0_i32_912 : BitVec 32 := 0#32
  let v1287 : BitVec 1 := Scalar.cmpi .sgt c2_i32_909 c0_i32_912
  let v1288 : BitVec 32 := Scalar.extui v1287
  let c0_i32_913 : BitVec 32 := 0#32
  let v1289 : BitVec 1 := Scalar.cmpi .slt c2_i32_909 c0_i32_913
  let v1290 : BitVec 32 := Scalar.extui v1289
  let v1291 : BitVec 32 := Scalar.subi v1288 v1290
  let v1292 : BitVec 1 := Scalar.cmpi .ne v1286 v1291
  let v1293 : BitVec 32 := Scalar.remsi v1196 c2_i32_909
  let c0_i32_914 : BitVec 32 := 0#32
  let v1294 : BitVec 1 := Scalar.cmpi .ne v1293 c0_i32_914
  let v1295 : BitVec 1 := Scalar.andi v1292 v1294
  let v1281 : BitVec 32 := Scalar.divsi v1196 c2_i32_909
  let c1_i32_915 : BitVec 32 := 1#32
  let v1296 : BitVec 32 := Scalar.subi v1281 c1_i32_915
  let v1297 : BitVec 32 := Scalar.select v1295 v1296 v1281
  let v1299 : BitVec 32 := Scalar.subi v1297 c0_i32_917
  let c1_i32_918 : BitVec 32 := 1#32
  let v1301 : BitVec 32 := Scalar.divsi v1299 c1_i32_918
  let v1302 : BitVec 32 := Scalar.muli v1301 c1_i32_918
  let v1303 : BitVec 32 := Scalar.addi c0_i32_917 v1302
  let c1_i32_920 : BitVec 32 := 1#32
  let arg21 : BitVec 32 := Scf.iv v1303 c1_i32_920 k0_t7
  let v1342 : BitVec 32 := Scalar.muli c2_i32_943 arg21
  let c512_i32_944 : BitVec 32 := 512#32
  let v1343 : BitVec 32 := Scalar.muli v1342 c512_i32_944
  v1343
def k0_off13 (v1 : BitVec 32) (k0_t7 : Fin (k0_t7_loop v1).trips) : Fin 2 → Nat :=
  let c2_i32_943 : BitVec 32 := 2#32
  let c0_i32_917 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_910 : BitVec 32 := 0#32
  let v1282 : BitVec 1 := Scalar.cmpi .sgt v1196 c0_i32_910
  let v1283 : BitVec 32 := Scalar.extui v1282
  let c0_i32_911 : BitVec 32 := 0#32
  let v1284 : BitVec 1 := Scalar.cmpi .slt v1196 c0_i32_911
  let v1285 : BitVec 32 := Scalar.extui v1284
  let v1286 : BitVec 32 := Scalar.subi v1283 v1285
  let c2_i32_909 : BitVec 32 := 2#32
  let c0_i32_912 : BitVec 32 := 0#32
  let v1287 : BitVec 1 := Scalar.cmpi .sgt c2_i32_909 c0_i32_912
  let v1288 : BitVec 32 := Scalar.extui v1287
  let c0_i32_913 : BitVec 32 := 0#32
  let v1289 : BitVec 1 := Scalar.cmpi .slt c2_i32_909 c0_i32_913
  let v1290 : BitVec 32 := Scalar.extui v1289
  let v1291 : BitVec 32 := Scalar.subi v1288 v1290
  let v1292 : BitVec 1 := Scalar.cmpi .ne v1286 v1291
  let v1293 : BitVec 32 := Scalar.remsi v1196 c2_i32_909
  let c0_i32_914 : BitVec 32 := 0#32
  let v1294 : BitVec 1 := Scalar.cmpi .ne v1293 c0_i32_914
  let v1295 : BitVec 1 := Scalar.andi v1292 v1294
  let v1281 : BitVec 32 := Scalar.divsi v1196 c2_i32_909
  let c1_i32_915 : BitVec 32 := 1#32
  let v1296 : BitVec 32 := Scalar.subi v1281 c1_i32_915
  let v1297 : BitVec 32 := Scalar.select v1295 v1296 v1281
  let v1299 : BitVec 32 := Scalar.subi v1297 c0_i32_917
  let c1_i32_918 : BitVec 32 := 1#32
  let v1301 : BitVec 32 := Scalar.divsi v1299 c1_i32_918
  let v1302 : BitVec 32 := Scalar.muli v1301 c1_i32_918
  let v1303 : BitVec 32 := Scalar.addi c0_i32_917 v1302
  let c1_i32_920 : BitVec 32 := 1#32
  let arg21 : BitVec 32 := Scf.iv v1303 c1_i32_920 k0_t7
  let v1342 : BitVec 32 := Scalar.muli c2_i32_943 arg21
  let c512_i32_944 : BitVec 32 := 512#32
  let v1343 : BitVec 32 := Scalar.muli v1342 c512_i32_944
  let v1344 : BitVec 32 := v1343
  let v1345 : Index := Scalar.indexCast v1344
  let c0_945 : Index := 0#32
  ![v1345.toNat, 0]
def k0_mult17 (v1 : BitVec 32) (k0_t7 : Fin (k0_t7_loop v1).trips) : BitVec 32 :=
  let c2_i32_950 : BitVec 32 := 2#32
  let c0_i32_917 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_910 : BitVec 32 := 0#32
  let v1282 : BitVec 1 := Scalar.cmpi .sgt v1196 c0_i32_910
  let v1283 : BitVec 32 := Scalar.extui v1282
  let c0_i32_911 : BitVec 32 := 0#32
  let v1284 : BitVec 1 := Scalar.cmpi .slt v1196 c0_i32_911
  let v1285 : BitVec 32 := Scalar.extui v1284
  let v1286 : BitVec 32 := Scalar.subi v1283 v1285
  let c2_i32_909 : BitVec 32 := 2#32
  let c0_i32_912 : BitVec 32 := 0#32
  let v1287 : BitVec 1 := Scalar.cmpi .sgt c2_i32_909 c0_i32_912
  let v1288 : BitVec 32 := Scalar.extui v1287
  let c0_i32_913 : BitVec 32 := 0#32
  let v1289 : BitVec 1 := Scalar.cmpi .slt c2_i32_909 c0_i32_913
  let v1290 : BitVec 32 := Scalar.extui v1289
  let v1291 : BitVec 32 := Scalar.subi v1288 v1290
  let v1292 : BitVec 1 := Scalar.cmpi .ne v1286 v1291
  let v1293 : BitVec 32 := Scalar.remsi v1196 c2_i32_909
  let c0_i32_914 : BitVec 32 := 0#32
  let v1294 : BitVec 1 := Scalar.cmpi .ne v1293 c0_i32_914
  let v1295 : BitVec 1 := Scalar.andi v1292 v1294
  let v1281 : BitVec 32 := Scalar.divsi v1196 c2_i32_909
  let c1_i32_915 : BitVec 32 := 1#32
  let v1296 : BitVec 32 := Scalar.subi v1281 c1_i32_915
  let v1297 : BitVec 32 := Scalar.select v1295 v1296 v1281
  let v1299 : BitVec 32 := Scalar.subi v1297 c0_i32_917
  let c1_i32_918 : BitVec 32 := 1#32
  let v1301 : BitVec 32 := Scalar.divsi v1299 c1_i32_918
  let v1302 : BitVec 32 := Scalar.muli v1301 c1_i32_918
  let v1303 : BitVec 32 := Scalar.addi c0_i32_917 v1302
  let c1_i32_920 : BitVec 32 := 1#32
  let arg21 : BitVec 32 := Scf.iv v1303 c1_i32_920 k0_t7
  let v1358 : BitVec 32 := Scalar.muli c2_i32_950 arg21
  let c1_i32_951 : BitVec 32 := 1#32
  let v1359 : BitVec 32 := Scalar.addi v1358 c1_i32_951
  let c512_i32_952 : BitVec 32 := 512#32
  let v1360 : BitVec 32 := Scalar.muli v1359 c512_i32_952
  v1360
def k0_off14 (v1 : BitVec 32) (k0_t7 : Fin (k0_t7_loop v1).trips) : Fin 2 → Nat :=
  let c2_i32_950 : BitVec 32 := 2#32
  let c0_i32_917 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_910 : BitVec 32 := 0#32
  let v1282 : BitVec 1 := Scalar.cmpi .sgt v1196 c0_i32_910
  let v1283 : BitVec 32 := Scalar.extui v1282
  let c0_i32_911 : BitVec 32 := 0#32
  let v1284 : BitVec 1 := Scalar.cmpi .slt v1196 c0_i32_911
  let v1285 : BitVec 32 := Scalar.extui v1284
  let v1286 : BitVec 32 := Scalar.subi v1283 v1285
  let c2_i32_909 : BitVec 32 := 2#32
  let c0_i32_912 : BitVec 32 := 0#32
  let v1287 : BitVec 1 := Scalar.cmpi .sgt c2_i32_909 c0_i32_912
  let v1288 : BitVec 32 := Scalar.extui v1287
  let c0_i32_913 : BitVec 32 := 0#32
  let v1289 : BitVec 1 := Scalar.cmpi .slt c2_i32_909 c0_i32_913
  let v1290 : BitVec 32 := Scalar.extui v1289
  let v1291 : BitVec 32 := Scalar.subi v1288 v1290
  let v1292 : BitVec 1 := Scalar.cmpi .ne v1286 v1291
  let v1293 : BitVec 32 := Scalar.remsi v1196 c2_i32_909
  let c0_i32_914 : BitVec 32 := 0#32
  let v1294 : BitVec 1 := Scalar.cmpi .ne v1293 c0_i32_914
  let v1295 : BitVec 1 := Scalar.andi v1292 v1294
  let v1281 : BitVec 32 := Scalar.divsi v1196 c2_i32_909
  let c1_i32_915 : BitVec 32 := 1#32
  let v1296 : BitVec 32 := Scalar.subi v1281 c1_i32_915
  let v1297 : BitVec 32 := Scalar.select v1295 v1296 v1281
  let v1299 : BitVec 32 := Scalar.subi v1297 c0_i32_917
  let c1_i32_918 : BitVec 32 := 1#32
  let v1301 : BitVec 32 := Scalar.divsi v1299 c1_i32_918
  let v1302 : BitVec 32 := Scalar.muli v1301 c1_i32_918
  let v1303 : BitVec 32 := Scalar.addi c0_i32_917 v1302
  let c1_i32_920 : BitVec 32 := 1#32
  let arg21 : BitVec 32 := Scf.iv v1303 c1_i32_920 k0_t7
  let v1358 : BitVec 32 := Scalar.muli c2_i32_950 arg21
  let c1_i32_951 : BitVec 32 := 1#32
  let v1359 : BitVec 32 := Scalar.addi v1358 c1_i32_951
  let c512_i32_952 : BitVec 32 := 512#32
  let v1360 : BitVec 32 := Scalar.muli v1359 c512_i32_952
  let v1361 : BitVec 32 := v1360
  let v1362 : Index := Scalar.indexCast v1361
  let c0_953 : Index := 0#32
  ![v1362.toNat, 0]
def k0_mult18 (v1 : BitVec 32) : BitVec 32 :=
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c1_i32_943 : BitVec 32 := 1#32
  let v1342 : BitVec 32 := Scalar.subi v1196 c1_i32_943
  let c512_i32_944 : BitVec 32 := 512#32
  let v1343 : BitVec 32 := Scalar.muli v1342 c512_i32_944
  v1343
def k0_cond5 (v1 : BitVec 32) : BitVec 1 :=
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c2_i32_921 : BitVec 32 := 2#32
  let c0_i32_922 : BitVec 32 := 0#32
  let v1306 : BitVec 1 := Scalar.cmpi .eq c2_i32_921 c0_i32_922
  let c1_i32_923 : BitVec 32 := 1#32
  let v1307 : BitVec 32 := Scalar.select v1306 c1_i32_923 c2_i32_921
  let v1308 : BitVec 32 := Scalar.remsi v1196 v1307
  let c0_i32_925 : BitVec 32 := 0#32
  let v1310 : BitVec 1 := Scalar.cmpi .slt v1308 c0_i32_925
  let c0_i32_926 : BitVec 32 := 0#32
  let v1311 : BitVec 1 := Scalar.cmpi .slt v1307 c0_i32_926
  let v1312 : BitVec 1 := Scalar.xori v1310 v1311
  let c0_i32_924 : BitVec 32 := 0#32
  let v1309 : BitVec 1 := Scalar.cmpi .ne v1308 c0_i32_924
  let v1313 : BitVec 1 := Scalar.andi v1312 v1309
  let v1314 : BitVec 32 := Scalar.addi v1308 v1307
  let v1315 : BitVec 32 := Scalar.select v1313 v1314 v1308
  let c1_i32_927 : BitVec 32 := 1#32
  let v1316 : BitVec 1 := Scalar.cmpi .eq v1315 c1_i32_927
  let v1317 : BitVec 32 := Scalar.extui v1316
  let c0_i32_928 : BitVec 32 := 0#32
  let v1318 : BitVec 1 := Scalar.cmpi .ne v1317 c0_i32_928
  v1318

def k0_off15 (v1 : BitVec 32) : Fin 2 → Nat :=
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c1_i32_943 : BitVec 32 := 1#32
  let v1342 : BitVec 32 := Scalar.subi v1196 c1_i32_943
  let c512_i32_944 : BitVec 32 := 512#32
  let v1343 : BitVec 32 := Scalar.muli v1342 c512_i32_944
  let v1344 : BitVec 32 := v1343
  let v1345 : Index := Scalar.indexCast v1344
  let c0_945 : Index := 0#32
  ![v1345.toNat, 0]
@[reducible] def k0_t8_loop : Scf.Loop 32 :=
  let c0_i32_937 : BitVec 32 := 0#32
  let c14_i32 : BitVec 32 := 14#32
  let v1335 : BitVec 32 := Scalar.addi c0_i32_937 c14_i32
  let c1_i32_938 : BitVec 32 := 1#32
  ⟨c0_i32_937, v1335, c1_i32_938⟩
@[reducible] def k0_t9_loop (v1 : BitVec 32) : Scf.Loop 32 :=
  let c0_i32_952 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_945 : BitVec 32 := 0#32
  let v1347 : BitVec 1 := Scalar.cmpi .sgt v1196 c0_i32_945
  let v1348 : BitVec 32 := Scalar.extui v1347
  let c0_i32_946 : BitVec 32 := 0#32
  let v1349 : BitVec 1 := Scalar.cmpi .slt v1196 c0_i32_946
  let v1350 : BitVec 32 := Scalar.extui v1349
  let v1351 : BitVec 32 := Scalar.subi v1348 v1350
  let c2_i32_944 : BitVec 32 := 2#32
  let c0_i32_947 : BitVec 32 := 0#32
  let v1352 : BitVec 1 := Scalar.cmpi .sgt c2_i32_944 c0_i32_947
  let v1353 : BitVec 32 := Scalar.extui v1352
  let c0_i32_948 : BitVec 32 := 0#32
  let v1354 : BitVec 1 := Scalar.cmpi .slt c2_i32_944 c0_i32_948
  let v1355 : BitVec 32 := Scalar.extui v1354
  let v1356 : BitVec 32 := Scalar.subi v1353 v1355
  let v1357 : BitVec 1 := Scalar.cmpi .ne v1351 v1356
  let v1358 : BitVec 32 := Scalar.remsi v1196 c2_i32_944
  let c0_i32_949 : BitVec 32 := 0#32
  let v1359 : BitVec 1 := Scalar.cmpi .ne v1358 c0_i32_949
  let v1360 : BitVec 1 := Scalar.andi v1357 v1359
  let v1346 : BitVec 32 := Scalar.divsi v1196 c2_i32_944
  let c1_i32_950 : BitVec 32 := 1#32
  let v1361 : BitVec 32 := Scalar.subi v1346 c1_i32_950
  let v1362 : BitVec 32 := Scalar.select v1360 v1361 v1346
  let v1364 : BitVec 32 := Scalar.subi v1362 c0_i32_952
  let c1_i32_953 : BitVec 32 := 1#32
  let v1366 : BitVec 32 := Scalar.divsi v1364 c1_i32_953
  let v1367 : BitVec 32 := Scalar.muli v1366 c1_i32_953
  let v1368 : BitVec 32 := Scalar.addi c0_i32_952 v1367
  let c1_i32_954 : BitVec 32 := 1#32
  ⟨c0_i32_952, v1368, c1_i32_954⟩
def k0_mult19 (v1 : BitVec 32) (k0_t9 : Fin (k0_t9_loop v1).trips) : BitVec 32 :=
  let c2_i32_967 : BitVec 32 := 2#32
  let c0_i32_952 : BitVec 32 := 0#32
  let c1_i32_954 : BitVec 32 := 1#32
  let arg24 : BitVec 32 := Scf.iv c0_i32_952 c1_i32_954 k0_t9
  let v1394 : BitVec 32 := Scalar.muli c2_i32_967 arg24
  let c512_i32_968 : BitVec 32 := 512#32
  let v1395 : BitVec 32 := Scalar.muli v1394 c512_i32_968
  v1395
def k0_off16 (v1 : BitVec 32) (k0_t9 : Fin (k0_t9_loop v1).trips) : Fin 2 → Nat :=
  let c2_i32_967 : BitVec 32 := 2#32
  let c0_i32_952 : BitVec 32 := 0#32
  let c1_i32_954 : BitVec 32 := 1#32
  let arg24 : BitVec 32 := Scf.iv c0_i32_952 c1_i32_954 k0_t9
  let v1394 : BitVec 32 := Scalar.muli c2_i32_967 arg24
  let c512_i32_968 : BitVec 32 := 512#32
  let v1395 : BitVec 32 := Scalar.muli v1394 c512_i32_968
  let v1396 : BitVec 32 := v1395
  let v1397 : Index := Scalar.indexCast v1396
  let c0_969 : Index := 0#32
  ![v1397.toNat, 0]
def k0_mult20 (v1 : BitVec 32) (k0_t9 : Fin (k0_t9_loop v1).trips) : BitVec 32 :=
  let c2_i32_974 : BitVec 32 := 2#32
  let c0_i32_952 : BitVec 32 := 0#32
  let c1_i32_954 : BitVec 32 := 1#32
  let arg24 : BitVec 32 := Scf.iv c0_i32_952 c1_i32_954 k0_t9
  let v1422 : BitVec 32 := Scalar.muli c2_i32_974 arg24
  let c1_i32_975 : BitVec 32 := 1#32
  let v1423 : BitVec 32 := Scalar.addi v1422 c1_i32_975
  let c512_i32_976 : BitVec 32 := 512#32
  let v1424 : BitVec 32 := Scalar.muli v1423 c512_i32_976
  v1424
def k0_off17 (v1 : BitVec 32) (k0_t9 : Fin (k0_t9_loop v1).trips) : Fin 2 → Nat :=
  let c2_i32_974 : BitVec 32 := 2#32
  let c0_i32_952 : BitVec 32 := 0#32
  let c1_i32_954 : BitVec 32 := 1#32
  let arg24 : BitVec 32 := Scf.iv c0_i32_952 c1_i32_954 k0_t9
  let v1422 : BitVec 32 := Scalar.muli c2_i32_974 arg24
  let c1_i32_975 : BitVec 32 := 1#32
  let v1423 : BitVec 32 := Scalar.addi v1422 c1_i32_975
  let c512_i32_976 : BitVec 32 := 512#32
  let v1424 : BitVec 32 := Scalar.muli v1423 c512_i32_976
  let v1425 : BitVec 32 := v1424
  let v1426 : Index := Scalar.indexCast v1425
  let c0_977 : Index := 0#32
  ![v1426.toNat, 0]
@[reducible] def k0_t10_loop (v1 : BitVec 32) : Scf.Loop 32 :=
  let c0_i32_952 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_945 : BitVec 32 := 0#32
  let v1347 : BitVec 1 := Scalar.cmpi .sgt v1196 c0_i32_945
  let v1348 : BitVec 32 := Scalar.extui v1347
  let c0_i32_946 : BitVec 32 := 0#32
  let v1349 : BitVec 1 := Scalar.cmpi .slt v1196 c0_i32_946
  let v1350 : BitVec 32 := Scalar.extui v1349
  let v1351 : BitVec 32 := Scalar.subi v1348 v1350
  let c2_i32_944 : BitVec 32 := 2#32
  let c0_i32_947 : BitVec 32 := 0#32
  let v1352 : BitVec 1 := Scalar.cmpi .sgt c2_i32_944 c0_i32_947
  let v1353 : BitVec 32 := Scalar.extui v1352
  let c0_i32_948 : BitVec 32 := 0#32
  let v1354 : BitVec 1 := Scalar.cmpi .slt c2_i32_944 c0_i32_948
  let v1355 : BitVec 32 := Scalar.extui v1354
  let v1356 : BitVec 32 := Scalar.subi v1353 v1355
  let v1357 : BitVec 1 := Scalar.cmpi .ne v1351 v1356
  let v1358 : BitVec 32 := Scalar.remsi v1196 c2_i32_944
  let c0_i32_949 : BitVec 32 := 0#32
  let v1359 : BitVec 1 := Scalar.cmpi .ne v1358 c0_i32_949
  let v1360 : BitVec 1 := Scalar.andi v1357 v1359
  let v1346 : BitVec 32 := Scalar.divsi v1196 c2_i32_944
  let c1_i32_950 : BitVec 32 := 1#32
  let v1361 : BitVec 32 := Scalar.subi v1346 c1_i32_950
  let v1362 : BitVec 32 := Scalar.select v1360 v1361 v1346
  let v1364 : BitVec 32 := Scalar.subi v1362 c0_i32_952
  let c1_i32_953 : BitVec 32 := 1#32
  let v1366 : BitVec 32 := Scalar.divsi v1364 c1_i32_953
  let v1367 : BitVec 32 := Scalar.muli v1366 c1_i32_953
  let v1368 : BitVec 32 := Scalar.addi c0_i32_952 v1367
  let v1365 : BitVec 32 := Scalar.addi c0_i32_952 v1364
  let c1_i32_955 : BitVec 32 := 1#32
  ⟨v1368, v1365, c1_i32_955⟩
def k0_mult21 (v1 : BitVec 32) (k0_t10 : Fin (k0_t10_loop v1).trips) : BitVec 32 :=
  let c2_i32_967 : BitVec 32 := 2#32
  let c0_i32_952 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_945 : BitVec 32 := 0#32
  let v1347 : BitVec 1 := Scalar.cmpi .sgt v1196 c0_i32_945
  let v1348 : BitVec 32 := Scalar.extui v1347
  let c0_i32_946 : BitVec 32 := 0#32
  let v1349 : BitVec 1 := Scalar.cmpi .slt v1196 c0_i32_946
  let v1350 : BitVec 32 := Scalar.extui v1349
  let v1351 : BitVec 32 := Scalar.subi v1348 v1350
  let c2_i32_944 : BitVec 32 := 2#32
  let c0_i32_947 : BitVec 32 := 0#32
  let v1352 : BitVec 1 := Scalar.cmpi .sgt c2_i32_944 c0_i32_947
  let v1353 : BitVec 32 := Scalar.extui v1352
  let c0_i32_948 : BitVec 32 := 0#32
  let v1354 : BitVec 1 := Scalar.cmpi .slt c2_i32_944 c0_i32_948
  let v1355 : BitVec 32 := Scalar.extui v1354
  let v1356 : BitVec 32 := Scalar.subi v1353 v1355
  let v1357 : BitVec 1 := Scalar.cmpi .ne v1351 v1356
  let v1358 : BitVec 32 := Scalar.remsi v1196 c2_i32_944
  let c0_i32_949 : BitVec 32 := 0#32
  let v1359 : BitVec 1 := Scalar.cmpi .ne v1358 c0_i32_949
  let v1360 : BitVec 1 := Scalar.andi v1357 v1359
  let v1346 : BitVec 32 := Scalar.divsi v1196 c2_i32_944
  let c1_i32_950 : BitVec 32 := 1#32
  let v1361 : BitVec 32 := Scalar.subi v1346 c1_i32_950
  let v1362 : BitVec 32 := Scalar.select v1360 v1361 v1346
  let v1364 : BitVec 32 := Scalar.subi v1362 c0_i32_952
  let c1_i32_953 : BitVec 32 := 1#32
  let v1366 : BitVec 32 := Scalar.divsi v1364 c1_i32_953
  let v1367 : BitVec 32 := Scalar.muli v1366 c1_i32_953
  let v1368 : BitVec 32 := Scalar.addi c0_i32_952 v1367
  let c1_i32_955 : BitVec 32 := 1#32
  let arg24 : BitVec 32 := Scf.iv v1368 c1_i32_955 k0_t10
  let v1394 : BitVec 32 := Scalar.muli c2_i32_967 arg24
  let c512_i32_968 : BitVec 32 := 512#32
  let v1395 : BitVec 32 := Scalar.muli v1394 c512_i32_968
  v1395
def k0_off18 (v1 : BitVec 32) (k0_t10 : Fin (k0_t10_loop v1).trips) : Fin 2 → Nat :=
  let c2_i32_967 : BitVec 32 := 2#32
  let c0_i32_952 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_945 : BitVec 32 := 0#32
  let v1347 : BitVec 1 := Scalar.cmpi .sgt v1196 c0_i32_945
  let v1348 : BitVec 32 := Scalar.extui v1347
  let c0_i32_946 : BitVec 32 := 0#32
  let v1349 : BitVec 1 := Scalar.cmpi .slt v1196 c0_i32_946
  let v1350 : BitVec 32 := Scalar.extui v1349
  let v1351 : BitVec 32 := Scalar.subi v1348 v1350
  let c2_i32_944 : BitVec 32 := 2#32
  let c0_i32_947 : BitVec 32 := 0#32
  let v1352 : BitVec 1 := Scalar.cmpi .sgt c2_i32_944 c0_i32_947
  let v1353 : BitVec 32 := Scalar.extui v1352
  let c0_i32_948 : BitVec 32 := 0#32
  let v1354 : BitVec 1 := Scalar.cmpi .slt c2_i32_944 c0_i32_948
  let v1355 : BitVec 32 := Scalar.extui v1354
  let v1356 : BitVec 32 := Scalar.subi v1353 v1355
  let v1357 : BitVec 1 := Scalar.cmpi .ne v1351 v1356
  let v1358 : BitVec 32 := Scalar.remsi v1196 c2_i32_944
  let c0_i32_949 : BitVec 32 := 0#32
  let v1359 : BitVec 1 := Scalar.cmpi .ne v1358 c0_i32_949
  let v1360 : BitVec 1 := Scalar.andi v1357 v1359
  let v1346 : BitVec 32 := Scalar.divsi v1196 c2_i32_944
  let c1_i32_950 : BitVec 32 := 1#32
  let v1361 : BitVec 32 := Scalar.subi v1346 c1_i32_950
  let v1362 : BitVec 32 := Scalar.select v1360 v1361 v1346
  let v1364 : BitVec 32 := Scalar.subi v1362 c0_i32_952
  let c1_i32_953 : BitVec 32 := 1#32
  let v1366 : BitVec 32 := Scalar.divsi v1364 c1_i32_953
  let v1367 : BitVec 32 := Scalar.muli v1366 c1_i32_953
  let v1368 : BitVec 32 := Scalar.addi c0_i32_952 v1367
  let c1_i32_955 : BitVec 32 := 1#32
  let arg24 : BitVec 32 := Scf.iv v1368 c1_i32_955 k0_t10
  let v1394 : BitVec 32 := Scalar.muli c2_i32_967 arg24
  let c512_i32_968 : BitVec 32 := 512#32
  let v1395 : BitVec 32 := Scalar.muli v1394 c512_i32_968
  let v1396 : BitVec 32 := v1395
  let v1397 : Index := Scalar.indexCast v1396
  let c0_969 : Index := 0#32
  ![v1397.toNat, 0]
def k0_mult22 (v1 : BitVec 32) (k0_t10 : Fin (k0_t10_loop v1).trips) : BitVec 32 :=
  let c2_i32_974 : BitVec 32 := 2#32
  let c0_i32_952 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_945 : BitVec 32 := 0#32
  let v1347 : BitVec 1 := Scalar.cmpi .sgt v1196 c0_i32_945
  let v1348 : BitVec 32 := Scalar.extui v1347
  let c0_i32_946 : BitVec 32 := 0#32
  let v1349 : BitVec 1 := Scalar.cmpi .slt v1196 c0_i32_946
  let v1350 : BitVec 32 := Scalar.extui v1349
  let v1351 : BitVec 32 := Scalar.subi v1348 v1350
  let c2_i32_944 : BitVec 32 := 2#32
  let c0_i32_947 : BitVec 32 := 0#32
  let v1352 : BitVec 1 := Scalar.cmpi .sgt c2_i32_944 c0_i32_947
  let v1353 : BitVec 32 := Scalar.extui v1352
  let c0_i32_948 : BitVec 32 := 0#32
  let v1354 : BitVec 1 := Scalar.cmpi .slt c2_i32_944 c0_i32_948
  let v1355 : BitVec 32 := Scalar.extui v1354
  let v1356 : BitVec 32 := Scalar.subi v1353 v1355
  let v1357 : BitVec 1 := Scalar.cmpi .ne v1351 v1356
  let v1358 : BitVec 32 := Scalar.remsi v1196 c2_i32_944
  let c0_i32_949 : BitVec 32 := 0#32
  let v1359 : BitVec 1 := Scalar.cmpi .ne v1358 c0_i32_949
  let v1360 : BitVec 1 := Scalar.andi v1357 v1359
  let v1346 : BitVec 32 := Scalar.divsi v1196 c2_i32_944
  let c1_i32_950 : BitVec 32 := 1#32
  let v1361 : BitVec 32 := Scalar.subi v1346 c1_i32_950
  let v1362 : BitVec 32 := Scalar.select v1360 v1361 v1346
  let v1364 : BitVec 32 := Scalar.subi v1362 c0_i32_952
  let c1_i32_953 : BitVec 32 := 1#32
  let v1366 : BitVec 32 := Scalar.divsi v1364 c1_i32_953
  let v1367 : BitVec 32 := Scalar.muli v1366 c1_i32_953
  let v1368 : BitVec 32 := Scalar.addi c0_i32_952 v1367
  let c1_i32_955 : BitVec 32 := 1#32
  let arg24 : BitVec 32 := Scf.iv v1368 c1_i32_955 k0_t10
  let v1422 : BitVec 32 := Scalar.muli c2_i32_974 arg24
  let c1_i32_975 : BitVec 32 := 1#32
  let v1423 : BitVec 32 := Scalar.addi v1422 c1_i32_975
  let c512_i32_976 : BitVec 32 := 512#32
  let v1424 : BitVec 32 := Scalar.muli v1423 c512_i32_976
  v1424
def k0_off19 (v1 : BitVec 32) (k0_t10 : Fin (k0_t10_loop v1).trips) : Fin 2 → Nat :=
  let c2_i32_974 : BitVec 32 := 2#32
  let c0_i32_952 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c0_i32_945 : BitVec 32 := 0#32
  let v1347 : BitVec 1 := Scalar.cmpi .sgt v1196 c0_i32_945
  let v1348 : BitVec 32 := Scalar.extui v1347
  let c0_i32_946 : BitVec 32 := 0#32
  let v1349 : BitVec 1 := Scalar.cmpi .slt v1196 c0_i32_946
  let v1350 : BitVec 32 := Scalar.extui v1349
  let v1351 : BitVec 32 := Scalar.subi v1348 v1350
  let c2_i32_944 : BitVec 32 := 2#32
  let c0_i32_947 : BitVec 32 := 0#32
  let v1352 : BitVec 1 := Scalar.cmpi .sgt c2_i32_944 c0_i32_947
  let v1353 : BitVec 32 := Scalar.extui v1352
  let c0_i32_948 : BitVec 32 := 0#32
  let v1354 : BitVec 1 := Scalar.cmpi .slt c2_i32_944 c0_i32_948
  let v1355 : BitVec 32 := Scalar.extui v1354
  let v1356 : BitVec 32 := Scalar.subi v1353 v1355
  let v1357 : BitVec 1 := Scalar.cmpi .ne v1351 v1356
  let v1358 : BitVec 32 := Scalar.remsi v1196 c2_i32_944
  let c0_i32_949 : BitVec 32 := 0#32
  let v1359 : BitVec 1 := Scalar.cmpi .ne v1358 c0_i32_949
  let v1360 : BitVec 1 := Scalar.andi v1357 v1359
  let v1346 : BitVec 32 := Scalar.divsi v1196 c2_i32_944
  let c1_i32_950 : BitVec 32 := 1#32
  let v1361 : BitVec 32 := Scalar.subi v1346 c1_i32_950
  let v1362 : BitVec 32 := Scalar.select v1360 v1361 v1346
  let v1364 : BitVec 32 := Scalar.subi v1362 c0_i32_952
  let c1_i32_953 : BitVec 32 := 1#32
  let v1366 : BitVec 32 := Scalar.divsi v1364 c1_i32_953
  let v1367 : BitVec 32 := Scalar.muli v1366 c1_i32_953
  let v1368 : BitVec 32 := Scalar.addi c0_i32_952 v1367
  let c1_i32_955 : BitVec 32 := 1#32
  let arg24 : BitVec 32 := Scf.iv v1368 c1_i32_955 k0_t10
  let v1422 : BitVec 32 := Scalar.muli c2_i32_974 arg24
  let c1_i32_975 : BitVec 32 := 1#32
  let v1423 : BitVec 32 := Scalar.addi v1422 c1_i32_975
  let c512_i32_976 : BitVec 32 := 512#32
  let v1424 : BitVec 32 := Scalar.muli v1423 c512_i32_976
  let v1425 : BitVec 32 := v1424
  let v1426 : Index := Scalar.indexCast v1425
  let c0_977 : Index := 0#32
  ![v1426.toNat, 0]
def k0_mult23 (v1 : BitVec 32) : BitVec 32 :=
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c1_i32_967 : BitVec 32 := 1#32
  let v1394 : BitVec 32 := Scalar.subi v1196 c1_i32_967
  let c512_i32_968 : BitVec 32 := 512#32
  let v1395 : BitVec 32 := Scalar.muli v1394 c512_i32_968
  v1395
def k0_cond6 (v1 : BitVec 32) : BitVec 1 :=
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c2_i32_956 : BitVec 32 := 2#32
  let c0_i32_957 : BitVec 32 := 0#32
  let v1371 : BitVec 1 := Scalar.cmpi .eq c2_i32_956 c0_i32_957
  let c1_i32_958 : BitVec 32 := 1#32
  let v1372 : BitVec 32 := Scalar.select v1371 c1_i32_958 c2_i32_956
  let v1373 : BitVec 32 := Scalar.remsi v1196 v1372
  let c0_i32_960 : BitVec 32 := 0#32
  let v1375 : BitVec 1 := Scalar.cmpi .slt v1373 c0_i32_960
  let c0_i32_961 : BitVec 32 := 0#32
  let v1376 : BitVec 1 := Scalar.cmpi .slt v1372 c0_i32_961
  let v1377 : BitVec 1 := Scalar.xori v1375 v1376
  let c0_i32_959 : BitVec 32 := 0#32
  let v1374 : BitVec 1 := Scalar.cmpi .ne v1373 c0_i32_959
  let v1378 : BitVec 1 := Scalar.andi v1377 v1374
  let v1379 : BitVec 32 := Scalar.addi v1373 v1372
  let v1380 : BitVec 32 := Scalar.select v1378 v1379 v1373
  let c1_i32_962 : BitVec 32 := 1#32
  let v1381 : BitVec 1 := Scalar.cmpi .eq v1380 c1_i32_962
  let v1382 : BitVec 32 := Scalar.extui v1381
  let c0_i32_963 : BitVec 32 := 0#32
  let v1383 : BitVec 1 := Scalar.cmpi .ne v1382 c0_i32_963
  v1383

def k0_off20 (v1 : BitVec 32) : Fin 2 → Nat :=
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let c1_i32_967 : BitVec 32 := 1#32
  let v1394 : BitVec 32 := Scalar.subi v1196 c1_i32_967
  let c512_i32_968 : BitVec 32 := 512#32
  let v1395 : BitVec 32 := Scalar.muli v1394 c512_i32_968
  let v1396 : BitVec 32 := v1395
  let v1397 : Index := Scalar.indexCast v1396
  let c0_969 : Index := 0#32
  ![v1397.toNat, 0]
@[reducible] def k0_t11_loop (v1 : BitVec 32) : Scf.Loop 32 :=
  let c0_i32_909 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let v1281 : BitVec 32 := Scalar.subi v1196 c0_i32_909
  let c1_i32_911 : BitVec 32 := 1#32
  let v1283 : BitVec 32 := Scalar.divsi v1281 c1_i32_911
  let v1284 : BitVec 32 := Scalar.muli v1283 c1_i32_911
  let v1285 : BitVec 32 := Scalar.addi c0_i32_909 v1284
  let c1_i32_912 : BitVec 32 := 1#32
  ⟨c0_i32_909, v1285, c1_i32_912⟩
def k0_cond7 (v1263 : BitVec 1) : BitVec 1 :=
  let v1267 : BitVec 32 := Scalar.extui v1263
  let c0_i32_896 : BitVec 32 := 0#32
  let v1268 : BitVec 1 := Scalar.cmpi .ne v1267 c0_i32_896
  v1268

def k0_mult24 (v1 : BitVec 32) (k0_t11 : Fin (k0_t11_loop v1).trips) : BitVec 32 :=
  let c0_i32_909 : BitVec 32 := 0#32
  let c1_i32_912 : BitVec 32 := 1#32
  let arg21 : BitVec 32 := Scf.iv c0_i32_909 c1_i32_912 k0_t11
  let c512_i32_914 : BitVec 32 := 512#32
  let v1288 : BitVec 32 := Scalar.muli arg21 c512_i32_914
  v1288
def k0_off21 (v1 : BitVec 32) (k0_t11 : Fin (k0_t11_loop v1).trips) : Fin 2 → Nat :=
  let c0_i32_909 : BitVec 32 := 0#32
  let c1_i32_912 : BitVec 32 := 1#32
  let arg21 : BitVec 32 := Scf.iv c0_i32_909 c1_i32_912 k0_t11
  let c512_i32_914 : BitVec 32 := 512#32
  let v1288 : BitVec 32 := Scalar.muli arg21 c512_i32_914
  let v1289 : BitVec 32 := v1288
  let v1290 : Index := Scalar.indexCast v1289
  let c0_915 : Index := 0#32
  ![v1290.toNat, 0]
@[reducible] def k0_t12_loop (v1 : BitVec 32) : Scf.Loop 32 :=
  let c0_i32_909 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let v1281 : BitVec 32 := Scalar.subi v1196 c0_i32_909
  let c1_i32_911 : BitVec 32 := 1#32
  let v1283 : BitVec 32 := Scalar.divsi v1281 c1_i32_911
  let v1284 : BitVec 32 := Scalar.muli v1283 c1_i32_911
  let v1285 : BitVec 32 := Scalar.addi c0_i32_909 v1284
  let v1282 : BitVec 32 := Scalar.addi c0_i32_909 v1281
  let c1_i32_913 : BitVec 32 := 1#32
  ⟨v1285, v1282, c1_i32_913⟩
def k0_mult25 (v1 : BitVec 32) (k0_t12 : Fin (k0_t12_loop v1).trips) : BitVec 32 :=
  let c0_i32_909 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let v1281 : BitVec 32 := Scalar.subi v1196 c0_i32_909
  let c1_i32_911 : BitVec 32 := 1#32
  let v1283 : BitVec 32 := Scalar.divsi v1281 c1_i32_911
  let v1284 : BitVec 32 := Scalar.muli v1283 c1_i32_911
  let v1285 : BitVec 32 := Scalar.addi c0_i32_909 v1284
  let c1_i32_913 : BitVec 32 := 1#32
  let arg21 : BitVec 32 := Scf.iv v1285 c1_i32_913 k0_t12
  let c512_i32_914 : BitVec 32 := 512#32
  let v1288 : BitVec 32 := Scalar.muli arg21 c512_i32_914
  v1288
def k0_off22 (v1 : BitVec 32) (k0_t12 : Fin (k0_t12_loop v1).trips) : Fin 2 → Nat :=
  let c0_i32_909 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let v1281 : BitVec 32 := Scalar.subi v1196 c0_i32_909
  let c1_i32_911 : BitVec 32 := 1#32
  let v1283 : BitVec 32 := Scalar.divsi v1281 c1_i32_911
  let v1284 : BitVec 32 := Scalar.muli v1283 c1_i32_911
  let v1285 : BitVec 32 := Scalar.addi c0_i32_909 v1284
  let c1_i32_913 : BitVec 32 := 1#32
  let arg21 : BitVec 32 := Scf.iv v1285 c1_i32_913 k0_t12
  let c512_i32_914 : BitVec 32 := 512#32
  let v1288 : BitVec 32 := Scalar.muli arg21 c512_i32_914
  let v1289 : BitVec 32 := v1288
  let v1290 : Index := Scalar.indexCast v1289
  let c0_915 : Index := 0#32
  ![v1290.toNat, 0]
@[reducible] def k0_t13_loop (v1 : BitVec 32) : Scf.Loop 32 :=
  let c0_i32_909 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let v1281 : BitVec 32 := Scalar.subi v1196 c0_i32_909
  let c1_i32_911 : BitVec 32 := 1#32
  let v1283 : BitVec 32 := Scalar.divsi v1281 c1_i32_911
  let v1284 : BitVec 32 := Scalar.muli v1283 c1_i32_911
  let v1285 : BitVec 32 := Scalar.addi c0_i32_909 v1284
  let c1_i32_912 : BitVec 32 := 1#32
  ⟨c0_i32_909, v1285, c1_i32_912⟩
def k0_mult26 (v1 : BitVec 32) (k0_t13 : Fin (k0_t13_loop v1).trips) : BitVec 32 :=
  let c0_i32_909 : BitVec 32 := 0#32
  let c1_i32_912 : BitVec 32 := 1#32
  let arg21 : BitVec 32 := Scf.iv c0_i32_909 c1_i32_912 k0_t13
  let c512_i32_914 : BitVec 32 := 512#32
  let v1288 : BitVec 32 := Scalar.muli arg21 c512_i32_914
  v1288
def k0_off23 (v1 : BitVec 32) (k0_t13 : Fin (k0_t13_loop v1).trips) : Fin 2 → Nat :=
  let c0_i32_909 : BitVec 32 := 0#32
  let c1_i32_912 : BitVec 32 := 1#32
  let arg21 : BitVec 32 := Scf.iv c0_i32_909 c1_i32_912 k0_t13
  let c512_i32_914 : BitVec 32 := 512#32
  let v1288 : BitVec 32 := Scalar.muli arg21 c512_i32_914
  let v1289 : BitVec 32 := v1288
  let v1290 : Index := Scalar.indexCast v1289
  let c0_915 : Index := 0#32
  ![v1290.toNat, 0]
@[reducible] def k0_t14_loop (v1 : BitVec 32) : Scf.Loop 32 :=
  let c0_i32_909 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let v1281 : BitVec 32 := Scalar.subi v1196 c0_i32_909
  let c1_i32_911 : BitVec 32 := 1#32
  let v1283 : BitVec 32 := Scalar.divsi v1281 c1_i32_911
  let v1284 : BitVec 32 := Scalar.muli v1283 c1_i32_911
  let v1285 : BitVec 32 := Scalar.addi c0_i32_909 v1284
  let v1282 : BitVec 32 := Scalar.addi c0_i32_909 v1281
  let c1_i32_913 : BitVec 32 := 1#32
  ⟨v1285, v1282, c1_i32_913⟩
def k0_mult27 (v1 : BitVec 32) (k0_t14 : Fin (k0_t14_loop v1).trips) : BitVec 32 :=
  let c0_i32_909 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let v1281 : BitVec 32 := Scalar.subi v1196 c0_i32_909
  let c1_i32_911 : BitVec 32 := 1#32
  let v1283 : BitVec 32 := Scalar.divsi v1281 c1_i32_911
  let v1284 : BitVec 32 := Scalar.muli v1283 c1_i32_911
  let v1285 : BitVec 32 := Scalar.addi c0_i32_909 v1284
  let c1_i32_913 : BitVec 32 := 1#32
  let arg21 : BitVec 32 := Scf.iv v1285 c1_i32_913 k0_t14
  let c512_i32_914 : BitVec 32 := 512#32
  let v1288 : BitVec 32 := Scalar.muli arg21 c512_i32_914
  v1288
def k0_off24 (v1 : BitVec 32) (k0_t14 : Fin (k0_t14_loop v1).trips) : Fin 2 → Nat :=
  let c0_i32_909 : BitVec 32 := 0#32
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_855 : BitVec 32 := 1#32
  let v1196 : BitVec 32 := Scalar.addi v23 c1_i32_855
  let v1281 : BitVec 32 := Scalar.subi v1196 c0_i32_909
  let c1_i32_911 : BitVec 32 := 1#32
  let v1283 : BitVec 32 := Scalar.divsi v1281 c1_i32_911
  let v1284 : BitVec 32 := Scalar.muli v1283 c1_i32_911
  let v1285 : BitVec 32 := Scalar.addi c0_i32_909 v1284
  let c1_i32_913 : BitVec 32 := 1#32
  let arg21 : BitVec 32 := Scf.iv v1285 c1_i32_913 k0_t14
  let c512_i32_914 : BitVec 32 := 512#32
  let v1288 : BitVec 32 := Scalar.muli arg21 c512_i32_914
  let v1289 : BitVec 32 := v1288
  let v1290 : Index := Scalar.indexCast v1289
  let c0_915 : Index := 0#32
  ![v1290.toNat, 0]

def k0_chk3_0 (v1 : BitVec 32) (v3 : BitVec 32) (v1263 : BitVec 1) : Prop :=
  (∀ (k0_h1 : k0_cond1 v3 = 1#1), ∀ (k0_h4 : k0_cond4 v1263 = 1#1), (k0_t6_loop v1).OK) ∧
  (∀ k0_t6 : Fin (k0_t6_loop v1).trips, ∀ (k0_h1 : k0_cond1 v3 = 1#1), ∀ (k0_h4 : k0_cond4 v1263 = 1#1), 512 ∣ (k0_mult14 v1 k0_t6).toNat) ∧
  (∀ k0_t6 : Fin (k0_t6_loop v1).trips, ∀ (k0_h1 : k0_cond1 v3 = 1#1), ∀ (k0_h4 : k0_cond4 v1263 = 1#1), ∀ a, (k0_off11 v1 k0_t6) a + S512x256.size a ≤ S8192x256.size a) ∧
  (∀ k0_t6 : Fin (k0_t6_loop v1).trips, ∀ (k0_h1 : k0_cond1 v3 = 1#1), ∀ (k0_h4 : k0_cond4 v1263 = 1#1), 512 ∣ (k0_mult15 v1 k0_t6).toNat) ∧
  (∀ k0_t6 : Fin (k0_t6_loop v1).trips, ∀ (k0_h1 : k0_cond1 v3 = 1#1), ∀ (k0_h4 : k0_cond4 v1263 = 1#1), ∀ a, (k0_off12 v1 k0_t6) a + S512x256.size a ≤ S8192x256.size a) ∧
  (∀ (k0_h1 : k0_cond1 v3 = 1#1), ∀ (k0_h4 : k0_cond4 v1263 = 1#1), (k0_t7_loop v1).OK) ∧
  (∀ k0_t7 : Fin (k0_t7_loop v1).trips, ∀ (k0_h1 : k0_cond1 v3 = 1#1), ∀ (k0_h4 : k0_cond4 v1263 = 1#1), 512 ∣ (k0_mult16 v1 k0_t7).toNat) ∧
  (∀ k0_t7 : Fin (k0_t7_loop v1).trips, ∀ (k0_h1 : k0_cond1 v3 = 1#1), ∀ (k0_h4 : k0_cond4 v1263 = 1#1), ∀ a, (k0_off13 v1 k0_t7) a + S512x256.size a ≤ S8192x256.size a) ∧
  (∀ k0_t7 : Fin (k0_t7_loop v1).trips, ∀ (k0_h1 : k0_cond1 v3 = 1#1), ∀ (k0_h4 : k0_cond4 v1263 = 1#1), 512 ∣ (k0_mult17 v1 k0_t7).toNat) ∧
  (∀ k0_t7 : Fin (k0_t7_loop v1).trips, ∀ (k0_h1 : k0_cond1 v3 = 1#1), ∀ (k0_h4 : k0_cond4 v1263 = 1#1), ∀ a, (k0_off14 v1 k0_t7) a + S512x256.size a ≤ S8192x256.size a) ∧
  (∀ (k0_h1 : k0_cond1 v3 = 1#1), ∀ (k0_h4 : k0_cond4 v1263 = 1#1), ∀ (k0_h5 : k0_cond5 v1 = 1#1), 512 ∣ (k0_mult18 v1).toNat) ∧
  (∀ (k0_h1 : k0_cond1 v3 = 1#1), ∀ (k0_h4 : k0_cond4 v1263 = 1#1), ∀ (k0_h5 : k0_cond5 v1 = 1#1), ∀ a, (k0_off15 v1) a + S512x256.size a ≤ S8192x256.size a) ∧
  (∀ (k0_h1 : k0_cond1 v3 = 1#1), ∀ (k0_h4 : k0_cond4 v1263 = 1#1), (k0_t9_loop v1).OK) ∧
  (∀ k0_t9 : Fin (k0_t9_loop v1).trips, ∀ (k0_h1 : k0_cond1 v3 = 1#1), ∀ (k0_h4 : k0_cond4 v1263 = 1#1), 512 ∣ (k0_mult19 v1 k0_t9).toNat) ∧
  (∀ k0_t9 : Fin (k0_t9_loop v1).trips, ∀ (k0_h1 : k0_cond1 v3 = 1#1), ∀ (k0_h4 : k0_cond4 v1263 = 1#1), ∀ a, (k0_off16 v1 k0_t9) a + S512x256.size a ≤ S8192x256.size a) ∧
  (∀ k0_t9 : Fin (k0_t9_loop v1).trips, ∀ (k0_h1 : k0_cond1 v3 = 1#1), ∀ (k0_h4 : k0_cond4 v1263 = 1#1), 512 ∣ (k0_mult20 v1 k0_t9).toNat) ∧
  (∀ k0_t9 : Fin (k0_t9_loop v1).trips, ∀ (k0_h1 : k0_cond1 v3 = 1#1), ∀ (k0_h4 : k0_cond4 v1263 = 1#1), ∀ a, (k0_off17 v1 k0_t9) a + S512x256.size a ≤ S8192x256.size a) ∧
  (∀ (k0_h1 : k0_cond1 v3 = 1#1), ∀ (k0_h4 : k0_cond4 v1263 = 1#1), (k0_t10_loop v1).OK) ∧
  (∀ k0_t10 : Fin (k0_t10_loop v1).trips, ∀ (k0_h1 : k0_cond1 v3 = 1#1), ∀ (k0_h4 : k0_cond4 v1263 = 1#1), 512 ∣ (k0_mult21 v1 k0_t10).toNat) ∧
  (∀ k0_t10 : Fin (k0_t10_loop v1).trips, ∀ (k0_h1 : k0_cond1 v3 = 1#1), ∀ (k0_h4 : k0_cond4 v1263 = 1#1), ∀ a, (k0_off18 v1 k0_t10) a + S512x256.size a ≤ S8192x256.size a) ∧
  (∀ k0_t10 : Fin (k0_t10_loop v1).trips, ∀ (k0_h1 : k0_cond1 v3 = 1#1), ∀ (k0_h4 : k0_cond4 v1263 = 1#1), 512 ∣ (k0_mult22 v1 k0_t10).toNat) ∧
  (∀ k0_t10 : Fin (k0_t10_loop v1).trips, ∀ (k0_h1 : k0_cond1 v3 = 1#1), ∀ (k0_h4 : k0_cond4 v1263 = 1#1), ∀ a, (k0_off19 v1 k0_t10) a + S512x256.size a ≤ S8192x256.size a) ∧
  (∀ (k0_h1 : k0_cond1 v3 = 1#1), ∀ (k0_h4 : k0_cond4 v1263 = 1#1), ∀ (k0_h6 : k0_cond6 v1 = 1#1), 512 ∣ (k0_mult23 v1).toNat) ∧
  (∀ (k0_h1 : k0_cond1 v3 = 1#1), ∀ (k0_h4 : k0_cond4 v1263 = 1#1), ∀ (k0_h6 : k0_cond6 v1 = 1#1), ∀ a, (k0_off20 v1) a + S512x256.size a ≤ S8192x256.size a) ∧
  (∀ (k0_h1 : k0_cond1 v3 = 1#1), ∀ (k0_h7 : k0_cond7 v1263 = 1#1), (k0_t11_loop v1).OK) ∧
  (∀ k0_t11 : Fin (k0_t11_loop v1).trips, ∀ (k0_h1 : k0_cond1 v3 = 1#1), ∀ (k0_h7 : k0_cond7 v1263 = 1#1), 512 ∣ (k0_mult24 v1 k0_t11).toNat) ∧
  (∀ k0_t11 : Fin (k0_t11_loop v1).trips, ∀ (k0_h1 : k0_cond1 v3 = 1#1), ∀ (k0_h7 : k0_cond7 v1263 = 1#1), ∀ a, (k0_off21 v1 k0_t11) a + S512x256.size a ≤ S8192x256.size a) ∧
  (∀ (k0_h1 : k0_cond1 v3 = 1#1), ∀ (k0_h7 : k0_cond7 v1263 = 1#1), (k0_t12_loop v1).OK) ∧
  (∀ k0_t12 : Fin (k0_t12_loop v1).trips, ∀ (k0_h1 : k0_cond1 v3 = 1#1), ∀ (k0_h7 : k0_cond7 v1263 = 1#1), 512 ∣ (k0_mult25 v1 k0_t12).toNat) ∧
  (∀ k0_t12 : Fin (k0_t12_loop v1).trips, ∀ (k0_h1 : k0_cond1 v3 = 1#1), ∀ (k0_h7 : k0_cond7 v1263 = 1#1), ∀ a, (k0_off22 v1 k0_t12) a + S512x256.size a ≤ S8192x256.size a) ∧
  (∀ (k0_h1 : k0_cond1 v3 = 1#1), ∀ (k0_h7 : ¬(k0_cond7 v1263 = 1#1)), (k0_t13_loop v1).OK) ∧
  (∀ k0_t13 : Fin (k0_t13_loop v1).trips, ∀ (k0_h1 : k0_cond1 v3 = 1#1), ∀ (k0_h7 : ¬(k0_cond7 v1263 = 1#1)), 512 ∣ (k0_mult26 v1 k0_t13).toNat)
def k0_chk3_1 (v1 : BitVec 32) (v3 : BitVec 32) (v1263 : BitVec 1) : Prop :=
  (∀ k0_t13 : Fin (k0_t13_loop v1).trips, ∀ (k0_h1 : k0_cond1 v3 = 1#1), ∀ (k0_h7 : ¬(k0_cond7 v1263 = 1#1)), ∀ a, (k0_off23 v1 k0_t13) a + S512x256.size a ≤ S8192x256.size a) ∧
  (∀ (k0_h1 : k0_cond1 v3 = 1#1), ∀ (k0_h7 : ¬(k0_cond7 v1263 = 1#1)), (k0_t14_loop v1).OK) ∧
  (∀ k0_t14 : Fin (k0_t14_loop v1).trips, ∀ (k0_h1 : k0_cond1 v3 = 1#1), ∀ (k0_h7 : ¬(k0_cond7 v1263 = 1#1)), 512 ∣ (k0_mult27 v1 k0_t14).toNat) ∧
  (∀ k0_t14 : Fin (k0_t14_loop v1).trips, ∀ (k0_h1 : k0_cond1 v3 = 1#1), ∀ (k0_h7 : ¬(k0_cond7 v1263 = 1#1)), ∀ a, (k0_off24 v1 k0_t14) a + S512x256.size a ≤ S8192x256.size a)
def k0_chk3 (v1 : BitVec 32) (v3 : BitVec 32) (v1263 : BitVec 1) : Prop :=
  k0_chk3_0 v1 v3 v1263 ∧
  k0_chk3_1 v1 v3 v1263
theorem k0_t6_ok : ∀ (v1 : BitVec 32) (v3 : BitVec 32) (v1263 : BitVec 1) (k0_hw3 : k0_chk3 v1 v3 v1263), ∀ (k0_h1 : k0_cond1 v3 = 1#1), ∀ (k0_h4 : k0_cond4 v1263 = 1#1), (k0_t6_loop v1).OK := fun v1 v3 v1263 k0_hw3 k0_h1 k0_h4 => k0_hw3.1.1 k0_h1 k0_h4
theorem k0_mult14_dvd : ∀ (v1 : BitVec 32) (v3 : BitVec 32) (v1263 : BitVec 1) (k0_hw3 : k0_chk3 v1 v3 v1263) (k0_t6 : Fin (k0_t6_loop v1).trips), ∀ (k0_h1 : k0_cond1 v3 = 1#1), ∀ (k0_h4 : k0_cond4 v1263 = 1#1), 512 ∣ (k0_mult14 v1 k0_t6).toNat := fun v1 v3 v1263 k0_hw3 k0_t6 k0_h1 k0_h4 => k0_hw3.1.2.1 k0_t6 k0_h1 k0_h4
theorem k0_off11_inb : ∀ (v1 : BitVec 32) (v3 : BitVec 32) (v1263 : BitVec 1) (k0_hw3 : k0_chk3 v1 v3 v1263) (k0_t6 : Fin (k0_t6_loop v1).trips), ∀ (k0_h1 : k0_cond1 v3 = 1#1), ∀ (k0_h4 : k0_cond4 v1263 = 1#1), ∀ a, (k0_off11 v1 k0_t6) a + S512x256.size a ≤ S8192x256.size a := fun v1 v3 v1263 k0_hw3 k0_t6 k0_h1 k0_h4 => k0_hw3.1.2.2.1 k0_t6 k0_h1 k0_h4
theorem k0_mult15_dvd : ∀ (v1 : BitVec 32) (v3 : BitVec 32) (v1263 : BitVec 1) (k0_hw3 : k0_chk3 v1 v3 v1263) (k0_t6 : Fin (k0_t6_loop v1).trips), ∀ (k0_h1 : k0_cond1 v3 = 1#1), ∀ (k0_h4 : k0_cond4 v1263 = 1#1), 512 ∣ (k0_mult15 v1 k0_t6).toNat := fun v1 v3 v1263 k0_hw3 k0_t6 k0_h1 k0_h4 => k0_hw3.1.2.2.2.1 k0_t6 k0_h1 k0_h4
theorem k0_off12_inb : ∀ (v1 : BitVec 32) (v3 : BitVec 32) (v1263 : BitVec 1) (k0_hw3 : k0_chk3 v1 v3 v1263) (k0_t6 : Fin (k0_t6_loop v1).trips), ∀ (k0_h1 : k0_cond1 v3 = 1#1), ∀ (k0_h4 : k0_cond4 v1263 = 1#1), ∀ a, (k0_off12 v1 k0_t6) a + S512x256.size a ≤ S8192x256.size a := fun v1 v3 v1263 k0_hw3 k0_t6 k0_h1 k0_h4 => k0_hw3.1.2.2.2.2.1 k0_t6 k0_h1 k0_h4
theorem k0_t7_ok : ∀ (v1 : BitVec 32) (v3 : BitVec 32) (v1263 : BitVec 1) (k0_hw3 : k0_chk3 v1 v3 v1263), ∀ (k0_h1 : k0_cond1 v3 = 1#1), ∀ (k0_h4 : k0_cond4 v1263 = 1#1), (k0_t7_loop v1).OK := fun v1 v3 v1263 k0_hw3 k0_h1 k0_h4 => k0_hw3.1.2.2.2.2.2.1 k0_h1 k0_h4
theorem k0_mult16_dvd : ∀ (v1 : BitVec 32) (v3 : BitVec 32) (v1263 : BitVec 1) (k0_hw3 : k0_chk3 v1 v3 v1263) (k0_t7 : Fin (k0_t7_loop v1).trips), ∀ (k0_h1 : k0_cond1 v3 = 1#1), ∀ (k0_h4 : k0_cond4 v1263 = 1#1), 512 ∣ (k0_mult16 v1 k0_t7).toNat := fun v1 v3 v1263 k0_hw3 k0_t7 k0_h1 k0_h4 => k0_hw3.1.2.2.2.2.2.2.1 k0_t7 k0_h1 k0_h4
theorem k0_off13_inb : ∀ (v1 : BitVec 32) (v3 : BitVec 32) (v1263 : BitVec 1) (k0_hw3 : k0_chk3 v1 v3 v1263) (k0_t7 : Fin (k0_t7_loop v1).trips), ∀ (k0_h1 : k0_cond1 v3 = 1#1), ∀ (k0_h4 : k0_cond4 v1263 = 1#1), ∀ a, (k0_off13 v1 k0_t7) a + S512x256.size a ≤ S8192x256.size a := fun v1 v3 v1263 k0_hw3 k0_t7 k0_h1 k0_h4 => k0_hw3.1.2.2.2.2.2.2.2.1 k0_t7 k0_h1 k0_h4
theorem k0_mult17_dvd : ∀ (v1 : BitVec 32) (v3 : BitVec 32) (v1263 : BitVec 1) (k0_hw3 : k0_chk3 v1 v3 v1263) (k0_t7 : Fin (k0_t7_loop v1).trips), ∀ (k0_h1 : k0_cond1 v3 = 1#1), ∀ (k0_h4 : k0_cond4 v1263 = 1#1), 512 ∣ (k0_mult17 v1 k0_t7).toNat := fun v1 v3 v1263 k0_hw3 k0_t7 k0_h1 k0_h4 => k0_hw3.1.2.2.2.2.2.2.2.2.1 k0_t7 k0_h1 k0_h4
theorem k0_off14_inb : ∀ (v1 : BitVec 32) (v3 : BitVec 32) (v1263 : BitVec 1) (k0_hw3 : k0_chk3 v1 v3 v1263) (k0_t7 : Fin (k0_t7_loop v1).trips), ∀ (k0_h1 : k0_cond1 v3 = 1#1), ∀ (k0_h4 : k0_cond4 v1263 = 1#1), ∀ a, (k0_off14 v1 k0_t7) a + S512x256.size a ≤ S8192x256.size a := fun v1 v3 v1263 k0_hw3 k0_t7 k0_h1 k0_h4 => k0_hw3.1.2.2.2.2.2.2.2.2.2.1 k0_t7 k0_h1 k0_h4
theorem k0_mult18_dvd : ∀ (v1 : BitVec 32) (v3 : BitVec 32) (v1263 : BitVec 1) (k0_hw3 : k0_chk3 v1 v3 v1263), ∀ (k0_h1 : k0_cond1 v3 = 1#1), ∀ (k0_h4 : k0_cond4 v1263 = 1#1), ∀ (k0_h5 : k0_cond5 v1 = 1#1), 512 ∣ (k0_mult18 v1).toNat := fun v1 v3 v1263 k0_hw3 k0_h1 k0_h4 k0_h5 => k0_hw3.1.2.2.2.2.2.2.2.2.2.2.1 k0_h1 k0_h4 k0_h5
theorem k0_off15_inb : ∀ (v1 : BitVec 32) (v3 : BitVec 32) (v1263 : BitVec 1) (k0_hw3 : k0_chk3 v1 v3 v1263), ∀ (k0_h1 : k0_cond1 v3 = 1#1), ∀ (k0_h4 : k0_cond4 v1263 = 1#1), ∀ (k0_h5 : k0_cond5 v1 = 1#1), ∀ a, (k0_off15 v1) a + S512x256.size a ≤ S8192x256.size a := fun v1 v3 v1263 k0_hw3 k0_h1 k0_h4 k0_h5 => k0_hw3.1.2.2.2.2.2.2.2.2.2.2.2.1 k0_h1 k0_h4 k0_h5
theorem k0_t9_ok : ∀ (v1 : BitVec 32) (v3 : BitVec 32) (v1263 : BitVec 1) (k0_hw3 : k0_chk3 v1 v3 v1263), ∀ (k0_h1 : k0_cond1 v3 = 1#1), ∀ (k0_h4 : k0_cond4 v1263 = 1#1), (k0_t9_loop v1).OK := fun v1 v3 v1263 k0_hw3 k0_h1 k0_h4 => k0_hw3.1.2.2.2.2.2.2.2.2.2.2.2.2.1 k0_h1 k0_h4
theorem k0_mult19_dvd : ∀ (v1 : BitVec 32) (v3 : BitVec 32) (v1263 : BitVec 1) (k0_hw3 : k0_chk3 v1 v3 v1263) (k0_t9 : Fin (k0_t9_loop v1).trips), ∀ (k0_h1 : k0_cond1 v3 = 1#1), ∀ (k0_h4 : k0_cond4 v1263 = 1#1), 512 ∣ (k0_mult19 v1 k0_t9).toNat := fun v1 v3 v1263 k0_hw3 k0_t9 k0_h1 k0_h4 => k0_hw3.1.2.2.2.2.2.2.2.2.2.2.2.2.2.1 k0_t9 k0_h1 k0_h4
theorem k0_off16_inb : ∀ (v1 : BitVec 32) (v3 : BitVec 32) (v1263 : BitVec 1) (k0_hw3 : k0_chk3 v1 v3 v1263) (k0_t9 : Fin (k0_t9_loop v1).trips), ∀ (k0_h1 : k0_cond1 v3 = 1#1), ∀ (k0_h4 : k0_cond4 v1263 = 1#1), ∀ a, (k0_off16 v1 k0_t9) a + S512x256.size a ≤ S8192x256.size a := fun v1 v3 v1263 k0_hw3 k0_t9 k0_h1 k0_h4 => k0_hw3.1.2.2.2.2.2.2.2.2.2.2.2.2.2.2.1 k0_t9 k0_h1 k0_h4
theorem k0_mult20_dvd : ∀ (v1 : BitVec 32) (v3 : BitVec 32) (v1263 : BitVec 1) (k0_hw3 : k0_chk3 v1 v3 v1263) (k0_t9 : Fin (k0_t9_loop v1).trips), ∀ (k0_h1 : k0_cond1 v3 = 1#1), ∀ (k0_h4 : k0_cond4 v1263 = 1#1), 512 ∣ (k0_mult20 v1 k0_t9).toNat := fun v1 v3 v1263 k0_hw3 k0_t9 k0_h1 k0_h4 => k0_hw3.1.2.2.2.2.2.2.2.2.2.2.2.2.2.2.2.1 k0_t9 k0_h1 k0_h4
theorem k0_off17_inb : ∀ (v1 : BitVec 32) (v3 : BitVec 32) (v1263 : BitVec 1) (k0_hw3 : k0_chk3 v1 v3 v1263) (k0_t9 : Fin (k0_t9_loop v1).trips), ∀ (k0_h1 : k0_cond1 v3 = 1#1), ∀ (k0_h4 : k0_cond4 v1263 = 1#1), ∀ a, (k0_off17 v1 k0_t9) a + S512x256.size a ≤ S8192x256.size a := fun v1 v3 v1263 k0_hw3 k0_t9 k0_h1 k0_h4 => k0_hw3.1.2.2.2.2.2.2.2.2.2.2.2.2.2.2.2.2.1 k0_t9 k0_h1 k0_h4
theorem k0_t10_ok : ∀ (v1 : BitVec 32) (v3 : BitVec 32) (v1263 : BitVec 1) (k0_hw3 : k0_chk3 v1 v3 v1263), ∀ (k0_h1 : k0_cond1 v3 = 1#1), ∀ (k0_h4 : k0_cond4 v1263 = 1#1), (k0_t10_loop v1).OK := fun v1 v3 v1263 k0_hw3 k0_h1 k0_h4 => k0_hw3.1.2.2.2.2.2.2.2.2.2.2.2.2.2.2.2.2.2.1 k0_h1 k0_h4
theorem k0_mult21_dvd : ∀ (v1 : BitVec 32) (v3 : BitVec 32) (v1263 : BitVec 1) (k0_hw3 : k0_chk3 v1 v3 v1263) (k0_t10 : Fin (k0_t10_loop v1).trips), ∀ (k0_h1 : k0_cond1 v3 = 1#1), ∀ (k0_h4 : k0_cond4 v1263 = 1#1), 512 ∣ (k0_mult21 v1 k0_t10).toNat := fun v1 v3 v1263 k0_hw3 k0_t10 k0_h1 k0_h4 => k0_hw3.1.2.2.2.2.2.2.2.2.2.2.2.2.2.2.2.2.2.2.1 k0_t10 k0_h1 k0_h4
theorem k0_off18_inb : ∀ (v1 : BitVec 32) (v3 : BitVec 32) (v1263 : BitVec 1) (k0_hw3 : k0_chk3 v1 v3 v1263) (k0_t10 : Fin (k0_t10_loop v1).trips), ∀ (k0_h1 : k0_cond1 v3 = 1#1), ∀ (k0_h4 : k0_cond4 v1263 = 1#1), ∀ a, (k0_off18 v1 k0_t10) a + S512x256.size a ≤ S8192x256.size a := fun v1 v3 v1263 k0_hw3 k0_t10 k0_h1 k0_h4 => k0_hw3.1.2.2.2.2.2.2.2.2.2.2.2.2.2.2.2.2.2.2.2.1 k0_t10 k0_h1 k0_h4
theorem k0_mult22_dvd : ∀ (v1 : BitVec 32) (v3 : BitVec 32) (v1263 : BitVec 1) (k0_hw3 : k0_chk3 v1 v3 v1263) (k0_t10 : Fin (k0_t10_loop v1).trips), ∀ (k0_h1 : k0_cond1 v3 = 1#1), ∀ (k0_h4 : k0_cond4 v1263 = 1#1), 512 ∣ (k0_mult22 v1 k0_t10).toNat := fun v1 v3 v1263 k0_hw3 k0_t10 k0_h1 k0_h4 => k0_hw3.1.2.2.2.2.2.2.2.2.2.2.2.2.2.2.2.2.2.2.2.2.1 k0_t10 k0_h1 k0_h4
theorem k0_off19_inb : ∀ (v1 : BitVec 32) (v3 : BitVec 32) (v1263 : BitVec 1) (k0_hw3 : k0_chk3 v1 v3 v1263) (k0_t10 : Fin (k0_t10_loop v1).trips), ∀ (k0_h1 : k0_cond1 v3 = 1#1), ∀ (k0_h4 : k0_cond4 v1263 = 1#1), ∀ a, (k0_off19 v1 k0_t10) a + S512x256.size a ≤ S8192x256.size a := fun v1 v3 v1263 k0_hw3 k0_t10 k0_h1 k0_h4 => k0_hw3.1.2.2.2.2.2.2.2.2.2.2.2.2.2.2.2.2.2.2.2.2.2.1 k0_t10 k0_h1 k0_h4
theorem k0_mult23_dvd : ∀ (v1 : BitVec 32) (v3 : BitVec 32) (v1263 : BitVec 1) (k0_hw3 : k0_chk3 v1 v3 v1263), ∀ (k0_h1 : k0_cond1 v3 = 1#1), ∀ (k0_h4 : k0_cond4 v1263 = 1#1), ∀ (k0_h6 : k0_cond6 v1 = 1#1), 512 ∣ (k0_mult23 v1).toNat := fun v1 v3 v1263 k0_hw3 k0_h1 k0_h4 k0_h6 => k0_hw3.1.2.2.2.2.2.2.2.2.2.2.2.2.2.2.2.2.2.2.2.2.2.2.1 k0_h1 k0_h4 k0_h6
theorem k0_off20_inb : ∀ (v1 : BitVec 32) (v3 : BitVec 32) (v1263 : BitVec 1) (k0_hw3 : k0_chk3 v1 v3 v1263), ∀ (k0_h1 : k0_cond1 v3 = 1#1), ∀ (k0_h4 : k0_cond4 v1263 = 1#1), ∀ (k0_h6 : k0_cond6 v1 = 1#1), ∀ a, (k0_off20 v1) a + S512x256.size a ≤ S8192x256.size a := fun v1 v3 v1263 k0_hw3 k0_h1 k0_h4 k0_h6 => k0_hw3.1.2.2.2.2.2.2.2.2.2.2.2.2.2.2.2.2.2.2.2.2.2.2.2.1 k0_h1 k0_h4 k0_h6
theorem k0_t11_ok : ∀ (v1 : BitVec 32) (v3 : BitVec 32) (v1263 : BitVec 1) (k0_hw3 : k0_chk3 v1 v3 v1263), ∀ (k0_h1 : k0_cond1 v3 = 1#1), ∀ (k0_h7 : k0_cond7 v1263 = 1#1), (k0_t11_loop v1).OK := fun v1 v3 v1263 k0_hw3 k0_h1 k0_h7 => k0_hw3.1.2.2.2.2.2.2.2.2.2.2.2.2.2.2.2.2.2.2.2.2.2.2.2.2.1 k0_h1 k0_h7
theorem k0_mult24_dvd : ∀ (v1 : BitVec 32) (v3 : BitVec 32) (v1263 : BitVec 1) (k0_hw3 : k0_chk3 v1 v3 v1263) (k0_t11 : Fin (k0_t11_loop v1).trips), ∀ (k0_h1 : k0_cond1 v3 = 1#1), ∀ (k0_h7 : k0_cond7 v1263 = 1#1), 512 ∣ (k0_mult24 v1 k0_t11).toNat := fun v1 v3 v1263 k0_hw3 k0_t11 k0_h1 k0_h7 => k0_hw3.1.2.2.2.2.2.2.2.2.2.2.2.2.2.2.2.2.2.2.2.2.2.2.2.2.2.1 k0_t11 k0_h1 k0_h7
theorem k0_off21_inb : ∀ (v1 : BitVec 32) (v3 : BitVec 32) (v1263 : BitVec 1) (k0_hw3 : k0_chk3 v1 v3 v1263) (k0_t11 : Fin (k0_t11_loop v1).trips), ∀ (k0_h1 : k0_cond1 v3 = 1#1), ∀ (k0_h7 : k0_cond7 v1263 = 1#1), ∀ a, (k0_off21 v1 k0_t11) a + S512x256.size a ≤ S8192x256.size a := fun v1 v3 v1263 k0_hw3 k0_t11 k0_h1 k0_h7 => k0_hw3.1.2.2.2.2.2.2.2.2.2.2.2.2.2.2.2.2.2.2.2.2.2.2.2.2.2.2.1 k0_t11 k0_h1 k0_h7
theorem k0_t12_ok : ∀ (v1 : BitVec 32) (v3 : BitVec 32) (v1263 : BitVec 1) (k0_hw3 : k0_chk3 v1 v3 v1263), ∀ (k0_h1 : k0_cond1 v3 = 1#1), ∀ (k0_h7 : k0_cond7 v1263 = 1#1), (k0_t12_loop v1).OK := fun v1 v3 v1263 k0_hw3 k0_h1 k0_h7 => k0_hw3.1.2.2.2.2.2.2.2.2.2.2.2.2.2.2.2.2.2.2.2.2.2.2.2.2.2.2.2.1 k0_h1 k0_h7
theorem k0_mult25_dvd : ∀ (v1 : BitVec 32) (v3 : BitVec 32) (v1263 : BitVec 1) (k0_hw3 : k0_chk3 v1 v3 v1263) (k0_t12 : Fin (k0_t12_loop v1).trips), ∀ (k0_h1 : k0_cond1 v3 = 1#1), ∀ (k0_h7 : k0_cond7 v1263 = 1#1), 512 ∣ (k0_mult25 v1 k0_t12).toNat := fun v1 v3 v1263 k0_hw3 k0_t12 k0_h1 k0_h7 => k0_hw3.1.2.2.2.2.2.2.2.2.2.2.2.2.2.2.2.2.2.2.2.2.2.2.2.2.2.2.2.2.1 k0_t12 k0_h1 k0_h7
theorem k0_off22_inb : ∀ (v1 : BitVec 32) (v3 : BitVec 32) (v1263 : BitVec 1) (k0_hw3 : k0_chk3 v1 v3 v1263) (k0_t12 : Fin (k0_t12_loop v1).trips), ∀ (k0_h1 : k0_cond1 v3 = 1#1), ∀ (k0_h7 : k0_cond7 v1263 = 1#1), ∀ a, (k0_off22 v1 k0_t12) a + S512x256.size a ≤ S8192x256.size a := fun v1 v3 v1263 k0_hw3 k0_t12 k0_h1 k0_h7 => k0_hw3.1.2.2.2.2.2.2.2.2.2.2.2.2.2.2.2.2.2.2.2.2.2.2.2.2.2.2.2.2.2.1 k0_t12 k0_h1 k0_h7
theorem k0_t13_ok : ∀ (v1 : BitVec 32) (v3 : BitVec 32) (v1263 : BitVec 1) (k0_hw3 : k0_chk3 v1 v3 v1263), ∀ (k0_h1 : k0_cond1 v3 = 1#1), ∀ (k0_h7 : ¬(k0_cond7 v1263 = 1#1)), (k0_t13_loop v1).OK := fun v1 v3 v1263 k0_hw3 k0_h1 k0_h7 => k0_hw3.1.2.2.2.2.2.2.2.2.2.2.2.2.2.2.2.2.2.2.2.2.2.2.2.2.2.2.2.2.2.2.1 k0_h1 k0_h7
theorem k0_mult26_dvd : ∀ (v1 : BitVec 32) (v3 : BitVec 32) (v1263 : BitVec 1) (k0_hw3 : k0_chk3 v1 v3 v1263) (k0_t13 : Fin (k0_t13_loop v1).trips), ∀ (k0_h1 : k0_cond1 v3 = 1#1), ∀ (k0_h7 : ¬(k0_cond7 v1263 = 1#1)), 512 ∣ (k0_mult26 v1 k0_t13).toNat := fun v1 v3 v1263 k0_hw3 k0_t13 k0_h1 k0_h7 => k0_hw3.1.2.2.2.2.2.2.2.2.2.2.2.2.2.2.2.2.2.2.2.2.2.2.2.2.2.2.2.2.2.2.2 k0_t13 k0_h1 k0_h7
theorem k0_off23_inb : ∀ (v1 : BitVec 32) (v3 : BitVec 32) (v1263 : BitVec 1) (k0_hw3 : k0_chk3 v1 v3 v1263) (k0_t13 : Fin (k0_t13_loop v1).trips), ∀ (k0_h1 : k0_cond1 v3 = 1#1), ∀ (k0_h7 : ¬(k0_cond7 v1263 = 1#1)), ∀ a, (k0_off23 v1 k0_t13) a + S512x256.size a ≤ S8192x256.size a := fun v1 v3 v1263 k0_hw3 k0_t13 k0_h1 k0_h7 => k0_hw3.2.1 k0_t13 k0_h1 k0_h7
theorem k0_t14_ok : ∀ (v1 : BitVec 32) (v3 : BitVec 32) (v1263 : BitVec 1) (k0_hw3 : k0_chk3 v1 v3 v1263), ∀ (k0_h1 : k0_cond1 v3 = 1#1), ∀ (k0_h7 : ¬(k0_cond7 v1263 = 1#1)), (k0_t14_loop v1).OK := fun v1 v3 v1263 k0_hw3 k0_h1 k0_h7 => k0_hw3.2.2.1 k0_h1 k0_h7
theorem k0_mult27_dvd : ∀ (v1 : BitVec 32) (v3 : BitVec 32) (v1263 : BitVec 1) (k0_hw3 : k0_chk3 v1 v3 v1263) (k0_t14 : Fin (k0_t14_loop v1).trips), ∀ (k0_h1 : k0_cond1 v3 = 1#1), ∀ (k0_h7 : ¬(k0_cond7 v1263 = 1#1)), 512 ∣ (k0_mult27 v1 k0_t14).toNat := fun v1 v3 v1263 k0_hw3 k0_t14 k0_h1 k0_h7 => k0_hw3.2.2.2.1 k0_t14 k0_h1 k0_h7
theorem k0_off24_inb : ∀ (v1 : BitVec 32) (v3 : BitVec 32) (v1263 : BitVec 1) (k0_hw3 : k0_chk3 v1 v3 v1263) (k0_t14 : Fin (k0_t14_loop v1).trips), ∀ (k0_h1 : k0_cond1 v3 = 1#1), ∀ (k0_h7 : ¬(k0_cond7 v1263 = 1#1)), ∀ a, (k0_off24 v1 k0_t14) a + S512x256.size a ≤ S8192x256.size a := fun v1 v3 v1263 k0_hw3 k0_t14 k0_h1 k0_h7 => k0_hw3.2.2.2.2 k0_t14 k0_h1 k0_h7

def k0_mult28 (v3 : BitVec 32) : BitVec 32 :=
  let c512_i32_8 : BitVec 32 := 512#32
  let v27 : BitVec 32 := Scalar.muli v3 c512_i32_8
  v27
def k0_off25 (v3 : BitVec 32) : Fin 2 → Nat :=
  let c512_i32_8 : BitVec 32 := 512#32
  let v27 : BitVec 32 := Scalar.muli v3 c512_i32_8
  let v28 : BitVec 32 := v27
  let v56 : Index := Scalar.indexCast v28
  let c0_39 : Index := 0#32
  ![v56.toNat, 0]

def k0_chk1 (v1 : BitVec 32) (v3 : BitVec 32) : Prop :=
  (∀ (k0_h1 : k0_cond1 v3 = 1#1), (k0_t1_loop v1).OK) ∧
  (∀ k0_t1 : Fin (k0_t1_loop v1).trips, ∀ (k0_h1 : k0_cond1 v3 = 1#1), 128 ∣ (k0_mult1 v1 k0_t1).toNat) ∧
  (∀ k0_t1 : Fin (k0_t1_loop v1).trips, ∀ (k0_h1 : k0_cond1 v3 = 1#1), ∀ (r : Fin 4), ∀ a, (k0_off2 v1 k0_t1 (BitVec.ofNat 32 r.val)) a + S1x256x128.size a ≤ S64x256x128.size a) ∧
  (∀ k0_t1 : Fin (k0_t1_loop v1).trips, ∀ (k0_h1 : k0_cond1 v3 = 1#1), ∀ (r : Fin 4), ∀ a, (k0_off3 v1 k0_t1 (BitVec.ofNat 32 r.val)) a + S128x256.size a ≤ S8192x256.size a) ∧
  (∀ k0_t1 : Fin (k0_t1_loop v1).trips, ∀ (k0_h1 : k0_cond1 v3 = 1#1), 128 ∣ (k0_mult2 v1 k0_t1).toNat) ∧
  (∀ k0_t1 : Fin (k0_t1_loop v1).trips, ∀ (k0_h1 : k0_cond1 v3 = 1#1), 128 ∣ (k0_mult3 v1 k0_t1).toNat) ∧
  (∀ k0_t1 : Fin (k0_t1_loop v1).trips, ∀ (k0_h1 : k0_cond1 v3 = 1#1), 128 ∣ (k0_mult4 v1 k0_t1).toNat) ∧
  (∀ (k0_h1 : k0_cond1 v3 = 1#1), (k0_t2_loop v1).OK) ∧
  (∀ k0_t2 : Fin (k0_t2_loop v1).trips, ∀ (k0_h1 : k0_cond1 v3 = 1#1), 128 ∣ (k0_mult5 v1 k0_t2).toNat) ∧
  (∀ k0_t2 : Fin (k0_t2_loop v1).trips, ∀ (k0_h1 : k0_cond1 v3 = 1#1), ∀ (r : Fin 4), ∀ a, (k0_off4 v1 k0_t2 (BitVec.ofNat 32 r.val)) a + S1x256x128.size a ≤ S64x256x128.size a) ∧
  (∀ k0_t2 : Fin (k0_t2_loop v1).trips, ∀ (k0_h1 : k0_cond1 v3 = 1#1), ∀ (r : Fin 4), ∀ a, (k0_off5 v1 k0_t2 (BitVec.ofNat 32 r.val)) a + S128x256.size a ≤ S8192x256.size a) ∧
  (∀ k0_t2 : Fin (k0_t2_loop v1).trips, ∀ (k0_h1 : k0_cond1 v3 = 1#1), 128 ∣ (k0_mult6 v1 k0_t2).toNat) ∧
  (∀ k0_t2 : Fin (k0_t2_loop v1).trips, ∀ (k0_h1 : k0_cond1 v3 = 1#1), 128 ∣ (k0_mult7 v1 k0_t2).toNat) ∧
  (∀ k0_t2 : Fin (k0_t2_loop v1).trips, ∀ (k0_h1 : k0_cond1 v3 = 1#1), 128 ∣ (k0_mult8 v1 k0_t2).toNat) ∧
  (512 ∣ (k0_mult28 v3).toNat) ∧
  (∀ a, (k0_off25 v3) a + S512x256.size a ≤ S8192x256.size a)
theorem k0_t1_ok : ∀ (v1 : BitVec 32) (v3 : BitVec 32) (k0_hw1 : k0_chk1 v1 v3), ∀ (k0_h1 : k0_cond1 v3 = 1#1), (k0_t1_loop v1).OK := fun v1 v3 k0_hw1 k0_h1 => k0_hw1.1 k0_h1
theorem k0_mult1_dvd : ∀ (v1 : BitVec 32) (v3 : BitVec 32) (k0_hw1 : k0_chk1 v1 v3) (k0_t1 : Fin (k0_t1_loop v1).trips), ∀ (k0_h1 : k0_cond1 v3 = 1#1), 128 ∣ (k0_mult1 v1 k0_t1).toNat := fun v1 v3 k0_hw1 k0_t1 k0_h1 => k0_hw1.2.1 k0_t1 k0_h1
theorem k0_off2_inb : ∀ (v1 : BitVec 32) (v3 : BitVec 32) (k0_hw1 : k0_chk1 v1 v3) (k0_t1 : Fin (k0_t1_loop v1).trips), ∀ (k0_h1 : k0_cond1 v3 = 1#1), ∀ (r : Fin 4), ∀ a, (k0_off2 v1 k0_t1 (BitVec.ofNat 32 r.val)) a + S1x256x128.size a ≤ S64x256x128.size a := fun v1 v3 k0_hw1 k0_t1 k0_h1 r => k0_hw1.2.2.1 k0_t1 k0_h1 r
theorem k0_off3_inb : ∀ (v1 : BitVec 32) (v3 : BitVec 32) (k0_hw1 : k0_chk1 v1 v3) (k0_t1 : Fin (k0_t1_loop v1).trips), ∀ (k0_h1 : k0_cond1 v3 = 1#1), ∀ (r : Fin 4), ∀ a, (k0_off3 v1 k0_t1 (BitVec.ofNat 32 r.val)) a + S128x256.size a ≤ S8192x256.size a := fun v1 v3 k0_hw1 k0_t1 k0_h1 r => k0_hw1.2.2.2.1 k0_t1 k0_h1 r
theorem k0_mult2_dvd : ∀ (v1 : BitVec 32) (v3 : BitVec 32) (k0_hw1 : k0_chk1 v1 v3) (k0_t1 : Fin (k0_t1_loop v1).trips), ∀ (k0_h1 : k0_cond1 v3 = 1#1), 128 ∣ (k0_mult2 v1 k0_t1).toNat := fun v1 v3 k0_hw1 k0_t1 k0_h1 => k0_hw1.2.2.2.2.1 k0_t1 k0_h1
theorem k0_mult3_dvd : ∀ (v1 : BitVec 32) (v3 : BitVec 32) (k0_hw1 : k0_chk1 v1 v3) (k0_t1 : Fin (k0_t1_loop v1).trips), ∀ (k0_h1 : k0_cond1 v3 = 1#1), 128 ∣ (k0_mult3 v1 k0_t1).toNat := fun v1 v3 k0_hw1 k0_t1 k0_h1 => k0_hw1.2.2.2.2.2.1 k0_t1 k0_h1
theorem k0_mult4_dvd : ∀ (v1 : BitVec 32) (v3 : BitVec 32) (k0_hw1 : k0_chk1 v1 v3) (k0_t1 : Fin (k0_t1_loop v1).trips), ∀ (k0_h1 : k0_cond1 v3 = 1#1), 128 ∣ (k0_mult4 v1 k0_t1).toNat := fun v1 v3 k0_hw1 k0_t1 k0_h1 => k0_hw1.2.2.2.2.2.2.1 k0_t1 k0_h1
theorem k0_t2_ok : ∀ (v1 : BitVec 32) (v3 : BitVec 32) (k0_hw1 : k0_chk1 v1 v3), ∀ (k0_h1 : k0_cond1 v3 = 1#1), (k0_t2_loop v1).OK := fun v1 v3 k0_hw1 k0_h1 => k0_hw1.2.2.2.2.2.2.2.1 k0_h1
theorem k0_mult5_dvd : ∀ (v1 : BitVec 32) (v3 : BitVec 32) (k0_hw1 : k0_chk1 v1 v3) (k0_t2 : Fin (k0_t2_loop v1).trips), ∀ (k0_h1 : k0_cond1 v3 = 1#1), 128 ∣ (k0_mult5 v1 k0_t2).toNat := fun v1 v3 k0_hw1 k0_t2 k0_h1 => k0_hw1.2.2.2.2.2.2.2.2.1 k0_t2 k0_h1
theorem k0_off4_inb : ∀ (v1 : BitVec 32) (v3 : BitVec 32) (k0_hw1 : k0_chk1 v1 v3) (k0_t2 : Fin (k0_t2_loop v1).trips), ∀ (k0_h1 : k0_cond1 v3 = 1#1), ∀ (r : Fin 4), ∀ a, (k0_off4 v1 k0_t2 (BitVec.ofNat 32 r.val)) a + S1x256x128.size a ≤ S64x256x128.size a := fun v1 v3 k0_hw1 k0_t2 k0_h1 r => k0_hw1.2.2.2.2.2.2.2.2.2.1 k0_t2 k0_h1 r
theorem k0_off5_inb : ∀ (v1 : BitVec 32) (v3 : BitVec 32) (k0_hw1 : k0_chk1 v1 v3) (k0_t2 : Fin (k0_t2_loop v1).trips), ∀ (k0_h1 : k0_cond1 v3 = 1#1), ∀ (r : Fin 4), ∀ a, (k0_off5 v1 k0_t2 (BitVec.ofNat 32 r.val)) a + S128x256.size a ≤ S8192x256.size a := fun v1 v3 k0_hw1 k0_t2 k0_h1 r => k0_hw1.2.2.2.2.2.2.2.2.2.2.1 k0_t2 k0_h1 r
theorem k0_mult6_dvd : ∀ (v1 : BitVec 32) (v3 : BitVec 32) (k0_hw1 : k0_chk1 v1 v3) (k0_t2 : Fin (k0_t2_loop v1).trips), ∀ (k0_h1 : k0_cond1 v3 = 1#1), 128 ∣ (k0_mult6 v1 k0_t2).toNat := fun v1 v3 k0_hw1 k0_t2 k0_h1 => k0_hw1.2.2.2.2.2.2.2.2.2.2.2.1 k0_t2 k0_h1
theorem k0_mult7_dvd : ∀ (v1 : BitVec 32) (v3 : BitVec 32) (k0_hw1 : k0_chk1 v1 v3) (k0_t2 : Fin (k0_t2_loop v1).trips), ∀ (k0_h1 : k0_cond1 v3 = 1#1), 128 ∣ (k0_mult7 v1 k0_t2).toNat := fun v1 v3 k0_hw1 k0_t2 k0_h1 => k0_hw1.2.2.2.2.2.2.2.2.2.2.2.2.1 k0_t2 k0_h1
theorem k0_mult8_dvd : ∀ (v1 : BitVec 32) (v3 : BitVec 32) (k0_hw1 : k0_chk1 v1 v3) (k0_t2 : Fin (k0_t2_loop v1).trips), ∀ (k0_h1 : k0_cond1 v3 = 1#1), 128 ∣ (k0_mult8 v1 k0_t2).toNat := fun v1 v3 k0_hw1 k0_t2 k0_h1 => k0_hw1.2.2.2.2.2.2.2.2.2.2.2.2.2.1 k0_t2 k0_h1
theorem k0_mult28_dvd : ∀ (v1 : BitVec 32) (v3 : BitVec 32) (k0_hw1 : k0_chk1 v1 v3), 512 ∣ (k0_mult28 v3).toNat := fun v1 v3 k0_hw1 => k0_hw1.2.2.2.2.2.2.2.2.2.2.2.2.2.2.1
theorem k0_off25_inb : ∀ (v1 : BitVec 32) (v3 : BitVec 32) (k0_hw1 : k0_chk1 v1 v3), ∀ a, (k0_off25 v3) a + S512x256.size a ≤ S8192x256.size a := fun v1 v3 k0_hw1 => k0_hw1.2.2.2.2.2.2.2.2.2.2.2.2.2.2.2

def k0_cond8 (v1 : BitVec 32) (v3 : BitVec 32) : BitVec 1 :=
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let v1166 : BitVec 1 := Scalar.cmpi .eq v3 v23
  let v1167 : BitVec 32 := Scalar.extui v1166
  let c0_i32_839 : BitVec 32 := 0#32
  let v1168 : BitVec 1 := Scalar.cmpi .ne v1167 c0_i32_839
  v1168

def cc0_transform_0 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_1 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S272) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat]

def cc0_transform_2 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S272) ![v0.toNat] S1.size (k0_off1_inb i)) numel1_S1
  let c0_i32 : BitVec 32 := 0#32
  let c0_i32_0 : BitVec 32 := 0#32
  let c0_i32_1 : BitVec 32 := 0#32
  ![c0_i32.toNat, c0_i32_0.toNat, v1.toNat]

def cc0_transform_3 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== KernelReferenceIdeal.lean ====
abbrev S32x8192x128 : Shape := ⟨3, ![32, 8192, 128]⟩
abbrev S16x128x8192 : Shape := ⟨3, ![16, 128, 8192]⟩
abbrev S8192x2048 : Shape := ⟨2, ![8192, 2048]⟩
abbrev S8192x1024 : Shape := ⟨2, ![8192, 1024]⟩
abbrev S16x8192 : Shape := ⟨2, ![16, 8192]⟩
abbrev S64x256x128 : Shape := ⟨3, ![64, 256, 128]⟩
abbrev S256x1024 : Shape := ⟨2, ![256, 1024]⟩
abbrev S256x8x128 : Shape := ⟨3, ![256, 8, 128]⟩
abbrev S4x256x128 : Shape := ⟨3, ![4, 256, 128]⟩
abbrev S4x2x128x128 : Shape := ⟨4, ![4, 2, 128, 128]⟩
abbrev S4x2x128x256x8 : Shape := ⟨5, ![4, 2, 128, 256, 8]⟩
abbrev S256x4x128x8x2 : Shape := ⟨5, ![256, 4, 128, 8, 2]⟩
abbrev S256x512x16 : Shape := ⟨3, ![256, 512, 16]⟩
abbrev S_ : Shape := ⟨0, ![]⟩
abbrev S16x256 : Shape := ⟨2, ![16, 256]⟩
abbrev S256x16 : Shape := ⟨2, ![256, 16]⟩
abbrev S256x1x16 : Shape := ⟨3, ![256, 1, 16]⟩
abbrev S256x512 : Shape := ⟨2, ![256, 512]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S128x512 : Shape := ⟨2, ![128, 512]⟩
abbrev S256 : Shape := ⟨1, ![256]⟩
abbrev S256x1 : Shape := ⟨2, ![256, 1]⟩
abbrev S1x128x512 : Shape := ⟨3, ![1, 128, 512]⟩

abbrev nBuf : Space → Nat
  | .hbm => 71
  | .vmem => 0
  | .smem => 0
  | _ => 0

abbrev bufTy : (tb : Table) → Fin (tcTables nBuf tb) → BufTy
  | .hbm, ⟨0, _⟩ => ⟨S32x8192x128, .bf16⟩
  | .hbm, ⟨1, _⟩ => ⟨S16x128x8192, .bf16⟩
  | .hbm, ⟨2, _⟩ => ⟨S8192x2048, .bf16⟩
  | .hbm, ⟨3, _⟩ => ⟨S8192x1024, .bf16⟩
  | .hbm, ⟨4, _⟩ => ⟨S16x8192, .f32⟩
  | .hbm, ⟨5, _⟩ => ⟨S64x256x128, .bf16⟩
  | .hbm, ⟨6, _⟩ => ⟨S256x1024, .bf16⟩
  | .hbm, ⟨7, _⟩ => ⟨S256x8x128, .bf16⟩
  | .hbm, ⟨8, _⟩ => ⟨S256x8x128, .f32⟩
  | .hbm, ⟨9, _⟩ => ⟨S4x256x128, .bf16⟩
  | .hbm, ⟨10, _⟩ => ⟨S4x2x128x128, .bf16⟩
  | .hbm, ⟨11, _⟩ => ⟨S4x2x128x128, .f32⟩
  | .hbm, ⟨12, _⟩ => ⟨S4x2x128x256x8, .f32⟩
  | .hbm, ⟨13, _⟩ => ⟨S256x4x128x8x2, .f32⟩
  | .hbm, ⟨14, _⟩ => ⟨S256x512x16, .f32⟩
  | .hbm, ⟨15, _⟩ => ⟨S_, .f32⟩
  | .hbm, ⟨16, _⟩ => ⟨S256x512x16, .f32⟩
  | .hbm, ⟨17, _⟩ => ⟨S256x512x16, .f32⟩
  | .hbm, ⟨18, _⟩ => ⟨S16x256, .f32⟩
  | .hbm, ⟨19, _⟩ => ⟨S256x16, .f32⟩
  | .hbm, ⟨20, _⟩ => ⟨S256x1x16, .f32⟩
  | .hbm, ⟨21, _⟩ => ⟨S256x512x16, .f32⟩
  | .hbm, ⟨22, _⟩ => ⟨S256x512x16, .f32⟩
  | .hbm, ⟨23, _⟩ => ⟨S_, .f32⟩
  | .hbm, ⟨24, _⟩ => ⟨S256x512, .f32⟩
  | .hbm, ⟨25, _⟩ => ⟨S256x512, .i32⟩
  | .hbm, ⟨26, _⟩ => ⟨S256x512, .i32⟩
  | .hbm, ⟨27, _⟩ => ⟨S256x512, .i1⟩
  | .hbm, ⟨28, _⟩ => ⟨S_, .f32⟩
  | .hbm, ⟨29, _⟩ => ⟨S256x512, .f32⟩
  | .hbm, ⟨30, _⟩ => ⟨S256x512, .i1⟩
  | .hbm, ⟨31, _⟩ => ⟨S256x512, .i1⟩
  | .hbm, ⟨32, _⟩ => ⟨S1x256x128, .bf16⟩
  | .hbm, ⟨33, _⟩ => ⟨S256x128, .bf16⟩
  | .hbm, ⟨34, _⟩ => ⟨S256x128, .f32⟩
  | .hbm, ⟨35, _⟩ => ⟨S1x512x128, .bf16⟩
  | .hbm, ⟨36, _⟩ => ⟨S512x128, .bf16⟩
  | .hbm, ⟨37, _⟩ => ⟨S512x128, .f32⟩
  | .hbm, ⟨38, _⟩ => ⟨S128x512, .f32⟩
  | .hbm, ⟨39, _⟩ => ⟨S256x512, .f32⟩
  | .hbm, ⟨40, _⟩ => ⟨S_, .f32⟩
  | .hbm, ⟨41, _⟩ => ⟨S256x512, .f32⟩
  | .hbm, ⟨42, _⟩ => ⟨S256x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S256, .f32⟩
  | .hbm, ⟨47, _⟩ => ⟨S256x1, .f32⟩
  | .hbm, ⟨48, _⟩ => ⟨S256x512, .f32⟩
  | .hbm, ⟨49, _⟩ => ⟨S256x512, .f32⟩
  | .hbm, ⟨50, _⟩ => ⟨S256x512, .f32⟩
  | .hbm, ⟨51, _⟩ => ⟨S256x512, .f32⟩
  | .hbm, ⟨52, _⟩ => ⟨S256x512, .f32⟩
  | .hbm, ⟨53, _⟩ => ⟨S256x512, .bf16⟩
  | .hbm, ⟨54, _⟩ => ⟨S256x512, .f32⟩
  | .hbm, ⟨55, _⟩ => ⟨S1x128x512, .bf16⟩
  | .hbm, ⟨56, _⟩ => ⟨S128x512, .bf16⟩
  | .hbm, ⟨57, _⟩ => ⟨S128x512, .f32⟩
  | .hbm, ⟨58, _⟩ => ⟨S512x128, .f32⟩
  | .hbm, ⟨59, _⟩ => ⟨S256x128, .f32⟩
  | .hbm, ⟨60, _⟩ => ⟨S_, .f32⟩
  | .hbm, ⟨61, _⟩ => ⟨S256, .f32⟩
  | .hbm, ⟨62, _⟩ => ⟨S256x1, .f32⟩
  | .hbm, ⟨63, _⟩ => ⟨S256x128, .f32⟩
  | .hbm, ⟨64, _⟩ => ⟨S256x128, .f32⟩
  | .hbm, ⟨65, _⟩ => ⟨S256x128, .bf16⟩
  | .hbm, ⟨66, _⟩ => ⟨S256x128, .f32⟩
  | .hbm, ⟨67, _⟩ => ⟨S256x128, .f32⟩
  | .hbm, ⟨68, _⟩ => ⟨S256x128, .bf16⟩
  | .hbm, ⟨69, _⟩ => ⟨S_, .bf16⟩
  | .hbm, ⟨70, _⟩ => ⟨S8192x2048, .bf16⟩
  | _, _ => ⟨S32x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Gate.lean ====
abbrev S8192x2048 : Shape := ⟨2, ![8192, 2048]⟩
abbrev S2048x9296 : Shape := ⟨2, ![2048, 9296]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x9296, .f32⟩
  | .hbm, ⟨2, _⟩ => ⟨S2048x2048, .f32⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateReferenceIdeal.lean ====
abbrev S8192x2048 : Shape := ⟨2, ![8192, 2048]⟩
abbrev S2048x9296 : Shape := ⟨2, ![2048, 9296]⟩
abbrev S2048x2048 : Shape := ⟨2, ![2048, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9296, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== PoolValue.lean ====
abbrev S8192x2048 : Shape := ⟨2, ![8192, 2048]⟩
abbrev S2048x4096 : Shape := ⟨2, ![2048, 4096]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S2048x4096, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolValueReferenceIdeal.lean ====
abbrev S8192x2048 : Shape := ⟨2, ![8192, 2048]⟩
abbrev S2048x4096 : Shape := ⟨2, ![2048, 4096]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Values.lean ====
abbrev S8192x2048 : Shape := ⟨2, ![8192, 2048]⟩
abbrev S2048x9296 : Shape := ⟨2, ![2048, 9296]⟩
abbrev S2048x2048 : Shape := ⟨2, ![2048, 2048]⟩
abbrev S16x128x8192 : Shape := ⟨3, ![16, 128, 8192]⟩
abbrev S512x2048 : Shape := ⟨2, ![512, 2048]⟩
abbrev S1024x2048 : Shape := ⟨2, ![1024, 2048]⟩
abbrev S4x128x1024 : Shape := ⟨3, ![4, 128, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x9296, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S16x128x8192, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4x128x1024, .bf16⟩
  | .local _ .vmem, ⟨5, _⟩ => ⟨S4x128x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesReferenceIdeal.lean ====
abbrev S8192x2048 : Shape := ⟨2, ![8192, 2048]⟩
abbrev S2048x9296 : Shape := ⟨2, ![2048, 9296]⟩
abbrev S2048x2048 : Shape := ⟨2, ![2048, 2048]⟩
abbrev S8192x16x128 : Shape := ⟨3, ![8192, 16, 128]⟩
abbrev S16x128x8192 : Shape := ⟨3, ![16, 128, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9296, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x16x128, .f32⟩
  | .hbm, ⟨6, _⟩ => ⟨S16x128x8192, .f32⟩
  | .hbm, ⟨7, _⟩ => ⟨S16x128x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutNorm.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512x1 : Shape := ⟨2, ![512, 1]⟩
abbrev S2048x512 : Shape := ⟨2, ![2048, 512]⟩
abbrev S512x512 : Shape := ⟨2, ![512, 512]⟩
abbrev S1x512 : Shape := ⟨2, ![1, 512]⟩
abbrev S512 : Shape := ⟨1, ![512]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S2048x2048, .bf16⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutNormReferenceIdeal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== OutFinal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S512x2048 : Shape := ⟨2, ![512, 2048]⟩
abbrev S512x1 : Shape := ⟨2, ![512, 1]⟩
abbrev S2048x512 : Shape := ⟨2, ![2048, 512]⟩
abbrev S512x512 : Shape := ⟨2, ![512, 512]⟩
abbrev S1x512 : Shape := ⟨2, ![1, 512]⟩
abbrev S512 : Shape := ⟨1, ![512]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S_, .f32⟩
  | .hbm, ⟨6, _⟩ => ⟨S1x2048, .f32⟩
  | .hbm, ⟨7, _⟩ => ⟨S2048x2048, .bf16⟩
  | .hbm, ⟨8, _⟩ => ⟨S1x2048, .f32⟩
  | .hbm, ⟨9, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutFinalReferenceIdeal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== QueriesKeys.lean ====
abbrev S8192x2048 : Shape := ⟨2, ![8192, 2048]⟩
abbrev S2048x9296 : Shape := ⟨2, ![2048, 9296]⟩
abbrev S4x8192x384 : Shape := ⟨3, ![4, 8192, 384]⟩
abbrev S2048x4096 : Shape := ⟨2, ![2048, 4096]⟩
abbrev S32x8192x128 : Shape := ⟨3, ![32, 8192, 128]⟩
abbrev S1024x2048 : Shape := ⟨2, ![1024, 2048]⟩
abbrev S2048x1024 : Shape := ⟨2, ![2048, 1024]⟩
abbrev S1x1024x384 : Shape := ⟨3, ![1, 1024, 384]⟩
abbrev S8x1024x128 : Shape := ⟨3, ![8, 1024, 128]⟩
abbrev S1024x384 : Shape := ⟨2, ![1024, 384]⟩
abbrev S2048x256 : Shape := ⟨2, ![2048, 256]⟩
abbrev S1024x256 : Shape := ⟨2, ![1024, 256]⟩
abbrev S1024x128 : Shape := ⟨2, ![1024, 128]⟩
abbrev S1x1024x128 : Shape := ⟨3, ![1, 1024, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x9296, .f32⟩
  | .hbm, ⟨2, _⟩ => ⟨S4x8192x384, .f32⟩
  | .hbm, ⟨3, _⟩ => ⟨S2048x4096, .f32⟩
  | .hbm, ⟨4, _⟩ => ⟨S2048x4096, .bf16⟩
  | .hbm, ⟨5, _⟩ => ⟨S32x8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x384, .f32⟩
  | .local _ .vmem, ⟨5, _⟩ => ⟨S1x1024x384, .f32⟩
  | .local _ .vmem, ⟨6, _⟩ => ⟨S8x1024x128, .bf16⟩
  | .local _ .vmem, ⟨7, _⟩ => ⟨S8x1024x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  ![v17.toNat, arg0.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueriesKeysReferenceIdeal.lean ====
abbrev S8192x2048 : Shape := ⟨2, ![8192, 2048]⟩
abbrev S2048x9296 : Shape := ⟨2, ![2048, 9296]⟩
abbrev S4x8192x384 : Shape := ⟨3, ![4, 8192, 384]⟩
abbrev S2048x4096 : Shape := ⟨2, ![2048, 4096]⟩
abbrev S8192x4096 : Shape := ⟨2, ![8192, 4096]⟩
abbrev S8192x2x16x128 : Shape := ⟨4, ![8192, 2, 16, 128]⟩
abbrev S2x16x8192x128 : Shape := ⟨4, ![2, 16, 8192, 128]⟩
abbrev S2x8192x384 : Shape := ⟨3, ![2, 8192, 384]⟩
abbrev S2x1x8192x384 : Shape := ⟨4, ![2, 1, 8192, 384]⟩
abbrev S2x16x8192x16 : Shape := ⟨4, ![2, 16, 8192, 16]⟩
abbrev S2x1x8192x16 : Shape := ⟨4, ![2, 1, 8192, 16]⟩
abbrev S2x16x8192x96 : Shape := ⟨4, ![2, 16, 8192, 96]⟩
abbrev S2x1x8192x96 : Shape := ⟨4, ![2, 1, 8192, 96]⟩
abbrev S32x8192x128 : Shape := ⟨3, ![32, 8192, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9296, .f32⟩
  | .hbm, ⟨2, _⟩ => ⟨S4x8192x384, .f32⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S8192x2x16x128, .f32⟩
  | .hbm, ⟨7, _⟩ => ⟨S2x16x8192x128, .f32⟩
  | .hbm, ⟨8, _⟩ => ⟨S2x8192x384, .f32⟩
  | .hbm, ⟨9, _⟩ => ⟨S2x1x8192x384, .f32⟩
  | .hbm, ⟨10, _⟩ => ⟨S2x16x8192x16, .f32⟩
  | .hbm, ⟨11, _⟩ => ⟨S2x16x8192x16, .f32⟩
  | .hbm, ⟨12, _⟩ => ⟨S2x1x8192x16, .f32⟩
  | .hbm, ⟨13, _⟩ => ⟨S2x16x8192x16, .f32⟩
  | .hbm, ⟨14, _⟩ => ⟨S2x16x8192x16, .f32⟩
  | .hbm, ⟨15, _⟩ => ⟨S2x1x8192x16, .f32⟩
  | .hbm, ⟨16, _⟩ => ⟨S2x16x8192x16, .f32⟩
  | .hbm, ⟨17, _⟩ => ⟨S2x16x8192x16, .f32⟩
  | .hbm, ⟨18, _⟩ => ⟨S2x16x8192x16, .f32⟩
  | .hbm, ⟨19, _⟩ => ⟨S2x1x8192x16, .f32⟩
  | .hbm, ⟨20, _⟩ => ⟨S2x16x8192x16, .f32⟩
  | .hbm, ⟨21, _⟩ => ⟨S2x16x8192x16, .f32⟩
  | .hbm, ⟨22, _⟩ => ⟨S2x1x8192x16, .f32⟩
  | .hbm, ⟨23, _⟩ => ⟨S2x16x8192x16, .f32⟩
  | .hbm, ⟨24, _⟩ => ⟨S2x16x8192x16, .f32⟩
  | .hbm, ⟨25, _⟩ => ⟨S2x16x8192x16, .f32⟩
  | .hbm, ⟨26, _⟩ => ⟨S2x16x8192x96, .f32⟩
  | .hbm, ⟨27, _⟩ => ⟨S2x1x8192x96, .f32⟩
  | .hbm, ⟨28, _⟩ => ⟨S2x16x8192x96, .f32⟩
  | .hbm, ⟨29, _⟩ => ⟨S2x16x8192x96, .f32⟩
  | .hbm, ⟨30, _⟩ => ⟨S2x16x8192x128, .f32⟩
  | .hbm, ⟨31, _⟩ => ⟨S32x8192x128, .f32⟩
  | .hbm, ⟨32, _⟩ => ⟨S32x8192x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== Indexer.lean ====
abbrev S8192x2048 : Shape := ⟨2, ![8192, 2048]⟩
abbrev S2048x9296 : Shape := ⟨2, ![2048, 9296]⟩
abbrev S4x8192x384 : Shape := ⟨3, ![4, 8192, 384]⟩
abbrev S2048x1104 : Shape := ⟨2, ![2048, 1104]⟩
abbrev S_ : Shape := ⟨0, ![]⟩
abbrev S2048x1152 : Shape := ⟨2, ![2048, 1152]⟩
abbrev S8192x1024 : Shape := ⟨2, ![8192, 1024]⟩
abbrev S8192x128 : Shape := ⟨2, ![8192, 128]⟩
abbrev S512x2048 : Shape := ⟨2, ![512, 2048]⟩
abbrev S2x512x384 : Shape := ⟨3, ![2, 512, 384]⟩
abbrev S512x1024 : Shape := ⟨2, ![512, 1024]⟩
abbrev S512x128 : Shape := ⟨2, ![512, 128]⟩
abbrev S512x1152 : Shape := ⟨2, ![512, 1152]⟩
abbrev S1x512x384 : Shape := ⟨3, ![1, 512, 384]⟩
abbrev S512x384 : Shape := ⟨2, ![512, 384]⟩

abbrev nBuf : Space → Nat
  | .hbm => 10
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x9296, .f32⟩
  | .hbm, ⟨2, _⟩ => ⟨S4x8192x384, .f32⟩
  | .hbm, ⟨3, _⟩ => ⟨S2048x1104, .f32⟩
  | .hbm, ⟨4, _⟩ => ⟨S_, .i32⟩
  | .hbm, ⟨5, _⟩ => ⟨S_, .f32⟩
  | .hbm, ⟨6, _⟩ => ⟨S2048x1152, .f32⟩
  | .hbm, ⟨7, _⟩ => ⟨S2048x1152, .bf16⟩
  | .hbm, ⟨8, _⟩ => ⟨S8192x1024, .bf16⟩
  | .hbm, ⟨9, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S2048x1152, .bf16⟩
  | .local _ .vmem, ⟨3, _⟩ => ⟨S2x512x384, .f32⟩
  | .local _ .vmem, ⟨4, _⟩ => ⟨S2x512x384, .f32⟩
  | .local _ .vmem, ⟨5, _⟩ => ⟨S512x1024, .bf16⟩
  | .local _ .vmem, ⟨6, _⟩ => ⟨S512x1024, .bf16⟩
  | .local _ .vmem, ⟨7, _⟩ => ⟨S512x128, .f32⟩
  | .local _ .vmem, ⟨8, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== IndexerReferenceIdeal.lean ====
abbrev S8192x2048 : Shape := ⟨2, ![8192, 2048]⟩
abbrev S2048x9296 : Shape := ⟨2, ![2048, 9296]⟩
abbrev S4x8192x384 : Shape := ⟨3, ![4, 8192, 384]⟩
abbrev S2048x1104 : Shape := ⟨2, ![2048, 1104]⟩
abbrev S8192x1104 : Shape := ⟨2, ![8192, 1104]⟩
abbrev S8192x1024 : Shape := ⟨2, ![8192, 1024]⟩
abbrev S8192x8x2x64 : Shape := ⟨4, ![8192, 8, 2, 64]⟩
abbrev S1x8192x384 : Shape := ⟨3, ![1, 8192, 384]⟩
abbrev S8192x384 : Shape := ⟨2, ![8192, 384]⟩
abbrev S8192x3x1x2x64 : Shape := ⟨5, ![8192, 3, 1, 2, 64]⟩
abbrev S8192x1x1x2x64 : Shape := ⟨5, ![8192, 1, 1, 2, 64]⟩
abbrev S8192x1x2x64 : Shape := ⟨4, ![8192, 1, 2, 64]⟩
abbrev S8192x8x2x8 : Shape := ⟨4, ![8192, 8, 2, 8]⟩
abbrev S8192x1x2x8 : Shape := ⟨4, ![8192, 1, 2, 8]⟩
abbrev S8192x8x2x48 : Shape := ⟨4, ![8192, 8, 2, 48]⟩
abbrev S8192x1x2x48 : Shape := ⟨4, ![8192, 1, 2, 48]⟩
abbrev S8192x8 : Shape := ⟨2, ![8192, 8]⟩
abbrev S8192x64 : Shape := ⟨2, ![8192, 64]⟩
abbrev S_ : Shape := ⟨0, ![]⟩
abbrev S8192x48 : Shape := ⟨2, ![8192, 48]⟩
abbrev S8192x128 : Shape := ⟨2, ![8192, 128]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9296, .f32⟩
  | .hbm, ⟨2, _⟩ => ⟨S4x8192x384, .f32⟩
  | .hbm, ⟨3, _⟩ => ⟨S8192x2048, .f32⟩
  | .hbm, ⟨4, _⟩ => ⟨S2048x1104, .f32⟩
  | .hbm, ⟨5, _⟩ => ⟨S8192x1104, .f32⟩
  | .hbm, ⟨6, _⟩ => ⟨S8192x1024, .f32⟩
  | .hbm, ⟨7, _⟩ => ⟨S8192x8x2x64, .f32⟩
  | .hbm, ⟨8, _⟩ => ⟨S1x8192x384, .f32⟩
  | .hbm, ⟨9, _⟩ => ⟨S8192x384, .f32⟩
  | .hbm, ⟨10, _⟩ => ⟨S8192x3x1x2x64, .f32⟩
  | .hbm, ⟨11, _⟩ => ⟨S8192x1x1x2x64, .f32⟩
  | .hbm, ⟨12, _⟩ => ⟨S8192x1x2x64, .f32⟩
  | .hbm, ⟨13, _⟩ => ⟨S8192x1x1x2x64, .f32⟩
  | .hbm, ⟨14, _⟩ => ⟨S8192x1x2x64, .f32⟩
  | .hbm, ⟨15, _⟩ => ⟨S8192x1x1x2x64, .f32⟩
  | .hbm, ⟨16, _⟩ => ⟨S8192x1x2x64, .f32⟩
  | .hbm, ⟨17, _⟩ => ⟨S8192x8x2x8, .f32⟩
  | .hbm, ⟨18, _⟩ => ⟨S8192x8x2x8, .f32⟩
  | .hbm, ⟨19, _⟩ => ⟨S8192x1x2x8, .f32⟩
  | .hbm, ⟨20, _⟩ => ⟨S8192x8x2x8, .f32⟩
  | .hbm, ⟨21, _⟩ => ⟨S8192x8x2x8, .f32⟩
  | .hbm, ⟨22, _⟩ => ⟨S8192x1x2x8, .f32⟩
  | .hbm, ⟨23, _⟩ => ⟨S8192x8x2x8, .f32⟩
  | .hbm, ⟨24, _⟩ => ⟨S8192x8x2x8, .f32⟩
  | .hbm, ⟨25, _⟩ => ⟨S8192x8x2x8, .f32⟩
  | .hbm, ⟨26, _⟩ => ⟨S8192x1x2x8, .f32⟩
  | .hbm, ⟨27, _⟩ => ⟨S8192x8x2x8, .f32⟩
  | .hbm, ⟨28, _⟩ => ⟨S8192x8x2x8, .f32⟩
  | .hbm, ⟨29, _⟩ => ⟨S8192x1x2x8, .f32⟩
  | .hbm, ⟨30, _⟩ => ⟨S8192x8x2x8, .f32⟩
  | .hbm, ⟨31, _⟩ => ⟨S8192x8x2x8, .f32⟩
  | .hbm, ⟨32, _⟩ => ⟨S8192x8x2x8, .f32⟩
  | .hbm, ⟨33, _⟩ => ⟨S8192x8x2x48, .f32⟩
  | .hbm, ⟨34, _⟩ => ⟨S8192x1x2x48, .f32⟩
  | .hbm, ⟨35, _⟩ => ⟨S8192x8x2x48, .f32⟩
  | .hbm, ⟨36, _⟩ => ⟨S8192x8x2x48, .f32⟩
  | .hbm, ⟨37, _⟩ => ⟨S8192x8x2x64, .f32⟩
  | .hbm, ⟨38, _⟩ => ⟨S1x8192x384, .f32⟩
  | .hbm, ⟨39, _⟩ => ⟨S8192x384, .f32⟩
  | .hbm, ⟨40, _⟩ => ⟨S8192x8, .f32⟩
  | .hbm, ⟨41, _⟩ => ⟨S8192x8, .f32⟩
  | .hbm, ⟨42, _⟩ => ⟨S8192x8, .f32⟩
  | .hbm, ⟨43, _⟩ => ⟨S8192x8, .f32⟩
  | .hbm, ⟨44, _⟩ => ⟨S8192x8, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x8, .f32⟩
  | .hbm, ⟨50, _⟩ => ⟨S8192x8, .f32⟩
  | .hbm, ⟨51, _⟩ => ⟨S8192x8, .f32⟩
  | .hbm, ⟨52, _⟩ => ⟨S8192x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S8192x48, .f32⟩
  | .hbm, ⟨57, _⟩ => ⟨S8192x128, .f32⟩
  | .hbm, ⟨58, _⟩ => ⟨S8192x1024, .f32⟩
  | .hbm, ⟨59, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_cst : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩

abbrev nD : Nat := 1
abbrev τ : Topo := Topo.v7x

variable {F : FTy → Type} [FloatOps F]
-- ==== Proof.QueriesKeysRef.lean ====
/- The reference of the queries and keys, entry by entry. -/
module

public import proofs.«01_k».proof.Defs
public import proofs.«01_k».proof.Proof.Gen.QueriesKeysReferenceIdeal.Run
public import Idealize.ShloMosaic.Lib.Pipeline.ValueKit
public import Idealize.ShloMosaic.Lib.Claim

@[expose] public section

set_option maxRecDepth 16384

noncomputable section

namespace Cert.QueriesKeysReferenceIdeal.Hand

open Idealize.ShloMosaic Idealize.ShloMosaic.TcCoe Idealize.SL.Sem
open Cert.QueriesKeysReferenceIdeal Cert.QueriesKeysReferenceIdeal.Gen Cert.QueriesKeysReferenceIdeal.Value

/-- The product, rotated head by head. -/
abbrev ROT (P : FVec Ideal S8192x4096 .f32) (T : FVec Ideal S4x8192x384 .f32) : FVec Ideal S32x8192x128 .bf16 :=
  truncf .bf16 (shapeCast _ ((concatenate S2x16x8192x128 3 [⟨S2x16x8192x16, ((addf (mulf (extractStridedSlice S2x16x8192x16 ![0, 0, 0, 0] (transpose S2x16x8192x128 [1, 2, 0, 3] (shapeCast _ P shapeCasts_S8192x4096_S8192x2x16x128) transposes_S8192x2x16x128_S2x16x8192x128_1_2_0_3) slices_S2x16x8192x128_S2x16x8192x16_0_0_0_0) (broadcastInDim S2x16x8192x16 ![0, 1, 2, 3] bcast_S2x1x8192x16_S2x16x8192x16_0_1_2_3 (extractStridedSlice S2x1x8192x16 ![0, 0, 0, 0] (shapeCast _ (extractStridedSlice S2x8192x384 ![0, 0, 0] T slices_S4x8192x384_S2x8192x384_0_0_0) shapeCasts_S2x8192x384_S2x1x8192x384) slices_S2x1x8192x384_S2x1x8192x16_0_0_0_0))) (mulf (extractStridedSlice S2x16x8192x16 ![0, 0, 0, 16] (transpose S2x16x8192x128 [1, 2, 0, 3] (shapeCast _ P shapeCasts_S8192x4096_S8192x2x16x128) transposes_S8192x2x16x128_S2x16x8192x128_1_2_0_3) slices_S2x16x8192x128_S2x16x8192x16_0_0_0_16) (broadcastInDim S2x16x8192x16 ![0, 1, 2, 3] bcast_S2x1x8192x16_S2x16x8192x16_0_1_2_3 (extractStridedSlice S2x1x8192x16 ![0, 0, 0, 256] (shapeCast _ (extractStridedSlice S2x8192x384 ![0, 0, 0] T slices_S4x8192x384_S2x8192x384_0_0_0) shapeCasts_S2x8192x384_S2x1x8192x384) slices_S2x1x8192x384_S2x1x8192x16_0_0_0_256)))) : (⟨S2x16x8192x16, .f32⟩ : BufTy).Contents (Elt Ideal))⟩, ⟨S2x16x8192x16, ((addf (mulf (extractStridedSlice S2x16x8192x16 ![0, 0, 0, 16] (transpose S2x16x8192x128 [1, 2, 0, 3] (shapeCast _ P shapeCasts_S8192x4096_S8192x2x16x128) transposes_S8192x2x16x128_S2x16x8192x128_1_2_0_3) slices_S2x16x8192x128_S2x16x8192x16_0_0_0_16) (broadcastInDim S2x16x8192x16 ![0, 1, 2, 3] bcast_S2x1x8192x16_S2x16x8192x16_0_1_2_3 (extractStridedSlice S2x1x8192x16 ![0, 0, 0, 16] (shapeCast _ (extractStridedSlice S2x8192x384 ![0, 0, 0] T slices_S4x8192x384_S2x8192x384_0_0_0) shapeCasts_S2x8192x384_S2x1x8192x384) slices_S2x1x8192x384_S2x1x8192x16_0_0_0_16))) (mulf (extractStridedSlice S2x16x8192x16 ![0, 0, 0, 0] (transpose S2x16x8192x128 [1, 2, 0, 3] (shapeCast _ P shapeCasts_S8192x4096_S8192x2x16x128) transposes_S8192x2x16x128_S2x16x8192x128_1_2_0_3) slices_S2x16x8192x128_S2x16x8192x16_0_0_0_0) (broadcastInDim S2x16x8192x16 ![0, 1, 2, 3] bcast_S2x1x8192x16_S2x16x8192x16_0_1_2_3 (extractStridedSlice S2x1x8192x16 ![0, 0, 0, 144] (shapeCast _ (extractStridedSlice S2x8192x384 ![0, 0, 0] T slices_S4x8192x384_S2x8192x384_0_0_0) shapeCasts_S2x8192x384_S2x1x8192x384) slices_S2x1x8192x384_S2x1x8192x16_0_0_0_144)))) : (⟨S2x16x8192x16, .f32⟩ : BufTy).Contents (Elt Ideal))⟩, ⟨S2x16x8192x96, ((mulf (extractStridedSlice S2x16x8192x96 ![0, 0, 0, 32] (transpose S2x16x8192x128 [1, 2, 0, 3] (shapeCast _ P shapeCasts_S8192x4096_S8192x2x16x128) transposes_S8192x2x16x128_S2x16x8192x128_1_2_0_3) slices_S2x16x8192x128_S2x16x8192x96_0_0_0_32) (broadcastInDim S2x16x8192x96 ![0, 1, 2, 3] bcast_S2x1x8192x96_S2x16x8192x96_0_1_2_3 (extractStridedSlice S2x1x8192x96 ![0, 0, 0, 32] (shapeCast _ (extractStridedSlice S2x8192x384 ![0, 0, 0] T slices_S4x8192x384_S2x8192x384_0_0_0) shapeCasts_S2x8192x384_S2x1x8192x384) slices_S2x1x8192x384_S2x1x8192x96_0_0_0_32))) : (⟨S2x16x8192x96, .f32⟩ : BufTy).Contents (Elt Ideal))⟩] concatenates_S2x16x8192x16_S2x16x8192x16_S2x16x8192x96_S2x16x8192x128_d3 : (⟨S2x16x8192x128, .f32⟩ : BufTy).Contents (Elt Ideal))) shapeCasts_S2x16x8192x128_S32x8192x128) bitsLt_bf16_f32

/-- The product of the input with the weights of the queries and keys. -/
abbrev DOT (X : FVec Ideal S8192x2048 .bf16) (W : FVec Ideal S2048x9296 .f32) : FVec Ideal S8192x4096 .f32 :=
  Host.dotGeneral dot_S8192x2048_S2048x4096_S8192x4096_1_0_0_1_n_n none (extf .f32 X bitsLt_bf16_f32) (extractStridedSlice S2048x4096 ![0, 0] W slices_S2048x9296_S2048x4096_0_0)

/-- The reference's term over the argument arrays. -/
abbrev REF (X : FVec Ideal S8192x2048 .bf16) (W : FVec Ideal S2048x9296 .f32) (T : FVec Ideal S4x8192x384 .f32) : FVec Ideal S32x8192x128 .bf16 :=
  ROT (DOT X W) T

/-- Entry n of row r of the product. -/
def col (P : FVec Ideal S8192x4096 .f32) (r : Fin 8192) (n : ℕ) : EReal :=
  if h : n < 4096 then P (ix2 r ⟨n, h⟩) else 0

/-- Entry n of row r of table p. -/
def tab (T : FVec Ideal S4x8192x384 .f32) (p : ℕ) (r : Fin 8192) (n : ℕ) : EReal :=
  if h : p < 4 ∧ n < 384 then T (ix3 ⟨p, h.1⟩ r ⟨n, h.2⟩) else 0

/-- Lane l of a head: the first sixteen lanes rotate with the next sixteen, the rest are scaled. -/
def rotated (A t : ℕ → EReal) (l : ℕ) : EReal :=
  if l < 16 then A l * t l + A (l + 16) * t (256 + l)
  else if l < 32 then A l * t l + A (l - 16) * t (128 + l) else A l * t l

theorem col_eq (P) (r : Fin 8192) {e : ℕ} (he : e < 4096) : P (ix2 r ⟨e, he⟩) = col P r e := by
  unfold col; rw [dif_pos he]

theorem tab_eq (T) (r : Fin 8192) {q e : ℕ} (hq : q < 4) (he : e < 384) :
    T (ix3 ⟨q, hq⟩ r ⟨e, he⟩) = tab T q r e := by
  unfold tab; rw [dif_pos ⟨hq, he⟩]

theorem dot_at (X W) (r : Fin 8192) (n : Fin 4096) :
    DOT X W (ix2 r n) = ∑ k : Fin 2048, (X (ix2 r k) : EReal) * W (ix2 k ⟨n.val, by omega⟩) := by
  pointwise [DOT]

set_option maxHeartbeats 4000000 in
theorem rot_at (P T) (a : Fin 32) (r : Fin 8192) (l : Fin 128) :
    ROT P T (ix3 a r l) = rotated (fun n => col P r (128 * a.val + n)) (tab T (a.val / 16) r) l.val := by
  pointwise [ROT]
  simp only [col_eq P, tab_eq T]
  obtain ⟨a, ha⟩ := a
  obtain ⟨l, hl⟩ := l
  dsimp only
  rw [show a / 16 * 2048 + a % 16 * 128 = 128 * a by omega]
  unfold rotated
  by_cases h : l < 16
  · rw [dif_pos h, if_pos h, show 16 + l = l + 16 by omega]
  · rw [dif_neg h, if_neg h]
    by_cases h' : l < 32
    · rw [dif_pos (show l - 16 < 16 by omega), if_pos h', show 16 + (l - 16) = l by omega, show 144 + (l - 16) = 128 + l by omega]
    · rw [dif_neg (show ¬ l - 16 < 16 by omega), if_neg h', show 32 + (l - 16 - 16) = l by omega]

end Cert.QueriesKeysReferenceIdeal.Hand
-- ==== Proof.QueriesKeysValue.lean ====
/- The queries and keys, projected and rotated, head by head: every block of the grid is the block of the whole rotated product. -/
module

public import proofs.«01_k».proof.Defs
public import proofs.«01_k».proof.Proof.QueriesKeysRef
public import proofs.«01_k».proof.Proof.Gen.QueriesKeys.Frame
public import proofs.«01_k».proof.Proof.Gen.QueriesKeysIdeal.Frame
public import proofs.«01_k».proof.Proof.Gen.QueriesKeysIdeal.Value
public import proofs.«01_k».proof.Proof.Gen.QueriesKeysReferenceIdeal.Run
public import Idealize.ShloMosaic.Lib.Pipeline.ValueKit
public import Idealize.ShloMosaic.Lib.Claim

@[expose] public section

set_option maxRecDepth 16384

noncomputable section

namespace Cert.QueriesKeysIdeal.Hand

open Idealize.ShloMosaic Idealize.ShloMosaic.TcCoe Idealize.SL.Sem
open Idealize.ShloMosaic.Pipeline (Dat)
open Cert.QueriesKeysIdeal Cert.QueriesKeysIdeal.Gen
open Cert.QueriesKeysReferenceIdeal.Hand (REF col tab DOT rotated dot_at rot_at)

/-- Entry n of row r of the product of one block of rows with the columns of one pair of heads. -/
def kcol (A : FVec Ideal S1024x256 .f32) (r : Fin 1024) (n : ℕ) : EReal :=
  if h : n < 256 then A (ix2 r ⟨n, h⟩) else 0

/-- Entry n of row r of one block of the tables. -/
def ktab (t : Vec Ideal S1x1024x384 .f32) (r : Fin 1024) (n : ℕ) : EReal :=
  if h : n < 384 then t (ix3 0 r ⟨n, h⟩) else 0

theorem kcol_eq (A) (r : Fin 1024) {e : ℕ} (he : e < 256) : A (ix2 r ⟨e, he⟩) = kcol A r e := by
  unfold kcol; rw [dif_pos he]

theorem ktab_eq (t) (r : Fin 1024) {e : ℕ} (he : e < 384) : t (ix3 0 r ⟨e, he⟩) = ktab t r e := by
  unfold ktab; rw [dif_pos he]

/-- Lane l of a head that starts at lane o of the pair, as the two rolls of the pair make it. -/
def rolled (A t : ℕ → EReal) (o l : ℕ) : EReal :=
  A (o + l) * t l + A ((o + l + 256 - 16) % 256) * t (128 + l) + A ((o + l + 256 - 240) % 256) * t (256 + l)

theorem pay9_at (a w) (r : Fin 1024) (n : Fin 256) :
    k0_pay9 (F := Ideal) a w (ix2 r n) = ∑ k : Fin 2048, (a (ix2 r k) : EReal) * w (ix2 k n) := by
  pointwise [k0_pay9]

theorem pay14_at (A t) (z : Fin 1) (r : Fin 1024) (l : Fin 128) :
    k0_pay14 (F := Ideal) A (k0_pay10 t) (k0_pay11 t) (k0_pay12 t) (ix3 z r l) = rolled (kcol A r) (ktab t r) 0 l.val := by
  pointwise [k0_pay14, k0_pay13, k0_pay12, k0_pay11, k0_pay10, k0_pay5]
  simp only [kcol_eq A, ktab_eq t]
  unfold rolled; simp only [Nat.zero_add]

theorem pay15_at (A t) (z : Fin 1) (r : Fin 1024) (l : Fin 128) :
    k0_pay15 (F := Ideal) A (k0_pay10 t) (k0_pay11 t) (k0_pay12 t) (ix3 z r l) = rolled (kcol A r) (ktab t r) 128 l.val := by
  pointwise [k0_pay15, k0_pay13, k0_pay12, k0_pay11, k0_pay10, k0_pay5]
  simp only [kcol_eq A, ktab_eq t]
  rfl

/-- Where the two sine tables are zero outside the rotating lanes, the rolls rotate the head alone. -/
theorem rolled_eq (A t : ℕ → EReal) (o l : ℕ) (ho : o = 0 ∨ o = 128) (hl : l < 128)
    (h1 : ∀ n, n < 128 → ¬ (16 ≤ n ∧ n < 32) → t (128 + n) = 0) (h2 : ∀ n, n < 128 → ¬ n < 16 → t (256 + n) = 0) :
    rolled A t o l = rotated (fun n => A (o + n)) t l := by
  unfold rolled rotated
  by_cases a : l < 16
  · rw [if_pos a, h1 l hl (by omega), mul_zero, add_zero]
    rw [show (o + l + 256 - 240) % 256 = o + (l + 16) by omega]
  · rw [if_neg a, h2 l hl a, mul_zero, add_zero]
    by_cases b : l < 32
    · rw [if_pos b, show (o + l + 256 - 16) % 256 = o + (l - 16) by omega]
    · rw [if_neg b, h1 l hl (by omega), mul_zero, add_zero]

theorem rotated_congr {A A' t t' : ℕ → EReal} {l : ℕ} (hl : l < 128) (hA : ∀ n, n < 128 → A n = A' n)
    (ht : ∀ n, n < 384 → t n = t' n) : rotated A t l = rotated A' t' l := by
  unfold rotated
  by_cases a : l < 16
  · rw [if_pos a, if_pos a, hA l hl, hA (l + 16) (by omega), ht l (by omega), ht (256 + l) (by omega)]
  · by_cases b : l < 32
    · rw [if_neg a, if_neg a, if_pos b, if_pos b, hA l hl, hA (l - 16) (by omega), ht l (by omega), ht (128 + l) (by omega)]
    · rw [if_neg a, if_neg a, if_neg b, if_neg b, hA l hl, ht l (by omega)]

variable (m : (ℓ : Loc nD τ sig) → Buf (Elt Ideal) ℓ)

/-- Where each window's block sits at a point. -/
theorem idx : ∀ t : Fin cfg0.N, win0_0.index t = ![t.val / 4, 0] ∧ win0_1.index t = ![0, t.val % 4] ∧ win0_2.index t = ![t.val % 4 / 2, t.val / 4, 0] ∧ win0_3.index t = ![t.val % 4, t.val / 4, 0] ∧ t.val / 4 < 8 :=
  (by decide +kernel : ∀ t : Fin grid0.N, _)

theorem blkX (c : Dev nD) (t : Fin cfg0.N) (r : Fin 1024) (k : Fin 2048) (R : Fin 8192) (hR : R.val = 1024 * (t.val / 4) + r.val) :
    (iblk m c 0 t (ix2 r k) : EReal) = m ((c : Thread nD τ).loc main_arg0) (ix2 R k) := by
  obtain ⟨R, hR'⟩ := R; subst hR
  blk_point [iblk, V, idx t]

theorem blkW (c : Dev nD) (t : Fin cfg0.N) (k : Fin 2048) (n : Fin 1024) (N : Fin 9296) (hN : N.val = 1024 * (t.val % 4) + n.val) :
    (iblk m c 1 t (ix2 k n) : EReal) = m ((c : Thread nD τ).loc main_arg1) (ix2 k N) := by
  obtain ⟨N, hN'⟩ := N; subst hN
  blk_point [iblk, V, idx t]

theorem blkT (c : Dev nD) (t : Fin cfg0.N) (r : Fin 1024) (n : Fin 384) (P : Fin 4) (R : Fin 8192)
    (hP : P.val = t.val % 4 / 2) (hR : R.val = 1024 * (t.val / 4) + r.val) :
    (iblk m c 2 t (ix3 0 r n) : EReal) = m ((c : Thread nD τ).loc main_arg2) (ix3 P R n) := by
  obtain ⟨R, hR'⟩ := R; obtain ⟨P, hP'⟩ := P; subst hR hP
  blk_point [iblk, V, idx t]

/-- One head of one block, lane by lane: the pair's columns begin at column o of the block, the head at lane p of the pair. -/
theorem head_at (c : Dev nD) (t : Fin cfg0.N) (w : Vec Ideal S2048x256 .bf16) (o p : ℕ) (hp : p = 0 ∨ p = 128)
    (hw : ∀ (k : Fin 2048) (n : Fin 256) (hn : o + n.val < 1024), w (ix2 k n) = iblk m c 1 t (ix2 k ⟨o + n.val, hn⟩))
    (ho : o + 256 ≤ 1024) (H : Fin 32) (hH : 128 * H.val = 1024 * (t.val % 4) + o + p)
    (r : Fin 1024) (R : Fin 8192) (hR : R.val = 1024 * (t.val / 4) + r.val) (l : Fin 128)
    (h1 : ∀ n, n < 128 → ¬ (16 ≤ n ∧ n < 32) → tab (m ((c : Thread nD τ).loc main_arg2)) (H.val / 16) R (128 + n) = 0)
    (h2 : ∀ n, n < 128 → ¬ n < 16 → tab (m ((c : Thread nD τ).loc main_arg2)) (H.val / 16) R (256 + n) = 0) :
    rolled (kcol (k0_pay9 (iblk m c 0 t) w) r) (ktab (iblk m c 2 t) r) p l.val
      = REF (m ((c : Thread nD τ).loc main_arg0)) (m ((c : Thread nD τ).loc main_arg1)) (m ((c : Thread nD τ).loc main_arg2)) (ix3 H R l) := by
  have ht : t.val / 4 < 8 := (idx t).2.2.2.2
  have eT : ∀ n, n < 384 → ktab (iblk m c 2 t) r n = tab (m ((c : Thread nD τ).loc main_arg2)) (H.val / 16) R n := fun n hn => by
    unfold ktab tab
    rw [dif_pos hn, dif_pos ⟨by omega, hn⟩]
    exact blkT m c t r ⟨n, hn⟩ _ R (by show H.val / 16 = _; omega) hR
  rw [rolled_eq _ _ p l.val hp l.isLt (fun n hn h => (eT _ (by omega)).trans (h1 n hn h)) (fun n hn h => (eT _ (by omega)).trans (h2 n hn h))]
  show _ = Cert.QueriesKeysReferenceIdeal.Hand.ROT _ _ _
  rw [rot_at]
  refine rotated_congr l.isLt (fun n hn => ?_) eT
  show kcol _ r (p + n) = col _ R (128 * H.val + n)
  unfold kcol col
  rw [dif_pos (by omega : p + n < 256), dif_pos (by omega : 128 * H.val + n < 4096), pay9_at, dot_at]
  refine Finset.sum_congr rfl fun k _ => congrArg₂ (fun a b : EReal => a * b) (blkX m c t r k R hR) ?_
  rw [hw k ⟨p + n, by omega⟩ (by show o + (p + n) < 1024; omega)]
  exact blkW m c t k ⟨o + (p + n), by omega⟩ _ (by show 128 * H.val + n = 1024 * (t.val % 4) + (o + (p + n)); omega)

/-- The first head of the pair whose columns begin at column o of the block. -/
theorem pair_first (c : Dev nD) (t : Fin cfg0.N)
    (h1 : ∀ p R n, p < 2 → n < 128 → ¬ (16 ≤ n ∧ n < 32) → tab (m ((c : Thread nD τ).loc main_arg2)) p R (128 + n) = 0)
    (h2 : ∀ p R n, p < 2 → n < 128 → ¬ n < 16 → tab (m ((c : Thread nD τ).loc main_arg2)) p R (256 + n) = 0)
    (w : Vec Ideal S2048x256 .bf16) (o : ℕ) (ho : o + 256 ≤ 1024)
    (hw : ∀ (k : Fin 2048) (n : Fin 256) (hn : o + n.val < 1024), w (ix2 k n) = iblk m c 1 t (ix2 k ⟨o + n.val, hn⟩))
    (x : S1x1024x128.Idx) (J : S32x8192x128.Idx) (hJ0 : 128 * (J 0).val = 1024 * (t.val % 4) + o + 0)
    (hJ1 : (J 1).val = 1024 * (t.val / 4) + (x 1).val) (hJ2 : (J 2).val = (x 2).val) :
    k0_pay14 (k0_pay9 (View.ld (iblk m c 0 t) r0_0) w) (k0_pay10 (View.ld (iblk m c 2 t) r0_1))
        (k0_pay11 (View.ld (iblk m c 2 t) r0_1)) (k0_pay12 (View.ld (iblk m c 2 t) r0_1)) x
      = REF (m ((c : Thread nD τ).loc main_arg0)) (m ((c : Thread nD τ).loc main_arg1)) (m ((c : Thread nD τ).loc main_arg2)) J := by
  have eX : View.ld (iblk m c 0 t) r0_0 = iblk m c 0 t := funext fun x => by
    refine View.ld_unit_apply_of _ _ _ _ x x fun a => ?_
    fin_cases a <;> exact (Nat.zero_add _).symm
  have eT : View.ld (iblk m c 2 t) r0_1 = iblk m c 2 t := funext fun x => by
    refine View.ld_unit_apply_of _ _ _ _ x x fun a => ?_
    fin_cases a <;> exact (Nat.zero_add _).symm
  rw [eX, eT, eq_ix3 x, eq_ix3 J]
  refine (pay14_at _ _ (x 0) (x 1) (x 2)).trans ?_
  have e2 : (J 2 : Fin 128) = (x 2 : Fin 128) := Fin.ext hJ2
  have hH : (J 0 : Fin 32).val / 16 < 2 := by have := (J 0 : Fin 32).isLt; omega
  refine (head_at m c t w o 0 (Or.inl rfl) hw ho (J 0) hJ0 (x 1) (J 1) hJ1 (x 2) (fun n => h1 _ _ n hH) (fun n => h2 _ _ n hH)).trans ?_
  exact congrArg (fun l : Fin 128 => REF (m ((c : Thread nD τ).loc main_arg0)) (m ((c : Thread nD τ).loc main_arg1)) (m ((c : Thread nD τ).loc main_arg2)) (ix3 (J 0) (J 1) l)) e2.symm

/-- The second head of the pair whose columns begin at column o of the block. -/
theorem pair_second (c : Dev nD) (t : Fin cfg0.N)
    (h1 : ∀ p R n, p < 2 → n < 128 → ¬ (16 ≤ n ∧ n < 32) → tab (m ((c : Thread nD τ).loc main_arg2)) p R (128 + n) = 0)
    (h2 : ∀ p R n, p < 2 → n < 128 → ¬ n < 16 → tab (m ((c : Thread nD τ).loc main_arg2)) p R (256 + n) = 0)
    (w : Vec Ideal S2048x256 .bf16) (o : ℕ) (ho : o + 256 ≤ 1024)
    (hw : ∀ (k : Fin 2048) (n : Fin 256) (hn : o + n.val < 1024), w (ix2 k n) = iblk m c 1 t (ix2 k ⟨o + n.val, hn⟩))
    (x : S1x1024x128.Idx) (J : S32x8192x128.Idx) (hJ0 : 128 * (J 0).val = 1024 * (t.val % 4) + o + 128)
    (hJ1 : (J 1).val = 1024 * (t.val / 4) + (x 1).val) (hJ2 : (J 2).val = (x 2).val) :
    k0_pay15 (k0_pay9 (View.ld (iblk m c 0 t) r0_0) w) (k0_pay10 (View.ld (iblk m c 2 t) r0_1))
        (k0_pay11 (View.ld (iblk m c 2 t) r0_1)) (k0_pay12 (View.ld (iblk m c 2 t) r0_1)) x
      = REF (m ((c : Thread nD τ).loc main_arg0)) (m ((c : Thread nD τ).loc main_arg1)) (m ((c : Thread nD τ).loc main_arg2)) J := by
  have eX : View.ld (iblk m c 0 t) r0_0 = iblk m c 0 t := funext fun x => by
    refine View.ld_unit_apply_of _ _ _ _ x x fun a => ?_
    fin_cases a <;> exact (Nat.zero_add _).symm
  have eT : View.ld (iblk m c 2 t) r0_1 = iblk m c 2 t := funext fun x => by
    refine View.ld_unit_apply_of _ _ _ _ x x fun a => ?_
    fin_cases a <;> exact (Nat.zero_add _).symm
  rw [eX, eT, eq_ix3 x, eq_ix3 J]
  refine (pay15_at _ _ (x 0) (x 1) (x 2)).trans ?_
  have e2 : (J 2 : Fin 128) = (x 2 : Fin 128) := Fin.ext hJ2
  have hH : (J 0 : Fin 32).val / 16 < 2 := by have := (J 0 : Fin 32).isLt; omega
  refine (head_at m c t w o 128 (Or.inr rfl) hw ho (J 0) hJ0 (x 1) (J 1) hJ1 (x 2) (fun n => h1 _ _ n hH) (fun n => h2 _ _ n hH)).trans ?_
  exact congrArg (fun l : Fin 128 => REF (m ((c : Thread nD τ).loc main_arg0)) (m ((c : Thread nD τ).loc main_arg1)) (m ((c : Thread nD τ).loc main_arg2)) (ix3 (J 0) (J 1) l)) e2.symm

theorem point (c : Dev nD) (t : Fin cfg0.N)
    (h1 : ∀ p R n, p < 2 → n < 128 → ¬ (16 ≤ n ∧ n < 32) → tab (m ((c : Thread nD τ).loc main_arg2)) p R (128 + n) = 0)
    (h2 : ∀ p R n, p < 2 → n < 128 → ¬ n < 16 → tab (m ((c : Thread nD τ).loc main_arg2)) p R (256 + n) = 0)
    (y : S8x1024x128.Idx) (J : S32x8192x128.Idx) (hJ0 : (J 0).val = 8 * (t.val % 4) + (y 0).val)
    (hJ1 : (J 1).val = 1024 * (t.val / 4) + (y 1).val) (hJ2 : (J 2).val = (y 2).val) :
    out0_3 (iblk m c 0 t) (iblk m c 1 t) (iblk m c 2 t) y
      = REF (m ((c : Thread nD τ).loc main_arg0)) (m ((c : Thread nD τ).loc main_arg1)) (m ((c : Thread nD τ).loc main_arg2)) J := by
  unfold_out out0_3
  have ld : ∀ (o : ℕ) (inb) (k : Fin 2048) (n : Fin 256) (hn : o + n.val < 1024),
      View.ld (iblk m c 1 t) (Rect.unit (s := S2048x1024) ![0, o] S2048x256.size inb) (ix2 k n) = iblk m c 1 t (ix2 k ⟨o + n.val, hn⟩) := fun o inb k n hn => by
    refine View.ld_unit_apply_of _ _ _ _ _ _ fun a => ?_
    fin_cases a
    · exact (Nat.zero_add _).symm
    · rfl
  canon_tiles x e using cover0_3 ..
  · exact pair_second m c t h1 h2 (View.ld (iblk m c 1 t) r0_11) 768 (by omega) (ld 768 _) x J (by omega) (by omega) (by omega)
  · exact pair_first m c t h1 h2 (View.ld (iblk m c 1 t) r0_11) 768 (by omega) (ld 768 _) x J (by omega) (by omega) (by omega)
  · exact pair_second m c t h1 h2 (View.ld (iblk m c 1 t) r0_8) 512 (by omega) (ld 512 _) x J (by omega) (by omega) (by omega)
  · exact pair_first m c t h1 h2 (View.ld (iblk m c 1 t) r0_8) 512 (by omega) (ld 512 _) x J (by omega) (by omega) (by omega)
  · exact pair_second m c t h1 h2 (View.ld (iblk m c 1 t) r0_5) 256 (by omega) (ld 256 _) x J (by omega) (by omega) (by omega)
  · exact pair_first m c t h1 h2 (View.ld (iblk m c 1 t) r0_5) 256 (by omega) (ld 256 _) x J (by omega) (by omega) (by omega)
  · exact pair_second m c t h1 h2 (View.ld (iblk m c 1 t) r0_2) 0 (by omega) (ld 0 _) x J (by omega) (by omega) (by omega)
  · exact pair_first m c t h1 h2 (View.ld (iblk m c 1 t) r0_2) 0 (by omega) (ld 0 _) x J (by omega) (by omega) (by omega)

theorem final (c : Dev nD)
    (h1 : ∀ p R n, p < 2 → n < 128 → ¬ (16 ≤ n ∧ n < 32) → tab (m ((c : Thread nD τ).loc main_arg2)) p R (128 + n) = 0)
    (h2 : ∀ p R n, p < 2 → n < 128 → ¬ n < 16 → tab (m ((c : Thread nD τ).loc main_arg2)) p R (256 + n) = 0) :
    (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine point m c t h1 h2 y _ ?_ ?_ ?_ <;> blk_simp [idx t] <;> omega

end Cert.QueriesKeysIdeal.Hand

namespace Cert.Proof

open Idealize.ShloMosaic

instance rotate_facts : Cert.Pre_tables_rotate.Facts := ⟨by decide, by decide⟩

/-- Outside the rotating lanes the precondition's mask of lanes is zero. -/
theorem rotate_lane : ∀ n : Fin 384, ¬ (n.val < 128 ∨ (144 ≤ n.val ∧ n.val < 160) ∨ (256 ≤ n.val ∧ n.val < 272)) →
    IntOp.ori
      (IntOp.ori (IntOp.cmpi CmpIPredicate.slt (BitVec.ofNat 32 n.val) 128#32)
        (IntOp.andi (IntOp.cmpi CmpIPredicate.sge (BitVec.ofNat 32 n.val) 144#32)
          (IntOp.cmpi CmpIPredicate.slt (BitVec.ofNat 32 n.val) 160#32)))
      (IntOp.andi (IntOp.cmpi CmpIPredicate.sge (BitVec.ofNat 32 n.val) 256#32)
        (IntOp.cmpi CmpIPredicate.slt (BitVec.ofNat 32 n.val) 272#32)) = 0#1 := by
  decide +kernel

/-- What the precondition says of one entry of the tables. -/
theorem rotate_zero (X W T) (h : Cert.Pre_tables_rotate.fn (F := Ideal) X W T = fun _ => 1#1) (p : Fin 2) (r : Fin 8192) (n : Fin 384)
    (hn : ¬ (n.val < 128 ∨ (144 ≤ n.val ∧ n.val < 160) ∨ (256 ≤ n.val ∧ n.val < 272))) : (T (ix3 ⟨p.val, by omega⟩ r n) : EReal) = 0 := by
  have e := congrFun h (ix3 p r n)
  pointwise [Cert.Pre_tables_rotate.fn, Cert.Pre_tables_rotate.fn_part1] at e
  rw [rotate_lane n hn] at e
  by_contra hc
  rw [decide_eq_false hc] at e
  exact absurd e (by decide)

theorem rotate_tab (X W T) (h : Cert.Pre_tables_rotate.fn (F := Ideal) X W T = fun _ => 1#1) (p : ℕ) (hp : p < 2) (r : Fin 8192) (n : ℕ)
    (hn : ¬ (n < 128 ∨ (144 ≤ n ∧ n < 160) ∨ (256 ≤ n ∧ n < 272))) : Cert.QueriesKeysReferenceIdeal.Hand.tab T p r n = 0 := by
  unfold Cert.QueriesKeysReferenceIdeal.Hand.tab
  split
  · exact rotate_zero X W T h ⟨p, hp⟩ r _ hn
  · rfl

theorem algebraic_queries_keys : Cert.algebraic_QueriesKeysIdeal_QueriesKeysReferenceIdeal_pre_tables_rotate := by
  pair_intro
  · run_from Cert.QueriesKeysIdeal.Gen.run_main m g
  · run_from Cert.QueriesKeysReferenceIdeal.Value.run m' g'
    obtain ⟨e0, e1, e2⟩ := hagree c
    refine Eq.trans ?_ (Cert.QueriesKeysIdeal.Hand.final m c
      (fun p r n hp _ hn => rotate_tab _ _ _ (hpre c) p hp r _ (by omega)) (fun p r n hp _ hn => rotate_tab _ _ _ (hpre c) p hp r _ (by omega))).symm
    unfold Cert.QueriesKeysReferenceIdeal.Value.res_main_v29
    rw [e0, e1, e2]
    rfl

end Cert.Proof

end
-- ==== Proof.IndexerRef.lean ====
/- The reference of the indexer's projection, entry by entry. -/
module

public import proofs.«01_k».proof.Defs
public import proofs.«01_k».proof.Proof.Gen.IndexerReferenceIdeal.Run
public import Idealize.ShloMosaic.Lib.Pipeline.ValueKit
public import Idealize.ShloMosaic.Lib.Claim

@[expose] public section

set_option maxRecDepth 16384

noncomputable section

namespace Cert.IndexerReferenceIdeal.Hand

open Idealize.ShloMosaic Idealize.ShloMosaic.TcCoe Idealize.SL.Sem
open Cert.IndexerReferenceIdeal Cert.IndexerReferenceIdeal.Gen Cert.IndexerReferenceIdeal.Value

/-- The queries' columns of the product, rotated head by head. -/
abbrev QOUT (P : FVec Ideal S8192x1104 .f32) (T : FVec Ideal S4x8192x384 .f32) : FVec Ideal S8192x1024 .bf16 :=
  truncf .bf16 (shapeCast _ ((concatenate S8192x8x2x64 3 [⟨S8192x8x2x8, ((addf (mulf (extractStridedSlice S8192x8x2x8 ![0, 0, 0, 0] (shapeCast _ (extractStridedSlice S8192x1024 ![0, 0] P slices_S8192x1104_S8192x1024_0_0) shapeCasts_S8192x1024_S8192x8x2x64) slices_S8192x8x2x64_S8192x8x2x8_0_0_0_0) (broadcastInDim S8192x8x2x8 ![0, 1, 2, 3] bcast_S8192x1x2x8_S8192x8x2x8_0_1_2_3 (extractStridedSlice S8192x1x2x8 ![0, 0, 0, 0] (shapeCast _ (extractStridedSlice S8192x1x1x2x64 ![0, 0, 0, 0, 0] (shapeCast _ (shapeCast _ (extractStridedSlice S1x8192x384 ![2, 0, 0] T slices_S4x8192x384_S1x8192x384_2_0_0) shapeCasts_S1x8192x384_S8192x384) shapeCasts_S8192x384_S8192x3x1x2x64) slices_S8192x3x1x2x64_S8192x1x1x2x64_0_0_0_0_0) shapeCasts_S8192x1x1x2x64_S8192x1x2x64) slices_S8192x1x2x64_S8192x1x2x8_0_0_0_0))) (mulf (extractStridedSlice S8192x8x2x8 ![0, 0, 0, 8] (shapeCast _ (extractStridedSlice S8192x1024 ![0, 0] P slices_S8192x1104_S8192x1024_0_0) shapeCasts_S8192x1024_S8192x8x2x64) slices_S8192x8x2x64_S8192x8x2x8_0_0_0_8) (broadcastInDim S8192x8x2x8 ![0, 1, 2, 3] bcast_S8192x1x2x8_S8192x8x2x8_0_1_2_3 (extractStridedSlice S8192x1x2x8 ![0, 0, 0, 0] (shapeCast _ (extractStridedSlice S8192x1x1x2x64 ![0, 2, 0, 0, 0] (shapeCast _ (shapeCast _ (extractStridedSlice S1x8192x384 ![2, 0, 0] T slices_S4x8192x384_S1x8192x384_2_0_0) shapeCasts_S1x8192x384_S8192x384) shapeCasts_S8192x384_S8192x3x1x2x64) slices_S8192x3x1x2x64_S8192x1x1x2x64_0_2_0_0_0) shapeCasts_S8192x1x1x2x64_S8192x1x2x64) slices_S8192x1x2x64_S8192x1x2x8_0_0_0_0)))) : (⟨S8192x8x2x8, .f32⟩ : BufTy).Contents (Elt Ideal))⟩, ⟨S8192x8x2x8, ((addf (mulf (extractStridedSlice S8192x8x2x8 ![0, 0, 0, 8] (shapeCast _ (extractStridedSlice S8192x1024 ![0, 0] P slices_S8192x1104_S8192x1024_0_0) shapeCasts_S8192x1024_S8192x8x2x64) slices_S8192x8x2x64_S8192x8x2x8_0_0_0_8) (broadcastInDim S8192x8x2x8 ![0, 1, 2, 3] bcast_S8192x1x2x8_S8192x8x2x8_0_1_2_3 (extractStridedSlice S8192x1x2x8 ![0, 0, 0, 8] (shapeCast _ (extractStridedSlice S8192x1x1x2x64 ![0, 0, 0, 0, 0] (shapeCast _ (shapeCast _ (extractStridedSlice S1x8192x384 ![2, 0, 0] T slices_S4x8192x384_S1x8192x384_2_0_0) shapeCasts_S1x8192x384_S8192x384) shapeCasts_S8192x384_S8192x3x1x2x64) slices_S8192x3x1x2x64_S8192x1x1x2x64_0_0_0_0_0) shapeCasts_S8192x1x1x2x64_S8192x1x2x64) slices_S8192x1x2x64_S8192x1x2x8_0_0_0_8))) (mulf (extractStridedSlice S8192x8x2x8 ![0, 0, 0, 0] (shapeCast _ (extractStridedSlice S8192x1024 ![0, 0] P slices_S8192x1104_S8192x1024_0_0) shapeCasts_S8192x1024_S8192x8x2x64) slices_S8192x8x2x64_S8192x8x2x8_0_0_0_0) (broadcastInDim S8192x8x2x8 ![0, 1, 2, 3] bcast_S8192x1x2x8_S8192x8x2x8_0_1_2_3 (extractStridedSlice S8192x1x2x8 ![0, 0, 0, 8] (shapeCast _ (extractStridedSlice S8192x1x1x2x64 ![0, 1, 0, 0, 0] (shapeCast _ (shapeCast _ (extractStridedSlice S1x8192x384 ![2, 0, 0] T slices_S4x8192x384_S1x8192x384_2_0_0) shapeCasts_S1x8192x384_S8192x384) shapeCasts_S8192x384_S8192x3x1x2x64) slices_S8192x3x1x2x64_S8192x1x1x2x64_0_1_0_0_0) shapeCasts_S8192x1x1x2x64_S8192x1x2x64) slices_S8192x1x2x64_S8192x1x2x8_0_0_0_8)))) : (⟨S8192x8x2x8, .f32⟩ : BufTy).Contents (Elt Ideal))⟩, ⟨S8192x8x2x48, ((mulf (extractStridedSlice S8192x8x2x48 ![0, 0, 0, 16] (shapeCast _ (extractStridedSlice S8192x1024 ![0, 0] P slices_S8192x1104_S8192x1024_0_0) shapeCasts_S8192x1024_S8192x8x2x64) slices_S8192x8x2x64_S8192x8x2x48_0_0_0_16) (broadcastInDim S8192x8x2x48 ![0, 1, 2, 3] bcast_S8192x1x2x48_S8192x8x2x48_0_1_2_3 (extractStridedSlice S8192x1x2x48 ![0, 0, 0, 16] (shapeCast _ (extractStridedSlice S8192x1x1x2x64 ![0, 0, 0, 0, 0] (shapeCast _ (shapeCast _ (extractStridedSlice S1x8192x384 ![2, 0, 0] T slices_S4x8192x384_S1x8192x384_2_0_0) shapeCasts_S1x8192x384_S8192x384) shapeCasts_S8192x384_S8192x3x1x2x64) slices_S8192x3x1x2x64_S8192x1x1x2x64_0_0_0_0_0) shapeCasts_S8192x1x1x2x64_S8192x1x2x64) slices_S8192x1x2x64_S8192x1x2x48_0_0_0_16))) : (⟨S8192x8x2x48, .f32⟩ : BufTy).Contents (Elt Ideal))⟩] concatenates_S8192x8x2x8_S8192x8x2x8_S8192x8x2x48_S8192x8x2x64_d3 : (⟨S8192x8x2x64, .f32⟩ : BufTy).Contents (Elt Ideal))) shapeCasts_S8192x8x2x64_S8192x1024) bitsLt_bf16_f32

/-- The key's columns of the product, rotated, then the weights' columns, scaled, then zeros. -/
abbrev KOUT (P : FVec Ideal S8192x1104 .f32) (T : FVec Ideal S4x8192x384 .f32) : FVec Ideal S8192x128 .f32 :=
  (concatenate S8192x128 1 [⟨S8192x8, ((addf (mulf (extractStridedSlice S8192x8 ![0, 1024] P slices_S8192x1104_S8192x8_0_1024) (extractStridedSlice S8192x8 ![0, 0] (shapeCast _ (extractStridedSlice S1x8192x384 ![3, 0, 0] T slices_S4x8192x384_S1x8192x384_3_0_0) shapeCasts_S1x8192x384_S8192x384) slices_S8192x384_S8192x8_0_0)) (mulf (extractStridedSlice S8192x8 ![0, 1032] P slices_S8192x1104_S8192x8_0_1032) (extractStridedSlice S8192x8 ![0, 256] (shapeCast _ (extractStridedSlice S1x8192x384 ![3, 0, 0] T slices_S4x8192x384_S1x8192x384_3_0_0) shapeCasts_S1x8192x384_S8192x384) slices_S8192x384_S8192x8_0_256))) : (⟨S8192x8, .f32⟩ : BufTy).Contents (Elt Ideal))⟩, ⟨S8192x8, ((addf (mulf (extractStridedSlice S8192x8 ![0, 1032] P slices_S8192x1104_S8192x8_0_1032) (extractStridedSlice S8192x8 ![0, 8] (shapeCast _ (extractStridedSlice S1x8192x384 ![3, 0, 0] T slices_S4x8192x384_S1x8192x384_3_0_0) shapeCasts_S1x8192x384_S8192x384) slices_S8192x384_S8192x8_0_8)) (mulf (extractStridedSlice S8192x8 ![0, 1024] P slices_S8192x1104_S8192x8_0_1024) (extractStridedSlice S8192x8 ![0, 136] (shapeCast _ (extractStridedSlice S1x8192x384 ![3, 0, 0] T slices_S4x8192x384_S1x8192x384_3_0_0) shapeCasts_S1x8192x384_S8192x384) slices_S8192x384_S8192x8_0_136))) : (⟨S8192x8, .f32⟩ : BufTy).Contents (Elt Ideal))⟩, ⟨S8192x64, ((mulf (extractStridedSlice S8192x64 ![0, 1040] P slices_S8192x1104_S8192x64_0_1040) (extractStridedSlice S8192x64 ![0, 16] (shapeCast _ (extractStridedSlice S1x8192x384 ![3, 0, 0] T slices_S4x8192x384_S1x8192x384_3_0_0) shapeCasts_S1x8192x384_S8192x384) slices_S8192x384_S8192x64_0_16)) : (⟨S8192x64, .f32⟩ : BufTy).Contents (Elt Ideal))⟩, ⟨S8192x48, ((broadcastInDim S8192x48 ![] bcast_S_S8192x48 (constant (F := Ideal) S_ .f32 0x00000000#32)) : (⟨S8192x48, .f32⟩ : BufTy).Contents (Elt Ideal))⟩] concatenates_S8192x8_S8192x8_S8192x64_S8192x48_S8192x128_d1 : (⟨S8192x128, .f32⟩ : BufTy).Contents (Elt Ideal))

/-- The product of the input with the indexer's weights. -/
abbrev DOT (X : FVec Ideal S8192x2048 .bf16) (W : FVec Ideal S2048x9296 .f32) : FVec Ideal S8192x1104 .f32 :=
  Host.dotGeneral dot_S8192x2048_S2048x1104_S8192x1104_1_0_0_1_n_n none (extf .f32 X bitsLt_bf16_f32) (extractStridedSlice S2048x1104 ![0, 8192] W slices_S2048x9296_S2048x1104_0_8192)

/-- Entry n of row r of the product, zero beyond its columns. -/
def col (P : FVec Ideal S8192x1104 .f32) (r : Fin 8192) (n : ℕ) : EReal :=
  if h : n < 1104 then P (ix2 r ⟨n, h⟩) else 0

/-- Entry n of row r of table p. -/
def tab (T : FVec Ideal S4x8192x384 .f32) (p : ℕ) (r : Fin 8192) (n : ℕ) : EReal :=
  if h : p < 4 ∧ n < 384 then T (ix3 ⟨p, h.1⟩ r ⟨n, h.2⟩) else 0

/-- Column n, at lane b of its head and lane l of the table: the first eight lanes of a head rotate with the next eight, the rest are
scaled. -/
def turned (A t : ℕ → EReal) (n l b : ℕ) : EReal :=
  if b < 8 then A n * t l + A (n + 8) * t (256 + l)
  else if b < 16 then A n * t l + A (n - 8) * t (128 + l) else A n * t l

theorem col_eq (P) (r : Fin 8192) {e : ℕ} (he : e < 1104) : P (ix2 r ⟨e, he⟩) = col P r e := by
  unfold col; rw [dif_pos he]

theorem tab_eq (T) (r : Fin 8192) {q e : ℕ} (hq : q < 4) (he : e < 384) :
    T (ix3 ⟨q, hq⟩ r ⟨e, he⟩) = tab T q r e := by
  unfold tab; rw [dif_pos ⟨hq, he⟩]

theorem dot_at (X W) (r : Fin 8192) (n : Fin 1104) :
    DOT X W (ix2 r n) = ∑ k : Fin 2048, (X (ix2 r k) : EReal) * W (ix2 k ⟨8192 + n.val, by omega⟩) := by
  pointwise [DOT]

set_option maxHeartbeats 4000000 in
theorem key_at (P T) (r : Fin 8192) (l : Fin 128) :
    KOUT P T (ix2 r l) = if l.val < 80 then turned (col P r) (tab T 3 r) (1024 + l.val) l.val l.val else 0 := by
  pointwise [KOUT]
  simp only [col_eq P, tab_eq T]
  obtain ⟨l, hl⟩ := l
  dsimp only
  unfold turned
  by_cases h : l < 8
  · rw [dif_pos h, if_pos (show l < 80 by omega), if_pos h, show 1024 + l + 8 = 1032 + l by omega]
    rfl
  · rw [dif_neg h]
    by_cases h' : l < 16
    · rw [dif_pos (show l - 8 < 8 by omega), if_pos (show l < 80 by omega), if_neg h, if_pos h',
        show 1032 + (l - 8) = 1024 + l by omega, show 8 + (l - 8) = l by omega,
        show 1024 + (l - 8) = 1024 + l - 8 by omega, show 136 + (l - 8) = 128 + l by omega]
      rfl
    · rw [dif_neg (show ¬ l - 8 < 8 by omega)]
      by_cases h'' : l < 80
      · rw [dif_pos (show l - 8 - 8 < 64 by omega), if_pos h'', if_neg h, if_neg h',
          show 1040 + (l - 8 - 8) = 1024 + l by omega, show 16 + (l - 8 - 8) = l by omega]
        rfl
      · rw [dif_neg (show ¬ l - 8 - 8 < 64 by omega), if_neg h'']

set_option maxHeartbeats 8000000 in
theorem query_at (P T) (r : Fin 8192) (n : Fin 1024) :
    QOUT P T (ix2 r n) = turned (col P r) (tab T 2 r) n.val (n.val % 128) (n.val % 64) := by
  pointwise [QOUT]
  simp only [col_eq P, tab_eq T]
  obtain ⟨n, hn⟩ := n
  dsimp only
  unfold turned
  by_cases h : n % 64 < 8
  · rw [dif_pos h, if_pos h, show n / 64 % 2 * 64 + n % 64 = n % 128 by omega,
      show n / 128 * 128 + n / 64 % 2 * 64 + (8 + n % 64) = n + 8 by omega,
      show 256 + n / 64 % 2 * 64 + n % 64 = 256 + n % 128 by omega]
    rfl
  · rw [dif_neg h, if_neg h]
    by_cases h' : n % 64 < 16
    · rw [dif_pos (show n % 64 - 8 < 8 by omega), if_pos h',
        show n / 64 % 2 * 64 + (8 + (n % 64 - 8)) = n % 128 by omega,
        show n / 128 * 128 + n / 64 % 2 * 64 + (8 + (n % 64 - 8)) = n by omega,
        show n / 128 * 128 + n / 64 % 2 * 64 + (n % 64 - 8) = n - 8 by omega,
        show 128 + n / 64 % 2 * 64 + (8 + (n % 64 - 8)) = 128 + n % 128 by omega]
      rfl
    · rw [dif_neg (show ¬ n % 64 - 8 < 8 by omega), if_neg h',
        show n / 64 % 2 * 64 + (16 + (n % 64 - 8 - 8)) = n % 128 by omega,
        show n / 128 * 128 + n / 64 % 2 * 64 + (16 + (n % 64 - 8 - 8)) = n by omega]
      rfl

/-- The first result over the launch's arguments. -/
def queryOut (m : (ℓ : Loc nD τ sig) → Buf (Elt Ideal) ℓ) (c : Dev nD) : Buf (Elt Ideal) ((c.tc : Thread nD τ).loc main_v55) :=
  QOUT (DOT (m ((c.tc : Thread nD τ).loc main_arg0)) (m ((c.tc : Thread nD τ).loc main_arg1))) (m ((c.tc : Thread nD τ).loc main_arg2))

/-- The second result over the launch's arguments. -/
def keyOut (m : (ℓ : Loc nD τ sig) → Buf (Elt Ideal) ℓ) (c : Dev nD) : Buf (Elt Ideal) ((c.tc : Thread nD τ).loc main_v53) :=
  KOUT (DOT (m ((c.tc : Thread nD τ).loc main_arg0)) (m ((c.tc : Thread nD τ).loc main_arg1))) (m ((c.tc : Thread nD τ).loc main_arg2))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = queryOut m c
      ∧ r.2.mem ((c.tc : Thread nD τ).loc main_v53) = keyOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.IndexerReferenceIdeal.Hand
-- ==== Proof.IndexerPay.lean ====
/- The kernel's rolls of the indexer's product, entry by entry. -/
module

public import proofs.«01_k».proof.Defs
public import proofs.«01_k».proof.Proof.Gen.IndexerIdeal.Frame
public import proofs.«01_k».proof.Proof.Gen.IndexerIdeal.Value
public import Idealize.ShloMosaic.Lib.Pipeline.ValueKit
public import Idealize.ShloMosaic.Lib.Claim

@[expose] public section

set_option maxRecDepth 16384

noncomputable section

namespace Cert.IndexerIdeal.Hand

open Idealize.ShloMosaic Idealize.ShloMosaic.TcCoe Idealize.SL.Sem
open Idealize.ShloMosaic.Pipeline (Dat)
open Cert.IndexerIdeal Cert.IndexerIdeal.Gen

/-- The product of one block of rows with the weights. -/
abbrev MM (a : FVec Ideal S512x2048 .bf16) (w : FVec Ideal S2048x1152 .bf16) : FVec Ideal S512x1152 .f32 :=
  matmul dot_S512x2048_S2048x1152_S512x1152_1_0_0_1_n_n none a (shapeCast S2048x1152 w shapeCasts_S2048x1152_S2048x1152) (constant S512x1152 .f32 0x00000000#32)

/-- A table's 128 lanes repeated for the queries, then the other table's. -/
abbrev TILE (p q : FVec Ideal S512x128 .f32) : FVec Ideal S512x1152 .f32 :=
  concatenate S512x1152 1 [⟨S512x128, p⟩, ⟨S512x128, p⟩, ⟨S512x128, p⟩, ⟨S512x128, p⟩, ⟨S512x128, p⟩, ⟨S512x128, p⟩, ⟨S512x128, p⟩, ⟨S512x128, p⟩, ⟨S512x128, q⟩] concatenates_S512x128_S512x128_S512x128_S512x128_S512x128_S512x128_S512x128_S512x128_S512x128_S512x1152_d1

/-- The product with its two rolls, each times its table. -/
abbrev ROLL (M c s1 s2 : FVec Ideal S512x1152 .f32) : FVec Ideal S512x1152 .f32 :=
  addf (addf (mulf M c) (mulf (dynamicRotate 1 8#32 none M rotates_S512x1152_d1) s1)) (mulf (dynamicRotate 1 1144#32 none M rotates_S512x1152_d1) s2)

/-- Entry n of row r of the product of one block of rows. -/
def kcol (A : FVec Ideal S512x1152 .f32) (r : Fin 512) (n : ℕ) : EReal :=
  if h : n < 1152 then A (ix2 r ⟨n, h⟩) else 0

/-- Entry n of row r of one block of a table. -/
def ktab (t : Vec Ideal S1x512x384 .f32) (r : Fin 512) (n : ℕ) : EReal :=
  if h : n < 384 then t (ix3 0 r ⟨n, h⟩) else 0

theorem kcol_eq (A) (r : Fin 512) {e : ℕ} (he : e < 1152) : A (ix2 r ⟨e, he⟩) = kcol A r e := by
  unfold kcol; rw [dif_pos he]

theorem ktab_eq (t) (r : Fin 512) {e : ℕ} (he : e < 384) : t (ix3 0 r ⟨e, he⟩) = ktab t r e := by
  unfold ktab; rw [dif_pos he]

abbrev P0 (t : Vec Ideal S1x512x384 .f32) : FVec Ideal S512x128 .f32 := extractStridedSlice S512x128 ![0, 0] (shapeCast S512x384 t shapeCasts_S1x512x384_S512x384) slices_S512x384_o0_0_S512x128
abbrev P1 (t : Vec Ideal S1x512x384 .f32) : FVec Ideal S512x128 .f32 := extractStridedSlice S512x128 ![0, 128] (shapeCast S512x384 t shapeCasts_S1x512x384_S512x384) slices_S512x384_o0_128_S512x128
abbrev P2 (t : Vec Ideal S1x512x384 .f32) : FVec Ideal S512x128 .f32 := extractStridedSlice S512x128 ![0, 256] (shapeCast S512x384 t shapeCasts_S1x512x384_S512x384) slices_S512x384_o0_256_S512x128

theorem pay1_eq (a w t u) : k0_pay1 (F := Ideal) a w t u = ROLL (MM a w) (TILE (P0 t) (P0 u)) (TILE (P1 t) (P1 u)) (TILE (P2 t) (P2 u)) := rfl

theorem mm_at (a w) (r : Fin 512) (n : Fin 1152) :
    MM a w (ix2 r n) = ∑ k : Fin 2048, (a (ix2 r k) : EReal) * w (ix2 k n) := by
  pointwise [MM]

theorem P0_at (t) (r : Fin 512) (l : Fin 128) : (P0 t (ix2 r l) : EReal) = ktab t r l.val := by
  pointwise [P0]
  simp only [ktab_eq t]
  try simp only [Nat.zero_add]

theorem P1_at (t) (r : Fin 512) (l : Fin 128) : (P1 t (ix2 r l) : EReal) = ktab t r (128 + l.val) := by
  pointwise [P1]
  simp only [ktab_eq t]

theorem P2_at (t) (r : Fin 512) (l : Fin 128) : (P2 t (ix2 r l) : EReal) = ktab t r (256 + l.val) := by
  pointwise [P2]
  simp only [ktab_eq t]

set_option maxHeartbeats 4000000 in
theorem tile_at (p q) (r : Fin 512) (n : Fin 1152) :
    (TILE p q (ix2 r n) : EReal) = if h : n.val < 1024 then p (ix2 r ⟨n.val % 128, by omega⟩) else q (ix2 r ⟨n.val - 1024, by omega⟩) := by
  pointwise [TILE]
  have e : ∀ (f : FVec Ideal S512x128 .f32) (x y : ℕ) (hx : x < 128) (hy : y < 128), x = y → f (ix2 r ⟨x, hx⟩) = f (ix2 r ⟨y, hy⟩) := by
    intro f x y hx hy h; subst h; rfl
  have hn := n.isLt
  by_cases H : n.val < 1024
  · rw [dif_pos H]
    split_ifs <;> first
      | (refine e p _ _ _ _ ?_; omega)
      | omega
  · rw [dif_neg H]
    split_ifs <;> first
      | omega
      | (refine e q _ _ _ _ ?_; omega)

theorem roll_at (M c s1 s2) (r : Fin 512) (n : Fin 1152) :
    (ROLL M c s1 s2 (ix2 r n) : EReal) = kcol M r n.val * c (ix2 r n) + kcol M r ((n.val + 1152 - 8) % 1152) * s1 (ix2 r n) + kcol M r ((n.val + 1152 - 1144) % 1152) * s2 (ix2 r n) := by
  pointwise [ROLL]
  simp only [kcol_eq M]

theorem pay2_at (a w t u) (r : Fin 512) (n : Fin 1024) :
    (k0_pay2 (F := Ideal) a w t u (ix2 r n) : EReal) = k0_pay1 (F := Ideal) a w t u (ix2 r ⟨n.val, by omega⟩) := by
  pointwise [k0_pay2]

theorem pay3_at (a w t u) (r : Fin 512) (l : Fin 128) :
    (k0_pay3 (F := Ideal) a w t u (ix2 r l) : EReal) = k0_pay1 (F := Ideal) a w t u (ix2 r ⟨1024 + l.val, by omega⟩) := by
  pointwise [k0_pay3]

end Cert.IndexerIdeal.Hand
-- ==== Proof.IndexerValue.lean ====
/- The indexer's projection, rotated: every block of the grid is the block of the whole rotated product. -/
module

public import proofs.«01_k».proof.Defs
public import proofs.«01_k».proof.Proof.IndexerRef
public import proofs.«01_k».proof.Proof.IndexerPay
public import proofs.«01_k».proof.Proof.Gen.Indexer.Frame
public import proofs.«01_k».proof.Proof.Gen.IndexerIdeal.Frame
public import proofs.«01_k».proof.Proof.Gen.IndexerIdeal.Value
public import proofs.«01_k».proof.Proof.Gen.IndexerReferenceIdeal.Run
public import Idealize.ShloMosaic.Lib.Pipeline.ValueKit
public import Idealize.ShloMosaic.Lib.Claim

@[expose] public section

set_option maxRecDepth 16384

noncomputable section

namespace Cert.IndexerIdeal.Hand

open Idealize.ShloMosaic Idealize.ShloMosaic.TcCoe Idealize.SL.Sem
open Idealize.ShloMosaic.Pipeline (Dat)
open Cert.IndexerIdeal Cert.IndexerIdeal.Gen Idealize.ShloMosaic.StableHlo
open Cert.IndexerReferenceIdeal.Hand (QOUT KOUT col tab DOT turned dot_at key_at query_at)

/-- Column n as the two rolls make it, at lane l of the table. -/
def rolled (A t : ℕ → EReal) (n l : ℕ) : EReal :=
  A n * t l + A ((n + 1152 - 8) % 1152) * t (128 + l) + A ((n + 1152 - 1144) % 1152) * t (256 + l)

theorem rolled_query (A t : ℕ → EReal) (n : ℕ) (hn : n < 1024)
    (h1 : ∀ l, l < 128 → ¬ (8 ≤ l % 64 ∧ l % 64 < 16) → t (128 + l) = 0) (h2 : ∀ l, l < 128 → ¬ l % 64 < 8 → t (256 + l) = 0) :
    rolled A t n (n % 128) = turned A t n (n % 128) (n % 64) := by
  unfold rolled turned
  by_cases a : n % 64 < 8
  · rw [if_pos a, h1 (n % 128) (by omega) (by omega), mul_zero, add_zero, show (n + 1152 - 1144) % 1152 = n + 8 by omega]
  · rw [if_neg a, h2 (n % 128) (by omega) (by omega), mul_zero, add_zero]
    by_cases b : n % 64 < 16
    · rw [if_pos b, show (n + 1152 - 8) % 1152 = n - 8 by omega]
    · rw [if_neg b, h1 (n % 128) (by omega) (by omega), mul_zero, add_zero]

theorem rolled_key (A t : ℕ → EReal) (l : ℕ) (hl : l < 128) (hA : ∀ n, 1104 ≤ n → A n = 0)
    (h1 : ∀ l, l < 128 → ¬ (8 ≤ l ∧ l < 16) → t (128 + l) = 0) (h2 : ∀ l, l < 128 → ¬ l < 8 → t (256 + l) = 0) :
    rolled A t (1024 + l) l = if l < 80 then turned A t (1024 + l) l l else 0 := by
  unfold rolled turned
  by_cases a : l < 8
  · rw [if_pos (show l < 80 by omega), if_pos a, h1 l hl (by omega), mul_zero, add_zero,
      show (1024 + l + 1152 - 1144) % 1152 = 1024 + l + 8 by omega]
  · rw [if_neg a, h2 l hl a, mul_zero, add_zero]
    by_cases b : l < 16
    · rw [if_pos (show l < 80 by omega), if_pos b, show (1024 + l + 1152 - 8) % 1152 = 1024 + l - 8 by omega]
    · rw [if_neg b, h1 l hl (by omega), mul_zero, add_zero]
      by_cases d : l < 80
      · rw [if_pos d]
      · rw [if_neg d, hA _ (by omega), zero_mul]

/-- One lane of the rolled product of a block. -/
theorem pay1_at (a w t u) (r : Fin 512) (n : Fin 1152) :
    (k0_pay1 (F := Ideal) a w t u (ix2 r n) : EReal)
      = if n.val < 1024 then rolled (kcol (MM a w) r) (ktab t r) n.val (n.val % 128) else rolled (kcol (MM a w) r) (ktab u r) n.val (n.val - 1024) := by
  rw [pay1_eq, roll_at, tile_at, tile_at, tile_at]
  unfold rolled
  by_cases h : n.val < 1024
  · rw [dif_pos h, dif_pos h, dif_pos h, if_pos h, P0_at, P1_at, P2_at]
  · rw [dif_neg h, dif_neg h, dif_neg h, if_neg h, P0_at, P1_at, P2_at]

variable (m : (ℓ : Loc nD τ sig) → Buf (Elt Ideal) ℓ)

/-- Where each window's block sits at a point. -/
theorem idx : ∀ t : Fin cfg0.N, win0_0.index t = ![t.val, 0] ∧ win0_1.index t = ![0, 0] ∧ win0_2.index t = ![1, t.val, 0] ∧ win0_3.index t = ![t.val, 0] ∧ win0_4.index t = ![t.val, 0] ∧ t.val < 16 :=
  (by decide +kernel : ∀ t : Fin grid0.N, _)

theorem blkX (c : Dev nD) (t : Fin cfg0.N) (r : Fin 512) (k : Fin 2048) (R : Fin 8192) (hR : R.val = 512 * t.val + r.val) :
    (iblk m c 0 t (ix2 r k) : EReal) = m ((c : Thread nD τ).loc main_arg0) (ix2 R k) := by
  obtain ⟨R, hR'⟩ := R; subst hR
  blk_point [iblk, V, idx t]

/-- The weights as the host code leaves them. -/
abbrev WPAD (W : FVec Ideal S2048x9296 .f32) : FVec Ideal S2048x1152 .bf16 :=
  truncf .bf16 (pad S2048x1152 ![0, 0] ![0, 48] ![0, 0] (extractStridedSlice S2048x1104 ![0, 8192] W slices_S2048x9296_S2048x1104_0_8192)
    (sitofp (F := Ideal) .f32 (constantI S_ 32 0#32)) pads_S2048x1104_S2048x1152_000_0480 h_S_) bitsLt_bf16_f32

theorem weights (c : Dev nD) : V m c main_v2 = WPAD (m ((c : Thread nD τ).loc main_arg1)) := by
  unfold V
  simp only [hostOps0, hostOps0_1, hostOps0_2, List.flatten_cons, List.flatten_nil, List.append_nil, List.cons_append, List.nil_append]
  after_results
  rfl

theorem wpad_at (W : FVec Ideal S2048x9296 .f32) (k : Fin 2048) (n : Fin 1152) :
    (WPAD W (ix2 k n) : EReal) = if h : n.val < 1104 then W (ix2 k ⟨8192 + n.val, by omega⟩) else (0 : EReal) := by
  pointwise [WPAD]
  have e : (FloatOps.sitofp (F := Ideal) FTy.f32 0#32 : EReal) = 0 := by
    show (((0#32 : BitVec 32).toInt : ℝ) : EReal) = 0
    simp
  rw [e]

theorem blkW (c : Dev nD) (t : Fin cfg0.N) (k : Fin 2048) (n : Fin 1152) :
    (iblk m c 1 t (ix2 k n) : EReal) = if h : n.val < 1104 then m ((c : Thread nD τ).loc main_arg1) (ix2 k ⟨8192 + n.val, by omega⟩) else (0 : EReal) := by
  rw [← wpad_at]
  blk_point [iblk, weights m c, idx t]

theorem blkT (c : Dev nD) (t : Fin cfg0.N) (p : Fin 2) (r : Fin 512) (n : Fin 384) (P : Fin 4) (R : Fin 8192)
    (hP : P.val = 2 + p.val) (hR : R.val = 512 * t.val + r.val) :
    (iblk m c 2 t (ix3 p r n) : EReal) = m ((c : Thread nD τ).loc main_arg2) (ix3 P R n) := by
  obtain ⟨R, hR'⟩ := R; obtain ⟨P, hP'⟩ := P; subst hR hP
  blk_point [iblk, V, idx t]

theorem ld0 (x : Vec Ideal S512x2048 .bf16) : View.ld x r0_0 = x := funext fun y => by
  refine View.ld_unit_apply_of _ _ _ _ y y fun a => ?_
  fin_cases a <;> exact (Nat.zero_add _).symm

theorem ld1 (x : Vec Ideal S2048x1152 .bf16) : View.ld x r0_1 = x := funext fun y => by
  refine View.ld_unit_apply_of _ _ _ _ y y fun a => ?_
  fin_cases a <;> exact (Nat.zero_add _).symm

/-- The rows of the product of a block are the rows of the whole product. -/
theorem prod_at (c : Dev nD) (t : Fin cfg0.N) (r : Fin 512) (R : Fin 8192) (hR : R.val = 512 * t.val + r.val) (n : ℕ) :
    kcol (MM (iblk m c 0 t) (iblk m c 1 t)) r n = col (DOT (m ((c : Thread nD τ).loc main_arg0)) (m ((c : Thread nD τ).loc main_arg1))) R n := by
  unfold kcol col
  by_cases h : n < 1104
  · rw [dif_pos (show n < 1152 by omega), dif_pos h, mm_at, dot_at]
    refine Finset.sum_congr rfl fun k _ => congrArg₂ (fun a b : EReal => a * b) (blkX m c t r k R hR) ?_
    rw [blkW, dif_pos (show (⟨n, by omega⟩ : Fin 1152).val < 1104 from h)]
  · rw [dif_neg h]
    split
    · rename_i h'
      rw [mm_at]
      refine Finset.sum_eq_zero fun k _ => ?_
      rw [blkW, dif_neg (show ¬ (⟨n, by omega⟩ : Fin 1152).val < 1104 from h), mul_zero]
    · rfl

theorem tab_first (c : Dev nD) (t : Fin cfg0.N) (r : Fin 512) (R : Fin 8192) (hR : R.val = 512 * t.val + r.val) :
    ktab (View.ld (iblk m c 2 t) r0_2) r = tab (m ((c : Thread nD τ).loc main_arg2)) 2 R := funext fun n => by
  unfold ktab tab
  by_cases h : n < 384
  · rw [dif_pos h, dif_pos ⟨by omega, h⟩]
    refine (View.ld_unit_apply_of _ _ _ _ _ (ix3 0 r ⟨n, h⟩) fun a => ?_).trans (blkT m c t 0 r ⟨n, h⟩ _ R rfl hR)
    fin_cases a <;> first | rfl | exact (Nat.zero_add _).symm
  · rw [dif_neg h, dif_neg fun x => h x.2]

theorem tab_second (c : Dev nD) (t : Fin cfg0.N) (r : Fin 512) (R : Fin 8192) (hR : R.val = 512 * t.val + r.val) :
    ktab (View.ld (iblk m c 2 t) r0_3) r = tab (m ((c : Thread nD τ).loc main_arg2)) 3 R := funext fun n => by
  unfold ktab tab
  by_cases h : n < 384
  · rw [dif_pos h, dif_pos ⟨by omega, h⟩]
    refine (View.ld_unit_apply_of _ _ _ _ _ (ix3 1 r ⟨n, h⟩) fun a => ?_).trans (blkT m c t 1 r ⟨n, h⟩ _ R rfl hR)
    fin_cases a <;> first | rfl | exact (Nat.zero_add _).symm
  · rw [dif_neg h, dif_neg fun x => h x.2]

/-- A query lane of a block. -/
theorem query_lane (c : Dev nD) (t : Fin cfg0.N)
    (h1 : ∀ R l, l < 128 → ¬ (8 ≤ l % 64 ∧ l % 64 < 16) → tab (m ((c : Thread nD τ).loc main_arg2)) 2 R (128 + l) = 0)
    (h2 : ∀ R l, l < 128 → ¬ l % 64 < 8 → tab (m ((c : Thread nD τ).loc main_arg2)) 2 R (256 + l) = 0)
    (r : Fin 512) (R : Fin 8192) (hR : R.val = 512 * t.val + r.val) (l : Fin 1024) :
    (k0_pay2 (F := Ideal) (iblk m c 0 t) (iblk m c 1 t) (View.ld (iblk m c 2 t) r0_2) (View.ld (iblk m c 2 t) r0_3) (ix2 r l) : EReal) = QOUT (DOT (m ((c : Thread nD τ).loc main_arg0)) (m ((c : Thread nD τ).loc main_arg1))) (m ((c : Thread nD τ).loc main_arg2)) (ix2 R l) := by
  have hl := l.isLt
  rw [pay2_at, pay1_at, if_pos hl, tab_first m c t r R hR, funext (prod_at m c t r R hR)]
  refine (rolled_query _ _ _ hl (h1 _) (h2 _)).trans ?_
  exact (query_at _ _ R l).symm

theorem query_point (c : Dev nD) (t : Fin cfg0.N)
    (h1 : ∀ R l, l < 128 → ¬ (8 ≤ l % 64 ∧ l % 64 < 16) → tab (m ((c : Thread nD τ).loc main_arg2)) 2 R (128 + l) = 0)
    (h2 : ∀ R l, l < 128 → ¬ l % 64 < 8 → tab (m ((c : Thread nD τ).loc main_arg2)) 2 R (256 + l) = 0)
    (y : S512x1024.Idx) (J : S8192x1024.Idx) (hJ0 : (J 0).val = 512 * t.val + (y 0).val) (hJ1 : (J 1).val = (y 1).val) :
    out0_3 (iblk m c 0 t) (iblk m c 1 t) (iblk m c 2 t) y = QOUT (DOT (m ((c : Thread nD τ).loc main_arg0)) (m ((c : Thread nD τ).loc main_arg1))) (m ((c : Thread nD τ).loc main_arg2)) J := by
  unfold out0_3
  canon_tiles x e using cover0_3 ..
  rw [ld0, ld1, eq_ix2 x, eq_ix2 J]
  have e0 : (J 0).val = 512 * t.val + (x 0).val := by omega
  have e1 : (J 1 : Fin 1024) = (x 1 : Fin 1024) := Fin.ext (by omega)
  refine (query_lane m c t h1 h2 (x 0) (J 0) e0 (x 1)).trans ?_
  exact congrArg (fun l : Fin 1024 => QOUT (DOT (m ((c : Thread nD τ).loc main_arg0)) (m ((c : Thread nD τ).loc main_arg1))) (m ((c : Thread nD τ).loc main_arg2)) (ix2 (J 0) l)) e1.symm

/-- A lane of a block that holds the key and the weights. -/
theorem key_lane (c : Dev nD) (t : Fin cfg0.N)
    (h1 : ∀ R l, l < 128 → ¬ (8 ≤ l ∧ l < 16) → tab (m ((c : Thread nD τ).loc main_arg2)) 3 R (128 + l) = 0)
    (h2 : ∀ R l, l < 128 → ¬ l < 8 → tab (m ((c : Thread nD τ).loc main_arg2)) 3 R (256 + l) = 0)
    (r : Fin 512) (R : Fin 8192) (hR : R.val = 512 * t.val + r.val) (l : Fin 128) :
    (k0_pay3 (F := Ideal) (iblk m c 0 t) (iblk m c 1 t) (View.ld (iblk m c 2 t) r0_2) (View.ld (iblk m c 2 t) r0_3) (ix2 r l) : EReal) = KOUT (DOT (m ((c : Thread nD τ).loc main_arg0)) (m ((c : Thread nD τ).loc main_arg1))) (m ((c : Thread nD τ).loc main_arg2)) (ix2 R l) := by
  have hl := l.isLt
  rw [pay3_at, pay1_at, if_neg (by show ¬ 1024 + l.val < 1024; omega), tab_second m c t r R hR, funext (prod_at m c t r R hR)]
  dsimp only
  rw [show 1024 + l.val - 1024 = l.val from Nat.add_sub_cancel_left ..]
  refine (rolled_key _ _ _ hl (fun n hn => ?_) (h1 _) (h2 _)).trans (key_at _ _ R l).symm
  unfold col; rw [dif_neg (by omega)]

theorem key_point (c : Dev nD) (t : Fin cfg0.N)
    (h1 : ∀ R l, l < 128 → ¬ (8 ≤ l ∧ l < 16) → tab (m ((c : Thread nD τ).loc main_arg2)) 3 R (128 + l) = 0)
    (h2 : ∀ R l, l < 128 → ¬ l < 8 → tab (m ((c : Thread nD τ).loc main_arg2)) 3 R (256 + l) = 0)
    (y : S512x128.Idx) (J : S8192x128.Idx) (hJ0 : (J 0).val = 512 * t.val + (y 0).val) (hJ1 : (J 1).val = (y 1).val) :
    out0_4 (iblk m c 0 t) (iblk m c 1 t) (iblk m c 2 t) y = KOUT (DOT (m ((c : Thread nD τ).loc main_arg0)) (m ((c : Thread nD τ).loc main_arg1))) (m ((c : Thread nD τ).loc main_arg2)) J := by
  unfold out0_4
  canon_tiles x e using cover0_4 ..
  rw [ld0, ld1, eq_ix2 x, eq_ix2 J]
  have e0 : (J 0).val = 512 * t.val + (x 0).val := by omega
  have e1 : (J 1 : Fin 128) = (x 1 : Fin 128) := Fin.ext (by omega)
  refine (key_lane m c t h1 h2 (x 0) (J 0) e0 (x 1)).trans ?_
  exact congrArg (fun l : Fin 128 => KOUT (DOT (m ((c : Thread nD τ).loc main_arg0)) (m ((c : Thread nD τ).loc main_arg1))) (m ((c : Thread nD τ).loc main_arg2)) (ix2 (J 0) l)) e1.symm

theorem final_query (c : Dev nD)
    (h1 : ∀ R l, l < 128 → ¬ (8 ≤ l % 64 ∧ l % 64 < 16) → tab (m ((c : Thread nD τ).loc main_arg2)) 2 R (128 + l) = 0)
    (h2 : ∀ R l, l < 128 → ¬ l % 64 < 8 → tab (m ((c : Thread nD τ).loc main_arg2)) 2 R (256 + l) = 0) :
    (dats m 0 c).arrAt 3 (cfgs 0).N
      = QOUT (DOT (m ((c : Thread nD τ).loc main_arg0)) (m ((c : Thread nD τ).loc main_arg1))) (m ((c : Thread nD τ).loc main_arg2)) := by
  refine (dats m 0 c).arrAt_eq_of_covers 3 _ (by decide +kernel) fun t _ y => ?_
  blk_simp
  rw [after0_3]
  refine query_point m c t h1 h2 y _ ?_ ?_ <;> blk_simp [idx t] <;> omega

theorem final_key (c : Dev nD)
    (h1 : ∀ R l, l < 128 → ¬ (8 ≤ l ∧ l < 16) → tab (m ((c : Thread nD τ).loc main_arg2)) 3 R (128 + l) = 0)
    (h2 : ∀ R l, l < 128 → ¬ l < 8 → tab (m ((c : Thread nD τ).loc main_arg2)) 3 R (256 + l) = 0) :
    (dats m 0 c).arrAt 4 (cfgs 0).N
      = KOUT (DOT (m ((c : Thread nD τ).loc main_arg0)) (m ((c : Thread nD τ).loc main_arg1))) (m ((c : Thread nD τ).loc main_arg2)) := by
  refine (dats m 0 c).arrAt_eq_of_covers 4 _ (by decide +kernel) fun t _ y => ?_
  blk_simp
  rw [after0_4]
  refine key_point m c t h1 h2 y _ ?_ ?_ <;> blk_simp [idx t] <;> omega

end Cert.IndexerIdeal.Hand

namespace Cert.Proof

open Idealize.ShloMosaic
open Cert.IndexerReferenceIdeal.Hand (tab)

instance indexer_rotate_facts : Cert.Pre_indexer_tables_rotate.Facts := ⟨by decide, by decide⟩

/-- Outside the rotating lanes the precondition's mask of lanes is zero. -/
theorem indexer_lane : ∀ (p : Fin 2) (n : Fin 384), ¬ (n.val < 128 ∨ (136 ≤ n.val ∧ n.val < 144) ∨ (256 ≤ n.val ∧ n.val < 264) ∨ (p.val = 0 ∧ (200 ≤ n.val ∧ n.val < 208 ∨ 320 ≤ n.val ∧ n.val < 328))) →
    IntOp.ori
      (IntOp.ori (IntOp.cmpi CmpIPredicate.slt (BitVec.ofNat 32 n.val) 128#32)
        (IntOp.ori
          (IntOp.andi (IntOp.cmpi CmpIPredicate.sge (BitVec.ofNat 32 n.val) 136#32)
            (IntOp.cmpi CmpIPredicate.slt (BitVec.ofNat 32 n.val) 144#32))
          (IntOp.andi
            (IntOp.andi (IntOp.cmpi CmpIPredicate.eq (BitVec.ofNat 32 p.val) 0#32)
              (IntOp.cmpi CmpIPredicate.sge (BitVec.ofNat 32 n.val) 200#32))
            (IntOp.cmpi CmpIPredicate.slt (BitVec.ofNat 32 n.val) 208#32))))
      (IntOp.ori
        (IntOp.andi (IntOp.cmpi CmpIPredicate.sge (BitVec.ofNat 32 n.val) 256#32)
          (IntOp.cmpi CmpIPredicate.slt (BitVec.ofNat 32 n.val) 264#32))
        (IntOp.andi
          (IntOp.andi (IntOp.cmpi CmpIPredicate.eq (BitVec.ofNat 32 p.val) 0#32)
            (IntOp.cmpi CmpIPredicate.sge (BitVec.ofNat 32 n.val) 320#32))
          (IntOp.cmpi CmpIPredicate.slt (BitVec.ofNat 32 n.val) 328#32))) = 0#1 := by
  decide +kernel

/-- What the precondition says of one entry of the tables. -/
theorem indexer_zero (X W T) (h : Cert.Pre_indexer_tables_rotate.fn (F := Ideal) X W T = fun _ => 1#1) (p : Fin 2) (r : Fin 8192) (n : Fin 384)
    (hn : ¬ (n.val < 128 ∨ (136 ≤ n.val ∧ n.val < 144) ∨ (256 ≤ n.val ∧ n.val < 264) ∨ (p.val = 0 ∧ (200 ≤ n.val ∧ n.val < 208 ∨ 320 ≤ n.val ∧ n.val < 328)))) :
    (T (ix3 ⟨2 + p.val, by omega⟩ r n) : EReal) = 0 := by
  have e := congrFun h (ix3 p r n)
  pointwise [Cert.Pre_indexer_tables_rotate.fn, Cert.Pre_indexer_tables_rotate.fn_part1] at e
  rw [indexer_lane p n hn] at e
  by_contra hc
  rw [decide_eq_false hc] at e
  exact absurd e (by decide)

theorem indexer_tab (X W T) (h : Cert.Pre_indexer_tables_rotate.fn (F := Ideal) X W T = fun _ => 1#1) (q : ℕ) (p : Fin 2) (hp : q = 2 + p.val)
    (r : Fin 8192) (n : ℕ)
    (hn : ¬ (n < 128 ∨ (136 ≤ n ∧ n < 144) ∨ (256 ≤ n ∧ n < 264) ∨ (p.val = 0 ∧ (200 ≤ n ∧ n < 208 ∨ 320 ≤ n ∧ n < 328)))) :
    tab T q r n = 0 := by
  subst hp
  unfold tab
  split
  · exact indexer_zero X W T h p r _ hn
  · rfl

theorem algebraic_indexer : Cert.algebraic_IndexerIdeal_IndexerReferenceIdeal_pre_indexer_tables_rotate := by
  pair_intro
  · run_from Cert.IndexerIdeal.Gen.run_main m g
    exact Cert.IndexerIdeal.Gen.V_main_arg1 m c
  · run_from Cert.IndexerReferenceIdeal.Hand.run m' g'
    · obtain ⟨e0, e1, e2⟩ := hagree c
      refine Eq.trans ?_ (Cert.IndexerIdeal.Hand.final_query m c
        (fun r l hl hn => indexer_tab _ _ _ (hpre c) 2 0 rfl r _ (by simp only [Fin.val_zero]; omega))
        (fun r l hl hn => indexer_tab _ _ _ (hpre c) 2 0 rfl r _ (by simp only [Fin.val_zero]; omega))).symm
      unfold Cert.IndexerReferenceIdeal.Hand.queryOut
      rw [e0, e1, e2]
    · obtain ⟨e0, e1, e2⟩ := hagree c
      refine Eq.trans ?_ (Cert.IndexerIdeal.Hand.final_key m c
        (fun r l hl hn => indexer_tab _ _ _ (hpre c) 3 1 rfl r _ (by simp only [Fin.val_one]; omega))
        (fun r l hl hn => indexer_tab _ _ _ (hpre c) 3 1 rfl r _ (by simp only [Fin.val_one]; omega))).symm
      unfold Cert.IndexerReferenceIdeal.Hand.keyOut
      rw [e0, e1, e2]

end Cert.Proof

end
-- ==== Proof.Bank.lean ====
/- A Hoare logic over pure states, for a kernel body that only loads from, stores into, checks and loops over a fixed family of
   buffers (a BANK). The state gives what each buffer reads; `W p Q σ` says that the program `p`, started with every buffer of the
   bank owned at `σ`, ends with a value `a` and the bank owned at some `σ'` with `Q a σ'`. The rules below are the logic's own
   rules for one load, one store, one check, one loop and one sequence, each restated over the state. -/
module

public import Idealize.ShloMosaic.Lib.Tactic
public import Idealize.ShloMosaic.Lib.Pipeline.Kit
public import Idealize.ShloMosaic.Lib.Pipeline.FrameBody

@[expose] public section

noncomputable section

namespace Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A family of buffers of one signature: each one's space, shape, element type, memref and the share it is held at. -/
structure Bank (sig : RefSig) (B : Type) where
  sp : B → CoreSpace
  sh : B → Shape
  el : B → EltTy
  mem : (b : B) → Memref sig .tc (sp b) (sh b) (el b)
  q : B → PosShare TreeShare

section

variable {nD : Nat} {τ : Topo} {sig : RefSig} {Val : EltTy → Type} {Λ : Labels}
variable {Ix : Type} [DecidableEq Ix] {Name : Type} [DecidableEq Name] {U : Type} [URA U] {Lvl : Type} [Preorder Lvl]
variable {B : Type} [Fintype B] [DecidableEq B]

local notation "𝕄" => MT nD τ sig Ix Val Name U Lvl

/-- What every buffer of the bank reads. -/
abbrev Bank.St (K : Bank sig B) (Val : EltTy → Type) : Type := (b : B) → (K.sh b).Idx → Val (K.el b)

/-- The state with one buffer's contents replaced. -/
def Bank.upd {K : Bank sig B} (σ : K.St Val) (b : B) (X : (K.sh b).Idx → Val (K.el b)) : K.St Val :=
  Function.update (β := fun b => (K.sh b).Idx → Val (K.el b)) σ b X

/-- The bank owned at a state. -/
def Bank.own (K : Bank sig B) (c : Dev nD) (σ : K.St Val) : sProp 𝕄 :=
  bigSep Finset.univ fun b => owns c (K.mem b) (K.q b) (σ b)

variable (K : Bank sig B) (defs : Defs nD τ sig Val Λ) (𝒱 : Variants) (c : Dev nD)

/-- From the bank at `σ` the program ends at a value and a state related by `Q`. -/
def W (Ix : Type) [DecidableEq Ix] (Name : Type) [DecidableEq Name] (U : Type) [URA U] (Lvl : Type) [Preorder Lvl]
    {α : Type} (p : Prog (TpuEff nD τ sig Val Λ .tc) α) (Q : α → K.St Val → Prop) (σ : K.St Val) : Prop :=
  (K.own c σ : sProp (MT nD τ sig Ix Val Name U Lvl))
    ⊢ wp frame (wpE defs 𝒱 c none) Set.univ p fun a => iprop(∃ σ', ⌜Q a σ'⌝ ∗ K.own c σ')

local notation "𝐖" => W K defs 𝒱 c Ix Name U Lvl

variable {K defs 𝒱 c} {α β : Type}

omit [Fintype B] in
@[simp] theorem Bank.upd_same (σ : K.St Val) (b : B) (X : (K.sh b).Idx → Val (K.el b)) : Bank.upd σ b X b = X :=
  Function.update_self (β := fun b => (K.sh b).Idx → Val (K.el b)) b X σ

omit [Fintype B] in
theorem Bank.upd_ne (σ : K.St Val) {b b' : B} (X : (K.sh b).Idx → Val (K.el b)) (h : b' ≠ b) : Bank.upd σ b X b' = σ b' :=
  Function.update_of_ne (β := fun b => (K.sh b).Idx → Val (K.el b)) h X σ

/-- One buffer taken out of the bank, and put back at any contents. -/
theorem Bank.own_take (σ : K.St Val) (b : B) : (K.own c σ : sProp 𝕄)
    ⊢ iprop(owns c (K.mem b) (K.q b) (σ b) ∗ (∀ X, owns c (K.mem b) (K.q b) X -∗ K.own c (Bank.upd σ b X))) := by
  have hsplit (σ : K.St Val) : (K.own c σ : sProp 𝕄) = iprop(owns c (K.mem b) (K.q b) (σ b)
      ∗ bigSep (Finset.univ.erase b) fun b' => owns c (K.mem b') (K.q b') (σ b')) := by
    exact BI.bigSep_erase (Finset.mem_univ b)
  rw [hsplit σ]
  refine sep_mono .rfl ?_
  iintro H %X HX
  rw [hsplit (Bank.upd σ b X)]
  rw [Bank.upd_same]
  isplitl [HX]
  · iexact HX
  · have : (bigSep (Finset.univ.erase b) fun b' => (owns c (K.mem b') (K.q b') (σ b') : sProp 𝕄))
        = bigSep (Finset.univ.erase b) fun b' => owns c (K.mem b') (K.q b') (Bank.upd σ b X b') :=
      BI.bigSep_congr fun b' hb' => by rw [Bank.upd_ne _ _ (Finset.ne_of_mem_erase hb')]
    rw [← this]; iexact H

theorem W.mono {p : Prog (TpuEff nD τ sig Val Λ .tc) α} {Q Q' : α → K.St Val → Prop} {σ : K.St Val}
    (h : 𝐖 p Q σ) (hQ : ∀ a σ', Q a σ' → Q' a σ') : 𝐖 p Q' σ := by
  refine BIBase.Entails.trans h (wp_mono _ _ _ fun a => ?_)
  iintro ⟨%σ', %hq, H⟩
  iexists σ'
  isplitr
  · ipureintro; exact hQ a σ' hq
  · iexact H

theorem W.pure {a : α} {Q : α → K.St Val → Prop} {σ : K.St Val} (h : Q a σ) : 𝐖 (pure a) Q σ := by
  unfold W
  rw [wp_pure]
  iintro H
  imodintro
  iexists σ
  isplitr
  · ipureintro; exact h
  · iexact H

theorem W.bind {p : Prog (TpuEff nD τ sig Val Λ .tc) α} {k : α → Prog (TpuEff nD τ sig Val Λ .tc) β} {Q : β → K.St Val → Prop}
    {σ : K.St Val} (h : 𝐖 p (fun a σ' => 𝐖 (k a) Q σ') σ) : 𝐖 (p >>= k) Q σ := by
  unfold W at h ⊢
  rw [wp_bind]
  refine h.trans (wp_mono _ _ _ fun a => ?_)
  iintro ⟨%σ', %hq, H⟩
  iapply hq
  iexact H

theorem W.load (b : B) {r : LoadRect (K.sh b)} {hl : (K.mem b).view.LoadsAt r}
    {Q : (r.shape.Idx → Val (K.el b)) → K.St Val → Prop} {σ : K.St Val} (h : Q (fun j => σ b (r.idx j)) σ) :
    𝐖 (Prog.lift (.load (K.mem b) r hl)) Q σ := by
  unfold W
  refine (Bank.own_take σ b).trans ?_
  unfold owns
  iintro ⟨⟨%f, %hf, Hb⟩, Hk⟩
  unfold Prog.lift
  iapply (wp_load (defs := defs) (Λ := Λ) 𝒱 (c : Thread nD τ) none Set.univ (hl := hl) (q := K.q b) (f := f) (View.setOn_subset_set _ _)) $$ Hb
  iintro Hb
  rw [wp_ret]
  imodintro
  iexists σ
  isplitr
  · ipureintro
    have : (K.mem b).view.readAt Val r f = fun j => σ b (r.idx j) := by rw [← hf]; rfl
    rw [this]; exact h
  · ihave H := Hk $$ %(σ b)
    have hu : Bank.upd σ b (σ b) = σ := Function.update_eq_self (β := fun b => (K.sh b).Idx → Val (K.el b)) b σ
    rw [hu]
    iapply H
    iexists f
    isplitr
    · ipureintro; exact hf
    · iexact Hb

theorem W.store (b : B) (hq : K.q b = fullShare) {r : Rect (K.sh b)} {w : r.shape.Idx → Val (K.el b)}
    {hx : ((K.mem b).access r).Stores Finset.univ} {hm : Finset.univ = Finset.univ ∨ ∀ a, r.stride a = 1}
    {Q : PUnit → K.St Val → Prop} {σ : K.St Val} (h : Q ⟨⟩ (Bank.upd σ b (r.overlay (σ b) w))) :
    𝐖 (Prog.lift (.store (K.mem b) r w Finset.univ hx hm)) Q σ := by
  unfold W
  refine (Bank.own_take σ b).trans ?_
  unfold owns
  rw [hq]
  iintro ⟨⟨%f, %hf, Hb⟩, Hk⟩
  unfold Prog.lift
  iapply (wp_store (defs := defs) (Λ := Λ) 𝒱 (c : Thread nD τ) none Set.univ (w := w) (hx := hx) (hm := hm) (Mk := Finset.univ) (f := f)
    (S := (K.mem b).view.set) (by rw [View.setOn_univ]; exact View.set_slice_subset _ _)) $$ Hb
  iintro Hb
  rw [wp_ret]
  imodintro
  iexists (Bank.upd σ b (r.overlay (σ b) w))
  isplitr
  · ipureintro; exact h
  · iapply Hk
    iexists _
    isplitr
    swap
    · iexact Hb
    · ipureintro
      funext j
      rw [← hf]
      by_cases hj : j ∈ r.set
      · rw [← Rect.map_emb_univ, Finset.mem_map] at hj
        obtain ⟨x, -, rfl⟩ := hj
        rw [Rect.overlay_emb]
        exact View.read_slice_write_emb _ _ _ (Finset.mem_univ x)
      · rw [Rect.overlay_of_not_mem _ _ _ hj]
        exact View.read_slice_write_of_not_mem _ _ _ _ (by rw [Rect.map_emb_univ]; exact hj)

theorem W.assume {P : Prop} {d : Decidable P} {Q : PLift P → K.St Val → Prop} {σ : K.St Val} (hP : P) (h : Q ⟨hP⟩ σ) :
    𝐖 (Prog.lift (.assume P d)) Q σ := by
  unfold W Prog.lift
  refine BIBase.Entails.trans ?_ (wp_assume 𝒱 (c : Thread nD τ) none Set.univ hP)
  exact W.pure (a := PLift.up hP) h

theorem W.loop {w : Nat} {S : Type} {l : Scf.Loop w} {hok : l.OK} {init : S} {body : Fin l.trips → S → Prog (TpuEff nD τ sig Val Λ .tc) S}
    (I : Nat → S → K.St Val → Prop) {σ : K.St Val} (h0 : I 0 init σ)
    (hs : ∀ (k : Fin l.trips) (a : S) (σ : K.St Val), I k a σ → 𝐖 (body k a) (I (k + 1)) σ) {Q : S → K.St Val → Prop}
    (hQ : ∀ a σ', I l.trips a σ' → Q a σ') :
    𝐖 (Scf.Loop.for l hok init body) Q σ := by
  unfold W
  refine BIBase.Entails.trans ?_ (Scf.wp_for frame (wpE defs 𝒱 (c : Thread nD τ) none) Set.univ l.lb l.ub l.st hok init body
    (fun k a => iprop(∃ σ', ⌜I k a σ'⌝ ∗ K.own c σ')) ?_)
  · iintro H
    isplitl [H]
    · iexists σ
      isplitr
      · ipureintro; exact h0
      · iexact H
    · iintro %a ⟨%σ', %hi, H⟩
      iexists σ'
      isplitr
      · ipureintro; exact hQ a σ' hi
      · iexact H
  · intro k a
    iintro ⟨%σ', %hi, H⟩
    have hs' := hs k a σ' hi
    unfold W at hs'
    iapply hs'
    iexact H

end

end Cert.Proof

end
-- ==== Proof.Safety.lean ====
/- The bank of the attention call's body: its two prefetched tables, its eight windows' stages and its eleven scratch buffers; and
   SAFETY over it: from the bank at a state that holds given contents in the nine buffers the body only reads, the body runs to
   its end and those nine hold the same contents. Each load is safe, each store into one of the other eleven is, and safety goes
   through sequencing, branches, checks that hold and loops. -/
module

public import proofs.«01_k».proof.Proof.Bank
public import proofs.«01_k».proof.Proof.Gen.KernelIdeal.Skeleton

@[expose] public section

noncomputable section

namespace Cert.KernelIdeal.Body

open Idealize.ShloMosaic Idealize.ShloMosaic.TcCoe Idealize.SL.RA Idealize.SL.Sem
open Cert.KernelIdeal Cert.KernelIdeal.Gen Cert.Proof

variable {F : FTy → Type} [FloatOps F] [Named F]

/-- What the body is applied to: its buffers, each the whole of its reference, and the shares its tables are held at. -/
structure Args where
  qt : PosShare TreeShare
  arg1 : Memref sig .tc .smem S272 .i32
  harg1 : arg1.IsWhole
  arg2 : Memref sig .tc .smem S272 .i32
  harg2 : arg2.IsWhole
  arg3 : Memref sig .tc .vmem S16x256x128 .bf16
  harg3 : arg3.IsWhole
  arg4 : Memref sig .tc .vmem S16x512x128 .bf16
  harg4 : arg4.IsWhole
  arg5 : Memref sig .tc .vmem S16x128x512 .bf16
  harg5 : arg5.IsWhole
  arg6 : Memref sig .tc .vmem S256x2048 .bf16
  harg6 : arg6.IsWhole
  arg7 : Memref sig .tc .vmem S256x1024 .bf16
  harg7 : arg7.IsWhole
  arg8 : Memref sig .tc .vmem S16x256 .f32
  harg8 : arg8.IsWhole
  arg9 : Memref sig .tc .vmem S64x256x128 .bf16
  harg9 : arg9.IsWhole
  arg10 : Memref sig .tc .vmem S256x2048 .bf16
  harg10 : arg10.IsWhole
  arg11 : Memref sig .tc .vmem S8192x256 .f32
  harg11 : arg11.IsWhole
  arg12 : Memref sig .tc .vmem S3x512x256 .f32
  harg12 : arg12.IsWhole
  arg13 : Memref sig .tc .vmem S2x512x256 .bf16
  harg13 : arg13.IsWhole
  arg14 : Memref sig .tc .vmem S2x8x256 .f32
  harg14 : arg14.IsWhole
  arg15 : Memref sig .tc .vmem S16x8x256 .f32
  harg15 : arg15.IsWhole
  arg16 : Memref sig .tc .vmem S16x8x256 .f32
  harg16 : arg16.IsWhole
  arg17 : Memref sig .tc .vmem S16x128x256 .f32
  harg17 : arg17.IsWhole
  arg18 : Memref sig .tc .vmem S8x256 .f32
  harg18 : arg18.IsWhole
  arg19 : Memref sig .tc .vmem S8x256 .f32
  harg19 : arg19.IsWhole
  arg20 : Memref sig .tc .vmem S8x256 .f32
  harg20 : arg20.IsWhole

/-- The buffers' names. -/
inductive Buf
  | b1
  | b2
  | b3
  | b4
  | b5
  | b6
  | b7
  | b8
  | b9
  | b10
  | b11
  | b12
  | b13
  | b14
  | b15
  | b16
  | b17
  | b18
  | b19
  | b20
  deriving DecidableEq

instance : Fintype Buf :=
  ⟨⟨↑[Buf.b1, Buf.b2, Buf.b3, Buf.b4, Buf.b5, Buf.b6, Buf.b7, Buf.b8, Buf.b9, Buf.b10, Buf.b11, Buf.b12, Buf.b13, Buf.b14, Buf.b15, Buf.b16, Buf.b17, Buf.b18, Buf.b19, Buf.b20], by decide⟩, fun b => by cases b <;> decide⟩

/-- The body's buffers as a bank. -/
def bank (A : Args) : Bank sig Buf where
  sp
    | .b1 => .smem
    | .b2 => .smem
    | .b3 => .vmem
    | .b4 => .vmem
    | .b5 => .vmem
    | .b6 => .vmem
    | .b7 => .vmem
    | .b8 => .vmem
    | .b9 => .vmem
    | .b10 => .vmem
    | .b11 => .vmem
    | .b12 => .vmem
    | .b13 => .vmem
    | .b14 => .vmem
    | .b15 => .vmem
    | .b16 => .vmem
    | .b17 => .vmem
    | .b18 => .vmem
    | .b19 => .vmem
    | .b20 => .vmem
  sh
    | .b1 => S272
    | .b2 => S272
    | .b3 => S16x256x128
    | .b4 => S16x512x128
    | .b5 => S16x128x512
    | .b6 => S256x2048
    | .b7 => S256x1024
    | .b8 => S16x256
    | .b9 => S64x256x128
    | .b10 => S256x2048
    | .b11 => S8192x256
    | .b12 => S3x512x256
    | .b13 => S2x512x256
    | .b14 => S2x8x256
    | .b15 => S16x8x256
    | .b16 => S16x8x256
    | .b17 => S16x128x256
    | .b18 => S8x256
    | .b19 => S8x256
    | .b20 => S8x256
  el
    | .b1 => .i32
    | .b2 => .i32
    | .b3 => .bf16
    | .b4 => .bf16
    | .b5 => .bf16
    | .b6 => .bf16
    | .b7 => .bf16
    | .b8 => .f32
    | .b9 => .bf16
    | .b10 => .bf16
    | .b11 => .f32
    | .b12 => .f32
    | .b13 => .bf16
    | .b14 => .f32
    | .b15 => .f32
    | .b16 => .f32
    | .b17 => .f32
    | .b18 => .f32
    | .b19 => .f32
    | .b20 => .f32
  mem
    | .b1 => A.arg1
    | .b2 => A.arg2
    | .b3 => A.arg3
    | .b4 => A.arg4
    | .b5 => A.arg5
    | .b6 => A.arg6
    | .b7 => A.arg7
    | .b8 => A.arg8
    | .b9 => A.arg9
    | .b10 => A.arg10
    | .b11 => A.arg11
    | .b12 => A.arg12
    | .b13 => A.arg13
    | .b14 => A.arg14
    | .b15 => A.arg15
    | .b16 => A.arg16
    | .b17 => A.arg17
    | .b18 => A.arg18
    | .b19 => A.arg19
    | .b20 => A.arg20
  q
    | .b1 => A.qt
    | .b2 => A.qt
    | _ => fullShare

/-- The buffers the body only reads. -/
def Buf.ro : Buf → Bool
  | .b1 | .b2 | .b3 | .b4 | .b5 | .b6 | .b7 | .b8 | .b9 => true
  | _ => false

abbrev St (F : FTy → Type) (A : Args) : Type := (bank A).St (Elt F)

/-- The two states hold the same contents in the buffers the body only reads. -/
def Keep {A : Args} (σ₀ σ : St F A) : Prop := ∀ b, b.ro = true → σ b = σ₀ b

theorem Keep.upd {A : Args} {σ₀ σ : St F A} (h : Keep σ₀ σ) {b : Buf} (hb : b.ro = false) (X) : Keep σ₀ (Bank.upd σ b X) :=
  fun b' hb' => by rw [Bank.upd_ne]; exacts [h b' hb', fun e => by subst e; simp_all]

/-- `W` over this bank, at the declarations of this program. -/
abbrev Run {A : Args} (c : Dev nD) {α : Type} (p : Prog (TpuEff nD τ sig (Elt F) Λ₀ .tc) α) (Q : α → St F A → Prop) (σ : St F A) : Prop :=
  W (bank A) defs₀ Variants.none c Unit ℕ (UR sig nD τ) ℕ p Q σ

/-- From any state that keeps the read-only contents of `σ₀`, the program runs to an end that keeps them. -/
def Safe {A : Args} (c : Dev nD) (σ₀ : St F A) {α : Type} (p : Prog (TpuEff nD τ sig (Elt F) Λ₀ .tc) α) : Prop :=
  ∀ σ, Keep σ₀ σ → Run c p (fun _ σ' => Keep σ₀ σ') σ

variable {A : Args} {c : Dev nD} {σ₀ : St F A} {α β : Type}

theorem Safe.pure (a : α) : Safe c σ₀ (pure a) := fun _ h => W.pure h

theorem Safe.bind {p : Prog (TpuEff nD τ sig (Elt F) Λ₀ .tc) α} {k : α → Prog (TpuEff nD τ sig (Elt F) Λ₀ .tc) β}
    (hp : Safe c σ₀ p) (hk : ∀ a, Safe c σ₀ (k a)) : Safe c σ₀ (p >>= k) :=
  fun σ h => W.bind ((hp σ h).mono fun a σ' h' => hk a σ' h')

theorem Safe.assume {P : Prop} {d : Decidable P} {k : PLift P → Prog (TpuEff nD τ sig (Elt F) Λ₀ .tc) β} (hP : P)
    (hk : ∀ a, Safe c σ₀ (k a)) : Safe c σ₀ (Prog.lift (.assume P d) >>= k) :=
  Safe.bind (fun _ h => W.assume hP h) hk

theorem Safe.dite {P : Prop} {d : Decidable P} {p : P → Prog (TpuEff nD τ sig (Elt F) Λ₀ .tc) α}
    {q : ¬P → Prog (TpuEff nD τ sig (Elt F) Λ₀ .tc) α} (hp : ∀ h, Safe c σ₀ (p h)) (hq : ∀ h, Safe c σ₀ (q h)) :
    Safe c σ₀ (if h : P then p h else q h) := by
  by_cases h : P
  · rw [dif_pos h]; exact hp h
  · rw [dif_neg h]; exact hq h

/-- A value named before the rest of the program. -/
theorem Safe.skip {T : Sort*} {v : T} {p : T → Prog (TpuEff nD τ sig (Elt F) Λ₀ .tc) α} (h : Safe c σ₀ (p v)) :
    Safe c σ₀ (have x := v; p x) := h

theorem Safe.loop {w : Nat} {S : Type} {l : Scf.Loop w} {hok : l.OK} {init : S}
    {body : Fin l.trips → S → Prog (TpuEff nD τ sig (Elt F) Λ₀ .tc) S} (h : ∀ k a, Safe c σ₀ (body k a)) :
    Safe c σ₀ (Scf.Loop.for l hok init body) :=
  fun _ h0 => W.loop (fun _ _ σ => Keep σ₀ σ) h0 (fun k a σ hσ => h k a σ hσ) fun _ _ h => h

/-- The tables' entries: query blocks below 32, key tiles below 16. -/
def Tables {A : Args} (σ₀ : St F A) : Prop :=
  (∀ j : S272.Idx, BitVec.toNat (w := 32) (σ₀ .b1 j) < 32) ∧ ∀ j : S272.Idx, BitVec.toNat (w := 32) (σ₀ .b2 j) < 16

/-- An entry of the first table read: it is the table's. -/
theorem Safe.smem1 {r : Rect S272} {h1 : r.shape.numel = 1} {hp : EltTy.i32.packing = 1}
    {k : Elt F .i32 → Prog (TpuEff nD τ sig (Elt F) Λ₀ .tc) β}
    (h : ∀ j : S272.Idx, Safe c σ₀ (k (σ₀ .b1 j))) : Safe c σ₀ (smemLoad (p := .tc) A.arg1 r h1 hp >>= k) := by
  have e : (smemLoad (p := .tc) A.arg1 r h1 hp >>= k : Prog (TpuEff nD τ sig (Elt F) Λ₀ .tc) β)
      = Prog.lift (.load A.arg1 r.toLoadRect (View.loadsAt_rect (View.loads_smem_one hp h1)))
        >>= fun f => k (f (Shape.Idx.first (h1.symm ▸ Nat.one_pos))) := rfl
  rw [e]
  intro σ hσ
  refine W.bind (W.load (K := bank A) .b1 ?_)
  rw [hσ .b1 rfl]
  exact h _ σ hσ

/-- An entry of the second. -/
theorem Safe.smem2 {r : Rect S272} {h1 : r.shape.numel = 1} {hp : EltTy.i32.packing = 1}
    {k : Elt F .i32 → Prog (TpuEff nD τ sig (Elt F) Λ₀ .tc) β}
    (h : ∀ j : S272.Idx, Safe c σ₀ (k (σ₀ .b2 j))) : Safe c σ₀ (smemLoad (p := .tc) A.arg2 r h1 hp >>= k) := by
  have e : (smemLoad (p := .tc) A.arg2 r h1 hp >>= k : Prog (TpuEff nD τ sig (Elt F) Λ₀ .tc) β)
      = Prog.lift (.load A.arg2 r.toLoadRect (View.loadsAt_rect (View.loads_smem_one hp h1)))
        >>= fun f => k (f (Shape.Idx.first (h1.symm ▸ Nat.one_pos))) := rfl
  rw [e]
  intro σ hσ
  refine W.bind (W.load (K := bank A) .b2 ?_)
  rw [hσ .b2 rfl]
  exact h _ σ hσ

theorem safe_load1 {r : LoadRect S272} {hl : A.arg1.view.LoadsAt r} : Safe (F := F) c σ₀ (Prog.lift (.load A.arg1 r hl)) :=
  fun _ h => W.load (K := bank A) .b1 h
theorem safe_load2 {r : LoadRect S272} {hl : A.arg2.view.LoadsAt r} : Safe (F := F) c σ₀ (Prog.lift (.load A.arg2 r hl)) :=
  fun _ h => W.load (K := bank A) .b2 h
theorem safe_load3 {r : LoadRect S16x256x128} {hl : A.arg3.view.LoadsAt r} : Safe (F := F) c σ₀ (Prog.lift (.load A.arg3 r hl)) :=
  fun _ h => W.load (K := bank A) .b3 h
theorem safe_load4 {r : LoadRect S16x512x128} {hl : A.arg4.view.LoadsAt r} : Safe (F := F) c σ₀ (Prog.lift (.load A.arg4 r hl)) :=
  fun _ h => W.load (K := bank A) .b4 h
theorem safe_load5 {r : LoadRect S16x128x512} {hl : A.arg5.view.LoadsAt r} : Safe (F := F) c σ₀ (Prog.lift (.load A.arg5 r hl)) :=
  fun _ h => W.load (K := bank A) .b5 h
theorem safe_load6 {r : LoadRect S256x2048} {hl : A.arg6.view.LoadsAt r} : Safe (F := F) c σ₀ (Prog.lift (.load A.arg6 r hl)) :=
  fun _ h => W.load (K := bank A) .b6 h
theorem safe_load7 {r : LoadRect S256x1024} {hl : A.arg7.view.LoadsAt r} : Safe (F := F) c σ₀ (Prog.lift (.load A.arg7 r hl)) :=
  fun _ h => W.load (K := bank A) .b7 h
theorem safe_load8 {r : LoadRect S16x256} {hl : A.arg8.view.LoadsAt r} : Safe (F := F) c σ₀ (Prog.lift (.load A.arg8 r hl)) :=
  fun _ h => W.load (K := bank A) .b8 h
theorem safe_load9 {r : LoadRect S64x256x128} {hl : A.arg9.view.LoadsAt r} : Safe (F := F) c σ₀ (Prog.lift (.load A.arg9 r hl)) :=
  fun _ h => W.load (K := bank A) .b9 h
theorem safe_load10 {r : LoadRect S256x2048} {hl : A.arg10.view.LoadsAt r} : Safe (F := F) c σ₀ (Prog.lift (.load A.arg10 r hl)) :=
  fun _ h => W.load (K := bank A) .b10 h
theorem safe_store10 {r : Rect S256x2048} {w : r.shape.Idx → Elt F .bf16} {hx : (A.arg10.access r).Stores Finset.univ}
    {hm : Finset.univ = Finset.univ ∨ ∀ a, r.stride a = 1} : Safe (F := F) c σ₀ (Prog.lift (.store A.arg10 r w Finset.univ hx hm)) :=
  fun _ h => W.store (K := bank A) .b10 rfl (h.upd rfl _)
theorem safe_load11 {r : LoadRect S8192x256} {hl : A.arg11.view.LoadsAt r} : Safe (F := F) c σ₀ (Prog.lift (.load A.arg11 r hl)) :=
  fun _ h => W.load (K := bank A) .b11 h
theorem safe_store11 {r : Rect S8192x256} {w : r.shape.Idx → Elt F .f32} {hx : (A.arg11.access r).Stores Finset.univ}
    {hm : Finset.univ = Finset.univ ∨ ∀ a, r.stride a = 1} : Safe (F := F) c σ₀ (Prog.lift (.store A.arg11 r w Finset.univ hx hm)) :=
  fun _ h => W.store (K := bank A) .b11 rfl (h.upd rfl _)
theorem safe_load12 {r : LoadRect S3x512x256} {hl : A.arg12.view.LoadsAt r} : Safe (F := F) c σ₀ (Prog.lift (.load A.arg12 r hl)) :=
  fun _ h => W.load (K := bank A) .b12 h
theorem safe_store12 {r : Rect S3x512x256} {w : r.shape.Idx → Elt F .f32} {hx : (A.arg12.access r).Stores Finset.univ}
    {hm : Finset.univ = Finset.univ ∨ ∀ a, r.stride a = 1} : Safe (F := F) c σ₀ (Prog.lift (.store A.arg12 r w Finset.univ hx hm)) :=
  fun _ h => W.store (K := bank A) .b12 rfl (h.upd rfl _)
theorem safe_load13 {r : LoadRect S2x512x256} {hl : A.arg13.view.LoadsAt r} : Safe (F := F) c σ₀ (Prog.lift (.load A.arg13 r hl)) :=
  fun _ h => W.load (K := bank A) .b13 h
theorem safe_store13 {r : Rect S2x512x256} {w : r.shape.Idx → Elt F .bf16} {hx : (A.arg13.access r).Stores Finset.univ}
    {hm : Finset.univ = Finset.univ ∨ ∀ a, r.stride a = 1} : Safe (F := F) c σ₀ (Prog.lift (.store A.arg13 r w Finset.univ hx hm)) :=
  fun _ h => W.store (K := bank A) .b13 rfl (h.upd rfl _)
theorem safe_load14 {r : LoadRect S2x8x256} {hl : A.arg14.view.LoadsAt r} : Safe (F := F) c σ₀ (Prog.lift (.load A.arg14 r hl)) :=
  fun _ h => W.load (K := bank A) .b14 h
theorem safe_store14 {r : Rect S2x8x256} {w : r.shape.Idx → Elt F .f32} {hx : (A.arg14.access r).Stores Finset.univ}
    {hm : Finset.univ = Finset.univ ∨ ∀ a, r.stride a = 1} : Safe (F := F) c σ₀ (Prog.lift (.store A.arg14 r w Finset.univ hx hm)) :=
  fun _ h => W.store (K := bank A) .b14 rfl (h.upd rfl _)
theorem safe_load15 {r : LoadRect S16x8x256} {hl : A.arg15.view.LoadsAt r} : Safe (F := F) c σ₀ (Prog.lift (.load A.arg15 r hl)) :=
  fun _ h => W.load (K := bank A) .b15 h
theorem safe_store15 {r : Rect S16x8x256} {w : r.shape.Idx → Elt F .f32} {hx : (A.arg15.access r).Stores Finset.univ}
    {hm : Finset.univ = Finset.univ ∨ ∀ a, r.stride a = 1} : Safe (F := F) c σ₀ (Prog.lift (.store A.arg15 r w Finset.univ hx hm)) :=
  fun _ h => W.store (K := bank A) .b15 rfl (h.upd rfl _)
theorem safe_load16 {r : LoadRect S16x8x256} {hl : A.arg16.view.LoadsAt r} : Safe (F := F) c σ₀ (Prog.lift (.load A.arg16 r hl)) :=
  fun _ h => W.load (K := bank A) .b16 h
theorem safe_store16 {r : Rect S16x8x256} {w : r.shape.Idx → Elt F .f32} {hx : (A.arg16.access r).Stores Finset.univ}
    {hm : Finset.univ = Finset.univ ∨ ∀ a, r.stride a = 1} : Safe (F := F) c σ₀ (Prog.lift (.store A.arg16 r w Finset.univ hx hm)) :=
  fun _ h => W.store (K := bank A) .b16 rfl (h.upd rfl _)
theorem safe_load17 {r : LoadRect S16x128x256} {hl : A.arg17.view.LoadsAt r} : Safe (F := F) c σ₀ (Prog.lift (.load A.arg17 r hl)) :=
  fun _ h => W.load (K := bank A) .b17 h
theorem safe_store17 {r : Rect S16x128x256} {w : r.shape.Idx → Elt F .f32} {hx : (A.arg17.access r).Stores Finset.univ}
    {hm : Finset.univ = Finset.univ ∨ ∀ a, r.stride a = 1} : Safe (F := F) c σ₀ (Prog.lift (.store A.arg17 r w Finset.univ hx hm)) :=
  fun _ h => W.store (K := bank A) .b17 rfl (h.upd rfl _)
theorem safe_load18 {r : LoadRect S8x256} {hl : A.arg18.view.LoadsAt r} : Safe (F := F) c σ₀ (Prog.lift (.load A.arg18 r hl)) :=
  fun _ h => W.load (K := bank A) .b18 h
theorem safe_store18 {r : Rect S8x256} {w : r.shape.Idx → Elt F .f32} {hx : (A.arg18.access r).Stores Finset.univ}
    {hm : Finset.univ = Finset.univ ∨ ∀ a, r.stride a = 1} : Safe (F := F) c σ₀ (Prog.lift (.store A.arg18 r w Finset.univ hx hm)) :=
  fun _ h => W.store (K := bank A) .b18 rfl (h.upd rfl _)
theorem safe_load19 {r : LoadRect S8x256} {hl : A.arg19.view.LoadsAt r} : Safe (F := F) c σ₀ (Prog.lift (.load A.arg19 r hl)) :=
  fun _ h => W.load (K := bank A) .b19 h
theorem safe_store19 {r : Rect S8x256} {w : r.shape.Idx → Elt F .f32} {hx : (A.arg19.access r).Stores Finset.univ}
    {hm : Finset.univ = Finset.univ ∨ ∀ a, r.stride a = 1} : Safe (F := F) c σ₀ (Prog.lift (.store A.arg19 r w Finset.univ hx hm)) :=
  fun _ h => W.store (K := bank A) .b19 rfl (h.upd rfl _)
theorem safe_load20 {r : LoadRect S8x256} {hl : A.arg20.view.LoadsAt r} : Safe (F := F) c σ₀ (Prog.lift (.load A.arg20 r hl)) :=
  fun _ h => W.load (K := bank A) .b20 h
theorem safe_store20 {r : Rect S8x256} {w : r.shape.Idx → Elt F .f32} {hx : (A.arg20.access r).Stores Finset.univ}
    {hm : Finset.univ = Finset.univ ∨ ∀ a, r.stride a = 1} : Safe (F := F) c σ₀ (Prog.lift (.store A.arg20 r w Finset.univ hx hm)) :=
  fun _ h => W.store (K := bank A) .b20 rfl (h.upd rfl _)

end Cert.KernelIdeal.Body

end
-- ==== Proof.Checks.lean ====
/- The checks the attention call's body makes of its table entries hold: with the query block below 32 and the key tile below 16,
   every loop has a meaning, every offset is a multiple of its tile, and every tile lies inside its buffer. Each is decided over the
   values the entries can take. -/
module

public import proofs.«01_k».proof.Proof.Safety

@[expose] public section

set_option synthInstance.maxSize 4096
set_option Elab.async false

noncomputable section

namespace Cert.KernelIdeal.Body

open Idealize.ShloMosaic Idealize.ShloMosaic.TcCoe Idealize.SL.RA Idealize.SL.Sem
open Cert.KernelIdeal Cert.KernelIdeal.Gen Cert.Proof

theorem chk1_1 : ∀ m : Fin 32, (k0_t1_loop (BitVec.ofNat 32 m.val)).OK := by decide +kernel
theorem chk1_2 : ∀ m : Fin 32, ∀ k0_t1 : Fin (k0_t1_loop (BitVec.ofNat 32 m.val)).trips, 128 ∣ (k0_mult1 (BitVec.ofNat 32 m.val) k0_t1).toNat := by decide +kernel
theorem chk1_3 : ∀ m : Fin 32, ∀ k0_t1 : Fin (k0_t1_loop (BitVec.ofNat 32 m.val)).trips, ∀ r : Fin 4, ∀ a, (k0_off2 (BitVec.ofNat 32 m.val) k0_t1 (BitVec.ofNat 32 r.val)) a + S1x256x128.size a ≤ S64x256x128.size a := by decide +kernel
theorem chk1_4 : ∀ m : Fin 32, ∀ k0_t1 : Fin (k0_t1_loop (BitVec.ofNat 32 m.val)).trips, ∀ r : Fin 4, ∀ a, (k0_off3 (BitVec.ofNat 32 m.val) k0_t1 (BitVec.ofNat 32 r.val)) a + S128x256.size a ≤ S8192x256.size a := by decide +kernel
theorem chk1_5 : ∀ m : Fin 32, ∀ k0_t1 : Fin (k0_t1_loop (BitVec.ofNat 32 m.val)).trips, 128 ∣ (k0_mult2 (BitVec.ofNat 32 m.val) k0_t1).toNat := by decide +kernel
theorem chk1_6 : ∀ m : Fin 32, ∀ k0_t1 : Fin (k0_t1_loop (BitVec.ofNat 32 m.val)).trips, 128 ∣ (k0_mult3 (BitVec.ofNat 32 m.val) k0_t1).toNat := by decide +kernel
theorem chk1_7 : ∀ m : Fin 32, ∀ k0_t1 : Fin (k0_t1_loop (BitVec.ofNat 32 m.val)).trips, 128 ∣ (k0_mult4 (BitVec.ofNat 32 m.val) k0_t1).toNat := by decide +kernel
theorem chk1_8 : ∀ m : Fin 32, (k0_t2_loop (BitVec.ofNat 32 m.val)).OK := by decide +kernel
theorem chk1_9 : ∀ m : Fin 32, ∀ k0_t2 : Fin (k0_t2_loop (BitVec.ofNat 32 m.val)).trips, 128 ∣ (k0_mult5 (BitVec.ofNat 32 m.val) k0_t2).toNat := by decide +kernel
theorem chk1_10 : ∀ m : Fin 32, ∀ k0_t2 : Fin (k0_t2_loop (BitVec.ofNat 32 m.val)).trips, ∀ r : Fin 4, ∀ a, (k0_off4 (BitVec.ofNat 32 m.val) k0_t2 (BitVec.ofNat 32 r.val)) a + S1x256x128.size a ≤ S64x256x128.size a := by decide +kernel
theorem chk1_11 : ∀ m : Fin 32, ∀ k0_t2 : Fin (k0_t2_loop (BitVec.ofNat 32 m.val)).trips, ∀ r : Fin 4, ∀ a, (k0_off5 (BitVec.ofNat 32 m.val) k0_t2 (BitVec.ofNat 32 r.val)) a + S128x256.size a ≤ S8192x256.size a := by decide +kernel
theorem chk1_12 : ∀ m : Fin 32, ∀ k0_t2 : Fin (k0_t2_loop (BitVec.ofNat 32 m.val)).trips, 128 ∣ (k0_mult6 (BitVec.ofNat 32 m.val) k0_t2).toNat := by decide +kernel
theorem chk1_13 : ∀ m : Fin 32, ∀ k0_t2 : Fin (k0_t2_loop (BitVec.ofNat 32 m.val)).trips, 128 ∣ (k0_mult7 (BitVec.ofNat 32 m.val) k0_t2).toNat := by decide +kernel
theorem chk1_14 : ∀ m : Fin 32, ∀ k0_t2 : Fin (k0_t2_loop (BitVec.ofNat 32 m.val)).trips, 128 ∣ (k0_mult8 (BitVec.ofNat 32 m.val) k0_t2).toNat := by decide +kernel
theorem chk1_15 : ∀ m : Fin 16, 512 ∣ (k0_mult28 (BitVec.ofNat 32 m.val)).toNat := by decide +kernel
theorem chk1_16 : ∀ m : Fin 16, ∀ a, (k0_off25 (BitVec.ofNat 32 m.val)) a + S512x256.size a ≤ S8192x256.size a := by decide +kernel
theorem chk2_1 : ∀ m : Fin 32, (k0_t4_loop (BitVec.ofNat 32 m.val)).OK := by decide +kernel
theorem chk2_2 : ∀ m : Fin 32, ∀ k0_t4 : Fin (k0_t4_loop (BitVec.ofNat 32 m.val)).trips, 512 ∣ (k0_mult9 (BitVec.ofNat 32 m.val) k0_t4).toNat := by decide +kernel
theorem chk2_3 : ∀ m : Fin 32, ∀ k0_t4 : Fin (k0_t4_loop (BitVec.ofNat 32 m.val)).trips, ∀ a, (k0_off6 (BitVec.ofNat 32 m.val) k0_t4) a + S512x256.size a ≤ S8192x256.size a := by decide +kernel
theorem chk2_4 : ∀ m : Fin 32, ∀ k0_t4 : Fin (k0_t4_loop (BitVec.ofNat 32 m.val)).trips, 512 ∣ (k0_mult10 (BitVec.ofNat 32 m.val) k0_t4).toNat := by decide +kernel
theorem chk2_5 : ∀ m : Fin 32, ∀ k0_t4 : Fin (k0_t4_loop (BitVec.ofNat 32 m.val)).trips, ∀ a, (k0_off7 (BitVec.ofNat 32 m.val) k0_t4) a + S512x256.size a ≤ S8192x256.size a := by decide +kernel
theorem chk2_6 : ∀ m : Fin 32, (k0_t5_loop (BitVec.ofNat 32 m.val)).OK := by decide +kernel
theorem chk2_7 : ∀ m : Fin 32, ∀ k0_t5 : Fin (k0_t5_loop (BitVec.ofNat 32 m.val)).trips, 512 ∣ (k0_mult11 (BitVec.ofNat 32 m.val) k0_t5).toNat := by decide +kernel
theorem chk2_8 : ∀ m : Fin 32, ∀ k0_t5 : Fin (k0_t5_loop (BitVec.ofNat 32 m.val)).trips, ∀ a, (k0_off8 (BitVec.ofNat 32 m.val) k0_t5) a + S512x256.size a ≤ S8192x256.size a := by decide +kernel
theorem chk2_9 : ∀ m : Fin 32, ∀ k0_t5 : Fin (k0_t5_loop (BitVec.ofNat 32 m.val)).trips, 512 ∣ (k0_mult12 (BitVec.ofNat 32 m.val) k0_t5).toNat := by decide +kernel
theorem chk2_10 : ∀ m : Fin 32, ∀ k0_t5 : Fin (k0_t5_loop (BitVec.ofNat 32 m.val)).trips, ∀ a, (k0_off9 (BitVec.ofNat 32 m.val) k0_t5) a + S512x256.size a ≤ S8192x256.size a := by decide +kernel
theorem chk2_11 : ∀ m : Fin 32, ∀ k0_h3 : k0_cond3 (BitVec.ofNat 32 m.val) = 1#1, 512 ∣ (k0_mult13 (BitVec.ofNat 32 m.val)).toNat := by decide +kernel
theorem chk2_12 : ∀ m : Fin 32, ∀ k0_h3 : k0_cond3 (BitVec.ofNat 32 m.val) = 1#1, ∀ a, (k0_off10 (BitVec.ofNat 32 m.val)) a + S512x256.size a ≤ S8192x256.size a := by decide +kernel
theorem chk3_0_1 : ∀ m : Fin 32, (k0_t6_loop (BitVec.ofNat 32 m.val)).OK := by decide +kernel
theorem chk3_0_2 : ∀ m : Fin 32, ∀ k0_t6 : Fin (k0_t6_loop (BitVec.ofNat 32 m.val)).trips, 512 ∣ (k0_mult14 (BitVec.ofNat 32 m.val) k0_t6).toNat := by decide +kernel
theorem chk3_0_3 : ∀ m : Fin 32, ∀ k0_t6 : Fin (k0_t6_loop (BitVec.ofNat 32 m.val)).trips, ∀ a, (k0_off11 (BitVec.ofNat 32 m.val) k0_t6) a + S512x256.size a ≤ S8192x256.size a := by decide +kernel
theorem chk3_0_4 : ∀ m : Fin 32, ∀ k0_t6 : Fin (k0_t6_loop (BitVec.ofNat 32 m.val)).trips, 512 ∣ (k0_mult15 (BitVec.ofNat 32 m.val) k0_t6).toNat := by decide +kernel
theorem chk3_0_5 : ∀ m : Fin 32, ∀ k0_t6 : Fin (k0_t6_loop (BitVec.ofNat 32 m.val)).trips, ∀ a, (k0_off12 (BitVec.ofNat 32 m.val) k0_t6) a + S512x256.size a ≤ S8192x256.size a := by decide +kernel
theorem chk3_0_6 : ∀ m : Fin 32, (k0_t7_loop (BitVec.ofNat 32 m.val)).OK := by decide +kernel
theorem chk3_0_7 : ∀ m : Fin 32, ∀ k0_t7 : Fin (k0_t7_loop (BitVec.ofNat 32 m.val)).trips, 512 ∣ (k0_mult16 (BitVec.ofNat 32 m.val) k0_t7).toNat := by decide +kernel
theorem chk3_0_8 : ∀ m : Fin 32, ∀ k0_t7 : Fin (k0_t7_loop (BitVec.ofNat 32 m.val)).trips, ∀ a, (k0_off13 (BitVec.ofNat 32 m.val) k0_t7) a + S512x256.size a ≤ S8192x256.size a := by decide +kernel
theorem chk3_0_9 : ∀ m : Fin 32, ∀ k0_t7 : Fin (k0_t7_loop (BitVec.ofNat 32 m.val)).trips, 512 ∣ (k0_mult17 (BitVec.ofNat 32 m.val) k0_t7).toNat := by decide +kernel
theorem chk3_0_10 : ∀ m : Fin 32, ∀ k0_t7 : Fin (k0_t7_loop (BitVec.ofNat 32 m.val)).trips, ∀ a, (k0_off14 (BitVec.ofNat 32 m.val) k0_t7) a + S512x256.size a ≤ S8192x256.size a := by decide +kernel
theorem chk3_0_11 : ∀ m : Fin 32, ∀ k0_h5 : k0_cond5 (BitVec.ofNat 32 m.val) = 1#1, 512 ∣ (k0_mult18 (BitVec.ofNat 32 m.val)).toNat := by decide +kernel
theorem chk3_0_12 : ∀ m : Fin 32, ∀ k0_h5 : k0_cond5 (BitVec.ofNat 32 m.val) = 1#1, ∀ a, (k0_off15 (BitVec.ofNat 32 m.val)) a + S512x256.size a ≤ S8192x256.size a := by decide +kernel
theorem chk3_0_13 : ∀ m : Fin 32, (k0_t9_loop (BitVec.ofNat 32 m.val)).OK := by decide +kernel
theorem chk3_0_14 : ∀ m : Fin 32, ∀ k0_t9 : Fin (k0_t9_loop (BitVec.ofNat 32 m.val)).trips, 512 ∣ (k0_mult19 (BitVec.ofNat 32 m.val) k0_t9).toNat := by decide +kernel
theorem chk3_0_15 : ∀ m : Fin 32, ∀ k0_t9 : Fin (k0_t9_loop (BitVec.ofNat 32 m.val)).trips, ∀ a, (k0_off16 (BitVec.ofNat 32 m.val) k0_t9) a + S512x256.size a ≤ S8192x256.size a := by decide +kernel
theorem chk3_0_16 : ∀ m : Fin 32, ∀ k0_t9 : Fin (k0_t9_loop (BitVec.ofNat 32 m.val)).trips, 512 ∣ (k0_mult20 (BitVec.ofNat 32 m.val) k0_t9).toNat := by decide +kernel
theorem chk3_0_17 : ∀ m : Fin 32, ∀ k0_t9 : Fin (k0_t9_loop (BitVec.ofNat 32 m.val)).trips, ∀ a, (k0_off17 (BitVec.ofNat 32 m.val) k0_t9) a + S512x256.size a ≤ S8192x256.size a := by decide +kernel
theorem chk3_0_18 : ∀ m : Fin 32, (k0_t10_loop (BitVec.ofNat 32 m.val)).OK := by decide +kernel
theorem chk3_0_19 : ∀ m : Fin 32, ∀ k0_t10 : Fin (k0_t10_loop (BitVec.ofNat 32 m.val)).trips, 512 ∣ (k0_mult21 (BitVec.ofNat 32 m.val) k0_t10).toNat := by decide +kernel
theorem chk3_0_20 : ∀ m : Fin 32, ∀ k0_t10 : Fin (k0_t10_loop (BitVec.ofNat 32 m.val)).trips, ∀ a, (k0_off18 (BitVec.ofNat 32 m.val) k0_t10) a + S512x256.size a ≤ S8192x256.size a := by decide +kernel
theorem chk3_0_21 : ∀ m : Fin 32, ∀ k0_t10 : Fin (k0_t10_loop (BitVec.ofNat 32 m.val)).trips, 512 ∣ (k0_mult22 (BitVec.ofNat 32 m.val) k0_t10).toNat := by decide +kernel
theorem chk3_0_22 : ∀ m : Fin 32, ∀ k0_t10 : Fin (k0_t10_loop (BitVec.ofNat 32 m.val)).trips, ∀ a, (k0_off19 (BitVec.ofNat 32 m.val) k0_t10) a + S512x256.size a ≤ S8192x256.size a := by decide +kernel
theorem chk3_0_23 : ∀ m : Fin 32, ∀ k0_h6 : k0_cond6 (BitVec.ofNat 32 m.val) = 1#1, 512 ∣ (k0_mult23 (BitVec.ofNat 32 m.val)).toNat := by decide +kernel
theorem chk3_0_24 : ∀ m : Fin 32, ∀ k0_h6 : k0_cond6 (BitVec.ofNat 32 m.val) = 1#1, ∀ a, (k0_off20 (BitVec.ofNat 32 m.val)) a + S512x256.size a ≤ S8192x256.size a := by decide +kernel
theorem chk3_0_25 : ∀ m : Fin 32, (k0_t11_loop (BitVec.ofNat 32 m.val)).OK := by decide +kernel
theorem chk3_0_26 : ∀ m : Fin 32, ∀ k0_t11 : Fin (k0_t11_loop (BitVec.ofNat 32 m.val)).trips, 512 ∣ (k0_mult24 (BitVec.ofNat 32 m.val) k0_t11).toNat := by decide +kernel
theorem chk3_0_27 : ∀ m : Fin 32, ∀ k0_t11 : Fin (k0_t11_loop (BitVec.ofNat 32 m.val)).trips, ∀ a, (k0_off21 (BitVec.ofNat 32 m.val) k0_t11) a + S512x256.size a ≤ S8192x256.size a := by decide +kernel
theorem chk3_0_28 : ∀ m : Fin 32, (k0_t12_loop (BitVec.ofNat 32 m.val)).OK := by decide +kernel
theorem chk3_0_29 : ∀ m : Fin 32, ∀ k0_t12 : Fin (k0_t12_loop (BitVec.ofNat 32 m.val)).trips, 512 ∣ (k0_mult25 (BitVec.ofNat 32 m.val) k0_t12).toNat := by decide +kernel
theorem chk3_0_30 : ∀ m : Fin 32, ∀ k0_t12 : Fin (k0_t12_loop (BitVec.ofNat 32 m.val)).trips, ∀ a, (k0_off22 (BitVec.ofNat 32 m.val) k0_t12) a + S512x256.size a ≤ S8192x256.size a := by decide +kernel
theorem chk3_0_31 : ∀ m : Fin 32, (k0_t13_loop (BitVec.ofNat 32 m.val)).OK := by decide +kernel
theorem chk3_0_32 : ∀ m : Fin 32, ∀ k0_t13 : Fin (k0_t13_loop (BitVec.ofNat 32 m.val)).trips, 512 ∣ (k0_mult26 (BitVec.ofNat 32 m.val) k0_t13).toNat := by decide +kernel
theorem chk3_1_1 : ∀ m : Fin 32, ∀ k0_t13 : Fin (k0_t13_loop (BitVec.ofNat 32 m.val)).trips, ∀ a, (k0_off23 (BitVec.ofNat 32 m.val) k0_t13) a + S512x256.size a ≤ S8192x256.size a := by decide +kernel
theorem chk3_1_2 : ∀ m : Fin 32, (k0_t14_loop (BitVec.ofNat 32 m.val)).OK := by decide +kernel
theorem chk3_1_3 : ∀ m : Fin 32, ∀ k0_t14 : Fin (k0_t14_loop (BitVec.ofNat 32 m.val)).trips, 512 ∣ (k0_mult27 (BitVec.ofNat 32 m.val) k0_t14).toNat := by decide +kernel
theorem chk3_1_4 : ∀ m : Fin 32, ∀ k0_t14 : Fin (k0_t14_loop (BitVec.ofNat 32 m.val)).trips, ∀ a, (k0_off24 (BitVec.ofNat 32 m.val) k0_t14) a + S512x256.size a ≤ S8192x256.size a := by decide +kernel

theorem k0_chk1_of {v1 v3 : BitVec 32} (hv : v1.toNat < 32) (hv3 : v3.toNat < 16) : k0_chk1 v1 v3 := by
  obtain ⟨m, rfl⟩ : ∃ m : Fin 32, v1 = BitVec.ofNat 32 m.val := ⟨⟨_, hv⟩, by simp⟩
  obtain ⟨m3, rfl⟩ : ∃ m : Fin 16, v3 = BitVec.ofNat 32 m.val := ⟨⟨_, hv3⟩, by simp⟩
  exact ⟨fun _ => chk1_1 m ,
    fun k0_t1 _ => chk1_2 m k0_t1,
    fun k0_t1 _ r a => chk1_3 m k0_t1 r a,
    fun k0_t1 _ r a => chk1_4 m k0_t1 r a,
    fun k0_t1 _ => chk1_5 m k0_t1,
    fun k0_t1 _ => chk1_6 m k0_t1,
    fun k0_t1 _ => chk1_7 m k0_t1,
    fun _ => chk1_8 m ,
    fun k0_t2 _ => chk1_9 m k0_t2,
    fun k0_t2 _ r a => chk1_10 m k0_t2 r a,
    fun k0_t2 _ r a => chk1_11 m k0_t2 r a,
    fun k0_t2 _ => chk1_12 m k0_t2,
    fun k0_t2 _ => chk1_13 m k0_t2,
    fun k0_t2 _ => chk1_14 m k0_t2,
    chk1_15 m3 ,
    fun a => chk1_16 m3 a⟩

theorem k0_chk2_of {v1 : BitVec 32} (hv : v1.toNat < 32) (v3 : BitVec 32) (w : BitVec 1) : k0_chk2 v1 v3 w := by
  obtain ⟨m, rfl⟩ : ∃ m : Fin 32, v1 = BitVec.ofNat 32 m.val := ⟨⟨_, hv⟩, by simp⟩
  exact ⟨fun _ _ => chk2_1 m ,
    fun k0_t4 _ _ => chk2_2 m k0_t4,
    fun k0_t4 _ _ a => chk2_3 m k0_t4 a,
    fun k0_t4 _ _ => chk2_4 m k0_t4,
    fun k0_t4 _ _ a => chk2_5 m k0_t4 a,
    fun _ _ => chk2_6 m ,
    fun k0_t5 _ _ => chk2_7 m k0_t5,
    fun k0_t5 _ _ a => chk2_8 m k0_t5 a,
    fun k0_t5 _ _ => chk2_9 m k0_t5,
    fun k0_t5 _ _ a => chk2_10 m k0_t5 a,
    fun _ _ k0_h3 => chk2_11 m k0_h3,
    fun _ _ k0_h3 a => chk2_12 m k0_h3 a⟩

theorem k0_chk3_of {v1 : BitVec 32} (hv : v1.toNat < 32) (v3 : BitVec 32) (w : BitVec 1) : k0_chk3 v1 v3 w := by
  obtain ⟨m, rfl⟩ : ∃ m : Fin 32, v1 = BitVec.ofNat 32 m.val := ⟨⟨_, hv⟩, by simp⟩
  exact ⟨⟨fun _ _ => chk3_0_1 m ,
    fun k0_t6 _ _ => chk3_0_2 m k0_t6,
    fun k0_t6 _ _ a => chk3_0_3 m k0_t6 a,
    fun k0_t6 _ _ => chk3_0_4 m k0_t6,
    fun k0_t6 _ _ a => chk3_0_5 m k0_t6 a,
    fun _ _ => chk3_0_6 m ,
    fun k0_t7 _ _ => chk3_0_7 m k0_t7,
    fun k0_t7 _ _ a => chk3_0_8 m k0_t7 a,
    fun k0_t7 _ _ => chk3_0_9 m k0_t7,
    fun k0_t7 _ _ a => chk3_0_10 m k0_t7 a,
    fun _ _ k0_h5 => chk3_0_11 m k0_h5,
    fun _ _ k0_h5 a => chk3_0_12 m k0_h5 a,
    fun _ _ => chk3_0_13 m ,
    fun k0_t9 _ _ => chk3_0_14 m k0_t9,
    fun k0_t9 _ _ a => chk3_0_15 m k0_t9 a,
    fun k0_t9 _ _ => chk3_0_16 m k0_t9,
    fun k0_t9 _ _ a => chk3_0_17 m k0_t9 a,
    fun _ _ => chk3_0_18 m ,
    fun k0_t10 _ _ => chk3_0_19 m k0_t10,
    fun k0_t10 _ _ a => chk3_0_20 m k0_t10 a,
    fun k0_t10 _ _ => chk3_0_21 m k0_t10,
    fun k0_t10 _ _ a => chk3_0_22 m k0_t10 a,
    fun _ _ k0_h6 => chk3_0_23 m k0_h6,
    fun _ _ k0_h6 a => chk3_0_24 m k0_h6 a,
    fun _ _ => chk3_0_25 m ,
    fun k0_t11 _ _ => chk3_0_26 m k0_t11,
    fun k0_t11 _ _ a => chk3_0_27 m k0_t11 a,
    fun _ _ => chk3_0_28 m ,
    fun k0_t12 _ _ => chk3_0_29 m k0_t12,
    fun k0_t12 _ _ a => chk3_0_30 m k0_t12 a,
    fun _ _ => chk3_0_31 m ,
    fun k0_t13 _ _ => chk3_0_32 m k0_t13⟩,
    ⟨fun k0_t13 _ _ a => chk3_1_1 m k0_t13 a,
    fun _ _ => chk3_1_2 m ,
    fun k0_t14 _ _ => chk3_1_3 m k0_t14,
    fun k0_t14 _ _ a => chk3_1_4 m k0_t14 a⟩⟩

end Cert.KernelIdeal.Body

end
-- ==== Proof.Parts1.lean ====
/- The parts of the attention call's body are safe (part 1 of 2): each runs to its end from any state of its buffers and keeps the buffers it only reads. -/
module

public import proofs.«01_k».proof.Proof.Checks

@[expose] public section

noncomputable section

namespace Cert.KernelIdeal.Body

open Idealize.ShloMosaic Idealize.ShloMosaic.TcCoe Idealize.SL.RA Idealize.SL.Sem
open Cert.KernelIdeal Cert.KernelIdeal.Gen Cert.Proof

variable {F : FTy → Type} [FloatOps F] [Named F] {A : Args} {c : Dev nD} {σ₀ : St F A}

theorem safe_k0_part1 {i : grid0.Coords} {v1 : Elt F .i32} {v3 : Elt F .i32} {k0_hw1 : k0_chk1 v1 v3} {k0_h1 : k0_cond1 v3 = 1#1} {c0_i32_844 : BitVec 32} {c1_i32_846 : BitVec 32} {k0_t1 : Fin (k0_t1_loop v1).trips} :
    Safe c σ₀ (k0_part1 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 c0_i32_844 c1_i32_846 k0_t1) := by
  rw [k0_part1_eq_skeleton]
  unfold k0_part1_skel
  refine Safe.skip ?_
  refine Safe.skip ?_
  refine Safe.skip ?_
  refine Safe.skip ?_
  refine Safe.skip ?_
  refine Safe.bind safe_load9 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  exact Safe.pure _

theorem safe_k0_part2 {i : grid0.Coords} {v1288 : FVec F S256x128 .bf16} {v1313 : FVec F S128x256 .f32} {v1316 : FVec F S128x256 .f32} :
    Safe c σ₀ (k0_part2 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1288 v1313 v1316) := by
  rw [k0_part2_eq_skeleton]
  unfold k0_part2_skel
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  exact Safe.pure _

theorem safe_k0_part3 {i : grid0.Coords} {v1288 : FVec F S256x128 .bf16} {v1352 : FVec F S128x256 .f32} {v1354 : FVec F S256x256 .f32} :
    Safe c σ₀ (k0_part3 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1288 v1352 v1354) := by
  rw [k0_part3_eq_skeleton]
  unfold k0_part3_skel
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  exact Safe.pure _

theorem safe_k0_part4 {i : grid0.Coords} {v1 : Elt F .i32} {v3 : Elt F .i32} {k0_hw1 : k0_chk1 v1 v3} {k0_h1 : k0_cond1 v3 = 1#1} {v1172 : IVec S128x256 32} {k0_t1 : Fin (k0_t1_loop v1).trips} {v1282 : BitVec 32} {v1284 : BitVec 32} {v1288 : FVec F S256x128 .bf16} {v1386 : FVec F S256x256 .f32} {v1393 : FVec F S128x256 .f32} :
    Safe c σ₀ (k0_part4 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 v1172 k0_t1 v1282 v1284 v1288 v1386 v1393) := by
  rw [k0_part4_eq_skeleton]
  unfold k0_part4_skel
  refine Safe.bind safe_load8 fun _ => ?_
  refine Safe.bind safe_load7 fun _ => ?_
  refine Safe.bind safe_load8 fun _ => ?_
  refine Safe.bind safe_load8 fun _ => ?_
  refine Safe.bind safe_load11 fun _ => ?_
  refine Safe.bind safe_store11 fun _ => ?_
  exact Safe.pure _

theorem safe_k0_part5 {i : grid0.Coords} {v1 : Elt F .i32} {v3 : Elt F .i32} {k0_hw1 : k0_chk1 v1 v3} {k0_h1 : k0_cond1 v3 = 1#1} {k0_t1 : Fin (k0_t1_loop v1).trips} {arg22 : FVec F S8x256 .f32} {arg23 : FVec F S8x256 .f32} {arg21 : BitVec 32} {v1433 : FVec F S16x8x256 .f32} {v1434 : FVec F S4x4x8x256 .f32} :
    Safe c σ₀ (k0_part5 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 k0_t1 arg22 arg23 arg21 v1433 v1434) := by
  rw [k0_part5_eq_skeleton]
  unfold k0_part5_skel
  refine Safe.skip ?_
  refine Safe.skip ?_
  refine Safe.skip ?_
  refine Safe.skip ?_
  refine Safe.bind safe_load9 fun _ => ?_
  refine Safe.bind safe_load7 fun _ => ?_
  refine Safe.bind safe_load8 fun _ => ?_
  refine Safe.bind safe_load8 fun _ => ?_
  refine Safe.bind safe_load7 fun _ => ?_
  exact Safe.pure _

theorem safe_k0_part6 {i : grid0.Coords} {v1449 : FVec F S256x128 .bf16} {v1465 : FVec F S128x256 .f32} {v1467 : FVec F S256x256 .f32} {v1470 : FVec F S128x256 .f32} :
    Safe c σ₀ (k0_part6 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1449 v1465 v1467 v1470) := by
  rw [k0_part6_eq_skeleton]
  unfold k0_part6_skel
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  exact Safe.pure _

theorem safe_k0_part7 {i : grid0.Coords} {v1449 : FVec F S256x128 .bf16} {v1506 : FVec F S128x256 .f32} {v1509 : FVec F S128x256 .f32} :
    Safe c σ₀ (k0_part7 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1449 v1506 v1509) := by
  rw [k0_part7_eq_skeleton]
  unfold k0_part7_skel
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  exact Safe.pure _

theorem safe_k0_part8 {i : grid0.Coords} {v1 : Elt F .i32} {v3 : Elt F .i32} {k0_hw1 : k0_chk1 v1 v3} {k0_h1 : k0_cond1 v3 = 1#1} {v1172 : IVec S128x256 32} {k0_t1 : Fin (k0_t1_loop v1).trips} {v1443 : BitVec 32} {v1445 : BitVec 32} {v1449 : FVec F S256x128 .bf16} {v1545 : FVec F S128x256 .f32} {v1547 : FVec F S256x256 .f32} {v1548 : FVec F S128x256 .f32} :
    Safe c σ₀ (k0_part8 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 v1172 k0_t1 v1443 v1445 v1449 v1545 v1547 v1548) := by
  rw [k0_part8_eq_skeleton]
  unfold k0_part8_skel
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load11 fun _ => ?_
  refine Safe.bind safe_store11 fun _ => ?_
  refine Safe.skip ?_
  exact Safe.pure _

theorem safe_k0_part9 {i : grid0.Coords} {v1 : Elt F .i32} {v3 : Elt F .i32} {k0_hw1 : k0_chk1 v1 v3} {k0_h1 : k0_cond1 v3 = 1#1} {k0_t1 : Fin (k0_t1_loop v1).trips} {arg21 : BitVec 32} {v1437 : FVec F S8x256 .f32} {v1441 : FVec F S8x256 .f32} {v1577 : FVec F S128x256 .f32} {v1582 : IVec S128x256 1} {cst_1069 : F .f32} :
    Safe c σ₀ (k0_part9 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 k0_t1 arg21 v1437 v1441 v1577 v1582 cst_1069) := by
  rw [k0_part9_eq_skeleton]
  unfold k0_part9_skel
  refine Safe.skip ?_
  refine Safe.skip ?_
  refine Safe.skip ?_
  refine Safe.skip ?_
  refine Safe.bind safe_load9 fun _ => ?_
  refine Safe.bind safe_load7 fun _ => ?_
  refine Safe.bind safe_load8 fun _ => ?_
  refine Safe.bind safe_load8 fun _ => ?_
  exact Safe.pure _

theorem safe_k0_part10 {i : grid0.Coords} {v1610 : FVec F S256x128 .bf16} {v1626 : FVec F S128x256 .f32} :
    Safe c σ₀ (k0_part10 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1610 v1626) := by
  rw [k0_part10_eq_skeleton]
  unfold k0_part10_skel
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  exact Safe.pure _

theorem safe_k0_part11 {i : grid0.Coords} {v1610 : FVec F S256x128 .bf16} {v1658 : FVec F S128x256 .f32} {v1660 : FVec F S256x256 .f32} {v1663 : FVec F S128x256 .f32} {v1664 : Vec F S1x256 .f32} :
    Safe c σ₀ (k0_part11 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1610 v1658 v1660 v1663 v1664) := by
  rw [k0_part11_eq_skeleton]
  unfold k0_part11_skel
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  exact Safe.pure _

theorem safe_k0_part12 {i : grid0.Coords} {v1172 : IVec S128x256 32} {v1604 : BitVec 32} {v1610 : FVec F S256x128 .bf16} {v1699 : FVec F S128x256 .f32} {v1702 : FVec F S128x256 .f32} {v1703 : Vec F S1x256 .f32} :
    Safe c σ₀ (k0_part12 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1172 v1604 v1610 v1699 v1702 v1703) := by
  rw [k0_part12_eq_skeleton]
  unfold k0_part12_skel
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.skip ?_
  exact Safe.pure _

theorem safe_k0_part13 {i : grid0.Coords} {v1 : Elt F .i32} {v3 : Elt F .i32} {k0_hw1 : k0_chk1 v1 v3} {k0_h1 : k0_cond1 v3 = 1#1} {k0_t1 : Fin (k0_t1_loop v1).trips} {arg21 : BitVec 32} {v1598 : FVec F S8x256 .f32} {v1602 : FVec F S8x256 .f32} {v1606 : BitVec 32} {v1738 : FVec F S128x256 .f32} {v1743 : IVec S128x256 1} {cst_1154 : F .f32} :
    Safe c σ₀ (k0_part13 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 k0_t1 arg21 v1598 v1602 v1606 v1738 v1743 cst_1154) := by
  rw [k0_part13_eq_skeleton]
  unfold k0_part13_skel
  refine Safe.bind safe_load11 fun _ => ?_
  refine Safe.bind safe_store11 fun _ => ?_
  refine Safe.skip ?_
  refine Safe.skip ?_
  refine Safe.skip ?_
  refine Safe.skip ?_
  refine Safe.bind safe_load9 fun _ => ?_
  refine Safe.bind safe_load7 fun _ => ?_
  refine Safe.bind safe_load8 fun _ => ?_
  exact Safe.pure _

theorem safe_k0_part14 {i : grid0.Coords} {v1771 : FVec F S256x128 .bf16} {v1780 : FVec F S128x256 .f32} {v1781 : FVec F S128x256 .f32} {v1782 : FVec F S128x256 .f32} :
    Safe c σ₀ (k0_part14 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1771 v1780 v1781 v1782) := by
  rw [k0_part14_eq_skeleton]
  unfold k0_part14_skel
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  exact Safe.pure _

theorem safe_k0_part15 {i : grid0.Coords} {v1771 : FVec F S256x128 .bf16} {v1819 : FVec F S128x256 .f32} {v1820 : Vec F S256x128 .bf16} :
    Safe c σ₀ (k0_part15 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1771 v1819 v1820) := by
  rw [k0_part15_eq_skeleton]
  unfold k0_part15_skel
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  exact Safe.pure _

theorem safe_k0_part16 {i : grid0.Coords} {v1771 : FVec F S256x128 .bf16} {v1851 : FVec F S128x256 .f32} {v1853 : FVec F S256x256 .f32} {v1856 : FVec F S128x256 .f32} {v1858 : FVec F S128x256 .f32} :
    Safe c σ₀ (k0_part16 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1771 v1851 v1853 v1856 v1858) := by
  rw [k0_part16_eq_skeleton]
  unfold k0_part16_skel
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  exact Safe.pure _

theorem safe_k0_part17 {i : grid0.Coords} {v1 : Elt F .i32} {v3 : Elt F .i32} {k0_hw1 : k0_chk1 v1 v3} {k0_h1 : k0_cond1 v3 = 1#1} {v1180 : BitVec 32} {c1_i32_847 : BitVec 32} {k0_t2 : Fin (k0_t2_loop v1).trips} :
    Safe c σ₀ (k0_part17 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 v1180 c1_i32_847 k0_t2) := by
  rw [k0_part17_eq_skeleton]
  unfold k0_part17_skel
  refine Safe.skip ?_
  refine Safe.skip ?_
  refine Safe.skip ?_
  refine Safe.skip ?_
  refine Safe.skip ?_
  refine Safe.bind safe_load9 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  exact Safe.pure _

theorem safe_k0_part18 {i : grid0.Coords} {v1288 : FVec F S256x128 .bf16} {v1313 : FVec F S128x256 .f32} {v1316 : FVec F S128x256 .f32} :
    Safe c σ₀ (k0_part18 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1288 v1313 v1316) := by
  rw [k0_part18_eq_skeleton]
  unfold k0_part18_skel
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  exact Safe.pure _

theorem safe_k0_part19 {i : grid0.Coords} {v1288 : FVec F S256x128 .bf16} {v1352 : FVec F S128x256 .f32} {v1354 : FVec F S256x256 .f32} :
    Safe c σ₀ (k0_part19 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1288 v1352 v1354) := by
  rw [k0_part19_eq_skeleton]
  unfold k0_part19_skel
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  exact Safe.pure _

theorem safe_k0_part20 {i : grid0.Coords} {v1 : Elt F .i32} {v3 : Elt F .i32} {k0_hw1 : k0_chk1 v1 v3} {k0_h1 : k0_cond1 v3 = 1#1} {v1172 : IVec S128x256 32} {k0_t2 : Fin (k0_t2_loop v1).trips} {v1282 : BitVec 32} {v1284 : BitVec 32} {v1288 : FVec F S256x128 .bf16} {v1386 : FVec F S256x256 .f32} {v1393 : FVec F S128x256 .f32} :
    Safe c σ₀ (k0_part20 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 v1172 k0_t2 v1282 v1284 v1288 v1386 v1393) := by
  rw [k0_part20_eq_skeleton]
  unfold k0_part20_skel
  refine Safe.bind safe_load8 fun _ => ?_
  refine Safe.bind safe_load7 fun _ => ?_
  refine Safe.bind safe_load8 fun _ => ?_
  refine Safe.bind safe_load8 fun _ => ?_
  refine Safe.bind safe_load11 fun _ => ?_
  refine Safe.bind safe_store11 fun _ => ?_
  exact Safe.pure _

theorem safe_k0_part21 {i : grid0.Coords} {v1 : Elt F .i32} {v3 : Elt F .i32} {k0_hw1 : k0_chk1 v1 v3} {k0_h1 : k0_cond1 v3 = 1#1} {k0_t2 : Fin (k0_t2_loop v1).trips} {arg22 : FVec F S8x256 .f32} {arg23 : FVec F S8x256 .f32} {arg21 : BitVec 32} {v1433 : FVec F S16x8x256 .f32} {v1434 : FVec F S4x4x8x256 .f32} :
    Safe c σ₀ (k0_part21 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 k0_t2 arg22 arg23 arg21 v1433 v1434) := by
  rw [k0_part21_eq_skeleton]
  unfold k0_part21_skel
  refine Safe.skip ?_
  refine Safe.skip ?_
  refine Safe.skip ?_
  refine Safe.skip ?_
  refine Safe.bind safe_load9 fun _ => ?_
  refine Safe.bind safe_load7 fun _ => ?_
  refine Safe.bind safe_load8 fun _ => ?_
  refine Safe.bind safe_load8 fun _ => ?_
  refine Safe.bind safe_load7 fun _ => ?_
  exact Safe.pure _

theorem safe_k0_part22 {i : grid0.Coords} {v1449 : FVec F S256x128 .bf16} {v1465 : FVec F S128x256 .f32} {v1467 : FVec F S256x256 .f32} {v1470 : FVec F S128x256 .f32} :
    Safe c σ₀ (k0_part22 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1449 v1465 v1467 v1470) := by
  rw [k0_part22_eq_skeleton]
  unfold k0_part22_skel
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  exact Safe.pure _

theorem safe_k0_part23 {i : grid0.Coords} {v1449 : FVec F S256x128 .bf16} {v1506 : FVec F S128x256 .f32} {v1509 : FVec F S128x256 .f32} :
    Safe c σ₀ (k0_part23 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1449 v1506 v1509) := by
  rw [k0_part23_eq_skeleton]
  unfold k0_part23_skel
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  exact Safe.pure _

theorem safe_k0_part24 {i : grid0.Coords} {v1 : Elt F .i32} {v3 : Elt F .i32} {k0_hw1 : k0_chk1 v1 v3} {k0_h1 : k0_cond1 v3 = 1#1} {v1172 : IVec S128x256 32} {k0_t2 : Fin (k0_t2_loop v1).trips} {v1443 : BitVec 32} {v1445 : BitVec 32} {v1449 : FVec F S256x128 .bf16} {v1545 : FVec F S128x256 .f32} {v1547 : FVec F S256x256 .f32} {v1548 : FVec F S128x256 .f32} :
    Safe c σ₀ (k0_part24 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 v1172 k0_t2 v1443 v1445 v1449 v1545 v1547 v1548) := by
  rw [k0_part24_eq_skeleton]
  unfold k0_part24_skel
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load11 fun _ => ?_
  refine Safe.bind safe_store11 fun _ => ?_
  refine Safe.skip ?_
  exact Safe.pure _

theorem safe_k0_part25 {i : grid0.Coords} {v1 : Elt F .i32} {v3 : Elt F .i32} {k0_hw1 : k0_chk1 v1 v3} {k0_h1 : k0_cond1 v3 = 1#1} {k0_t2 : Fin (k0_t2_loop v1).trips} {arg21 : BitVec 32} {v1437 : FVec F S8x256 .f32} {v1441 : FVec F S8x256 .f32} {v1577 : FVec F S128x256 .f32} {v1582 : IVec S128x256 1} {cst_1069 : F .f32} :
    Safe c σ₀ (k0_part25 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 k0_t2 arg21 v1437 v1441 v1577 v1582 cst_1069) := by
  rw [k0_part25_eq_skeleton]
  unfold k0_part25_skel
  refine Safe.skip ?_
  refine Safe.skip ?_
  refine Safe.skip ?_
  refine Safe.skip ?_
  refine Safe.bind safe_load9 fun _ => ?_
  refine Safe.bind safe_load7 fun _ => ?_
  refine Safe.bind safe_load8 fun _ => ?_
  refine Safe.bind safe_load8 fun _ => ?_
  exact Safe.pure _

theorem safe_k0_part26 {i : grid0.Coords} {v1610 : FVec F S256x128 .bf16} {v1626 : FVec F S128x256 .f32} :
    Safe c σ₀ (k0_part26 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1610 v1626) := by
  rw [k0_part26_eq_skeleton]
  unfold k0_part26_skel
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  exact Safe.pure _

theorem safe_k0_part27 {i : grid0.Coords} {v1610 : FVec F S256x128 .bf16} {v1658 : FVec F S128x256 .f32} {v1660 : FVec F S256x256 .f32} {v1663 : FVec F S128x256 .f32} {v1664 : Vec F S1x256 .f32} :
    Safe c σ₀ (k0_part27 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1610 v1658 v1660 v1663 v1664) := by
  rw [k0_part27_eq_skeleton]
  unfold k0_part27_skel
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  exact Safe.pure _

theorem safe_k0_part28 {i : grid0.Coords} {v1172 : IVec S128x256 32} {v1604 : BitVec 32} {v1610 : FVec F S256x128 .bf16} {v1699 : FVec F S128x256 .f32} {v1702 : FVec F S128x256 .f32} {v1703 : Vec F S1x256 .f32} :
    Safe c σ₀ (k0_part28 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1172 v1604 v1610 v1699 v1702 v1703) := by
  rw [k0_part28_eq_skeleton]
  unfold k0_part28_skel
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.skip ?_
  exact Safe.pure _

theorem safe_k0_part29 {i : grid0.Coords} {v1 : Elt F .i32} {v3 : Elt F .i32} {k0_hw1 : k0_chk1 v1 v3} {k0_h1 : k0_cond1 v3 = 1#1} {k0_t2 : Fin (k0_t2_loop v1).trips} {arg21 : BitVec 32} {v1598 : FVec F S8x256 .f32} {v1602 : FVec F S8x256 .f32} {v1606 : BitVec 32} {v1738 : FVec F S128x256 .f32} {v1743 : IVec S128x256 1} {cst_1154 : F .f32} :
    Safe c σ₀ (k0_part29 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 k0_h1 k0_t2 arg21 v1598 v1602 v1606 v1738 v1743 cst_1154) := by
  rw [k0_part29_eq_skeleton]
  unfold k0_part29_skel
  refine Safe.bind safe_load11 fun _ => ?_
  refine Safe.bind safe_store11 fun _ => ?_
  refine Safe.skip ?_
  refine Safe.skip ?_
  refine Safe.skip ?_
  refine Safe.skip ?_
  refine Safe.bind safe_load9 fun _ => ?_
  refine Safe.bind safe_load7 fun _ => ?_
  refine Safe.bind safe_load8 fun _ => ?_
  exact Safe.pure _

theorem safe_k0_part30 {i : grid0.Coords} {v1771 : FVec F S256x128 .bf16} {v1780 : FVec F S128x256 .f32} {v1781 : FVec F S128x256 .f32} {v1782 : FVec F S128x256 .f32} :
    Safe c σ₀ (k0_part30 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1771 v1780 v1781 v1782) := by
  rw [k0_part30_eq_skeleton]
  unfold k0_part30_skel
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  exact Safe.pure _

theorem safe_k0_part31 {i : grid0.Coords} {v1771 : FVec F S256x128 .bf16} {v1819 : FVec F S128x256 .f32} {v1820 : Vec F S256x128 .bf16} :
    Safe c σ₀ (k0_part31 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1771 v1819 v1820) := by
  rw [k0_part31_eq_skeleton]
  unfold k0_part31_skel
  refine Safe.bind safe_load8 fun _ => ?_
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  exact Safe.pure _

theorem safe_k0_part32 {i : grid0.Coords} {v1771 : FVec F S256x128 .bf16} {v1851 : FVec F S128x256 .f32} {v1853 : FVec F S256x256 .f32} {v1856 : FVec F S128x256 .f32} {v1858 : FVec F S128x256 .f32} :
    Safe c σ₀ (k0_part32 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1771 v1851 v1853 v1856 v1858) := by
  rw [k0_part32_eq_skeleton]
  unfold k0_part32_skel
  refine Safe.bind safe_load8 fun _ => ?_
  refine Safe.bind safe_load7 fun _ => ?_
  refine Safe.bind safe_load8 fun _ => ?_
  refine Safe.bind safe_load8 fun _ => ?_
  refine Safe.bind safe_load7 fun _ => ?_
  refine Safe.bind safe_load8 fun _ => ?_
  refine Safe.bind safe_load8 fun _ => ?_
  exact Safe.pure _

theorem safe_k0_t4_body {i : grid0.Coords} {v1 : Elt F .i32} {v3 : Elt F .i32} {k0_h1 : k0_cond1 v3 = 1#1} {v1196 : BitVec 32} {v1281 : BitVec 1} {k0_hw2 : k0_chk2 v1 v3 v1281} {k0_h2 : k0_cond2 v1281 = 1#1} {v1285 : Vec F S8x256 .f32} {v1286 : Vec F S8x256 .f32} {k : Fin (k0_t4_loop v1).trips} {acc : FVec F S8x256 .f32} :
    Safe c σ₀ (k0_t4_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1281 k0_hw2 k0_h2 v1285 v1286 k acc) := by
  unfold k0_t4_body
  refine Safe.bind safe_load11 fun _ => ?_
  refine Safe.bind safe_load11 fun _ => ?_
  exact Safe.pure _

theorem safe_k0_t5_body {i : grid0.Coords} {v1 : Elt F .i32} {v3 : Elt F .i32} {k0_h1 : k0_cond1 v3 = 1#1} {v1196 : BitVec 32} {v1281 : BitVec 1} {k0_hw2 : k0_chk2 v1 v3 v1281} {k0_h2 : k0_cond2 v1281 = 1#1} {v1285 : Vec F S8x256 .f32} {v1286 : Vec F S8x256 .f32} {k : Fin (k0_t5_loop v1).trips} {acc : FVec F S8x256 .f32} :
    Safe c σ₀ (k0_t5_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1281 k0_hw2 k0_h2 v1285 v1286 k acc) := by
  unfold k0_t5_body
  refine Safe.bind safe_load11 fun _ => ?_
  refine Safe.bind safe_load11 fun _ => ?_
  exact Safe.pure _

theorem safe_k0_part33 {i : grid0.Coords} {v1 : Elt F .i32} {v3 : Elt F .i32} {k0_h1 : k0_cond1 v3 = 1#1} {v1196 : BitVec 32} {v1281 : BitVec 1} {k0_hw2 : k0_chk2 v1 v3 v1281} {k0_h2 : k0_cond2 v1281 = 1#1} :
    Safe c σ₀ (k0_part33 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1281 k0_hw2 k0_h2) := by
  rw [k0_part33_eq_skeleton]
  unfold k0_part33_skel
  refine Safe.bind safe_load18 fun _ => ?_
  refine Safe.bind safe_load19 fun _ => ?_
  refine Safe.bind safe_load20 fun _ => ?_
  refine Safe.bind (Safe.loop fun k a => safe_k0_t4_body) fun _ => ?_
  refine Safe.bind (Safe.loop fun k a => safe_k0_t5_body) fun _ => ?_
  exact Safe.pure _

theorem safe_k0_part34 {i : grid0.Coords} {v1 : Elt F .i32} {v3 : Elt F .i32} {k0_h1 : k0_cond1 v3 = 1#1} {v1196 : BitVec 32} {v1281 : BitVec 1} {k0_hw2 : k0_chk2 v1 v3 v1281} {k0_h2 : k0_cond2 v1281 = 1#1} {v1285 : Vec F S8x256 .f32} {v1286 : Vec F S8x256 .f32} {v1287 : Vec F S8x256 .f32} {v1291 : FVec F S8x256 .f32} {v1297 : IVec S8x256 1} {v1322 : FVec F S8x256 .f32} {c2_i32_931 : BitVec 32} {c0_i32_932 : BitVec 32} :
    Safe c σ₀ (k0_part34 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1281 k0_hw2 k0_h2 v1285 v1286 v1287 v1291 v1297 v1322 c2_i32_931 c0_i32_932) := by
  rw [k0_part34_eq_skeleton]
  unfold k0_part34_skel
  refine Safe.dite (fun h => ?_) fun h => ?_
  · refine Safe.bind safe_load11 fun _ => ?_
    refine Safe.bind (Safe.pure _) fun _ => ?_
    refine Safe.bind safe_load18 fun _ => ?_
    refine Safe.bind safe_store18 fun _ => ?_
    refine Safe.bind safe_load20 fun _ => ?_
    refine Safe.bind safe_store20 fun _ => ?_
    refine Safe.bind safe_load19 fun _ => ?_
    refine Safe.bind safe_store19 fun _ => ?_
    exact safe_load18
  · refine Safe.bind (Safe.pure _) fun _ => ?_
    refine Safe.bind safe_load18 fun _ => ?_
    refine Safe.bind safe_store18 fun _ => ?_
    refine Safe.bind safe_load20 fun _ => ?_
    refine Safe.bind safe_store20 fun _ => ?_
    refine Safe.bind safe_load19 fun _ => ?_
    refine Safe.bind safe_store19 fun _ => ?_
    exact safe_load18

theorem safe_k0_part35 {i : grid0.Coords} {v1 : Elt F .i32} {v3 : Elt F .i32} {k0_h1 : k0_cond1 v3 = 1#1} {v1247 : Vec F S8x256 .f32} {v1263 : BitVec 1} {k0_hw3 : k0_chk3 v1 v3 v1263} {k0_h4 : k0_cond4 v1263 = 1#1} {v1345 : FVec F S8x256 .f32} {c0_i32_952 : BitVec 32} {c1_i32_954 : BitVec 32} {k0_t9 : Fin (k0_t9_loop v1).trips} {arg25 : FVec F S8x256 .f32} :
    Safe c σ₀ (k0_part35 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1247 v1263 k0_hw3 k0_h4 v1345 c0_i32_952 c1_i32_954 k0_t9 arg25) := by
  rw [k0_part35_eq_skeleton]
  unfold k0_part35_skel
  refine Safe.bind safe_load11 fun _ => ?_
  refine Safe.bind safe_load11 fun _ => ?_
  exact Safe.pure _

theorem safe_k0_part36 {i : grid0.Coords} {v1 : Elt F .i32} {v3 : Elt F .i32} {k0_h1 : k0_cond1 v3 = 1#1} {v1247 : Vec F S8x256 .f32} {v1263 : BitVec 1} {k0_hw3 : k0_chk3 v1 v3 v1263} {k0_h4 : k0_cond4 v1263 = 1#1} {v1345 : FVec F S8x256 .f32} {v1368 : BitVec 32} {c1_i32_955 : BitVec 32} {k0_t10 : Fin (k0_t10_loop v1).trips} {arg25 : FVec F S8x256 .f32} :
    Safe c σ₀ (k0_part36 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1247 v1263 k0_hw3 k0_h4 v1345 v1368 c1_i32_955 k0_t10 arg25) := by
  rw [k0_part36_eq_skeleton]
  unfold k0_part36_skel
  refine Safe.bind safe_load11 fun _ => ?_
  refine Safe.bind safe_load11 fun _ => ?_
  exact Safe.pure _

theorem safe_k0_t9_body {i : grid0.Coords} {v1 : Elt F .i32} {v3 : Elt F .i32} {k0_h1 : k0_cond1 v3 = 1#1} {v1196 : BitVec 32} {v1247 : Vec F S8x256 .f32} {v1263 : BitVec 1} {k0_hw3 : k0_chk3 v1 v3 v1263} {k0_h4 : k0_cond4 v1263 = 1#1} {c0_i32_937 : BitVec 32} {c1_i32_938 : BitVec 32} {k0_t8 : Fin k0_t8_loop.trips} {arg22 : FVec F S8x256 .f32} {arg23 : FVec F S8x256 .f32} {k : Fin (k0_t9_loop v1).trips} {acc : FVec F S8x256 .f32} :
    Safe c σ₀ (k0_t9_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1247 v1263 k0_hw3 k0_h4 c0_i32_937 c1_i32_938 k0_t8 arg22 arg23 k acc) := by
  unfold k0_t9_body
  refine Safe.bind safe_k0_part35 fun x => ?_
  rcases x with ⟨_, _, _⟩
  exact Safe.pure _

theorem safe_k0_t10_body {i : grid0.Coords} {v1 : Elt F .i32} {v3 : Elt F .i32} {k0_h1 : k0_cond1 v3 = 1#1} {v1196 : BitVec 32} {v1247 : Vec F S8x256 .f32} {v1263 : BitVec 1} {k0_hw3 : k0_chk3 v1 v3 v1263} {k0_h4 : k0_cond4 v1263 = 1#1} {c0_i32_937 : BitVec 32} {c1_i32_938 : BitVec 32} {k0_t8 : Fin k0_t8_loop.trips} {arg22 : FVec F S8x256 .f32} {arg23 : FVec F S8x256 .f32} {v1368 : BitVec 32} {k : Fin (k0_t10_loop v1).trips} {acc : FVec F S8x256 .f32} :
    Safe c σ₀ (k0_t10_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1247 v1263 k0_hw3 k0_h4 c0_i32_937 c1_i32_938 k0_t8 arg22 arg23 v1368 k acc) := by
  unfold k0_t10_body
  refine Safe.bind safe_k0_part36 fun x => ?_
  rcases x with ⟨_, _, _⟩
  exact Safe.pure _

theorem safe_k0_part37 {i : grid0.Coords} {v1 : Elt F .i32} {v3 : Elt F .i32} {k0_h1 : k0_cond1 v3 = 1#1} {v1196 : BitVec 32} {v1247 : Vec F S8x256 .f32} {v1263 : BitVec 1} {k0_hw3 : k0_chk3 v1 v3 v1263} {k0_h4 : k0_cond4 v1263 = 1#1} {c0_i32_937 : BitVec 32} {c1_i32_938 : BitVec 32} {k0_t8 : Fin k0_t8_loop.trips} {arg22 : FVec F S8x256 .f32} {arg23 : FVec F S8x256 .f32} :
    Safe c σ₀ (k0_part37 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1247 v1263 k0_hw3 k0_h4 c0_i32_937 c1_i32_938 k0_t8 arg22 arg23) := by
  rw [k0_part37_eq_skeleton]
  unfold k0_part37_skel
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.bind (Safe.loop fun k a => safe_k0_t9_body) fun _ => ?_
  refine Safe.bind (Safe.loop fun k a => safe_k0_t10_body) fun _ => ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  exact Safe.pure _

theorem safe_k0_t6_body {i : grid0.Coords} {v1 : Elt F .i32} {v3 : Elt F .i32} {k0_h1 : k0_cond1 v3 = 1#1} {v1196 : BitVec 32} {v1247 : Vec F S8x256 .f32} {v1263 : BitVec 1} {k0_hw3 : k0_chk3 v1 v3 v1263} {k0_h4 : k0_cond4 v1263 = 1#1} {k : Fin (k0_t6_loop v1).trips} {acc : FVec F S8x256 .f32} :
    Safe c σ₀ (k0_t6_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1247 v1263 k0_hw3 k0_h4 k acc) := by
  unfold k0_t6_body
  refine Safe.bind safe_load11 fun _ => ?_
  refine Safe.bind safe_load11 fun _ => ?_
  exact Safe.pure _

theorem safe_k0_t7_body {i : grid0.Coords} {v1 : Elt F .i32} {v3 : Elt F .i32} {k0_h1 : k0_cond1 v3 = 1#1} {v1196 : BitVec 32} {v1247 : Vec F S8x256 .f32} {v1263 : BitVec 1} {k0_hw3 : k0_chk3 v1 v3 v1263} {k0_h4 : k0_cond4 v1263 = 1#1} {k : Fin (k0_t7_loop v1).trips} {acc : FVec F S8x256 .f32} :
    Safe c σ₀ (k0_t7_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1247 v1263 k0_hw3 k0_h4 k acc) := by
  unfold k0_t7_body
  refine Safe.bind safe_load11 fun _ => ?_
  refine Safe.bind safe_load11 fun _ => ?_
  exact Safe.pure _

theorem safe_k0_part38 {i : grid0.Coords} {v1 : Elt F .i32} {v3 : Elt F .i32} {k0_h1 : k0_cond1 v3 = 1#1} {v1196 : BitVec 32} {v1247 : Vec F S8x256 .f32} {v1263 : BitVec 1} {k0_hw3 : k0_chk3 v1 v3 v1263} {k0_h4 : k0_cond4 v1263 = 1#1} :
    Safe c σ₀ (k0_part38 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1247 v1263 k0_hw3 k0_h4) := by
  rw [k0_part38_eq_skeleton]
  unfold k0_part38_skel
  refine Safe.bind (Safe.loop fun k a => safe_k0_t6_body) fun _ => ?_
  refine Safe.bind (Safe.loop fun k a => safe_k0_t7_body) fun _ => ?_
  refine Safe.dite (fun h => ?_) fun h => ?_
  · refine Safe.bind safe_load11 fun _ => ?_
    refine Safe.bind (Safe.pure _) fun _ => ?_
    exact Safe.pure _
  · refine Safe.bind (Safe.pure _) fun _ => ?_
    exact Safe.pure _

theorem safe_k0_t1_body {i : grid0.Coords} {v1 : Elt F .i32} {v3 : Elt F .i32} {k0_hw1 : k0_chk1 v1 v3} {v23 : BitVec 32} {k0_h1 : k0_cond1 v3 = 1#1} {k : Fin (k0_t1_loop v1).trips} {acc : FVec F S8x256 .f32 × FVec F S8x256 .f32} :
    Safe c σ₀ (k0_t1_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v23 k0_h1 k acc) := by
  rcases acc with ⟨_, _⟩
  unfold k0_t1_body
  refine Safe.bind safe_k0_part1 fun x => ?_
  rcases x with ⟨_, _, _, _, _, _⟩
  refine Safe.bind safe_k0_part2 fun x => ?_
  rcases x with ⟨_, _⟩
  refine Safe.bind safe_k0_part3 fun x => ?_
  rcases x with ⟨_, _⟩
  refine Safe.bind safe_k0_part4 fun x => ?_
  rcases x with ⟨_, _⟩
  refine Safe.bind safe_k0_part5 fun x => ?_
  rcases x with ⟨_, _, _, _, _, _, _, _⟩
  refine Safe.bind safe_k0_part6 fun x => ?_
  rcases x with ⟨_, _⟩
  refine Safe.bind safe_k0_part7 fun x => ?_
  rcases x with ⟨_, _, _⟩
  refine Safe.bind safe_k0_part8 fun x => ?_
  rcases x with ⟨_, _, _⟩
  refine Safe.bind safe_k0_part9 fun x => ?_
  rcases x with ⟨_, _, _, _, _, _⟩
  refine Safe.bind safe_k0_part10 fun x => ?_
  rcases x with ⟨_, _, _, _⟩
  refine Safe.bind safe_k0_part11 fun x => ?_
  rcases x with ⟨_, _, _⟩
  refine Safe.bind safe_k0_part12 fun x => ?_
  rcases x with ⟨_, _, _⟩
  refine Safe.bind safe_k0_part13 fun x => ?_
  rcases x with ⟨_, _, _, _, _, _, _, _⟩
  refine Safe.bind safe_k0_part14 fun x => ?_
  rcases x with ⟨_, _⟩
  refine Safe.bind safe_k0_part15 fun x => ?_
  rcases x with ⟨_, _, _, _⟩
  refine Safe.bind safe_k0_part16 fun x => ?_
  rcases x with ⟨_, _, _⟩
  refine Safe.bind safe_load11 fun _ => ?_
  refine Safe.bind safe_store11 fun _ => ?_
  exact Safe.pure _

theorem safe_k0_t2_body {i : grid0.Coords} {v1 : Elt F .i32} {v3 : Elt F .i32} {k0_hw1 : k0_chk1 v1 v3} {v23 : BitVec 32} {k0_h1 : k0_cond1 v3 = 1#1} {v1180 : BitVec 32} {k : Fin (k0_t2_loop v1).trips} {acc : FVec F S8x256 .f32 × FVec F S8x256 .f32} :
    Safe c σ₀ (k0_t2_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v23 k0_h1 v1180 k acc) := by
  rcases acc with ⟨_, _⟩
  unfold k0_t2_body
  refine Safe.bind safe_k0_part17 fun x => ?_
  rcases x with ⟨_, _, _, _, _, _⟩
  refine Safe.bind safe_k0_part18 fun x => ?_
  rcases x with ⟨_, _⟩
  refine Safe.bind safe_k0_part19 fun x => ?_
  rcases x with ⟨_, _⟩
  refine Safe.bind safe_k0_part20 fun x => ?_
  rcases x with ⟨_, _⟩
  refine Safe.bind safe_k0_part21 fun x => ?_
  rcases x with ⟨_, _, _, _, _, _, _, _⟩
  refine Safe.bind safe_k0_part22 fun x => ?_
  rcases x with ⟨_, _⟩
  refine Safe.bind safe_k0_part23 fun x => ?_
  rcases x with ⟨_, _, _⟩
  refine Safe.bind safe_k0_part24 fun x => ?_
  rcases x with ⟨_, _, _⟩
  refine Safe.bind safe_k0_part25 fun x => ?_
  rcases x with ⟨_, _, _, _, _, _⟩
  refine Safe.bind safe_k0_part26 fun x => ?_
  rcases x with ⟨_, _, _, _⟩
  refine Safe.bind safe_k0_part27 fun x => ?_
  rcases x with ⟨_, _, _⟩
  refine Safe.bind safe_k0_part28 fun x => ?_
  rcases x with ⟨_, _, _⟩
  refine Safe.bind safe_k0_part29 fun x => ?_
  rcases x with ⟨_, _, _, _, _, _, _, _⟩
  refine Safe.bind safe_k0_part30 fun x => ?_
  rcases x with ⟨_, _⟩
  refine Safe.bind safe_k0_part31 fun x => ?_
  rcases x with ⟨_, _, _, _⟩
  refine Safe.bind safe_k0_part32 fun x => ?_
  rcases x with ⟨_, _, _⟩
  refine Safe.bind safe_load11 fun _ => ?_
  refine Safe.bind safe_store11 fun _ => ?_
  exact Safe.pure _

theorem safe_k0_part39 {i : grid0.Coords} {v1 : Elt F .i32} {v3 : Elt F .i32} {k0_hw1 : k0_chk1 v1 v3} {v23 : BitVec 32} {k0_h1 : k0_cond1 v3 = 1#1} :
    Safe c σ₀ (k0_part39 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v23 k0_h1) := by
  rw [k0_part39_eq_skeleton]
  unfold k0_part39_skel
  refine Safe.skip ?_
  refine Safe.skip ?_
  refine Safe.skip ?_
  refine Safe.skip ?_
  refine Safe.skip ?_
  refine Safe.bind (Safe.loop fun k a => safe_k0_t1_body) fun x => ?_
  rcases x with ⟨_, _⟩
  refine Safe.bind (Safe.loop fun k a => safe_k0_t2_body) fun x => ?_
  rcases x with ⟨_, _⟩
  refine Safe.skip ?_
  refine Safe.bind safe_load18 fun _ => ?_
  exact Safe.pure _

theorem safe_k0_part40 {i : grid0.Coords} {v1188 : FVec F S8x256 .f32} {v1202 : FVec F S8x256 .f32} {v1204 : IVec S8x256 1} {v1206 : FVec F S8x256 .f32} {v1207 : Vec F S8x256 .f32} :
    Safe c σ₀ (k0_part40 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1188 v1202 v1204 v1206 v1207) := by
  rw [k0_part40_eq_skeleton]
  unfold k0_part40_skel
  refine Safe.bind safe_store18 fun _ => ?_
  refine Safe.bind safe_load19 fun _ => ?_
  refine Safe.bind safe_store19 fun _ => ?_
  refine Safe.bind safe_load20 fun _ => ?_
  refine Safe.bind safe_store20 fun _ => ?_
  refine Safe.bind safe_load18 fun _ => ?_
  refine Safe.bind safe_load19 fun _ => ?_
  refine Safe.bind safe_load20 fun _ => ?_
  exact Safe.pure _

theorem safe_k0_t3_body {i : grid0.Coords} {v1 : Elt F .i32} {v3 : Elt F .i32} {k0_h1 : k0_cond1 v3 = 1#1} {v1196 : BitVec 32} {v1244 : F .f32} {c0_i32_879 : BitVec 32} {c64_i32 : BitVec 32} {k : Fin k0_t3_loop.trips} {acc : F .f32} (hv : v1.toNat < 32) :
    Safe c σ₀ (k0_t3_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1244 c0_i32_879 c64_i32 k acc) := by
  unfold k0_t3_body
  refine Safe.skip ?_
  refine Safe.skip ?_
  refine Safe.assume (k0_chk2_of hv _ _) fun _ => ?_
  refine Safe.skip ?_
  refine Safe.dite (fun h => ?_) fun h => ?_
  · refine Safe.bind safe_k0_part33 fun x => ?_
    rcases x with ⟨_, _, _, _, _, _, _, _⟩
    refine Safe.bind safe_k0_part34 fun _ => ?_
    refine Safe.bind safe_load19 fun _ => ?_
    refine Safe.bind safe_load20 fun _ => ?_
    exact Safe.pure _
  · exact Safe.pure _

theorem safe_k0_t8_body {i : grid0.Coords} {v1 : Elt F .i32} {v3 : Elt F .i32} {k0_h1 : k0_cond1 v3 = 1#1} {v1196 : BitVec 32} {v1244 : F .f32} {c0_i32_879 : BitVec 32} {c64_i32 : BitVec 32} {v1247 : Vec F S8x256 .f32} {v1263 : BitVec 1} {k0_hw3 : k0_chk3 v1 v3 v1263} {k0_h4 : k0_cond4 v1263 = 1#1} {v1319 : FVec F S8x256 .f32} {c4_i32_929 : BitVec 32} {k : Fin k0_t8_loop.trips} {acc : FVec F S8x256 .f32 × FVec F S8x256 .f32} :
    Safe c σ₀ (k0_t8_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1244 c0_i32_879 c64_i32 v1247 v1263 k0_hw3 k0_h4 v1319 c4_i32_929 k acc) := by
  rcases acc with ⟨_, _⟩
  unfold k0_t8_body
  refine Safe.bind safe_k0_part37 fun x => ?_
  rcases x with ⟨_, _, _, _⟩
  refine Safe.dite (fun h => ?_) fun h => ?_
  · refine Safe.bind safe_load11 fun _ => ?_
    refine Safe.bind (Safe.pure _) fun _ => ?_
    exact Safe.pure _
  · refine Safe.bind (Safe.pure _) fun _ => ?_
    exact Safe.pure _

theorem safe_k0_t11_body {i : grid0.Coords} {v1 : Elt F .i32} {v3 : Elt F .i32} {k0_h1 : k0_cond1 v3 = 1#1} {v1196 : BitVec 32} {v1244 : F .f32} {c0_i32_879 : BitVec 32} {c64_i32 : BitVec 32} {v1247 : Vec F S8x256 .f32} {v1263 : BitVec 1} {k0_hw3 : k0_chk3 v1 v3 v1263} {v1266 : Vec F S8x256 .f32} {k0_h7 : k0_cond7 v1263 = 1#1} {k : Fin (k0_t11_loop v1).trips} {acc : BitVec 32} :
    Safe c σ₀ (k0_t11_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1244 c0_i32_879 c64_i32 v1247 v1263 k0_hw3 v1266 k0_h7 k acc) := by
  unfold k0_t11_body
  refine Safe.bind safe_load11 fun _ => ?_
  refine Safe.bind safe_load11 fun _ => ?_
  refine Safe.bind safe_store11 fun _ => ?_
  exact Safe.pure _

theorem safe_k0_t12_body {i : grid0.Coords} {v1 : Elt F .i32} {v3 : Elt F .i32} {k0_h1 : k0_cond1 v3 = 1#1} {v1196 : BitVec 32} {v1244 : F .f32} {c0_i32_879 : BitVec 32} {c64_i32 : BitVec 32} {v1247 : Vec F S8x256 .f32} {v1263 : BitVec 1} {k0_hw3 : k0_chk3 v1 v3 v1263} {v1266 : Vec F S8x256 .f32} {k0_h7 : k0_cond7 v1263 = 1#1} {k : Fin (k0_t12_loop v1).trips} {acc : BitVec 32} :
    Safe c σ₀ (k0_t12_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1244 c0_i32_879 c64_i32 v1247 v1263 k0_hw3 v1266 k0_h7 k acc) := by
  unfold k0_t12_body
  refine Safe.bind safe_load11 fun _ => ?_
  refine Safe.bind safe_load11 fun _ => ?_
  refine Safe.bind safe_store11 fun _ => ?_
  exact Safe.pure _

theorem safe_k0_t13_body {i : grid0.Coords} {v1 : Elt F .i32} {v3 : Elt F .i32} {k0_h1 : k0_cond1 v3 = 1#1} {v1196 : BitVec 32} {v1244 : F .f32} {c0_i32_879 : BitVec 32} {c64_i32 : BitVec 32} {v1247 : Vec F S8x256 .f32} {v1263 : BitVec 1} {k0_hw3 : k0_chk3 v1 v3 v1263} {k0_h7 : ¬k0_cond7 v1263 = 1#1} {k : Fin (k0_t13_loop v1).trips} {acc : BitVec 32} :
    Safe c σ₀ (k0_t13_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1244 c0_i32_879 c64_i32 v1247 v1263 k0_hw3 k0_h7 k acc) := by
  unfold k0_t13_body
  refine Safe.bind safe_load11 fun _ => ?_
  refine Safe.bind safe_load11 fun _ => ?_
  refine Safe.bind safe_store11 fun _ => ?_
  exact Safe.pure _

theorem safe_k0_t14_body {i : grid0.Coords} {v1 : Elt F .i32} {v3 : Elt F .i32} {k0_h1 : k0_cond1 v3 = 1#1} {v1196 : BitVec 32} {v1244 : F .f32} {c0_i32_879 : BitVec 32} {c64_i32 : BitVec 32} {v1247 : Vec F S8x256 .f32} {v1263 : BitVec 1} {k0_hw3 : k0_chk3 v1 v3 v1263} {k0_h7 : ¬k0_cond7 v1263 = 1#1} {k : Fin (k0_t14_loop v1).trips} {acc : BitVec 32} :
    Safe c σ₀ (k0_t14_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1244 c0_i32_879 c64_i32 v1247 v1263 k0_hw3 k0_h7 k acc) := by
  unfold k0_t14_body
  refine Safe.bind safe_load11 fun _ => ?_
  refine Safe.bind safe_load11 fun _ => ?_
  refine Safe.bind safe_store11 fun _ => ?_
  exact Safe.pure _

theorem safe_k0_part41 {i : grid0.Coords} {v1 : Elt F .i32} {v3 : Elt F .i32} {k0_h1 : k0_cond1 v3 = 1#1} {v1196 : BitVec 32} {v1244 : F .f32} {c0_i32_879 : BitVec 32} {c64_i32 : BitVec 32} (hv : v1.toNat < 32) :
    Safe c σ₀ (k0_part41 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_h1 v1196 v1244 c0_i32_879 c64_i32) := by
  rw [k0_part41_eq_skeleton]
  unfold k0_part41_skel
  refine Safe.bind (Safe.loop fun k a => safe_k0_t3_body hv) fun _ => ?_
  refine Safe.bind safe_load18 fun _ => ?_
  refine Safe.bind safe_load20 fun _ => ?_
  refine Safe.bind safe_load19 fun _ => ?_
  refine Safe.bind safe_store19 fun _ => ?_
  refine Safe.skip ?_
  refine Safe.skip ?_
  refine Safe.assume (k0_chk3_of hv _ _) fun _ => ?_
  refine Safe.skip ?_
  refine Safe.dite (fun h => ?_) fun h => ?_
  · refine Safe.bind safe_k0_part38 fun x => ?_
    rcases x with ⟨_, _⟩
    refine Safe.bind (Safe.loop fun k a => safe_k0_t8_body) fun x => ?_
    rcases x with ⟨_, _⟩
    refine Safe.bind safe_load19 fun _ => ?_
    refine Safe.bind safe_load19 fun _ => ?_
    refine Safe.bind safe_store19 fun _ => ?_
    refine Safe.bind safe_load19 fun _ => ?_
    refine Safe.dite (fun h => ?_) fun h => ?_
    · refine Safe.bind (Safe.loop fun k a => safe_k0_t11_body) fun _ => ?_
      refine Safe.bind (Safe.loop fun k a => safe_k0_t12_body) fun _ => ?_
      refine Safe.bind safe_load15 fun _ => ?_
      refine Safe.bind safe_store15 fun _ => ?_
      refine Safe.bind safe_load16 fun _ => ?_
      exact Safe.pure _
    · refine Safe.bind (Safe.loop fun k a => safe_k0_t13_body) fun _ => ?_
      refine Safe.bind (Safe.loop fun k a => safe_k0_t14_body) fun _ => ?_
      refine Safe.bind safe_load15 fun _ => ?_
      refine Safe.bind safe_store15 fun _ => ?_
      refine Safe.bind safe_load16 fun _ => ?_
      exact Safe.pure _
  · refine Safe.bind safe_load19 fun _ => ?_
    refine Safe.dite (fun h => ?_) fun h => ?_
    · refine Safe.bind (Safe.loop fun k a => safe_k0_t11_body) fun _ => ?_
      refine Safe.bind (Safe.loop fun k a => safe_k0_t12_body) fun _ => ?_
      refine Safe.bind safe_load15 fun _ => ?_
      refine Safe.bind safe_store15 fun _ => ?_
      refine Safe.bind safe_load16 fun _ => ?_
      exact Safe.pure _
    · refine Safe.bind (Safe.loop fun k a => safe_k0_t13_body) fun _ => ?_
      refine Safe.bind (Safe.loop fun k a => safe_k0_t14_body) fun _ => ?_
      refine Safe.bind safe_load15 fun _ => ?_
      refine Safe.bind safe_store15 fun _ => ?_
      refine Safe.bind safe_load16 fun _ => ?_
      exact Safe.pure _

theorem safe_k0_part42 {i : grid0.Coords}  :
    Safe c σ₀ (k0_part42 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 ) := by
  rw [k0_part42_eq_skeleton]
  unfold k0_part42_skel
  refine Safe.bind safe_load16 fun _ => ?_
  refine Safe.bind safe_load17 fun _ => ?_
  refine Safe.bind safe_load6 fun _ => ?_
  refine Safe.bind safe_load10 fun _ => ?_
  refine Safe.bind safe_store10 fun _ => ?_
  refine Safe.bind safe_load16 fun _ => ?_
  refine Safe.bind safe_load17 fun _ => ?_
  refine Safe.bind safe_load6 fun _ => ?_
  refine Safe.bind safe_load10 fun _ => ?_
  refine Safe.bind safe_store10 fun _ => ?_
  refine Safe.bind safe_load16 fun _ => ?_
  exact Safe.pure _

theorem safe_k0_part43 {i : grid0.Coords} {v1200 : FVec F S8x256 .f32} :
    Safe c σ₀ (k0_part43 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1200) := by
  rw [k0_part43_eq_skeleton]
  unfold k0_part43_skel
  refine Safe.bind safe_load17 fun _ => ?_
  refine Safe.bind safe_load6 fun _ => ?_
  refine Safe.bind safe_load10 fun _ => ?_
  refine Safe.bind safe_store10 fun _ => ?_
  refine Safe.bind safe_load16 fun _ => ?_
  refine Safe.bind safe_load17 fun _ => ?_
  refine Safe.bind safe_load6 fun _ => ?_
  refine Safe.bind safe_load10 fun _ => ?_
  refine Safe.bind safe_store10 fun _ => ?_
  refine Safe.bind safe_load16 fun _ => ?_
  refine Safe.bind safe_load17 fun _ => ?_
  exact Safe.pure _

theorem safe_k0_part44 {i : grid0.Coords} {v1238 : FVec F S256x128 .f32} :
    Safe c σ₀ (k0_part44 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1238) := by
  rw [k0_part44_eq_skeleton]
  unfold k0_part44_skel
  refine Safe.bind safe_load6 fun _ => ?_
  refine Safe.bind safe_load10 fun _ => ?_
  refine Safe.bind safe_store10 fun _ => ?_
  refine Safe.bind safe_load16 fun _ => ?_
  refine Safe.bind safe_load17 fun _ => ?_
  refine Safe.bind safe_load6 fun _ => ?_
  refine Safe.bind safe_load10 fun _ => ?_
  refine Safe.bind safe_store10 fun _ => ?_
  refine Safe.bind safe_load16 fun _ => ?_
  refine Safe.bind safe_load17 fun _ => ?_
  refine Safe.bind safe_load6 fun _ => ?_
  exact Safe.pure _

theorem safe_k0_part45 {i : grid0.Coords} {v1272 : FVec F S256x128 .bf16} :
    Safe c σ₀ (k0_part45 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1272) := by
  rw [k0_part45_eq_skeleton]
  unfold k0_part45_skel
  refine Safe.bind safe_load10 fun _ => ?_
  refine Safe.bind safe_store10 fun _ => ?_
  refine Safe.bind safe_load16 fun _ => ?_
  refine Safe.bind safe_load17 fun _ => ?_
  refine Safe.bind safe_load6 fun _ => ?_
  refine Safe.bind safe_load10 fun _ => ?_
  refine Safe.bind safe_store10 fun _ => ?_
  refine Safe.bind safe_load16 fun _ => ?_
  refine Safe.bind safe_load17 fun _ => ?_
  refine Safe.bind safe_load6 fun _ => ?_
  refine Safe.bind safe_load10 fun _ => ?_
  refine Safe.bind safe_store10 fun _ => ?_
  refine Safe.bind safe_load16 fun _ => ?_
  exact Safe.pure _

theorem safe_k0_part46 {i : grid0.Coords} {v1305 : FVec F S8x256 .f32} :
    Safe c σ₀ (k0_part46 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1305) := by
  rw [k0_part46_eq_skeleton]
  unfold k0_part46_skel
  refine Safe.bind safe_load17 fun _ => ?_
  refine Safe.bind safe_load6 fun _ => ?_
  refine Safe.bind safe_load10 fun _ => ?_
  refine Safe.bind safe_store10 fun _ => ?_
  refine Safe.bind safe_load16 fun _ => ?_
  refine Safe.bind safe_load17 fun _ => ?_
  refine Safe.bind safe_load6 fun _ => ?_
  refine Safe.bind safe_load10 fun _ => ?_
  refine Safe.bind safe_store10 fun _ => ?_
  refine Safe.bind safe_load16 fun _ => ?_
  refine Safe.bind safe_load17 fun _ => ?_
  exact Safe.pure _

theorem safe_k0_part47 {i : grid0.Coords} {v1341 : FVec F S16x8x256 .f32} :
    Safe c σ₀ (k0_part47 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1341) := by
  rw [k0_part47_eq_skeleton]
  unfold k0_part47_skel
  refine Safe.bind safe_load6 fun _ => ?_
  refine Safe.bind safe_load10 fun _ => ?_
  refine Safe.bind safe_store10 fun _ => ?_
  refine Safe.bind safe_load16 fun _ => ?_
  refine Safe.bind safe_load17 fun _ => ?_
  refine Safe.bind safe_load6 fun _ => ?_
  refine Safe.bind safe_load10 fun _ => ?_
  refine Safe.bind safe_store10 fun _ => ?_
  refine Safe.bind safe_load16 fun _ => ?_
  refine Safe.bind safe_load17 fun _ => ?_
  refine Safe.bind safe_load6 fun _ => ?_
  exact Safe.pure _

theorem safe_k0_part48 {i : grid0.Coords}  :
    Safe c σ₀ (k0_part48 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 ) := by
  rw [k0_part48_eq_skeleton]
  unfold k0_part48_skel
  refine Safe.bind safe_k0_part42 fun _ => ?_
  refine Safe.bind safe_k0_part43 fun _ => ?_
  refine Safe.bind safe_k0_part44 fun _ => ?_
  refine Safe.bind safe_k0_part45 fun _ => ?_
  refine Safe.bind safe_k0_part46 fun _ => ?_
  refine Safe.bind safe_k0_part47 fun _ => ?_
  refine Safe.bind safe_load10 fun _ => ?_
  refine Safe.bind safe_store10 fun _ => ?_
  refine Safe.bind safe_load16 fun _ => ?_
  refine Safe.bind safe_load17 fun _ => ?_
  refine Safe.bind safe_load6 fun _ => ?_
  refine Safe.bind safe_load10 fun _ => ?_
  refine Safe.bind safe_store10 fun _ => ?_
  refine Safe.bind safe_load16 fun _ => ?_
  refine Safe.bind safe_load17 fun _ => ?_
  refine Safe.bind safe_load6 fun _ => ?_
  exact Safe.pure _

theorem safe_k0_part49 {i : grid0.Coords}  (hT : Tables σ₀) :
    Safe c σ₀ (k0_part49 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 ) := by
  rw [k0_part49_eq_skeleton]
  unfold k0_part49_skel
  refine Safe.smem1 fun _ => ?_
  refine Safe.smem2 fun _ => ?_
  refine Safe.assume (k0_chk1_of (hT.1 _) (hT.2 _)) fun _ => ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.skip ?_
  refine Safe.dite (fun h => ?_) fun h => ?_
  · refine Safe.bind safe_k0_part39 fun x => ?_
    rcases x with ⟨_, _, _, _, _, _⟩
    refine Safe.bind safe_k0_part40 fun x => ?_
    rcases x with ⟨_, _, _⟩
    refine Safe.bind (safe_k0_part41 (hT.1 _)) fun x => ?_
    rcases x with ⟨_, _⟩
    refine Safe.bind safe_store16 fun _ => ?_
    refine Safe.bind safe_load17 fun _ => ?_
    refine Safe.bind safe_store17 fun _ => ?_
    refine Safe.skip ?_
    refine Safe.skip ?_
    refine Safe.bind safe_load4 fun _ => ?_
    refine Safe.bind safe_load3 fun _ => ?_
    exact Safe.pure _
  · refine Safe.skip ?_
    refine Safe.skip ?_
    refine Safe.bind safe_load4 fun _ => ?_
    refine Safe.bind safe_load3 fun _ => ?_
    exact Safe.pure _

theorem safe_k0_part50 {i : grid0.Coords} {v1 : Elt F .i32} {v3 : Elt F .i32} {k0_hw1 : k0_chk1 v1 v3} {v28 : BitVec 32} {v34 : FVec F S512x256 .f32} :
    Safe c σ₀ (k0_part50 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v34) := by
  rw [k0_part50_eq_skeleton]
  unfold k0_part50_skel
  refine Safe.bind safe_load12 fun _ => ?_
  refine Safe.bind safe_store12 fun _ => ?_
  refine Safe.bind safe_load4 fun _ => ?_
  refine Safe.bind safe_load3 fun _ => ?_
  refine Safe.bind safe_load12 fun _ => ?_
  refine Safe.bind safe_store12 fun _ => ?_
  refine Safe.bind safe_load4 fun _ => ?_
  refine Safe.bind safe_load3 fun _ => ?_
  refine Safe.bind safe_load12 fun _ => ?_
  refine Safe.bind safe_store12 fun _ => ?_
  refine Safe.bind safe_load12 fun _ => ?_
  refine Safe.bind safe_load11 fun _ => ?_
  refine Safe.bind safe_load15 fun _ => ?_
  exact Safe.pure _

end Cert.KernelIdeal.Body

end
-- ==== Proof.Parts2.lean ====
/- The parts of the attention call's body are safe (part 2 of 2): each runs to its end from any state of its buffers and keeps the buffers it only reads. -/
module

public import proofs.«01_k».proof.Proof.Parts1

@[expose] public section

noncomputable section

namespace Cert.KernelIdeal.Body

open Idealize.ShloMosaic Idealize.ShloMosaic.TcCoe Idealize.SL.RA Idealize.SL.Sem
open Cert.KernelIdeal Cert.KernelIdeal.Gen Cert.Proof

variable {F : FTy → Type} [FloatOps F] [Named F] {A : Args} {c : Dev nD} {σ₀ : St F A}

theorem safe_k0_part51 {i : grid0.Coords} {v59 : FVec F S64x8x256 .f32} {v61 : FVec F S8x256 .f32} {v62 : FVec F S16x4x8x256 .f32} :
    Safe c σ₀ (k0_part51 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v59 v61 v62) := by
  rw [k0_part51_eq_skeleton]
  unfold k0_part51_skel
  refine Safe.bind safe_load13 fun _ => ?_
  refine Safe.bind safe_store13 fun _ => ?_
  refine Safe.bind safe_load14 fun _ => ?_
  refine Safe.bind safe_store14 fun _ => ?_
  refine Safe.bind safe_load15 fun _ => ?_
  refine Safe.bind safe_store15 fun _ => ?_
  refine Safe.bind safe_load4 fun _ => ?_
  refine Safe.bind safe_load3 fun _ => ?_
  refine Safe.bind safe_load12 fun _ => ?_
  exact Safe.pure _

theorem safe_k0_part52 {i : grid0.Coords} {v1 : Elt F .i32} {v3 : Elt F .i32} {k0_hw1 : k0_chk1 v1 v3} {v28 : BitVec 32} {v93 : FVec F S512x256 .f32} :
    Safe c σ₀ (k0_part52 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v93) := by
  rw [k0_part52_eq_skeleton]
  unfold k0_part52_skel
  refine Safe.bind safe_store12 fun _ => ?_
  refine Safe.bind safe_load12 fun _ => ?_
  refine Safe.bind safe_load11 fun _ => ?_
  refine Safe.bind safe_load15 fun _ => ?_
  refine Safe.bind safe_load13 fun _ => ?_
  refine Safe.bind safe_store13 fun _ => ?_
  refine Safe.bind safe_load14 fun _ => ?_
  refine Safe.bind safe_store14 fun _ => ?_
  refine Safe.bind safe_load15 fun _ => ?_
  exact Safe.pure _

theorem safe_k0_part53 {i : grid0.Coords} {v29 : FVec F S16x512 .bf16} {v131 : FVec F S1x8x256 .f32} :
    Safe c σ₀ (k0_part53 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v131) := by
  rw [k0_part53_eq_skeleton]
  unfold k0_part53_skel
  refine Safe.bind safe_store15 fun _ => ?_
  refine Safe.bind safe_load5 fun _ => ?_
  refine Safe.bind safe_load13 fun _ => ?_
  refine Safe.bind safe_load14 fun _ => ?_
  refine Safe.bind safe_load17 fun _ => ?_
  refine Safe.bind safe_load17 fun _ => ?_
  refine Safe.bind safe_store17 fun _ => ?_
  refine Safe.bind safe_load16 fun _ => ?_
  refine Safe.bind safe_load16 fun _ => ?_
  refine Safe.bind safe_store16 fun _ => ?_
  refine Safe.bind safe_load4 fun _ => ?_
  exact Safe.pure _

theorem safe_k0_part54 {i : grid0.Coords} {v1 : Elt F .i32} {v3 : Elt F .i32} {k0_hw1 : k0_chk1 v1 v3} {v28 : BitVec 32} {v161 : FVec F S512x128 .bf16} :
    Safe c σ₀ (k0_part54 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v161) := by
  rw [k0_part54_eq_skeleton]
  unfold k0_part54_skel
  refine Safe.bind safe_load3 fun _ => ?_
  refine Safe.bind safe_load12 fun _ => ?_
  refine Safe.bind safe_store12 fun _ => ?_
  refine Safe.bind safe_load12 fun _ => ?_
  refine Safe.bind safe_load11 fun _ => ?_
  refine Safe.bind safe_load15 fun _ => ?_
  refine Safe.bind safe_load13 fun _ => ?_
  refine Safe.bind safe_store13 fun _ => ?_
  exact Safe.pure _

theorem safe_k0_part55 {i : grid0.Coords} {v29 : FVec F S16x512 .bf16} {v185 : FVec F S8x256 .f32} {v187 : FVec F S8x256 .f32} :
    Safe c σ₀ (k0_part55 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v185 v187) := by
  rw [k0_part55_eq_skeleton]
  unfold k0_part55_skel
  refine Safe.bind safe_load14 fun _ => ?_
  refine Safe.bind safe_store14 fun _ => ?_
  refine Safe.bind safe_load15 fun _ => ?_
  refine Safe.bind safe_store15 fun _ => ?_
  refine Safe.bind safe_load5 fun _ => ?_
  refine Safe.bind safe_load13 fun _ => ?_
  refine Safe.bind safe_load14 fun _ => ?_
  refine Safe.bind safe_load17 fun _ => ?_
  refine Safe.bind safe_load17 fun _ => ?_
  refine Safe.bind safe_store17 fun _ => ?_
  refine Safe.bind safe_load16 fun _ => ?_
  refine Safe.bind safe_load16 fun _ => ?_
  exact Safe.pure _

theorem safe_k0_part56 {i : grid0.Coords} {v1 : Elt F .i32} {v3 : Elt F .i32} {k0_hw1 : k0_chk1 v1 v3} {v28 : BitVec 32} {v227 : FVec F S8x256 .f32} {v228 : Vec F S1x8x256 .f32} :
    Safe c σ₀ (k0_part56 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v227 v228) := by
  rw [k0_part56_eq_skeleton]
  unfold k0_part56_skel
  refine Safe.bind safe_store16 fun _ => ?_
  refine Safe.bind safe_load4 fun _ => ?_
  refine Safe.bind safe_load3 fun _ => ?_
  refine Safe.bind safe_load12 fun _ => ?_
  refine Safe.bind safe_store12 fun _ => ?_
  refine Safe.bind safe_load12 fun _ => ?_
  refine Safe.bind safe_load11 fun _ => ?_
  refine Safe.bind safe_load15 fun _ => ?_
  exact Safe.pure _

theorem safe_k0_part57 {i : grid0.Coords} {v29 : FVec F S16x512 .bf16} {v256 : FVec F S8x256 .f32} {v258 : FVec F S8x256 .f32} {v264 : FVec F S512x256 .bf16} :
    Safe c σ₀ (k0_part57 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v256 v258 v264) := by
  rw [k0_part57_eq_skeleton]
  unfold k0_part57_skel
  refine Safe.bind safe_load13 fun _ => ?_
  refine Safe.bind safe_store13 fun _ => ?_
  refine Safe.bind safe_load14 fun _ => ?_
  refine Safe.bind safe_store14 fun _ => ?_
  refine Safe.bind safe_load15 fun _ => ?_
  refine Safe.bind safe_store15 fun _ => ?_
  refine Safe.bind safe_load5 fun _ => ?_
  refine Safe.bind safe_load13 fun _ => ?_
  refine Safe.bind safe_load14 fun _ => ?_
  refine Safe.bind safe_load17 fun _ => ?_
  refine Safe.bind safe_load17 fun _ => ?_
  refine Safe.bind safe_store17 fun _ => ?_
  exact Safe.pure _

theorem safe_k0_part58 {i : grid0.Coords} {v1 : Elt F .i32} {v3 : Elt F .i32} {k0_hw1 : k0_chk1 v1 v3} {v28 : BitVec 32} {v279 : FVec F S144x256 .f32} {v281 : FVec F S8x256 .f32} :
    Safe c σ₀ (k0_part58 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v279 v281) := by
  rw [k0_part58_eq_skeleton]
  unfold k0_part58_skel
  refine Safe.bind safe_load16 fun _ => ?_
  refine Safe.bind safe_load16 fun _ => ?_
  refine Safe.bind safe_store16 fun _ => ?_
  refine Safe.bind safe_load4 fun _ => ?_
  refine Safe.bind safe_load3 fun _ => ?_
  refine Safe.bind safe_load12 fun _ => ?_
  refine Safe.bind safe_store12 fun _ => ?_
  refine Safe.bind safe_load12 fun _ => ?_
  refine Safe.bind safe_load11 fun _ => ?_
  refine Safe.bind safe_load15 fun _ => ?_
  exact Safe.pure _

theorem safe_k0_part59 {i : grid0.Coords} {v29 : FVec F S16x512 .bf16} {v315 : FVec F S64x8x256 .f32} {v317 : FVec F S8x256 .f32} {v324 : FVec F S8x256 .f32} {v325 : FVec F S8x256 .f32} :
    Safe c σ₀ (k0_part59 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v315 v317 v324 v325) := by
  rw [k0_part59_eq_skeleton]
  unfold k0_part59_skel
  refine Safe.bind safe_load13 fun _ => ?_
  refine Safe.bind safe_store13 fun _ => ?_
  refine Safe.bind safe_load14 fun _ => ?_
  refine Safe.bind safe_store14 fun _ => ?_
  refine Safe.bind safe_load15 fun _ => ?_
  refine Safe.bind safe_store15 fun _ => ?_
  refine Safe.bind safe_load5 fun _ => ?_
  refine Safe.bind safe_load13 fun _ => ?_
  refine Safe.bind safe_load14 fun _ => ?_
  refine Safe.bind safe_load17 fun _ => ?_
  exact Safe.pure _

theorem safe_k0_part60 {i : grid0.Coords} {v1 : Elt F .i32} {v3 : Elt F .i32} {k0_hw1 : k0_chk1 v1 v3} {v28 : BitVec 32} {v350 : FVec F S144x256 .f32} {v352 : FVec F S8x256 .f32} {v359 : FVec F S128x256 .f32} {v360 : FVec F S128x256 .f32} :
    Safe c σ₀ (k0_part60 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v350 v352 v359 v360) := by
  rw [k0_part60_eq_skeleton]
  unfold k0_part60_skel
  refine Safe.bind safe_load17 fun _ => ?_
  refine Safe.bind safe_store17 fun _ => ?_
  refine Safe.bind safe_load16 fun _ => ?_
  refine Safe.bind safe_load16 fun _ => ?_
  refine Safe.bind safe_store16 fun _ => ?_
  refine Safe.bind safe_load4 fun _ => ?_
  refine Safe.bind safe_load3 fun _ => ?_
  refine Safe.bind safe_load12 fun _ => ?_
  refine Safe.bind safe_store12 fun _ => ?_
  refine Safe.bind safe_load12 fun _ => ?_
  refine Safe.bind safe_load11 fun _ => ?_
  refine Safe.bind safe_load15 fun _ => ?_
  exact Safe.pure _

theorem safe_k0_part61 {i : grid0.Coords} {v29 : FVec F S16x512 .bf16} {v386 : FVec F S64x8x256 .f32} {v388 : FVec F S8x256 .f32} {v390 : FVec F S4x8x256 .f32} :
    Safe c σ₀ (k0_part61 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v386 v388 v390) := by
  rw [k0_part61_eq_skeleton]
  unfold k0_part61_skel
  refine Safe.bind safe_load13 fun _ => ?_
  refine Safe.bind safe_store13 fun _ => ?_
  refine Safe.bind safe_load14 fun _ => ?_
  refine Safe.bind safe_store14 fun _ => ?_
  refine Safe.bind safe_load15 fun _ => ?_
  refine Safe.bind safe_store15 fun _ => ?_
  refine Safe.bind safe_load5 fun _ => ?_
  refine Safe.bind safe_load13 fun _ => ?_
  refine Safe.bind safe_load14 fun _ => ?_
  exact Safe.pure _

theorem safe_k0_part62 {i : grid0.Coords} {v1 : Elt F .i32} {v3 : Elt F .i32} {k0_hw1 : k0_chk1 v1 v3} {v28 : BitVec 32} {v421 : FVec F S144x256 .f32} {v423 : FVec F S8x256 .f32} :
    Safe c σ₀ (k0_part62 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v421 v423) := by
  rw [k0_part62_eq_skeleton]
  unfold k0_part62_skel
  refine Safe.bind safe_load17 fun _ => ?_
  refine Safe.bind safe_load17 fun _ => ?_
  refine Safe.bind safe_store17 fun _ => ?_
  refine Safe.bind safe_load16 fun _ => ?_
  refine Safe.bind safe_load16 fun _ => ?_
  refine Safe.bind safe_store16 fun _ => ?_
  refine Safe.bind safe_load4 fun _ => ?_
  refine Safe.bind safe_load3 fun _ => ?_
  refine Safe.bind safe_load12 fun _ => ?_
  refine Safe.bind safe_store12 fun _ => ?_
  refine Safe.bind safe_load12 fun _ => ?_
  refine Safe.bind safe_load11 fun _ => ?_
  exact Safe.pure _

theorem safe_k0_part63 {i : grid0.Coords} {v29 : FVec F S16x512 .bf16} {v453 : FVec F S512x256 .f32} {v455 : Vec F S512x256 .f32} :
    Safe c σ₀ (k0_part63 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v453 v455) := by
  rw [k0_part63_eq_skeleton]
  unfold k0_part63_skel
  refine Safe.bind safe_load15 fun _ => ?_
  refine Safe.bind safe_load13 fun _ => ?_
  refine Safe.bind safe_store13 fun _ => ?_
  refine Safe.bind safe_load14 fun _ => ?_
  refine Safe.bind safe_store14 fun _ => ?_
  refine Safe.bind safe_load15 fun _ => ?_
  refine Safe.bind safe_store15 fun _ => ?_
  refine Safe.bind safe_load5 fun _ => ?_
  exact Safe.pure _

theorem safe_k0_part64 {i : grid0.Coords} {v489 : FVec F S144x512 .bf16} :
    Safe c σ₀ (k0_part64 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v489) := by
  rw [k0_part64_eq_skeleton]
  unfold k0_part64_skel
  refine Safe.bind safe_load13 fun _ => ?_
  refine Safe.bind safe_load14 fun _ => ?_
  refine Safe.bind safe_load17 fun _ => ?_
  refine Safe.bind safe_load17 fun _ => ?_
  refine Safe.bind safe_store17 fun _ => ?_
  refine Safe.bind safe_load16 fun _ => ?_
  refine Safe.bind safe_load16 fun _ => ?_
  refine Safe.bind safe_store16 fun _ => ?_
  refine Safe.bind safe_load4 fun _ => ?_
  refine Safe.bind safe_load3 fun _ => ?_
  refine Safe.bind safe_load12 fun _ => ?_
  exact Safe.pure _

theorem safe_k0_part65 {i : grid0.Coords} {v1 : Elt F .i32} {v3 : Elt F .i32} {k0_hw1 : k0_chk1 v1 v3} {v28 : BitVec 32} {v519 : FVec F S512x256 .f32} :
    Safe c σ₀ (k0_part65 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v519) := by
  rw [k0_part65_eq_skeleton]
  unfold k0_part65_skel
  refine Safe.bind safe_store12 fun _ => ?_
  refine Safe.bind safe_load12 fun _ => ?_
  refine Safe.bind safe_load11 fun _ => ?_
  refine Safe.bind safe_load15 fun _ => ?_
  refine Safe.bind safe_load13 fun _ => ?_
  refine Safe.bind safe_store13 fun _ => ?_
  refine Safe.bind safe_load14 fun _ => ?_
  refine Safe.bind safe_store14 fun _ => ?_
  refine Safe.bind safe_load15 fun _ => ?_
  exact Safe.pure _

theorem safe_k0_part66 {i : grid0.Coords} {v29 : FVec F S16x512 .bf16} {v557 : FVec F S1x8x256 .f32} :
    Safe c σ₀ (k0_part66 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v557) := by
  rw [k0_part66_eq_skeleton]
  unfold k0_part66_skel
  refine Safe.bind safe_store15 fun _ => ?_
  refine Safe.bind safe_load5 fun _ => ?_
  refine Safe.bind safe_load13 fun _ => ?_
  refine Safe.bind safe_load14 fun _ => ?_
  refine Safe.bind safe_load17 fun _ => ?_
  refine Safe.bind safe_load17 fun _ => ?_
  refine Safe.bind safe_store17 fun _ => ?_
  refine Safe.bind safe_load16 fun _ => ?_
  refine Safe.bind safe_load16 fun _ => ?_
  refine Safe.bind safe_store16 fun _ => ?_
  refine Safe.bind safe_load4 fun _ => ?_
  exact Safe.pure _

theorem safe_k0_part67 {i : grid0.Coords} {v1 : Elt F .i32} {v3 : Elt F .i32} {k0_hw1 : k0_chk1 v1 v3} {v28 : BitVec 32} {v587 : FVec F S512x128 .bf16} :
    Safe c σ₀ (k0_part67 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v587) := by
  rw [k0_part67_eq_skeleton]
  unfold k0_part67_skel
  refine Safe.bind safe_load3 fun _ => ?_
  refine Safe.bind safe_load12 fun _ => ?_
  refine Safe.bind safe_store12 fun _ => ?_
  refine Safe.bind safe_load12 fun _ => ?_
  refine Safe.bind safe_load11 fun _ => ?_
  refine Safe.bind safe_load15 fun _ => ?_
  refine Safe.bind safe_load13 fun _ => ?_
  refine Safe.bind safe_store13 fun _ => ?_
  exact Safe.pure _

theorem safe_k0_part68 {i : grid0.Coords} {v29 : FVec F S16x512 .bf16} {v611 : FVec F S8x256 .f32} {v613 : FVec F S8x256 .f32} :
    Safe c σ₀ (k0_part68 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v611 v613) := by
  rw [k0_part68_eq_skeleton]
  unfold k0_part68_skel
  refine Safe.bind safe_load14 fun _ => ?_
  refine Safe.bind safe_store14 fun _ => ?_
  refine Safe.bind safe_load15 fun _ => ?_
  refine Safe.bind safe_store15 fun _ => ?_
  refine Safe.bind safe_load5 fun _ => ?_
  refine Safe.bind safe_load13 fun _ => ?_
  refine Safe.bind safe_load14 fun _ => ?_
  refine Safe.bind safe_load17 fun _ => ?_
  refine Safe.bind safe_load17 fun _ => ?_
  refine Safe.bind safe_store17 fun _ => ?_
  refine Safe.bind safe_load16 fun _ => ?_
  refine Safe.bind safe_load16 fun _ => ?_
  exact Safe.pure _

theorem safe_k0_part69 {i : grid0.Coords} {v1 : Elt F .i32} {v3 : Elt F .i32} {k0_hw1 : k0_chk1 v1 v3} {v28 : BitVec 32} {v653 : FVec F S8x256 .f32} {v654 : Vec F S1x8x256 .f32} :
    Safe c σ₀ (k0_part69 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v653 v654) := by
  rw [k0_part69_eq_skeleton]
  unfold k0_part69_skel
  refine Safe.bind safe_store16 fun _ => ?_
  refine Safe.bind safe_load4 fun _ => ?_
  refine Safe.bind safe_load3 fun _ => ?_
  refine Safe.bind safe_load12 fun _ => ?_
  refine Safe.bind safe_store12 fun _ => ?_
  refine Safe.bind safe_load12 fun _ => ?_
  refine Safe.bind safe_load11 fun _ => ?_
  refine Safe.bind safe_load15 fun _ => ?_
  exact Safe.pure _

theorem safe_k0_part70 {i : grid0.Coords} {v29 : FVec F S16x512 .bf16} {v682 : FVec F S8x256 .f32} {v684 : FVec F S8x256 .f32} {v690 : FVec F S512x256 .bf16} :
    Safe c σ₀ (k0_part70 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v682 v684 v690) := by
  rw [k0_part70_eq_skeleton]
  unfold k0_part70_skel
  refine Safe.bind safe_load13 fun _ => ?_
  refine Safe.bind safe_store13 fun _ => ?_
  refine Safe.bind safe_load14 fun _ => ?_
  refine Safe.bind safe_store14 fun _ => ?_
  refine Safe.bind safe_load15 fun _ => ?_
  refine Safe.bind safe_store15 fun _ => ?_
  refine Safe.bind safe_load5 fun _ => ?_
  refine Safe.bind safe_load13 fun _ => ?_
  refine Safe.bind safe_load14 fun _ => ?_
  refine Safe.bind safe_load17 fun _ => ?_
  refine Safe.bind safe_load17 fun _ => ?_
  refine Safe.bind safe_store17 fun _ => ?_
  exact Safe.pure _

theorem safe_k0_part71 {i : grid0.Coords} {v1 : Elt F .i32} {v3 : Elt F .i32} {k0_hw1 : k0_chk1 v1 v3} {v28 : BitVec 32} {v705 : FVec F S144x256 .f32} {v707 : FVec F S8x256 .f32} :
    Safe c σ₀ (k0_part71 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v705 v707) := by
  rw [k0_part71_eq_skeleton]
  unfold k0_part71_skel
  refine Safe.bind safe_load16 fun _ => ?_
  refine Safe.bind safe_load16 fun _ => ?_
  refine Safe.bind safe_store16 fun _ => ?_
  refine Safe.bind safe_load4 fun _ => ?_
  refine Safe.bind safe_load3 fun _ => ?_
  refine Safe.bind safe_load12 fun _ => ?_
  refine Safe.bind safe_store12 fun _ => ?_
  refine Safe.bind safe_load12 fun _ => ?_
  refine Safe.bind safe_load11 fun _ => ?_
  refine Safe.bind safe_load15 fun _ => ?_
  exact Safe.pure _

theorem safe_k0_part72 {i : grid0.Coords} {v29 : FVec F S16x512 .bf16} {v741 : FVec F S64x8x256 .f32} {v743 : FVec F S8x256 .f32} {v750 : FVec F S8x256 .f32} {v751 : FVec F S8x256 .f32} :
    Safe c σ₀ (k0_part72 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v741 v743 v750 v751) := by
  rw [k0_part72_eq_skeleton]
  unfold k0_part72_skel
  refine Safe.bind safe_load13 fun _ => ?_
  refine Safe.bind safe_store13 fun _ => ?_
  refine Safe.bind safe_load14 fun _ => ?_
  refine Safe.bind safe_store14 fun _ => ?_
  refine Safe.bind safe_load15 fun _ => ?_
  refine Safe.bind safe_store15 fun _ => ?_
  refine Safe.bind safe_load5 fun _ => ?_
  refine Safe.bind safe_load13 fun _ => ?_
  refine Safe.bind safe_load14 fun _ => ?_
  refine Safe.bind safe_load17 fun _ => ?_
  exact Safe.pure _

theorem safe_k0_part73 {i : grid0.Coords} {v1 : Elt F .i32} {v3 : Elt F .i32} {k0_hw1 : k0_chk1 v1 v3} {v28 : BitVec 32} {v776 : FVec F S144x256 .f32} {v778 : FVec F S8x256 .f32} {v785 : FVec F S128x256 .f32} {v786 : FVec F S128x256 .f32} :
    Safe c σ₀ (k0_part73 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v776 v778 v785 v786) := by
  rw [k0_part73_eq_skeleton]
  unfold k0_part73_skel
  refine Safe.bind safe_load17 fun _ => ?_
  refine Safe.bind safe_store17 fun _ => ?_
  refine Safe.bind safe_load16 fun _ => ?_
  refine Safe.bind safe_load16 fun _ => ?_
  refine Safe.bind safe_store16 fun _ => ?_
  refine Safe.bind safe_load4 fun _ => ?_
  refine Safe.bind safe_load3 fun _ => ?_
  refine Safe.bind safe_load12 fun _ => ?_
  refine Safe.bind safe_store12 fun _ => ?_
  refine Safe.bind safe_load12 fun _ => ?_
  refine Safe.bind safe_load11 fun _ => ?_
  refine Safe.bind safe_load15 fun _ => ?_
  exact Safe.pure _

theorem safe_k0_part74 {i : grid0.Coords} {v29 : FVec F S16x512 .bf16} {v812 : FVec F S64x8x256 .f32} {v814 : FVec F S8x256 .f32} {v816 : FVec F S4x8x256 .f32} :
    Safe c σ₀ (k0_part74 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v812 v814 v816) := by
  rw [k0_part74_eq_skeleton]
  unfold k0_part74_skel
  refine Safe.bind safe_load13 fun _ => ?_
  refine Safe.bind safe_store13 fun _ => ?_
  refine Safe.bind safe_load14 fun _ => ?_
  refine Safe.bind safe_store14 fun _ => ?_
  refine Safe.bind safe_load15 fun _ => ?_
  refine Safe.bind safe_store15 fun _ => ?_
  refine Safe.bind safe_load5 fun _ => ?_
  refine Safe.bind safe_load13 fun _ => ?_
  refine Safe.bind safe_load14 fun _ => ?_
  exact Safe.pure _

theorem safe_k0_part75 {i : grid0.Coords} {v1 : Elt F .i32} {v3 : Elt F .i32} {k0_hw1 : k0_chk1 v1 v3} {v28 : BitVec 32} {v847 : FVec F S144x256 .f32} {v849 : FVec F S8x256 .f32} :
    Safe c σ₀ (k0_part75 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v847 v849) := by
  rw [k0_part75_eq_skeleton]
  unfold k0_part75_skel
  refine Safe.bind safe_load17 fun _ => ?_
  refine Safe.bind safe_load17 fun _ => ?_
  refine Safe.bind safe_store17 fun _ => ?_
  refine Safe.bind safe_load16 fun _ => ?_
  refine Safe.bind safe_load16 fun _ => ?_
  refine Safe.bind safe_store16 fun _ => ?_
  refine Safe.bind safe_load4 fun _ => ?_
  refine Safe.bind safe_load3 fun _ => ?_
  refine Safe.bind safe_load12 fun _ => ?_
  refine Safe.bind safe_store12 fun _ => ?_
  refine Safe.bind safe_load12 fun _ => ?_
  refine Safe.bind safe_load11 fun _ => ?_
  exact Safe.pure _

theorem safe_k0_part76 {i : grid0.Coords} {v29 : FVec F S16x512 .bf16} {v879 : FVec F S512x256 .f32} {v881 : Vec F S512x256 .f32} :
    Safe c σ₀ (k0_part76 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v879 v881) := by
  rw [k0_part76_eq_skeleton]
  unfold k0_part76_skel
  refine Safe.bind safe_load15 fun _ => ?_
  refine Safe.bind safe_load13 fun _ => ?_
  refine Safe.bind safe_store13 fun _ => ?_
  refine Safe.bind safe_load14 fun _ => ?_
  refine Safe.bind safe_store14 fun _ => ?_
  refine Safe.bind safe_load15 fun _ => ?_
  refine Safe.bind safe_store15 fun _ => ?_
  refine Safe.bind safe_load5 fun _ => ?_
  exact Safe.pure _

theorem safe_k0_part77 {i : grid0.Coords} {v915 : FVec F S144x512 .bf16} :
    Safe c σ₀ (k0_part77 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v915) := by
  rw [k0_part77_eq_skeleton]
  unfold k0_part77_skel
  refine Safe.bind safe_load13 fun _ => ?_
  refine Safe.bind safe_load14 fun _ => ?_
  refine Safe.bind safe_load17 fun _ => ?_
  refine Safe.bind safe_load17 fun _ => ?_
  refine Safe.bind safe_store17 fun _ => ?_
  refine Safe.bind safe_load16 fun _ => ?_
  refine Safe.bind safe_load16 fun _ => ?_
  refine Safe.bind safe_store16 fun _ => ?_
  refine Safe.bind safe_load4 fun _ => ?_
  refine Safe.bind safe_load3 fun _ => ?_
  refine Safe.bind safe_load12 fun _ => ?_
  exact Safe.pure _

theorem safe_k0_part78 {i : grid0.Coords} {v1 : Elt F .i32} {v3 : Elt F .i32} {k0_hw1 : k0_chk1 v1 v3} {v28 : BitVec 32} {v945 : FVec F S512x256 .f32} :
    Safe c σ₀ (k0_part78 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v945) := by
  rw [k0_part78_eq_skeleton]
  unfold k0_part78_skel
  refine Safe.bind safe_store12 fun _ => ?_
  refine Safe.bind safe_load12 fun _ => ?_
  refine Safe.bind safe_load11 fun _ => ?_
  refine Safe.bind safe_load15 fun _ => ?_
  refine Safe.bind safe_load13 fun _ => ?_
  refine Safe.bind safe_store13 fun _ => ?_
  refine Safe.bind safe_load14 fun _ => ?_
  refine Safe.bind safe_store14 fun _ => ?_
  refine Safe.bind safe_load15 fun _ => ?_
  exact Safe.pure _

theorem safe_k0_part79 {i : grid0.Coords} {v28 : BitVec 32} {v29 : FVec F S16x512 .bf16} {v983 : FVec F S1x8x256 .f32} :
    Safe c σ₀ (k0_part79 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v28 v29 v983) := by
  rw [k0_part79_eq_skeleton]
  unfold k0_part79_skel
  refine Safe.bind safe_store15 fun _ => ?_
  refine Safe.bind safe_load5 fun _ => ?_
  refine Safe.bind safe_load13 fun _ => ?_
  refine Safe.bind safe_load14 fun _ => ?_
  refine Safe.bind safe_load17 fun _ => ?_
  refine Safe.bind safe_load17 fun _ => ?_
  refine Safe.bind safe_store17 fun _ => ?_
  refine Safe.bind safe_load16 fun _ => ?_
  refine Safe.bind safe_load16 fun _ => ?_
  refine Safe.bind safe_store16 fun _ => ?_
  refine Safe.bind safe_load12 fun _ => ?_
  exact Safe.pure _

theorem safe_k0_part80 {i : grid0.Coords} {v1 : Elt F .i32} {v3 : Elt F .i32} {k0_hw1 : k0_chk1 v1 v3} {v29 : FVec F S16x512 .bf16} {v1013 : FVec F S512x256 .f32} :
    Safe c σ₀ (k0_part80 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v29 v1013) := by
  rw [k0_part80_eq_skeleton]
  unfold k0_part80_skel
  refine Safe.bind safe_load11 fun _ => ?_
  refine Safe.bind safe_load15 fun _ => ?_
  refine Safe.bind safe_load13 fun _ => ?_
  refine Safe.bind safe_store13 fun _ => ?_
  refine Safe.bind safe_load14 fun _ => ?_
  refine Safe.bind safe_store14 fun _ => ?_
  refine Safe.bind safe_load15 fun _ => ?_
  refine Safe.bind safe_store15 fun _ => ?_
  refine Safe.bind safe_load5 fun _ => ?_
  exact Safe.pure _

theorem safe_k0_part81 {i : grid0.Coords} {v1 : Elt F .i32} {v3 : Elt F .i32} {k0_hw1 : k0_chk1 v1 v3} {v28 : BitVec 32} {v1049 : FVec F S144x512 .bf16} :
    Safe c σ₀ (k0_part81 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v1049) := by
  rw [k0_part81_eq_skeleton]
  unfold k0_part81_skel
  refine Safe.bind safe_load13 fun _ => ?_
  refine Safe.bind safe_load14 fun _ => ?_
  refine Safe.bind safe_load17 fun _ => ?_
  refine Safe.bind safe_load17 fun _ => ?_
  refine Safe.bind safe_store17 fun _ => ?_
  refine Safe.bind safe_load16 fun _ => ?_
  refine Safe.bind safe_load16 fun _ => ?_
  refine Safe.bind safe_store16 fun _ => ?_
  refine Safe.bind safe_load12 fun _ => ?_
  refine Safe.bind safe_load11 fun _ => ?_
  refine Safe.bind safe_load15 fun _ => ?_
  exact Safe.pure _

theorem safe_k0_part82 {i : grid0.Coords} {v29 : FVec F S16x512 .bf16} {v1080 : FVec F S64x8x256 .f32} {v1082 : FVec F S8x256 .f32} {v1083 : FVec F S16x4x8x256 .f32} :
    Safe c σ₀ (k0_part82 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v1080 v1082 v1083) := by
  rw [k0_part82_eq_skeleton]
  unfold k0_part82_skel
  refine Safe.bind safe_load13 fun _ => ?_
  refine Safe.bind safe_store13 fun _ => ?_
  refine Safe.bind safe_load14 fun _ => ?_
  refine Safe.bind safe_store14 fun _ => ?_
  refine Safe.bind safe_load15 fun _ => ?_
  refine Safe.bind safe_store15 fun _ => ?_
  refine Safe.bind safe_load5 fun _ => ?_
  refine Safe.bind safe_load13 fun _ => ?_
  refine Safe.bind safe_load14 fun _ => ?_
  exact Safe.pure _

theorem safe_k0_part83 {i : grid0.Coords} {v29 : FVec F S16x512 .bf16} {v1115 : FVec F S144x256 .f32} {v1116 : Vec F S1x8x256 .f32} :
    Safe c σ₀ (k0_part83 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v1115 v1116) := by
  rw [k0_part83_eq_skeleton]
  unfold k0_part83_skel
  refine Safe.bind safe_load17 fun _ => ?_
  refine Safe.bind safe_load17 fun _ => ?_
  refine Safe.bind safe_store17 fun _ => ?_
  refine Safe.bind safe_load16 fun _ => ?_
  refine Safe.bind safe_load16 fun _ => ?_
  refine Safe.bind safe_store16 fun _ => ?_
  refine Safe.bind safe_load5 fun _ => ?_
  refine Safe.bind safe_load13 fun _ => ?_
  refine Safe.bind safe_load14 fun _ => ?_
  refine Safe.bind safe_load17 fun _ => ?_
  exact Safe.pure _

theorem safe_k0_part84 {i : grid0.Coords}  (hT : Tables σ₀) :
    Safe c σ₀ (k0_part84 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 ) := by
  rw [k0_part84_eq_skeleton]
  unfold k0_part84_skel
  refine Safe.bind (safe_k0_part49 hT) fun x => ?_
  rcases x with ⟨_, _, _, _, _, _, _⟩
  refine Safe.bind safe_k0_part50 fun x => ?_
  rcases x with ⟨_, _, _⟩
  refine Safe.bind safe_k0_part51 fun _ => ?_
  refine Safe.bind safe_k0_part52 fun _ => ?_
  refine Safe.bind safe_k0_part53 fun _ => ?_
  refine Safe.bind safe_k0_part54 fun x => ?_
  rcases x with ⟨_, _⟩
  refine Safe.bind safe_k0_part55 fun x => ?_
  rcases x with ⟨_, _⟩
  refine Safe.bind safe_k0_part56 fun x => ?_
  rcases x with ⟨_, _, _⟩
  refine Safe.bind safe_k0_part57 fun x => ?_
  rcases x with ⟨_, _⟩
  refine Safe.bind safe_k0_part58 fun x => ?_
  rcases x with ⟨_, _, _, _⟩
  refine Safe.bind safe_k0_part59 fun x => ?_
  rcases x with ⟨_, _, _, _⟩
  refine Safe.bind safe_k0_part60 fun x => ?_
  rcases x with ⟨_, _, _⟩
  refine Safe.bind safe_k0_part61 fun x => ?_
  rcases x with ⟨_, _⟩
  refine Safe.bind safe_k0_part62 fun x => ?_
  rcases x with ⟨_, _⟩
  refine Safe.bind safe_k0_part63 fun _ => ?_
  refine Safe.bind safe_k0_part64 fun _ => ?_
  refine Safe.bind safe_k0_part65 fun _ => ?_
  refine Safe.bind safe_k0_part66 fun _ => ?_
  refine Safe.bind safe_k0_part67 fun x => ?_
  rcases x with ⟨_, _⟩
  refine Safe.bind safe_k0_part68 fun x => ?_
  rcases x with ⟨_, _⟩
  refine Safe.bind safe_k0_part69 fun x => ?_
  rcases x with ⟨_, _, _⟩
  refine Safe.bind safe_k0_part70 fun x => ?_
  rcases x with ⟨_, _⟩
  refine Safe.bind safe_k0_part71 fun x => ?_
  rcases x with ⟨_, _, _, _⟩
  refine Safe.bind safe_k0_part72 fun x => ?_
  rcases x with ⟨_, _, _, _⟩
  refine Safe.bind safe_k0_part73 fun x => ?_
  rcases x with ⟨_, _, _⟩
  refine Safe.bind safe_k0_part74 fun x => ?_
  rcases x with ⟨_, _⟩
  refine Safe.bind safe_k0_part75 fun x => ?_
  rcases x with ⟨_, _⟩
  refine Safe.bind safe_k0_part76 fun _ => ?_
  refine Safe.bind safe_k0_part77 fun _ => ?_
  refine Safe.bind safe_k0_part78 fun _ => ?_
  refine Safe.bind safe_k0_part79 fun _ => ?_
  refine Safe.bind safe_k0_part80 fun _ => ?_
  refine Safe.bind safe_k0_part81 fun x => ?_
  rcases x with ⟨_, _, _⟩
  refine Safe.bind safe_k0_part82 fun x => ?_
  rcases x with ⟨_, _⟩
  refine Safe.bind safe_k0_part83 fun x => ?_
  rcases x with ⟨_, _, _, _⟩
  refine Safe.bind safe_load17 fun _ => ?_
  refine Safe.bind safe_store17 fun _ => ?_
  refine Safe.bind safe_load16 fun _ => ?_
  refine Safe.bind safe_load16 fun _ => ?_
  exact Safe.pure _

theorem safe_cc0_dsa_index_select_attend {i : grid0.Coords}  (hT : Tables σ₀) :
    Safe c σ₀ (cc0_dsa_index_select_attend (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 ) := by
  rw [cc0_dsa_index_select_attend_eq_skeleton]
  unfold cc0_dsa_index_select_attend_skel
  refine Safe.bind (safe_k0_part84 hT) fun x => ?_
  rcases x with ⟨_, _, _, _⟩
  refine Safe.bind safe_store16 fun _ => ?_
  refine Safe.dite (fun h => ?_) fun h => ?_
  · refine Safe.bind safe_k0_part48 fun _ => ?_
    refine Safe.bind safe_load10 fun _ => ?_
    refine Safe.bind safe_store10 fun _ => ?_
    exact Safe.pure _
  · exact Safe.pure _

end Cert.KernelIdeal.Body

end
-- ==== Proof.Point.lean ====
/- The attention call's run from its body's: relational proof data whose inputs are left as found, whose output block is held at
   each point to a given relation and whose scratch buffers meet a given invariant before each point; the body obligation from
   the body's run over its bank; and the program's run by the launch theorem for windows that share an array. -/
module

public import proofs.«01_k».proof.Proof.Parts2
public import proofs.«01_k».proof.Proof.Gen.KernelIdeal.Launch
public import Idealize.ShloMosaic.Lib.Pipeline.FrameBody
public import Idealize.ShloMosaic.Lib.Pipeline.FrameSuffix
public import Idealize.ShloMosaic.Lib.Affine

@[expose] public section

noncomputable section

namespace Cert.KernelIdeal.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F] [Named F]

local notation "𝕄" => MT nD τ sig Unit (Elt F) ℕ (UR sig nD τ) ℕ

/-! ## The tables -/

/-- The prefetched tables' contents: the two literal tables. -/
def tab0 : S272.Idx → Elt F .i32 := fun i => lit0 (S272.rowMajor i)
def tab1 : S272.Idx → Elt F .i32 := fun i => lit1 (S272.rowMajor i)
def tbl : pre0.Contents (Elt F) := fun
  | 0 => tab0
  | 1 => tab1
  | ⟨_ + 2, h⟩ => absurd h (Nat.not_lt.2 (Nat.le_add_left _ _))

theorem lit0_lt : ∀ j, (lit0 j).toNat < 32 := by decide +kernel
theorem lit1_lt : ∀ j, (lit1 j).toNat < 16 := by decide +kernel

theorem tbl_ok : ok0 (F := F) tbl := by
  unfold ok0
  refine ⟨fun i => ?_, fun i => ?_, fun i => ?_, fun i => ?_, fun i => ?_, fun i => ?_, fun i => ?_⟩
  · have hlt : BitVec.toNat ((tbl (F := F)).at 0 (Rect.unit (s := S272) ![(Scalar.indexCast (BitVec.ofNat 32 (i 0).val)).toNat] S1.size (k0_off1_inb i)) numel1_S1) < 32 := lit0_lt _
    refine ⟨fun a => ?_, .inr (Affine.block_words_dvd (of_decide_eq_true rfl) (by decide))⟩
    unfold cc0_transform_0
    dsimp only
    generalize (tbl (F := F)).at 0 (Rect.unit (s := S272) ![(Scalar.indexCast (BitVec.ofNat 32 (i 0).val)).toNat] S1.size (k0_off1_inb i)) numel1_S1 = v at hlt ⊢
    fin_cases a <;> simp <;> omega
  · have hlt : BitVec.toNat ((tbl (F := F)).at 1 (Rect.unit (s := S272) ![(Scalar.indexCast (BitVec.ofNat 32 (i 0).val)).toNat] S1.size (k0_off1_inb i)) numel1_S1) < 16 := lit1_lt _
    refine ⟨fun a => ?_, .inr (Affine.block_words_dvd (of_decide_eq_true rfl) (by decide))⟩
    unfold cc0_transform_1
    dsimp only
    generalize (tbl (F := F)).at 1 (Rect.unit (s := S272) ![(Scalar.indexCast (BitVec.ofNat 32 (i 0).val)).toNat] S1.size (k0_off1_inb i)) numel1_S1 = v at hlt ⊢
    fin_cases a <;> simp <;> omega
  · have hlt : BitVec.toNat ((tbl (F := F)).at 1 (Rect.unit (s := S272) ![(Scalar.indexCast (BitVec.ofNat 32 (i 0).val)).toNat] S1.size (k0_off1_inb i)) numel1_S1) < 16 := lit1_lt _
    refine ⟨fun a => ?_, .inr (Affine.block_words_dvd (of_decide_eq_true rfl) (by decide))⟩
    unfold cc0_transform_2
    dsimp only
    generalize (tbl (F := F)).at 1 (Rect.unit (s := S272) ![(Scalar.indexCast (BitVec.ofNat 32 (i 0).val)).toNat] S1.size (k0_off1_inb i)) numel1_S1 = v at hlt ⊢
    fin_cases a <;> simp <;> omega
  · have hlt : BitVec.toNat ((tbl (F := F)).at 0 (Rect.unit (s := S272) ![(Scalar.indexCast (BitVec.ofNat 32 (i 0).val)).toNat] S1.size (k0_off1_inb i)) numel1_S1) < 32 := lit0_lt _
    refine ⟨fun a => ?_, .inr (Affine.block_words_dvd (of_decide_eq_true rfl) (by decide))⟩
    unfold cc0_transform_3
    dsimp only
    generalize (tbl (F := F)).at 0 (Rect.unit (s := S272) ![(Scalar.indexCast (BitVec.ofNat 32 (i 0).val)).toNat] S1.size (k0_off1_inb i)) numel1_S1 = v at hlt ⊢
    fin_cases a <;> simp <;> omega
  · have hlt : BitVec.toNat ((tbl (F := F)).at 0 (Rect.unit (s := S272) ![(Scalar.indexCast (BitVec.ofNat 32 (i 0).val)).toNat] S1.size (k0_off1_inb i)) numel1_S1) < 32 := lit0_lt _
    refine ⟨fun a => ?_, .inr (Affine.block_words_dvd (of_decide_eq_true rfl) (by decide))⟩
    unfold cc0_transform_4
    dsimp only
    generalize (tbl (F := F)).at 0 (Rect.unit (s := S272) ![(Scalar.indexCast (BitVec.ofNat 32 (i 0).val)).toNat] S1.size (k0_off1_inb i)) numel1_S1 = v at hlt ⊢
    fin_cases a <;> simp <;> omega
  · have hlt : BitVec.toNat ((tbl (F := F)).at 0 (Rect.unit (s := S272) ![(Scalar.indexCast (BitVec.ofNat 32 (i 0).val)).toNat] S1.size (k0_off1_inb i)) numel1_S1) < 32 := lit0_lt _
    refine ⟨fun a => ?_, Or.inl rfl⟩
    unfold cc0_transform_5
    dsimp only
    generalize (tbl (F := F)).at 0 (Rect.unit (s := S272) ![(Scalar.indexCast (BitVec.ofNat 32 (i 0).val)).toNat] S1.size (k0_off1_inb i)) numel1_S1 = v at hlt ⊢
    fin_cases a <;> simp <;> omega
  · have hlt : BitVec.toNat ((tbl (F := F)).at 0 (Rect.unit (s := S272) ![(Scalar.indexCast (BitVec.ofNat 32 (i 0).val)).toNat] S1.size (k0_off1_inb i)) numel1_S1) < 32 := lit0_lt _
    refine ⟨fun a => ?_, .inr (Affine.block_words_dvd (of_decide_eq_true rfl) (by decide))⟩
    unfold cc0_transform_7
    dsimp only
    generalize (tbl (F := F)).at 0 (Rect.unit (s := S272) ![(Scalar.indexCast (BitVec.ofNat 32 (i 0).val)).toNat] S1.size (k0_off1_inb i)) numel1_S1 = v at hlt ⊢
    fin_cases a <;> simp <;> omega

/-- The tables as admissible contents, and the pipeline at them. -/
abbrev adm : (p : Fin 1) → (pcfgs (F := F) p).Adm := fun _ => ⟨tbl, tbl_ok⟩
abbrev cfgT : Pipeline.Cfg sig Λ₀ := Pipeline.pin (pcfgs (F := F)) adm 0

/-! ## The scratch buffers -/

/-- What the scratch buffers read. -/
structure Scr (F : FTy → Type) where
  s11 : S8192x256.Idx → Elt F .f32
  s12 : S3x512x256.Idx → Elt F .f32
  s13 : S2x512x256.Idx → Elt F .bf16
  s14 : S2x8x256.Idx → Elt F .f32
  s15 : S16x8x256.Idx → Elt F .f32
  s16 : S16x8x256.Idx → Elt F .f32
  s17 : S16x128x256.Idx → Elt F .f32
  s18 : S8x256.Idx → Elt F .f32
  s19 : S8x256.Idx → Elt F .f32
  s20 : S8x256.Idx → Elt F .f32

/-- The scratch part of a state. -/
def scr {A : Args} (σ : St F A) : Scr F :=
  ⟨σ .b11, σ .b12, σ .b13, σ .b14, σ .b15, σ .b16, σ .b17, σ .b18, σ .b19, σ .b20⟩

/-- The scratch buffers owned at given contents. -/
def scrOwn (c : Dev nD) (s : Scr F) : sProp 𝕄 :=
  iprop(owns c (Memref.whole cc0_scratch0) fullShare s.s11 ∗ owns c (Memref.whole cc0_scratch1) fullShare s.s12 ∗ owns c (Memref.whole cc0_scratch2) fullShare s.s13 ∗ owns c (Memref.whole cc0_scratch3) fullShare s.s14 ∗ owns c (Memref.whole cc0_scratch4) fullShare s.s15 ∗ owns c (Memref.whole cc0_scratch5) fullShare s.s16 ∗ owns c (Memref.whole cc0_scratch6) fullShare s.s17 ∗ owns c (Memref.whole cc0_scratch7) fullShare s.s18 ∗ owns c (Memref.whole cc0_scratch8) fullShare s.s19 ∗ owns c (Memref.whole cc0_scratch9) fullShare s.s20)

/-- They are the core's scoped buffers that are no stage, -/
theorem scopedRest_scrOwn (c : Dev nD) :
    (Pipeline.scopedRest (Ix := Unit) (Name := ℕ) (U := UR sig nD τ) (Lvl := ℕ) (Val := Elt F) spec0 c : sProp 𝕄) ⊢ iprop(∃ s, scrOwn c s) := by
  rw [scopedRest0_eq]
  unfold scrOwn
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩
  iexists (⟨f0, f1, f2, f3, f4, f5, f6, f7, f8, f9⟩ : Scr F)
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- and back. -/
theorem scrOwn_scopedRest (c : Dev nD) (s : Scr F) :
    (scrOwn c s : sProp 𝕄) ⊢ Pipeline.scopedRest (Ix := Unit) (Name := ℕ) (U := UR sig nD τ) (Lvl := ℕ) (Val := Elt F) spec0 c := by
  rw [scopedRest0_eq]
  unfold scrOwn
  simp only [owns_whole]
  iintro ⟨H0, H1, H2, H3, H4, H5, H6, H7, H8, H9⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-! ## The proof data -/

/-- The contents of device buffers when the region is entered: the two literal tables written, the rest as launched. -/
abbrev V₀ (m : (ℓ : Loc nD τ sig) → Idealize.ShloMosaic.Buf (Elt F) ℓ) (c : Dev nD) : Valuation τ sig (Elt F) := StableHlo.after hostOps0 (fun b => m (c, b))

variable (m : (ℓ : Loc nD τ sig) → Idealize.ShloMosaic.Buf (Elt F) ℓ)
variable (Inv : Fin ((cfgT (F := F)).N + 1) → Scr F → Prop) (R : Fin (cfgT (F := F)).N → (S256x2048.Idx → Elt F .bf16) → Prop)

/-- What the body may leave in a window's stage: an input's as found, the output's as `R` says. -/
def leftAt : (w : Fin 8) → Fin (cfgT (F := F)).N → (Y X : ((cfgT (F := F)).win w).block.Idx → Elt F ((cfgT (F := F)).win w).elt) → Prop
  | 0, _, Y, X => X = Y
  | 1, _, Y, X => X = Y
  | 2, _, Y, X => X = Y
  | 3, _, Y, X => X = Y
  | 4, _, Y, X => X = Y
  | 5, _, Y, X => X = Y
  | 6, _, Y, X => X = Y
  | 7, t, _, X => R t X
  | ⟨_ + 8, h⟩, _, _, _ => absurd h (Nat.not_lt.2 (Nat.le_add_left _ _))

/-- The proof data. -/
def rdat (c : Dev nD) : Pipeline.RDat τ (Elt F) Unit ℕ (UR sig nD τ) ℕ (cfgT (F := F)) c where
  A w := V₀ m c (Proc.devRef .tc (Pipeline.arrRef spec0 w))
  after := leftAt R
  Φ t := iprop((∃ s, ⌜Inv t s⌝ ∗ scrOwn c s) ∗ (∃ r, prngReg c r) ∗ Pipeline.ΦT pre0 tbl c)
  q w := Pipeline.shareOf spec0 w
  owed _ := 0

/-! ## The body's arguments at a point -/

/-- The buffers the body is called on at a point. -/
def argsAt (t : Fin (cfgT (F := F)).N) : Args where
  qt := fullShare.right
  arg1 := Memref.whole main_c
  harg1 := Memref.isWhole_whole _
  arg2 := Memref.whole main_c_0
  harg2 := Memref.isWhole_whole _
  arg3 := spec0_0.stage ((cfgT (F := F)).slots t 0)
  harg3 := hstage0_0 (((cfgT (F := F)).slots t 0).cast nbuf0_0)
  arg4 := spec0_1.stage ((cfgT (F := F)).slots t 1)
  harg4 := hstage0_1 (((cfgT (F := F)).slots t 1).cast nbuf0_1)
  arg5 := spec0_2.stage ((cfgT (F := F)).slots t 2)
  harg5 := hstage0_2 (((cfgT (F := F)).slots t 2).cast nbuf0_2)
  arg6 := spec0_3.stage ((cfgT (F := F)).slots t 3)
  harg6 := hstage0_3 (((cfgT (F := F)).slots t 3).cast nbuf0_3)
  arg7 := spec0_4.stage ((cfgT (F := F)).slots t 4)
  harg7 := hstage0_4 (((cfgT (F := F)).slots t 4).cast nbuf0_4)
  arg8 := spec0_5.stage ((cfgT (F := F)).slots t 5)
  harg8 := hstage0_5 (((cfgT (F := F)).slots t 5).cast nbuf0_5)
  arg9 := spec0_6.stage ((cfgT (F := F)).slots t 6)
  harg9 := hstage0_6 (((cfgT (F := F)).slots t 6).cast nbuf0_6)
  arg10 := spec0_7.stage ((cfgT (F := F)).slots t 7)
  harg10 := hstage0_7 (((cfgT (F := F)).slots t 7).cast nbuf0_7)
  arg11 := Memref.whole cc0_scratch0
  harg11 := Memref.isWhole_whole _
  arg12 := Memref.whole cc0_scratch1
  harg12 := Memref.isWhole_whole _
  arg13 := Memref.whole cc0_scratch2
  harg13 := Memref.isWhole_whole _
  arg14 := Memref.whole cc0_scratch3
  harg14 := Memref.isWhole_whole _
  arg15 := Memref.whole cc0_scratch4
  harg15 := Memref.isWhole_whole _
  arg16 := Memref.whole cc0_scratch5
  harg16 := Memref.isWhole_whole _
  arg17 := Memref.whole cc0_scratch6
  harg17 := Memref.isWhole_whole _
  arg18 := Memref.whole cc0_scratch7
  harg18 := Memref.isWhole_whole _
  arg19 := Memref.whole cc0_scratch8
  harg19 := Memref.isWhole_whole _
  arg20 := Memref.whole cc0_scratch9
  harg20 := Memref.isWhole_whole _

/-- The bank's state there: the tables, the windows' contents and the scratch buffers'. -/
def stateAt (t : Fin (cfgT (F := F)).N) (Y : (w : Fin 8) → ((cfgT (F := F)).win w).block.Idx → Elt F ((cfgT (F := F)).win w).elt) (s : Scr F) :
    St F (argsAt (F := F) t) := fun
  | .b1 => tab0
  | .b2 => tab1
  | .b3 => Y 0
  | .b4 => Y 1
  | .b5 => Y 2
  | .b6 => Y 3
  | .b7 => Y 4
  | .b8 => Y 5
  | .b9 => Y 6
  | .b10 => Y 7
  | .b11 => s.s11
  | .b12 => s.s12
  | .b13 => s.s13
  | .b14 => s.s14
  | .b15 => s.s15
  | .b16 => s.s16
  | .b17 => s.s17
  | .b18 => s.s18
  | .b19 => s.s19
  | .b20 => s.s20

theorem tables_stateAt (t : Fin (cfgT (F := F)).N) (Y : (w : Fin 8) → ((cfgT (F := F)).win w).block.Idx → Elt F ((cfgT (F := F)).win w).elt) (s : Scr F) : Tables (stateAt t Y s) :=
  ⟨fun _ => lit0_lt _, fun _ => lit1_lt _⟩

/-- The bank's ownership, buffer by buffer. -/
theorem own_chain {A : Args} (c : Dev nD) (σ : St F A) : ((bank A).own c σ : sProp 𝕄) = iprop(owns c A.arg1 A.qt (σ .b1) ∗ owns c A.arg2 A.qt (σ .b2) ∗ owns c A.arg3 fullShare (σ .b3) ∗ owns c A.arg4 fullShare (σ .b4) ∗ owns c A.arg5 fullShare (σ .b5) ∗ owns c A.arg6 fullShare (σ .b6) ∗ owns c A.arg7 fullShare (σ .b7) ∗ owns c A.arg8 fullShare (σ .b8) ∗ owns c A.arg9 fullShare (σ .b9) ∗ owns c A.arg10 fullShare (σ .b10) ∗ owns c A.arg11 fullShare (σ .b11) ∗ owns c A.arg12 fullShare (σ .b12) ∗ owns c A.arg13 fullShare (σ .b13) ∗ owns c A.arg14 fullShare (σ .b14) ∗ owns c A.arg15 fullShare (σ .b15) ∗ owns c A.arg16 fullShare (σ .b16) ∗ owns c A.arg17 fullShare (σ .b17) ∗ owns c A.arg18 fullShare (σ .b18) ∗ owns c A.arg19 fullShare (σ .b19) ∗ owns c A.arg20 fullShare (σ .b20)) :=
  bigSep_univ_eq_bigSepL [Buf.b1, Buf.b2, Buf.b3, Buf.b4, Buf.b5, Buf.b6, Buf.b7, Buf.b8, Buf.b9, Buf.b10, Buf.b11, Buf.b12, Buf.b13, Buf.b14, Buf.b15, Buf.b16, Buf.b17, Buf.b18, Buf.b19, Buf.b20] (by decide) (by decide) _

/-- The program the body obligation runs is the body on those buffers. -/
abbrev bodyAt (t : Fin (cfgT (F := F)).N) : Prog (TpuEff nD τ sig (Elt F) Λ₀ .tc) PUnit :=
  cc0_dsa_index_select_attend (grid0.coords t) (argsAt (F := F) t).arg1 (argsAt (F := F) t).harg1 (argsAt (F := F) t).arg2 (argsAt (F := F) t).harg2 (argsAt (F := F) t).arg3 (argsAt (F := F) t).harg3 (argsAt (F := F) t).arg4 (argsAt (F := F) t).harg4 (argsAt (F := F) t).arg5 (argsAt (F := F) t).harg5 (argsAt (F := F) t).arg6 (argsAt (F := F) t).harg6 (argsAt (F := F) t).arg7 (argsAt (F := F) t).harg7 (argsAt (F := F) t).arg8 (argsAt (F := F) t).harg8 (argsAt (F := F) t).arg9 (argsAt (F := F) t).harg9 (argsAt (F := F) t).arg10 (argsAt (F := F) t).harg10 (argsAt (F := F) t).arg11 (argsAt (F := F) t).harg11 (argsAt (F := F) t).arg12 (argsAt (F := F) t).harg12 (argsAt (F := F) t).arg13 (argsAt (F := F) t).harg13 (argsAt (F := F) t).arg14 (argsAt (F := F) t).harg14 (argsAt (F := F) t).arg15 (argsAt (F := F) t).harg15 (argsAt (F := F) t).arg16 (argsAt (F := F) t).harg16 (argsAt (F := F) t).arg17 (argsAt (F := F) t).harg17 (argsAt (F := F) t).arg18 (argsAt (F := F) t).harg18 (argsAt (F := F) t).arg19 (argsAt (F := F) t).harg19 (argsAt (F := F) t).arg20 (argsAt (F := F) t).harg20

/-- The body's run over its bank, at every point: what a proof about this kernel has to give. -/
def BodyRuns (c : Dev nD) : Prop :=
  ∀ (t : Fin (cfgT (F := F)).N) (Y : (w : Fin 8) → ((cfgT (F := F)).win w).block.Idx → Elt F ((cfgT (F := F)).win w).elt) (s : Scr F),
    (∀ w, (rdat m Inv R c).Finds w t (Y w)) → Inv t.castSucc s →
      Run c (bodyAt t) (fun _ σ' => Keep (stateAt t Y s) σ' ∧ Inv t.succ (scr σ') ∧ R t (σ' .b10)) (stateAt t Y s)

theorem phiT_eq (c : Dev nD) : (Pipeline.ΦT pre0 (tbl (F := F)) c : sProp 𝕄)
    = iprop(owns c (Memref.whole main_c) fullShare.right (tab0 (F := F)) ∗ owns c (Memref.whole main_c_0) fullShare.right (tab1 (F := F))) := by
  unfold Pipeline.ΦT Pipeline.prefHeld
  rw [show (Finset.univ : Finset (Fin 2)) = insert (0 : Fin 2) {(1 : Fin 2)} from by decide, bigSep_insert (by decide), bigSep_singleton]
  have h0 : (owns c (Memref.whole main_c) fullShare.right (tab0 (F := F)) : sProp 𝕄)
      = (((c : Thread nD τ).loc main_c) ↦{fullShare.right} (tab0 (F := F))) := owns_whole (c : Thread nD τ) main_c fullShare.right (tab0 (F := F))
  have h1 : (owns c (Memref.whole main_c_0) fullShare.right (tab1 (F := F)) : sProp 𝕄)
      = (((c : Thread nD τ).loc main_c_0) ↦{fullShare.right} (tab1 (F := F))) := owns_whole (c : Thread nD τ) main_c_0 fullShare.right (tab1 (F := F))
  rw [h0, h1]
  rfl

theorem rdat_Φ (c : Dev nD) (t) : (rdat m Inv R c).Φ t
    = iprop((∃ s, ⌜Inv t s⌝ ∗ scrOwn c s) ∗ (∃ r, prngReg c r) ∗ Pipeline.ΦT pre0 tbl c) := rfl

/-- The parts of the obligation's precondition put into the bank's order. -/
theorem shuffle {M : Type} [URA M] (HT0 HT1 H0 H1 H2 H3 H4 H5 H6 H7 S0 S1 S2 S3 S4 S5 S6 S7 S8 S9 P O : sProp M) :
    iprop(((S0 ∗ S1 ∗ S2 ∗ S3 ∗ S4 ∗ S5 ∗ S6 ∗ S7 ∗ S8 ∗ S9) ∗ P ∗ HT0 ∗ HT1) ∗ O ∗ H0 ∗ H1 ∗ H2 ∗ H3 ∗ H4 ∗ H5 ∗ H6 ∗ H7) ⊢ iprop((HT0 ∗ HT1 ∗ H0 ∗ H1 ∗ H2 ∗ H3 ∗ H4 ∗ H5 ∗ H6 ∗ H7 ∗ S0 ∗ S1 ∗ S2 ∗ S3 ∗ S4 ∗ S5 ∗ S6 ∗ S7 ∗ S8 ∗ S9) ∗ P ∗ O) := by
  iintro ⟨⟨⟨S0, S1, S2, S3, S4, S5, S6, S7, S8, S9⟩, HP, HT0, HT1⟩, HO, H0, H1, H2, H3, H4, H5, H6, H7⟩
  isplitr [HP HO]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  · isplitl [HP]; · iexact HP
    iexact HO

theorem ex_elim {M : Type} [URA M] {T : Type} {I : T → Prop} {A : T → sProp M} {B C D : sProp M}
    (h : ∀ s, I s → iprop((A s ∗ B) ∗ C) ⊢ D) : iprop(((∃ s, ⌜I s⌝ ∗ A s) ∗ B) ∗ C) ⊢ D := by
  iintro ⟨⟨⟨%s, %hs, HA⟩, HB⟩, HC⟩
  iapply (h s hs)
  isplitr [HC]
  · isplitl [HA]; · iexact HA
    iexact HB
  · iexact HC

/-- What the point's run leaves, put back into the obligation's form. -/
theorem post_of_run (c : Dev nD) (t : Fin (cfgT (F := F)).N) (Y : (w : Fin 8) → ((cfgT (F := F)).win w).block.Idx → Elt F ((cfgT (F := F)).win w).elt) (s : Scr F)
    (h : Run c (bodyAt t) (fun _ σ' => Keep (stateAt t Y s) σ' ∧ Inv t.succ (scr σ') ∧ R t (σ' .b10)) (stateAt t Y s)) :
    iprop((bank (argsAt t)).own c (stateAt t Y s) ∗ (∃ r, prngReg c r) ∗ (rdat m Inv R c).owesAt () t.castSucc)
      ⊢ wp frame (wpE defs₀ Variants.none c none) Set.univ (bodyAt t) fun _ =>
          (iprop(((∃ s, ⌜Inv t.succ s⌝ ∗ scrOwn c s) ∗ (∃ r, prngReg c r) ∗ Pipeline.ΦT pre0 tbl c) ∗ (rdat m Inv R c).owesAt () t.succ ∗ (∃ X, ⌜leftAt R 0 t (Y 0) X⌝ ∗ owns c (((cfgT (F := F)).win 0).stage ((cfgT (F := F)).slots t 0)) fullShare X) ∗ (∃ X, ⌜leftAt R 1 t (Y 1) X⌝ ∗ owns c (((cfgT (F := F)).win 1).stage ((cfgT (F := F)).slots t 1)) fullShare X) ∗ (∃ X, ⌜leftAt R 2 t (Y 2) X⌝ ∗ owns c (((cfgT (F := F)).win 2).stage ((cfgT (F := F)).slots t 2)) fullShare X) ∗ (∃ X, ⌜leftAt R 3 t (Y 3) X⌝ ∗ owns c (((cfgT (F := F)).win 3).stage ((cfgT (F := F)).slots t 3)) fullShare X) ∗ (∃ X, ⌜leftAt R 4 t (Y 4) X⌝ ∗ owns c (((cfgT (F := F)).win 4).stage ((cfgT (F := F)).slots t 4)) fullShare X) ∗ (∃ X, ⌜leftAt R 5 t (Y 5) X⌝ ∗ owns c (((cfgT (F := F)).win 5).stage ((cfgT (F := F)).slots t 5)) fullShare X) ∗ (∃ X, ⌜leftAt R 6 t (Y 6) X⌝ ∗ owns c (((cfgT (F := F)).win 6).stage ((cfgT (F := F)).slots t 6)) fullShare X) ∗ (∃ X, ⌜leftAt R 7 t (Y 7) X⌝ ∗ owns c (((cfgT (F := F)).win 7).stage ((cfgT (F := F)).slots t 7)) fullShare X)) : sProp 𝕄) := by
  refine (sep_mono h .rfl).trans ((wp_frame_r _ _ _).trans (wp_mono _ _ _ fun _ => ?_))
  iintro ⟨⟨%σ', %hσ, Hown⟩, Hp, Ho⟩
  obtain ⟨hk, hI, hR⟩ := hσ
  ihave Hc := (Entails.of_eq (own_chain c σ')) $$ Hown
  icases Hc with ⟨HT0, HT1, H0, H1, H2, H3, H4, H5, H6, H7, S0, S1, S2, S3, S4, S5, S6, S7, S8, S9⟩
  isplitr [Ho H0 H1 H2 H3 H4 H5 H6 H7]
  · isplitr [Hp HT0 HT1]
    · iexists (scr σ'); isplitr; · ipureintro; exact hI
      unfold scrOwn
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    isplitl [Hp]; · iexact Hp
    rw [phiT_eq]
    rw [hk .b1 rfl, hk .b2 rfl]
    isplitl [HT0]; · iexact HT0
    iexact HT1
  isplitl [Ho]; · iexact Ho
  isplitl [H0]
  · iexists (σ' .b3); isplitr; · ipureintro; exact hk .b3 rfl
    iexact H0
  isplitl [H1]
  · iexists (σ' .b4); isplitr; · ipureintro; exact hk .b4 rfl
    iexact H1
  isplitl [H2]
  · iexists (σ' .b5); isplitr; · ipureintro; exact hk .b5 rfl
    iexact H2
  isplitl [H3]
  · iexists (σ' .b6); isplitr; · ipureintro; exact hk .b6 rfl
    iexact H3
  isplitl [H4]
  · iexists (σ' .b7); isplitr; · ipureintro; exact hk .b7 rfl
    iexact H4
  isplitl [H5]
  · iexists (σ' .b8); isplitr; · ipureintro; exact hk .b8 rfl
    iexact H5
  isplitl [H6]
  · iexists (σ' .b9); isplitr; · ipureintro; exact hk .b9 rfl
    iexact H6
  iexists (σ' .b10); isplitr; · ipureintro; exact hR
  iexact H7

/-- The body obligation. -/
theorem body_obligation (c : Dev nD) (h : BodyRuns m Inv R c) :
    (rdat m Inv R c).BodyObligation defs₀ Variants.none () Set.univ := by
  intro t Y hY
  rw [show (Finset.univ : Finset (Fin (cfgT (F := F)).W)) = (Finset.univ : Finset (Fin 8)) from rfl]
  show _ ⊢ wp frame (wpE defs₀ Variants.none c none) Set.univ (bodyAt t) _
  have e0 : ∀ Φ : Fin 8 → sProp 𝕄, bigSep Finset.univ Φ = _ := fun Φ => bigSep_W0 Φ
  rw [e0, rdat_Φ, phiT_eq]
  refine ex_elim fun s hs => ?_
  refine (shuffle _ _ _ _ _ _ _ _ _ _ _ _ _ _ _ _ _ _ _ _ _ _).trans ?_
  refine BIBase.Entails.trans ?_ ((post_of_run m Inv R c t Y s (h t Y s hY hs)).trans (wp_mono _ _ _ fun _ => Entails.of_eq ?_))
  · rw [own_chain]; exact .rfl
  · rw [e0, rdat_Φ]; rfl

theorem in_phi (c : Dev nD) (h0 : ∀ s, Inv 0 s) : (iprop(Pipeline.ΦA spec0 c ∗ Pipeline.ΦT pre0 tbl c) : sProp 𝕄) ⊢ (rdat m Inv R c).Φ 0 := by
  rw [rdat_Φ]
  unfold Pipeline.ΦA
  iintro ⟨⟨HS, HP⟩, HT⟩
  ihave HS' := (scopedRest_scrOwn c) $$ HS
  icases HS' with ⟨%s, HS⟩
  isplitl [HS]
  · iexists s; isplitr; · ipureintro; exact h0 s
    iexact HS
  isplitl [HP]; · iexact HP
  iexact HT

theorem out_phi (c : Dev nD) : (rdat m Inv R c).Φ (Fin.last (cfgT (F := F)).N) ⊢ (Pipeline.ΦA spec0 c : sProp 𝕄) := by
  rw [rdat_Φ]
  unfold Pipeline.ΦA
  iintro ⟨⟨%s, -, HS⟩, HP, -⟩
  isplitl [HS]
  · iapply (scrOwn_scopedRest c s); iexact HS
  · iexact HP

/-- The program's run: from the body's run at every point, on every core, the arrays end at contents the data allow, every other
    unscoped buffer at its contents when the region was entered, and every semaphore at zero. -/
theorem run_main (g : Dev nD → PrngReg) (h : ∀ c, BodyRuns m Inv R c) (h0 : ∀ s, Inv 0 s) :
    θ_run (defs (F := F)) (onTc (τ := τ) (main (F := F))) ⟨m, fun _ => 0, g⟩
      (fun r => Pipeline.RDat.FramePostR (cfgT (F := F)) (rdat m Inv R) ∅ (fun c b => V₀ m c (Proc.devRef .tc b)) r ∧ r.2.sem = fun _ => 0) := by
  exact Pipeline.RDat.θ_run_frameP_around_T_track_shared (pcfgs (F := F)) adm 0 launch₀0 defs₀ Variants.none (rdat m Inv R) ∅ m g main
    (fun c => body_obligation m Inv R c (h c)) (fun _ _ _ => rfl) (fun _ _ => rfl) (V₀ m) []
    (fun _ h => absurd h List.not_mem_nil) (fun _ h => absurd h List.not_mem_nil) (fun _ h => absurd h List.not_mem_nil)
    (fun _ h => absurd h List.not_mem_nil)
    (Pipeline.hmainP_around (pcfgs (F := F)) 0 defs₀ Variants.none m main [hostOps0] [] hostOps0_sub
      ⟨rfl, rfl⟩ (fun c => main_chain c))
    (fun _ _ => rfl)
    (fun c k => by
      obtain rfl | rfl : k = 0 ∨ k = 1 := by
        have : k.val < 2 := k.isLt
        rcases k with ⟨k, hk⟩
        rcases (show k = 0 ∨ k = 1 by simp at this; omega) with rfl | rfl
        · exact .inl rfl
        · exact .inr rfl
      · rfl
      · rfl)
    (fun c => (in_phi m Inv R c h0)) (fun c => (out_phi m Inv R c)) _ (fun _ h => h)

end Cert.KernelIdeal.Body

end
-- ==== Proof.Frames.lean ====
/- The frame: the body is safe at every point, so the program runs, its arguments end as launched and its semaphores at zero. -/
module

public import proofs.«01_k».proof.Defs
public import proofs.«01_k».proof.Proof.Point

@[expose] public section

noncomputable section

namespace Cert.KernelIdeal.Body

open Idealize.ShloMosaic
open Idealize.ShloMosaic.TcCoe
open Idealize.SL Idealize.SL.RA Idealize.SL.Sem
open Cert.KernelIdeal Cert.KernelIdeal.Gen Cert.Proof

variable {F : FTy → Type} [FloatOps F] [Named F]

theorem body_safe (m : (ℓ : Loc nD τ sig) → Idealize.ShloMosaic.Buf (Elt F) ℓ) (c : Dev nD) : BodyRuns m (fun _ _ => True) (fun _ _ => True) c :=
  fun t Y s _ _ => (safe_cc0_dsa_index_select_attend (tables_stateAt t Y s) (stateAt t Y s) (fun _ _ => rfl)).mono
    fun _ _ h => ⟨h, trivial, trivial⟩

/-- From any launch the program runs to its end, each argument as launched, every semaphore at zero. -/
theorem frame_any (m : (ℓ : Loc nD τ sig) → Idealize.ShloMosaic.Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run (defs (F := F)) _ _).mono (fun r h => ⟨fun c => ?_, h.2⟩) (run_main m (fun _ _ => True) (fun _ _ => True) g (fun c => body_safe m c) fun _ => trivial)
  exact ⟨h.1.arr_in c 0 rfl, h.1.arr_in c 2 rfl, h.1.arr_in c 3 rfl, h.1.arr_in c 4 rfl, h.1.arr_in c 5 rfl, h.1.arr_in c 6 rfl⟩

end Cert.KernelIdeal.Body

namespace Cert.Proof

open Idealize.ShloMosaic

theorem frame_kernelIdeal : Cert.quiescent_KernelIdeal := fun m g _ => Cert.KernelIdeal.Body.frame_any (F := Ideal) m g

end Cert.Proof

end
-- ==== Proof.Frozen.lean ====
/- What the attention call's later steps leave alone: from a state on, the parts for heads 1 to 15 change nothing in slice 0 of the
   running sums and of the accumulators, and the parts that write the results of heads 1 to 15 change nothing in the first 128
   columns of the output block. FROZEN is safety with these three kept as well. -/
module

public import proofs.«01_k».proof.Proof.Parts2

@[expose] public section

noncomputable section

namespace Cert.KernelIdeal.Body

open Idealize.ShloMosaic Idealize.ShloMosaic.TcCoe Idealize.SL.RA Idealize.SL.Sem
open Cert.KernelIdeal Cert.KernelIdeal.Gen Cert.Proof

variable {F : FTy → Type} [FloatOps F] [Named F] {A : Args} {c : Dev nD} {σ₀ : St F A} {α β : Type}

/-- The read-only buffers, slice 0 of the sums and the accumulators, and the first 128 output columns are as in `σ₀`. -/
def Froz (σ₀ σ : St F A) : Prop :=
  Keep σ₀ σ ∧ (∀ j : S16x8x256.Idx, (j 0).val = 0 → σ .b16 j = σ₀ .b16 j)
    ∧ (∀ j : S16x128x256.Idx, (j 0).val = 0 → σ .b17 j = σ₀ .b17 j) ∧ ∀ j : S256x2048.Idx, (j 1).val < 128 → σ .b10 j = σ₀ .b10 j

theorem Froz.refl (σ₀ : St F A) : Froz σ₀ σ₀ := ⟨fun _ _ => rfl, fun _ _ => rfl, fun _ _ => rfl, fun _ _ => rfl⟩

/-- From any state frozen at `σ₀`, the program runs to an end frozen at `σ₀`. -/
def Frz (c : Dev nD) (σ₀ : St F A) {α : Type} (p : Prog (TpuEff nD τ sig (Elt F) Λ₀ .tc) α) : Prop :=
  ∀ σ, Froz σ₀ σ → Run c p (fun _ σ' => Froz σ₀ σ') σ

theorem Frz.pure (a : α) : Frz c σ₀ (pure a) := fun _ h => W.pure h

theorem Frz.bind {p : Prog (TpuEff nD τ sig (Elt F) Λ₀ .tc) α} {k : α → Prog (TpuEff nD τ sig (Elt F) Λ₀ .tc) β}
    (hp : Frz c σ₀ p) (hk : ∀ a, Frz c σ₀ (k a)) : Frz c σ₀ (p >>= k) :=
  fun σ h => W.bind ((hp σ h).mono fun a σ' h' => hk a σ' h')

theorem Frz.skip {T : Sort*} {v : T} {p : T → Prog (TpuEff nD τ sig (Elt F) Λ₀ .tc) α} (h : Frz c σ₀ (p v)) :
    Frz c σ₀ (have x := v; p x) := h

/-- A store into another buffer. -/
theorem Froz.upd {σ : St F A} (h : Froz σ₀ σ) {b : Buf} (hb : b.ro = false) (h10 : b ≠ .b10) (h16 : b ≠ .b16) (h17 : b ≠ .b17) (X) :
    Froz σ₀ (Bank.upd σ b X) :=
  ⟨h.1.upd hb X, fun j hj => by rw [Bank.upd_ne _ _ h16.symm]; exact h.2.1 j hj, fun j hj => by rw [Bank.upd_ne _ _ h17.symm]; exact h.2.2.1 j hj,
    fun j hj => by rw [Bank.upd_ne _ _ h10.symm]; exact h.2.2.2 j hj⟩

/-- A rectangle that begins after a coordinate does not contain it. -/
theorem not_mem_of_lt {s : Shape} {r : Rect s} {j : s.Idx} {a : Fin s.rank} (h : (j a).val < r.off a) : j ∉ r.set := fun hj => by
  obtain ⟨x, -, hx⟩ := (LoadRect.mem_set _).mp hj a
  omega

theorem frz_load1 {r : LoadRect S272} {hl : A.arg1.view.LoadsAt r} : Frz (F := F) c σ₀ (Prog.lift (.load A.arg1 r hl)) :=
  fun _ h => W.load (K := bank A) .b1 h
theorem frz_load2 {r : LoadRect S272} {hl : A.arg2.view.LoadsAt r} : Frz (F := F) c σ₀ (Prog.lift (.load A.arg2 r hl)) :=
  fun _ h => W.load (K := bank A) .b2 h
theorem frz_load3 {r : LoadRect S16x256x128} {hl : A.arg3.view.LoadsAt r} : Frz (F := F) c σ₀ (Prog.lift (.load A.arg3 r hl)) :=
  fun _ h => W.load (K := bank A) .b3 h
theorem frz_load4 {r : LoadRect S16x512x128} {hl : A.arg4.view.LoadsAt r} : Frz (F := F) c σ₀ (Prog.lift (.load A.arg4 r hl)) :=
  fun _ h => W.load (K := bank A) .b4 h
theorem frz_load5 {r : LoadRect S16x128x512} {hl : A.arg5.view.LoadsAt r} : Frz (F := F) c σ₀ (Prog.lift (.load A.arg5 r hl)) :=
  fun _ h => W.load (K := bank A) .b5 h
theorem frz_load6 {r : LoadRect S256x2048} {hl : A.arg6.view.LoadsAt r} : Frz (F := F) c σ₀ (Prog.lift (.load A.arg6 r hl)) :=
  fun _ h => W.load (K := bank A) .b6 h
theorem frz_load7 {r : LoadRect S256x1024} {hl : A.arg7.view.LoadsAt r} : Frz (F := F) c σ₀ (Prog.lift (.load A.arg7 r hl)) :=
  fun _ h => W.load (K := bank A) .b7 h
theorem frz_load8 {r : LoadRect S16x256} {hl : A.arg8.view.LoadsAt r} : Frz (F := F) c σ₀ (Prog.lift (.load A.arg8 r hl)) :=
  fun _ h => W.load (K := bank A) .b8 h
theorem frz_load9 {r : LoadRect S64x256x128} {hl : A.arg9.view.LoadsAt r} : Frz (F := F) c σ₀ (Prog.lift (.load A.arg9 r hl)) :=
  fun _ h => W.load (K := bank A) .b9 h
theorem frz_load10 {r : LoadRect S256x2048} {hl : A.arg10.view.LoadsAt r} : Frz (F := F) c σ₀ (Prog.lift (.load A.arg10 r hl)) :=
  fun _ h => W.load (K := bank A) .b10 h
theorem frz_load11 {r : LoadRect S8192x256} {hl : A.arg11.view.LoadsAt r} : Frz (F := F) c σ₀ (Prog.lift (.load A.arg11 r hl)) :=
  fun _ h => W.load (K := bank A) .b11 h
theorem frz_load12 {r : LoadRect S3x512x256} {hl : A.arg12.view.LoadsAt r} : Frz (F := F) c σ₀ (Prog.lift (.load A.arg12 r hl)) :=
  fun _ h => W.load (K := bank A) .b12 h
theorem frz_load13 {r : LoadRect S2x512x256} {hl : A.arg13.view.LoadsAt r} : Frz (F := F) c σ₀ (Prog.lift (.load A.arg13 r hl)) :=
  fun _ h => W.load (K := bank A) .b13 h
theorem frz_load14 {r : LoadRect S2x8x256} {hl : A.arg14.view.LoadsAt r} : Frz (F := F) c σ₀ (Prog.lift (.load A.arg14 r hl)) :=
  fun _ h => W.load (K := bank A) .b14 h
theorem frz_load15 {r : LoadRect S16x8x256} {hl : A.arg15.view.LoadsAt r} : Frz (F := F) c σ₀ (Prog.lift (.load A.arg15 r hl)) :=
  fun _ h => W.load (K := bank A) .b15 h
theorem frz_load16 {r : LoadRect S16x8x256} {hl : A.arg16.view.LoadsAt r} : Frz (F := F) c σ₀ (Prog.lift (.load A.arg16 r hl)) :=
  fun _ h => W.load (K := bank A) .b16 h
theorem frz_load17 {r : LoadRect S16x128x256} {hl : A.arg17.view.LoadsAt r} : Frz (F := F) c σ₀ (Prog.lift (.load A.arg17 r hl)) :=
  fun _ h => W.load (K := bank A) .b17 h
theorem frz_load18 {r : LoadRect S8x256} {hl : A.arg18.view.LoadsAt r} : Frz (F := F) c σ₀ (Prog.lift (.load A.arg18 r hl)) :=
  fun _ h => W.load (K := bank A) .b18 h
theorem frz_load19 {r : LoadRect S8x256} {hl : A.arg19.view.LoadsAt r} : Frz (F := F) c σ₀ (Prog.lift (.load A.arg19 r hl)) :=
  fun _ h => W.load (K := bank A) .b19 h
theorem frz_load20 {r : LoadRect S8x256} {hl : A.arg20.view.LoadsAt r} : Frz (F := F) c σ₀ (Prog.lift (.load A.arg20 r hl)) :=
  fun _ h => W.load (K := bank A) .b20 h
theorem frz_store10 {r : Rect S256x2048} {w : r.shape.Idx → Elt F .bf16} {hx : (A.arg10.access r).Stores Finset.univ}
    {hm : Finset.univ = Finset.univ ∨ ∀ a, r.stride a = 1} (h1 : 128 ≤ r.off 1) : Frz (F := F) c σ₀ (Prog.lift (.store A.arg10 r w Finset.univ hx hm)) :=
  fun _ h => W.store (K := bank A) .b10 rfl (⟨h.1.upd rfl _, fun j hj => by rw [Bank.upd_ne _ _ (by decide)]; exact h.2.1 j hj, fun j hj => by rw [Bank.upd_ne _ _ (by decide)]; exact h.2.2.1 j hj,
    fun j hj => by rw [Bank.upd_same]; exact (Rect.overlay_of_not_mem _ _ _ (not_mem_of_lt (r := r) (a := 1) (lt_of_lt_of_le hj h1))).trans (h.2.2.2 j hj)⟩)
theorem frz_store11 {r : Rect S8192x256} {w : r.shape.Idx → Elt F .f32} {hx : (A.arg11.access r).Stores Finset.univ}
    {hm : Finset.univ = Finset.univ ∨ ∀ a, r.stride a = 1} : Frz (F := F) c σ₀ (Prog.lift (.store A.arg11 r w Finset.univ hx hm)) :=
  fun _ h => W.store (K := bank A) .b11 rfl (h.upd rfl (by decide) (by decide) (by decide) _)
theorem frz_store12 {r : Rect S3x512x256} {w : r.shape.Idx → Elt F .f32} {hx : (A.arg12.access r).Stores Finset.univ}
    {hm : Finset.univ = Finset.univ ∨ ∀ a, r.stride a = 1} : Frz (F := F) c σ₀ (Prog.lift (.store A.arg12 r w Finset.univ hx hm)) :=
  fun _ h => W.store (K := bank A) .b12 rfl (h.upd rfl (by decide) (by decide) (by decide) _)
theorem frz_store13 {r : Rect S2x512x256} {w : r.shape.Idx → Elt F .bf16} {hx : (A.arg13.access r).Stores Finset.univ}
    {hm : Finset.univ = Finset.univ ∨ ∀ a, r.stride a = 1} : Frz (F := F) c σ₀ (Prog.lift (.store A.arg13 r w Finset.univ hx hm)) :=
  fun _ h => W.store (K := bank A) .b13 rfl (h.upd rfl (by decide) (by decide) (by decide) _)
theorem frz_store14 {r : Rect S2x8x256} {w : r.shape.Idx → Elt F .f32} {hx : (A.arg14.access r).Stores Finset.univ}
    {hm : Finset.univ = Finset.univ ∨ ∀ a, r.stride a = 1} : Frz (F := F) c σ₀ (Prog.lift (.store A.arg14 r w Finset.univ hx hm)) :=
  fun _ h => W.store (K := bank A) .b14 rfl (h.upd rfl (by decide) (by decide) (by decide) _)
theorem frz_store15 {r : Rect S16x8x256} {w : r.shape.Idx → Elt F .f32} {hx : (A.arg15.access r).Stores Finset.univ}
    {hm : Finset.univ = Finset.univ ∨ ∀ a, r.stride a = 1} : Frz (F := F) c σ₀ (Prog.lift (.store A.arg15 r w Finset.univ hx hm)) :=
  fun _ h => W.store (K := bank A) .b15 rfl (h.upd rfl (by decide) (by decide) (by decide) _)
theorem frz_store16 {r : Rect S16x8x256} {w : r.shape.Idx → Elt F .f32} {hx : (A.arg16.access r).Stores Finset.univ}
    {hm : Finset.univ = Finset.univ ∨ ∀ a, r.stride a = 1} (h1 : 0 < r.off 0) : Frz (F := F) c σ₀ (Prog.lift (.store A.arg16 r w Finset.univ hx hm)) :=
  fun _ h => W.store (K := bank A) .b16 rfl (⟨h.1.upd rfl _, fun j hj => by rw [Bank.upd_same]; exact (Rect.overlay_of_not_mem _ _ _ (not_mem_of_lt (r := r) (a := 0) (by omega))).trans (h.2.1 j hj),
    fun j hj => by rw [Bank.upd_ne _ _ (by decide)]; exact h.2.2.1 j hj, fun j hj => by rw [Bank.upd_ne _ _ (by decide)]; exact h.2.2.2 j hj⟩)
theorem frz_store17 {r : Rect S16x128x256} {w : r.shape.Idx → Elt F .f32} {hx : (A.arg17.access r).Stores Finset.univ}
    {hm : Finset.univ = Finset.univ ∨ ∀ a, r.stride a = 1} (h1 : 0 < r.off 0) : Frz (F := F) c σ₀ (Prog.lift (.store A.arg17 r w Finset.univ hx hm)) :=
  fun _ h => W.store (K := bank A) .b17 rfl (⟨h.1.upd rfl _, fun j hj => by rw [Bank.upd_ne _ _ (by decide)]; exact h.2.1 j hj, fun j hj => by rw [Bank.upd_same]; exact (Rect.overlay_of_not_mem _ _ _ (not_mem_of_lt (r := r) (a := 0) (by omega))).trans (h.2.2.1 j hj),
    fun j hj => by rw [Bank.upd_ne _ _ (by decide)]; exact h.2.2.2 j hj⟩)
theorem frz_store18 {r : Rect S8x256} {w : r.shape.Idx → Elt F .f32} {hx : (A.arg18.access r).Stores Finset.univ}
    {hm : Finset.univ = Finset.univ ∨ ∀ a, r.stride a = 1} : Frz (F := F) c σ₀ (Prog.lift (.store A.arg18 r w Finset.univ hx hm)) :=
  fun _ h => W.store (K := bank A) .b18 rfl (h.upd rfl (by decide) (by decide) (by decide) _)
theorem frz_store19 {r : Rect S8x256} {w : r.shape.Idx → Elt F .f32} {hx : (A.arg19.access r).Stores Finset.univ}
    {hm : Finset.univ = Finset.univ ∨ ∀ a, r.stride a = 1} : Frz (F := F) c σ₀ (Prog.lift (.store A.arg19 r w Finset.univ hx hm)) :=
  fun _ h => W.store (K := bank A) .b19 rfl (h.upd rfl (by decide) (by decide) (by decide) _)
theorem frz_store20 {r : Rect S8x256} {w : r.shape.Idx → Elt F .f32} {hx : (A.arg20.access r).Stores Finset.univ}
    {hm : Finset.univ = Finset.univ ∨ ∀ a, r.stride a = 1} : Frz (F := F) c σ₀ (Prog.lift (.store A.arg20 r w Finset.univ hx hm)) :=
  fun _ h => W.store (K := bank A) .b20 rfl (h.upd rfl (by decide) (by decide) (by decide) _)

theorem frz_k0_part54 {i : grid0.Coords} {v1 : Elt F .i32} {v3 : Elt F .i32} {k0_hw1 : k0_chk1 v1 v3} {v28 : BitVec 32} {v161 : FVec F S512x128 .bf16} :
    Frz c σ₀ (k0_part54 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v161) := by
  rw [k0_part54_eq_skeleton]
  unfold k0_part54_skel
  refine Frz.bind frz_load3 fun _ => ?_
  refine Frz.bind frz_load12 fun _ => ?_
  refine Frz.bind frz_store12 fun _ => ?_
  refine Frz.bind frz_load12 fun _ => ?_
  refine Frz.bind frz_load11 fun _ => ?_
  refine Frz.bind frz_load15 fun _ => ?_
  refine Frz.bind frz_load13 fun _ => ?_
  refine Frz.bind frz_store13 fun _ => ?_
  exact Frz.pure _

theorem frz_k0_part55 {i : grid0.Coords} {v29 : FVec F S16x512 .bf16} {v185 : FVec F S8x256 .f32} {v187 : FVec F S8x256 .f32} :
    Frz c σ₀ (k0_part55 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v185 v187) := by
  rw [k0_part55_eq_skeleton]
  unfold k0_part55_skel
  refine Frz.bind frz_load14 fun _ => ?_
  refine Frz.bind frz_store14 fun _ => ?_
  refine Frz.bind frz_load15 fun _ => ?_
  refine Frz.bind frz_store15 fun _ => ?_
  refine Frz.bind frz_load5 fun _ => ?_
  refine Frz.bind frz_load13 fun _ => ?_
  refine Frz.bind frz_load14 fun _ => ?_
  refine Frz.bind frz_load17 fun _ => ?_
  refine Frz.bind frz_load17 fun _ => ?_
  refine Frz.bind (frz_store17 (by decide)) fun _ => ?_
  refine Frz.bind frz_load16 fun _ => ?_
  refine Frz.bind frz_load16 fun _ => ?_
  exact Frz.pure _

theorem frz_k0_part56 {i : grid0.Coords} {v1 : Elt F .i32} {v3 : Elt F .i32} {k0_hw1 : k0_chk1 v1 v3} {v28 : BitVec 32} {v227 : FVec F S8x256 .f32} {v228 : Vec F S1x8x256 .f32} :
    Frz c σ₀ (k0_part56 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v227 v228) := by
  rw [k0_part56_eq_skeleton]
  unfold k0_part56_skel
  refine Frz.bind (frz_store16 (by decide)) fun _ => ?_
  refine Frz.bind frz_load4 fun _ => ?_
  refine Frz.bind frz_load3 fun _ => ?_
  refine Frz.bind frz_load12 fun _ => ?_
  refine Frz.bind frz_store12 fun _ => ?_
  refine Frz.bind frz_load12 fun _ => ?_
  refine Frz.bind frz_load11 fun _ => ?_
  refine Frz.bind frz_load15 fun _ => ?_
  exact Frz.pure _

theorem frz_k0_part57 {i : grid0.Coords} {v29 : FVec F S16x512 .bf16} {v256 : FVec F S8x256 .f32} {v258 : FVec F S8x256 .f32} {v264 : FVec F S512x256 .bf16} :
    Frz c σ₀ (k0_part57 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v256 v258 v264) := by
  rw [k0_part57_eq_skeleton]
  unfold k0_part57_skel
  refine Frz.bind frz_load13 fun _ => ?_
  refine Frz.bind frz_store13 fun _ => ?_
  refine Frz.bind frz_load14 fun _ => ?_
  refine Frz.bind frz_store14 fun _ => ?_
  refine Frz.bind frz_load15 fun _ => ?_
  refine Frz.bind frz_store15 fun _ => ?_
  refine Frz.bind frz_load5 fun _ => ?_
  refine Frz.bind frz_load13 fun _ => ?_
  refine Frz.bind frz_load14 fun _ => ?_
  refine Frz.bind frz_load17 fun _ => ?_
  refine Frz.bind frz_load17 fun _ => ?_
  refine Frz.bind (frz_store17 (by decide)) fun _ => ?_
  exact Frz.pure _

theorem frz_k0_part58 {i : grid0.Coords} {v1 : Elt F .i32} {v3 : Elt F .i32} {k0_hw1 : k0_chk1 v1 v3} {v28 : BitVec 32} {v279 : FVec F S144x256 .f32} {v281 : FVec F S8x256 .f32} :
    Frz c σ₀ (k0_part58 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v279 v281) := by
  rw [k0_part58_eq_skeleton]
  unfold k0_part58_skel
  refine Frz.bind frz_load16 fun _ => ?_
  refine Frz.bind frz_load16 fun _ => ?_
  refine Frz.bind (frz_store16 (by decide)) fun _ => ?_
  refine Frz.bind frz_load4 fun _ => ?_
  refine Frz.bind frz_load3 fun _ => ?_
  refine Frz.bind frz_load12 fun _ => ?_
  refine Frz.bind frz_store12 fun _ => ?_
  refine Frz.bind frz_load12 fun _ => ?_
  refine Frz.bind frz_load11 fun _ => ?_
  refine Frz.bind frz_load15 fun _ => ?_
  exact Frz.pure _

theorem frz_k0_part59 {i : grid0.Coords} {v29 : FVec F S16x512 .bf16} {v315 : FVec F S64x8x256 .f32} {v317 : FVec F S8x256 .f32} {v324 : FVec F S8x256 .f32} {v325 : FVec F S8x256 .f32} :
    Frz c σ₀ (k0_part59 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v315 v317 v324 v325) := by
  rw [k0_part59_eq_skeleton]
  unfold k0_part59_skel
  refine Frz.bind frz_load13 fun _ => ?_
  refine Frz.bind frz_store13 fun _ => ?_
  refine Frz.bind frz_load14 fun _ => ?_
  refine Frz.bind frz_store14 fun _ => ?_
  refine Frz.bind frz_load15 fun _ => ?_
  refine Frz.bind frz_store15 fun _ => ?_
  refine Frz.bind frz_load5 fun _ => ?_
  refine Frz.bind frz_load13 fun _ => ?_
  refine Frz.bind frz_load14 fun _ => ?_
  refine Frz.bind frz_load17 fun _ => ?_
  exact Frz.pure _

theorem frz_k0_part60 {i : grid0.Coords} {v1 : Elt F .i32} {v3 : Elt F .i32} {k0_hw1 : k0_chk1 v1 v3} {v28 : BitVec 32} {v350 : FVec F S144x256 .f32} {v352 : FVec F S8x256 .f32} {v359 : FVec F S128x256 .f32} {v360 : FVec F S128x256 .f32} :
    Frz c σ₀ (k0_part60 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v350 v352 v359 v360) := by
  rw [k0_part60_eq_skeleton]
  unfold k0_part60_skel
  refine Frz.bind frz_load17 fun _ => ?_
  refine Frz.bind (frz_store17 (by decide)) fun _ => ?_
  refine Frz.bind frz_load16 fun _ => ?_
  refine Frz.bind frz_load16 fun _ => ?_
  refine Frz.bind (frz_store16 (by decide)) fun _ => ?_
  refine Frz.bind frz_load4 fun _ => ?_
  refine Frz.bind frz_load3 fun _ => ?_
  refine Frz.bind frz_load12 fun _ => ?_
  refine Frz.bind frz_store12 fun _ => ?_
  refine Frz.bind frz_load12 fun _ => ?_
  refine Frz.bind frz_load11 fun _ => ?_
  refine Frz.bind frz_load15 fun _ => ?_
  exact Frz.pure _

theorem frz_k0_part61 {i : grid0.Coords} {v29 : FVec F S16x512 .bf16} {v386 : FVec F S64x8x256 .f32} {v388 : FVec F S8x256 .f32} {v390 : FVec F S4x8x256 .f32} :
    Frz c σ₀ (k0_part61 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v386 v388 v390) := by
  rw [k0_part61_eq_skeleton]
  unfold k0_part61_skel
  refine Frz.bind frz_load13 fun _ => ?_
  refine Frz.bind frz_store13 fun _ => ?_
  refine Frz.bind frz_load14 fun _ => ?_
  refine Frz.bind frz_store14 fun _ => ?_
  refine Frz.bind frz_load15 fun _ => ?_
  refine Frz.bind frz_store15 fun _ => ?_
  refine Frz.bind frz_load5 fun _ => ?_
  refine Frz.bind frz_load13 fun _ => ?_
  refine Frz.bind frz_load14 fun _ => ?_
  exact Frz.pure _

theorem frz_k0_part62 {i : grid0.Coords} {v1 : Elt F .i32} {v3 : Elt F .i32} {k0_hw1 : k0_chk1 v1 v3} {v28 : BitVec 32} {v421 : FVec F S144x256 .f32} {v423 : FVec F S8x256 .f32} :
    Frz c σ₀ (k0_part62 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v421 v423) := by
  rw [k0_part62_eq_skeleton]
  unfold k0_part62_skel
  refine Frz.bind frz_load17 fun _ => ?_
  refine Frz.bind frz_load17 fun _ => ?_
  refine Frz.bind (frz_store17 (by decide)) fun _ => ?_
  refine Frz.bind frz_load16 fun _ => ?_
  refine Frz.bind frz_load16 fun _ => ?_
  refine Frz.bind (frz_store16 (by decide)) fun _ => ?_
  refine Frz.bind frz_load4 fun _ => ?_
  refine Frz.bind frz_load3 fun _ => ?_
  refine Frz.bind frz_load12 fun _ => ?_
  refine Frz.bind frz_store12 fun _ => ?_
  refine Frz.bind frz_load12 fun _ => ?_
  refine Frz.bind frz_load11 fun _ => ?_
  exact Frz.pure _

theorem frz_k0_part63 {i : grid0.Coords} {v29 : FVec F S16x512 .bf16} {v453 : FVec F S512x256 .f32} {v455 : Vec F S512x256 .f32} :
    Frz c σ₀ (k0_part63 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v453 v455) := by
  rw [k0_part63_eq_skeleton]
  unfold k0_part63_skel
  refine Frz.bind frz_load15 fun _ => ?_
  refine Frz.bind frz_load13 fun _ => ?_
  refine Frz.bind frz_store13 fun _ => ?_
  refine Frz.bind frz_load14 fun _ => ?_
  refine Frz.bind frz_store14 fun _ => ?_
  refine Frz.bind frz_load15 fun _ => ?_
  refine Frz.bind frz_store15 fun _ => ?_
  refine Frz.bind frz_load5 fun _ => ?_
  exact Frz.pure _

theorem frz_k0_part64 {i : grid0.Coords} {v489 : FVec F S144x512 .bf16} :
    Frz c σ₀ (k0_part64 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v489) := by
  rw [k0_part64_eq_skeleton]
  unfold k0_part64_skel
  refine Frz.bind frz_load13 fun _ => ?_
  refine Frz.bind frz_load14 fun _ => ?_
  refine Frz.bind frz_load17 fun _ => ?_
  refine Frz.bind frz_load17 fun _ => ?_
  refine Frz.bind (frz_store17 (by decide)) fun _ => ?_
  refine Frz.bind frz_load16 fun _ => ?_
  refine Frz.bind frz_load16 fun _ => ?_
  refine Frz.bind (frz_store16 (by decide)) fun _ => ?_
  refine Frz.bind frz_load4 fun _ => ?_
  refine Frz.bind frz_load3 fun _ => ?_
  refine Frz.bind frz_load12 fun _ => ?_
  exact Frz.pure _

theorem frz_k0_part65 {i : grid0.Coords} {v1 : Elt F .i32} {v3 : Elt F .i32} {k0_hw1 : k0_chk1 v1 v3} {v28 : BitVec 32} {v519 : FVec F S512x256 .f32} :
    Frz c σ₀ (k0_part65 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v519) := by
  rw [k0_part65_eq_skeleton]
  unfold k0_part65_skel
  refine Frz.bind frz_store12 fun _ => ?_
  refine Frz.bind frz_load12 fun _ => ?_
  refine Frz.bind frz_load11 fun _ => ?_
  refine Frz.bind frz_load15 fun _ => ?_
  refine Frz.bind frz_load13 fun _ => ?_
  refine Frz.bind frz_store13 fun _ => ?_
  refine Frz.bind frz_load14 fun _ => ?_
  refine Frz.bind frz_store14 fun _ => ?_
  refine Frz.bind frz_load15 fun _ => ?_
  exact Frz.pure _

theorem frz_k0_part66 {i : grid0.Coords} {v29 : FVec F S16x512 .bf16} {v557 : FVec F S1x8x256 .f32} :
    Frz c σ₀ (k0_part66 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v557) := by
  rw [k0_part66_eq_skeleton]
  unfold k0_part66_skel
  refine Frz.bind frz_store15 fun _ => ?_
  refine Frz.bind frz_load5 fun _ => ?_
  refine Frz.bind frz_load13 fun _ => ?_
  refine Frz.bind frz_load14 fun _ => ?_
  refine Frz.bind frz_load17 fun _ => ?_
  refine Frz.bind frz_load17 fun _ => ?_
  refine Frz.bind (frz_store17 (by decide)) fun _ => ?_
  refine Frz.bind frz_load16 fun _ => ?_
  refine Frz.bind frz_load16 fun _ => ?_
  refine Frz.bind (frz_store16 (by decide)) fun _ => ?_
  refine Frz.bind frz_load4 fun _ => ?_
  exact Frz.pure _

theorem frz_k0_part67 {i : grid0.Coords} {v1 : Elt F .i32} {v3 : Elt F .i32} {k0_hw1 : k0_chk1 v1 v3} {v28 : BitVec 32} {v587 : FVec F S512x128 .bf16} :
    Frz c σ₀ (k0_part67 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v587) := by
  rw [k0_part67_eq_skeleton]
  unfold k0_part67_skel
  refine Frz.bind frz_load3 fun _ => ?_
  refine Frz.bind frz_load12 fun _ => ?_
  refine Frz.bind frz_store12 fun _ => ?_
  refine Frz.bind frz_load12 fun _ => ?_
  refine Frz.bind frz_load11 fun _ => ?_
  refine Frz.bind frz_load15 fun _ => ?_
  refine Frz.bind frz_load13 fun _ => ?_
  refine Frz.bind frz_store13 fun _ => ?_
  exact Frz.pure _

theorem frz_k0_part68 {i : grid0.Coords} {v29 : FVec F S16x512 .bf16} {v611 : FVec F S8x256 .f32} {v613 : FVec F S8x256 .f32} :
    Frz c σ₀ (k0_part68 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v611 v613) := by
  rw [k0_part68_eq_skeleton]
  unfold k0_part68_skel
  refine Frz.bind frz_load14 fun _ => ?_
  refine Frz.bind frz_store14 fun _ => ?_
  refine Frz.bind frz_load15 fun _ => ?_
  refine Frz.bind frz_store15 fun _ => ?_
  refine Frz.bind frz_load5 fun _ => ?_
  refine Frz.bind frz_load13 fun _ => ?_
  refine Frz.bind frz_load14 fun _ => ?_
  refine Frz.bind frz_load17 fun _ => ?_
  refine Frz.bind frz_load17 fun _ => ?_
  refine Frz.bind (frz_store17 (by decide)) fun _ => ?_
  refine Frz.bind frz_load16 fun _ => ?_
  refine Frz.bind frz_load16 fun _ => ?_
  exact Frz.pure _

theorem frz_k0_part69 {i : grid0.Coords} {v1 : Elt F .i32} {v3 : Elt F .i32} {k0_hw1 : k0_chk1 v1 v3} {v28 : BitVec 32} {v653 : FVec F S8x256 .f32} {v654 : Vec F S1x8x256 .f32} :
    Frz c σ₀ (k0_part69 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v653 v654) := by
  rw [k0_part69_eq_skeleton]
  unfold k0_part69_skel
  refine Frz.bind (frz_store16 (by decide)) fun _ => ?_
  refine Frz.bind frz_load4 fun _ => ?_
  refine Frz.bind frz_load3 fun _ => ?_
  refine Frz.bind frz_load12 fun _ => ?_
  refine Frz.bind frz_store12 fun _ => ?_
  refine Frz.bind frz_load12 fun _ => ?_
  refine Frz.bind frz_load11 fun _ => ?_
  refine Frz.bind frz_load15 fun _ => ?_
  exact Frz.pure _

theorem frz_k0_part70 {i : grid0.Coords} {v29 : FVec F S16x512 .bf16} {v682 : FVec F S8x256 .f32} {v684 : FVec F S8x256 .f32} {v690 : FVec F S512x256 .bf16} :
    Frz c σ₀ (k0_part70 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v682 v684 v690) := by
  rw [k0_part70_eq_skeleton]
  unfold k0_part70_skel
  refine Frz.bind frz_load13 fun _ => ?_
  refine Frz.bind frz_store13 fun _ => ?_
  refine Frz.bind frz_load14 fun _ => ?_
  refine Frz.bind frz_store14 fun _ => ?_
  refine Frz.bind frz_load15 fun _ => ?_
  refine Frz.bind frz_store15 fun _ => ?_
  refine Frz.bind frz_load5 fun _ => ?_
  refine Frz.bind frz_load13 fun _ => ?_
  refine Frz.bind frz_load14 fun _ => ?_
  refine Frz.bind frz_load17 fun _ => ?_
  refine Frz.bind frz_load17 fun _ => ?_
  refine Frz.bind (frz_store17 (by decide)) fun _ => ?_
  exact Frz.pure _

theorem frz_k0_part71 {i : grid0.Coords} {v1 : Elt F .i32} {v3 : Elt F .i32} {k0_hw1 : k0_chk1 v1 v3} {v28 : BitVec 32} {v705 : FVec F S144x256 .f32} {v707 : FVec F S8x256 .f32} :
    Frz c σ₀ (k0_part71 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v705 v707) := by
  rw [k0_part71_eq_skeleton]
  unfold k0_part71_skel
  refine Frz.bind frz_load16 fun _ => ?_
  refine Frz.bind frz_load16 fun _ => ?_
  refine Frz.bind (frz_store16 (by decide)) fun _ => ?_
  refine Frz.bind frz_load4 fun _ => ?_
  refine Frz.bind frz_load3 fun _ => ?_
  refine Frz.bind frz_load12 fun _ => ?_
  refine Frz.bind frz_store12 fun _ => ?_
  refine Frz.bind frz_load12 fun _ => ?_
  refine Frz.bind frz_load11 fun _ => ?_
  refine Frz.bind frz_load15 fun _ => ?_
  exact Frz.pure _

theorem frz_k0_part72 {i : grid0.Coords} {v29 : FVec F S16x512 .bf16} {v741 : FVec F S64x8x256 .f32} {v743 : FVec F S8x256 .f32} {v750 : FVec F S8x256 .f32} {v751 : FVec F S8x256 .f32} :
    Frz c σ₀ (k0_part72 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v741 v743 v750 v751) := by
  rw [k0_part72_eq_skeleton]
  unfold k0_part72_skel
  refine Frz.bind frz_load13 fun _ => ?_
  refine Frz.bind frz_store13 fun _ => ?_
  refine Frz.bind frz_load14 fun _ => ?_
  refine Frz.bind frz_store14 fun _ => ?_
  refine Frz.bind frz_load15 fun _ => ?_
  refine Frz.bind frz_store15 fun _ => ?_
  refine Frz.bind frz_load5 fun _ => ?_
  refine Frz.bind frz_load13 fun _ => ?_
  refine Frz.bind frz_load14 fun _ => ?_
  refine Frz.bind frz_load17 fun _ => ?_
  exact Frz.pure _

theorem frz_k0_part73 {i : grid0.Coords} {v1 : Elt F .i32} {v3 : Elt F .i32} {k0_hw1 : k0_chk1 v1 v3} {v28 : BitVec 32} {v776 : FVec F S144x256 .f32} {v778 : FVec F S8x256 .f32} {v785 : FVec F S128x256 .f32} {v786 : FVec F S128x256 .f32} :
    Frz c σ₀ (k0_part73 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v776 v778 v785 v786) := by
  rw [k0_part73_eq_skeleton]
  unfold k0_part73_skel
  refine Frz.bind frz_load17 fun _ => ?_
  refine Frz.bind (frz_store17 (by decide)) fun _ => ?_
  refine Frz.bind frz_load16 fun _ => ?_
  refine Frz.bind frz_load16 fun _ => ?_
  refine Frz.bind (frz_store16 (by decide)) fun _ => ?_
  refine Frz.bind frz_load4 fun _ => ?_
  refine Frz.bind frz_load3 fun _ => ?_
  refine Frz.bind frz_load12 fun _ => ?_
  refine Frz.bind frz_store12 fun _ => ?_
  refine Frz.bind frz_load12 fun _ => ?_
  refine Frz.bind frz_load11 fun _ => ?_
  refine Frz.bind frz_load15 fun _ => ?_
  exact Frz.pure _

theorem frz_k0_part74 {i : grid0.Coords} {v29 : FVec F S16x512 .bf16} {v812 : FVec F S64x8x256 .f32} {v814 : FVec F S8x256 .f32} {v816 : FVec F S4x8x256 .f32} :
    Frz c σ₀ (k0_part74 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v812 v814 v816) := by
  rw [k0_part74_eq_skeleton]
  unfold k0_part74_skel
  refine Frz.bind frz_load13 fun _ => ?_
  refine Frz.bind frz_store13 fun _ => ?_
  refine Frz.bind frz_load14 fun _ => ?_
  refine Frz.bind frz_store14 fun _ => ?_
  refine Frz.bind frz_load15 fun _ => ?_
  refine Frz.bind frz_store15 fun _ => ?_
  refine Frz.bind frz_load5 fun _ => ?_
  refine Frz.bind frz_load13 fun _ => ?_
  refine Frz.bind frz_load14 fun _ => ?_
  exact Frz.pure _

theorem frz_k0_part75 {i : grid0.Coords} {v1 : Elt F .i32} {v3 : Elt F .i32} {k0_hw1 : k0_chk1 v1 v3} {v28 : BitVec 32} {v847 : FVec F S144x256 .f32} {v849 : FVec F S8x256 .f32} :
    Frz c σ₀ (k0_part75 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v847 v849) := by
  rw [k0_part75_eq_skeleton]
  unfold k0_part75_skel
  refine Frz.bind frz_load17 fun _ => ?_
  refine Frz.bind frz_load17 fun _ => ?_
  refine Frz.bind (frz_store17 (by decide)) fun _ => ?_
  refine Frz.bind frz_load16 fun _ => ?_
  refine Frz.bind frz_load16 fun _ => ?_
  refine Frz.bind (frz_store16 (by decide)) fun _ => ?_
  refine Frz.bind frz_load4 fun _ => ?_
  refine Frz.bind frz_load3 fun _ => ?_
  refine Frz.bind frz_load12 fun _ => ?_
  refine Frz.bind frz_store12 fun _ => ?_
  refine Frz.bind frz_load12 fun _ => ?_
  refine Frz.bind frz_load11 fun _ => ?_
  exact Frz.pure _

theorem frz_k0_part76 {i : grid0.Coords} {v29 : FVec F S16x512 .bf16} {v879 : FVec F S512x256 .f32} {v881 : Vec F S512x256 .f32} :
    Frz c σ₀ (k0_part76 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v879 v881) := by
  rw [k0_part76_eq_skeleton]
  unfold k0_part76_skel
  refine Frz.bind frz_load15 fun _ => ?_
  refine Frz.bind frz_load13 fun _ => ?_
  refine Frz.bind frz_store13 fun _ => ?_
  refine Frz.bind frz_load14 fun _ => ?_
  refine Frz.bind frz_store14 fun _ => ?_
  refine Frz.bind frz_load15 fun _ => ?_
  refine Frz.bind frz_store15 fun _ => ?_
  refine Frz.bind frz_load5 fun _ => ?_
  exact Frz.pure _

theorem frz_k0_part77 {i : grid0.Coords} {v915 : FVec F S144x512 .bf16} :
    Frz c σ₀ (k0_part77 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v915) := by
  rw [k0_part77_eq_skeleton]
  unfold k0_part77_skel
  refine Frz.bind frz_load13 fun _ => ?_
  refine Frz.bind frz_load14 fun _ => ?_
  refine Frz.bind frz_load17 fun _ => ?_
  refine Frz.bind frz_load17 fun _ => ?_
  refine Frz.bind (frz_store17 (by decide)) fun _ => ?_
  refine Frz.bind frz_load16 fun _ => ?_
  refine Frz.bind frz_load16 fun _ => ?_
  refine Frz.bind (frz_store16 (by decide)) fun _ => ?_
  refine Frz.bind frz_load4 fun _ => ?_
  refine Frz.bind frz_load3 fun _ => ?_
  refine Frz.bind frz_load12 fun _ => ?_
  exact Frz.pure _

theorem frz_k0_part78 {i : grid0.Coords} {v1 : Elt F .i32} {v3 : Elt F .i32} {k0_hw1 : k0_chk1 v1 v3} {v28 : BitVec 32} {v945 : FVec F S512x256 .f32} :
    Frz c σ₀ (k0_part78 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v945) := by
  rw [k0_part78_eq_skeleton]
  unfold k0_part78_skel
  refine Frz.bind frz_store12 fun _ => ?_
  refine Frz.bind frz_load12 fun _ => ?_
  refine Frz.bind frz_load11 fun _ => ?_
  refine Frz.bind frz_load15 fun _ => ?_
  refine Frz.bind frz_load13 fun _ => ?_
  refine Frz.bind frz_store13 fun _ => ?_
  refine Frz.bind frz_load14 fun _ => ?_
  refine Frz.bind frz_store14 fun _ => ?_
  refine Frz.bind frz_load15 fun _ => ?_
  exact Frz.pure _

theorem frz_k0_part79 {i : grid0.Coords} {v28 : BitVec 32} {v29 : FVec F S16x512 .bf16} {v983 : FVec F S1x8x256 .f32} :
    Frz c σ₀ (k0_part79 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v28 v29 v983) := by
  rw [k0_part79_eq_skeleton]
  unfold k0_part79_skel
  refine Frz.bind frz_store15 fun _ => ?_
  refine Frz.bind frz_load5 fun _ => ?_
  refine Frz.bind frz_load13 fun _ => ?_
  refine Frz.bind frz_load14 fun _ => ?_
  refine Frz.bind frz_load17 fun _ => ?_
  refine Frz.bind frz_load17 fun _ => ?_
  refine Frz.bind (frz_store17 (by decide)) fun _ => ?_
  refine Frz.bind frz_load16 fun _ => ?_
  refine Frz.bind frz_load16 fun _ => ?_
  refine Frz.bind (frz_store16 (by decide)) fun _ => ?_
  refine Frz.bind frz_load12 fun _ => ?_
  exact Frz.pure _

theorem frz_k0_part80 {i : grid0.Coords} {v1 : Elt F .i32} {v3 : Elt F .i32} {k0_hw1 : k0_chk1 v1 v3} {v29 : FVec F S16x512 .bf16} {v1013 : FVec F S512x256 .f32} :
    Frz c σ₀ (k0_part80 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v29 v1013) := by
  rw [k0_part80_eq_skeleton]
  unfold k0_part80_skel
  refine Frz.bind frz_load11 fun _ => ?_
  refine Frz.bind frz_load15 fun _ => ?_
  refine Frz.bind frz_load13 fun _ => ?_
  refine Frz.bind frz_store13 fun _ => ?_
  refine Frz.bind frz_load14 fun _ => ?_
  refine Frz.bind frz_store14 fun _ => ?_
  refine Frz.bind frz_load15 fun _ => ?_
  refine Frz.bind frz_store15 fun _ => ?_
  refine Frz.bind frz_load5 fun _ => ?_
  exact Frz.pure _

theorem frz_k0_part81 {i : grid0.Coords} {v1 : Elt F .i32} {v3 : Elt F .i32} {k0_hw1 : k0_chk1 v1 v3} {v28 : BitVec 32} {v1049 : FVec F S144x512 .bf16} :
    Frz c σ₀ (k0_part81 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v28 v1049) := by
  rw [k0_part81_eq_skeleton]
  unfold k0_part81_skel
  refine Frz.bind frz_load13 fun _ => ?_
  refine Frz.bind frz_load14 fun _ => ?_
  refine Frz.bind frz_load17 fun _ => ?_
  refine Frz.bind frz_load17 fun _ => ?_
  refine Frz.bind (frz_store17 (by decide)) fun _ => ?_
  refine Frz.bind frz_load16 fun _ => ?_
  refine Frz.bind frz_load16 fun _ => ?_
  refine Frz.bind (frz_store16 (by decide)) fun _ => ?_
  refine Frz.bind frz_load12 fun _ => ?_
  refine Frz.bind frz_load11 fun _ => ?_
  refine Frz.bind frz_load15 fun _ => ?_
  exact Frz.pure _

theorem frz_k0_part82 {i : grid0.Coords} {v29 : FVec F S16x512 .bf16} {v1080 : FVec F S64x8x256 .f32} {v1082 : FVec F S8x256 .f32} {v1083 : FVec F S16x4x8x256 .f32} :
    Frz c σ₀ (k0_part82 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v1080 v1082 v1083) := by
  rw [k0_part82_eq_skeleton]
  unfold k0_part82_skel
  refine Frz.bind frz_load13 fun _ => ?_
  refine Frz.bind frz_store13 fun _ => ?_
  refine Frz.bind frz_load14 fun _ => ?_
  refine Frz.bind frz_store14 fun _ => ?_
  refine Frz.bind frz_load15 fun _ => ?_
  refine Frz.bind frz_store15 fun _ => ?_
  refine Frz.bind frz_load5 fun _ => ?_
  refine Frz.bind frz_load13 fun _ => ?_
  refine Frz.bind frz_load14 fun _ => ?_
  exact Frz.pure _

theorem frz_k0_part83 {i : grid0.Coords} {v29 : FVec F S16x512 .bf16} {v1115 : FVec F S144x256 .f32} {v1116 : Vec F S1x8x256 .f32} :
    Frz c σ₀ (k0_part83 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v29 v1115 v1116) := by
  rw [k0_part83_eq_skeleton]
  unfold k0_part83_skel
  refine Frz.bind frz_load17 fun _ => ?_
  refine Frz.bind frz_load17 fun _ => ?_
  refine Frz.bind (frz_store17 (by decide)) fun _ => ?_
  refine Frz.bind frz_load16 fun _ => ?_
  refine Frz.bind frz_load16 fun _ => ?_
  refine Frz.bind (frz_store16 (by decide)) fun _ => ?_
  refine Frz.bind frz_load5 fun _ => ?_
  refine Frz.bind frz_load13 fun _ => ?_
  refine Frz.bind frz_load14 fun _ => ?_
  refine Frz.bind frz_load17 fun _ => ?_
  exact Frz.pure _

theorem frz_k0_part43 {i : grid0.Coords} {v1200 : FVec F S8x256 .f32} :
    Frz c σ₀ (k0_part43 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1200) := by
  rw [k0_part43_eq_skeleton]
  unfold k0_part43_skel
  refine Frz.bind frz_load17 fun _ => ?_
  refine Frz.bind frz_load6 fun _ => ?_
  refine Frz.bind frz_load10 fun _ => ?_
  refine Frz.bind (frz_store10 (by decide)) fun _ => ?_
  refine Frz.bind frz_load16 fun _ => ?_
  refine Frz.bind frz_load17 fun _ => ?_
  refine Frz.bind frz_load6 fun _ => ?_
  refine Frz.bind frz_load10 fun _ => ?_
  refine Frz.bind (frz_store10 (by decide)) fun _ => ?_
  refine Frz.bind frz_load16 fun _ => ?_
  refine Frz.bind frz_load17 fun _ => ?_
  exact Frz.pure _

theorem frz_k0_part44 {i : grid0.Coords} {v1238 : FVec F S256x128 .f32} :
    Frz c σ₀ (k0_part44 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1238) := by
  rw [k0_part44_eq_skeleton]
  unfold k0_part44_skel
  refine Frz.bind frz_load6 fun _ => ?_
  refine Frz.bind frz_load10 fun _ => ?_
  refine Frz.bind (frz_store10 (by decide)) fun _ => ?_
  refine Frz.bind frz_load16 fun _ => ?_
  refine Frz.bind frz_load17 fun _ => ?_
  refine Frz.bind frz_load6 fun _ => ?_
  refine Frz.bind frz_load10 fun _ => ?_
  refine Frz.bind (frz_store10 (by decide)) fun _ => ?_
  refine Frz.bind frz_load16 fun _ => ?_
  refine Frz.bind frz_load17 fun _ => ?_
  refine Frz.bind frz_load6 fun _ => ?_
  exact Frz.pure _

theorem frz_k0_part45 {i : grid0.Coords} {v1272 : FVec F S256x128 .bf16} :
    Frz c σ₀ (k0_part45 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1272) := by
  rw [k0_part45_eq_skeleton]
  unfold k0_part45_skel
  refine Frz.bind frz_load10 fun _ => ?_
  refine Frz.bind (frz_store10 (by decide)) fun _ => ?_
  refine Frz.bind frz_load16 fun _ => ?_
  refine Frz.bind frz_load17 fun _ => ?_
  refine Frz.bind frz_load6 fun _ => ?_
  refine Frz.bind frz_load10 fun _ => ?_
  refine Frz.bind (frz_store10 (by decide)) fun _ => ?_
  refine Frz.bind frz_load16 fun _ => ?_
  refine Frz.bind frz_load17 fun _ => ?_
  refine Frz.bind frz_load6 fun _ => ?_
  refine Frz.bind frz_load10 fun _ => ?_
  refine Frz.bind (frz_store10 (by decide)) fun _ => ?_
  refine Frz.bind frz_load16 fun _ => ?_
  exact Frz.pure _

theorem frz_k0_part46 {i : grid0.Coords} {v1305 : FVec F S8x256 .f32} :
    Frz c σ₀ (k0_part46 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1305) := by
  rw [k0_part46_eq_skeleton]
  unfold k0_part46_skel
  refine Frz.bind frz_load17 fun _ => ?_
  refine Frz.bind frz_load6 fun _ => ?_
  refine Frz.bind frz_load10 fun _ => ?_
  refine Frz.bind (frz_store10 (by decide)) fun _ => ?_
  refine Frz.bind frz_load16 fun _ => ?_
  refine Frz.bind frz_load17 fun _ => ?_
  refine Frz.bind frz_load6 fun _ => ?_
  refine Frz.bind frz_load10 fun _ => ?_
  refine Frz.bind (frz_store10 (by decide)) fun _ => ?_
  refine Frz.bind frz_load16 fun _ => ?_
  refine Frz.bind frz_load17 fun _ => ?_
  exact Frz.pure _

theorem frz_k0_part47 {i : grid0.Coords} {v1341 : FVec F S16x8x256 .f32} :
    Frz c σ₀ (k0_part47 (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1341) := by
  rw [k0_part47_eq_skeleton]
  unfold k0_part47_skel
  refine Frz.bind frz_load6 fun _ => ?_
  refine Frz.bind frz_load10 fun _ => ?_
  refine Frz.bind (frz_store10 (by decide)) fun _ => ?_
  refine Frz.bind frz_load16 fun _ => ?_
  refine Frz.bind frz_load17 fun _ => ?_
  refine Frz.bind frz_load6 fun _ => ?_
  refine Frz.bind frz_load10 fun _ => ?_
  refine Frz.bind (frz_store10 (by decide)) fun _ => ?_
  refine Frz.bind frz_load16 fun _ => ?_
  refine Frz.bind frz_load17 fun _ => ?_
  refine Frz.bind frz_load6 fun _ => ?_
  exact Frz.pure _

end Cert.KernelIdeal.Body

end
-- ==== Proof.Trip.lean ====
/- One trip of the attention call's scoring loop: what it writes. It scores 512 keys against the block's 256 queries, 128 keys at a
   time: over the sixteen heads the key's product with the query, cut off below at zero and weighted, and the mask's value where
   the key comes after the query. -/
module

public import proofs.«01_k».proof.Proof.Frozen

@[expose] public section

noncomputable section

namespace Cert.KernelIdeal.Body

open Idealize.ShloMosaic Idealize.ShloMosaic.TcCoe Idealize.SL.RA Idealize.SL.Sem
open Cert.KernelIdeal Cert.KernelIdeal.Gen Cert.Proof

variable {F : FTy → Type} [FloatOps F] [Named F] {A : Args} {c : Dev nD}

theorem W.skip {α : Type} {T : Sort*} {v : T} {p : T → Prog (TpuEff nD τ sig (Elt F) Λ₀ .tc) α} {Q : α → St F A → Prop} {σ : St F A} (h : Run c (p v) Q σ) :
    Run c (have x := v; p x) Q σ := h

/-- One head's term: the products of the keys of the first half with the queries, cut off below at zero, times the head's weights. -/
def headTerm0 (kk : FVec F S256x128 .bf16) (q : Vec F S256x128 .bf16) (w : Vec F S1x256 .f32) : FVec F S128x256 .f32 :=
  mulf (maximumf (extractStridedSlice S128x256 ![0, 0] (matmul dot_S256x128_S256x128_S256x256_1_1_0_0_n_n none kk q (constant S256x256 .f32 0x00000000#32)) slices_S256x256_o0_0_S128x256) (broadcast S128x256 (Scalar.ofBits .f32 0x00000000#32)))
    (broadcastTo S128x256 w broadcasts_S1x256_S128x256)

/-- One head's term: the products of the keys of the second half with the queries, cut off below at zero, times the head's weights. -/
def headTerm1 (kk : FVec F S256x128 .bf16) (q : Vec F S256x128 .bf16) (w : Vec F S1x256 .f32) : FVec F S128x256 .f32 :=
  mulf (maximumf (extractStridedSlice S128x256 ![128, 0] (matmul dot_S256x128_S256x128_S256x256_1_1_0_0_n_n none kk q (constant S256x256 .f32 0x00000000#32)) slices_S256x256_o128_0_S128x256) (broadcast S128x256 (Scalar.ofBits .f32 0x00000000#32)))
    (broadcastTo S128x256 w broadcasts_S1x256_S128x256)

/-- The scores of 128 keys: the sixteen heads' terms added. -/
def blockScore (kk : FVec F S256x128 .bf16) (q0 : Vec F S256x128 .bf16) (q1 : Vec F S256x128 .bf16) (q2 : Vec F S256x128 .bf16) (q3 : Vec F S256x128 .bf16) (q4 : Vec F S256x128 .bf16) (q5 : Vec F S256x128 .bf16) (q6 : Vec F S256x128 .bf16) (q7 : Vec F S256x128 .bf16) (w0 : Vec F S1x256 .f32) (w1 : Vec F S1x256 .f32) (w2 : Vec F S1x256 .f32) (w3 : Vec F S1x256 .f32) (w4 : Vec F S1x256 .f32) (w5 : Vec F S1x256 .f32) (w6 : Vec F S1x256 .f32) (w7 : Vec F S1x256 .f32) (w8 : Vec F S1x256 .f32) (w9 : Vec F S1x256 .f32) (w10 : Vec F S1x256 .f32) (w11 : Vec F S1x256 .f32) (w12 : Vec F S1x256 .f32) (w13 : Vec F S1x256 .f32) (w14 : Vec F S1x256 .f32) (w15 : Vec F S1x256 .f32) : FVec F S128x256 .f32 :=
  addf (addf (addf (addf (addf (addf (addf (addf (addf (addf (addf (addf (addf (addf (addf (addf (broadcast S128x256 (Scalar.ofBits .f32 0x00000000#32)) (headTerm0 kk q0 w0)) (headTerm1 kk q0 w1)) (headTerm0 kk q1 w2)) (headTerm1 kk q1 w3)) (headTerm0 kk q2 w4)) (headTerm1 kk q2 w5)) (headTerm0 kk q3 w6)) (headTerm1 kk q3 w7)) (headTerm0 kk q4 w8)) (headTerm1 kk q4 w9)) (headTerm0 kk q5 w10)) (headTerm1 kk q5 w11)) (headTerm0 kk q6 w12)) (headTerm1 kk q6 w13)) (headTerm0 kk q7 w14)) (headTerm1 kk q7 w15)

/-- With the keys after the query masked. -/
def blockOut (v1172 : IVec S128x256 32) (row : BitVec 32) (sc : FVec F S128x256 .f32) : FVec F S128x256 .f32 :=
  shapeCast S128x256 (select (k0_pay11 v1172 row) sc (broadcast S128x256 (Named.named κ "mask" 0xF149F2CA#32))) shapeCasts_S128x256_S128x256

/-- The scores at a state, from the key block loaded. -/
def scoreAt (σ : St F A) (kb : Vec F S1x256x128 .bf16) : FVec F S128x256 .f32 :=
  blockScore (shapeCast S256x128 kb shapeCasts_S1x256x128_S256x128)
    (fun j => σ .b7 ((Rect.unit (s := S256x1024) ![0, 0] S256x128.size inb_S256x1024_S256x128_0_0).toLoadRect.idx j))
    (fun j => σ .b7 ((Rect.unit (s := S256x1024) ![0, 128] S256x128.size inb_S256x1024_S256x128_0_128).toLoadRect.idx j))
    (fun j => σ .b7 ((Rect.unit (s := S256x1024) ![0, 256] S256x128.size inb_S256x1024_S256x128_0_256).toLoadRect.idx j))
    (fun j => σ .b7 ((Rect.unit (s := S256x1024) ![0, 384] S256x128.size inb_S256x1024_S256x128_0_384).toLoadRect.idx j))
    (fun j => σ .b7 ((Rect.unit (s := S256x1024) ![0, 512] S256x128.size inb_S256x1024_S256x128_0_512).toLoadRect.idx j))
    (fun j => σ .b7 ((Rect.unit (s := S256x1024) ![0, 640] S256x128.size inb_S256x1024_S256x128_0_640).toLoadRect.idx j))
    (fun j => σ .b7 ((Rect.unit (s := S256x1024) ![0, 768] S256x128.size inb_S256x1024_S256x128_0_768).toLoadRect.idx j))
    (fun j => σ .b7 ((Rect.unit (s := S256x1024) ![0, 896] S256x128.size inb_S256x1024_S256x128_0_896).toLoadRect.idx j))
    (fun j => σ .b8 ((Rect.unit (s := S16x256) ![0, 0] S1x256.size inb_S16x256_S1x256_0_0).toLoadRect.idx j))
    (fun j => σ .b8 ((Rect.unit (s := S16x256) ![1, 0] S1x256.size inb_S16x256_S1x256_1_0).toLoadRect.idx j))
    (fun j => σ .b8 ((Rect.unit (s := S16x256) ![2, 0] S1x256.size inb_S16x256_S1x256_2_0).toLoadRect.idx j))
    (fun j => σ .b8 ((Rect.unit (s := S16x256) ![3, 0] S1x256.size inb_S16x256_S1x256_3_0).toLoadRect.idx j))
    (fun j => σ .b8 ((Rect.unit (s := S16x256) ![4, 0] S1x256.size inb_S16x256_S1x256_4_0).toLoadRect.idx j))
    (fun j => σ .b8 ((Rect.unit (s := S16x256) ![5, 0] S1x256.size inb_S16x256_S1x256_5_0).toLoadRect.idx j))
    (fun j => σ .b8 ((Rect.unit (s := S16x256) ![6, 0] S1x256.size inb_S16x256_S1x256_6_0).toLoadRect.idx j))
    (fun j => σ .b8 ((Rect.unit (s := S16x256) ![7, 0] S1x256.size inb_S16x256_S1x256_7_0).toLoadRect.idx j))
    (fun j => σ .b8 ((Rect.unit (s := S16x256) ![8, 0] S1x256.size inb_S16x256_S1x256_8_0).toLoadRect.idx j))
    (fun j => σ .b8 ((Rect.unit (s := S16x256) ![9, 0] S1x256.size inb_S16x256_S1x256_9_0).toLoadRect.idx j))
    (fun j => σ .b8 ((Rect.unit (s := S16x256) ![10, 0] S1x256.size inb_S16x256_S1x256_10_0).toLoadRect.idx j))
    (fun j => σ .b8 ((Rect.unit (s := S16x256) ![11, 0] S1x256.size inb_S16x256_S1x256_11_0).toLoadRect.idx j))
    (fun j => σ .b8 ((Rect.unit (s := S16x256) ![12, 0] S1x256.size inb_S16x256_S1x256_12_0).toLoadRect.idx j))
    (fun j => σ .b8 ((Rect.unit (s := S16x256) ![13, 0] S1x256.size inb_S16x256_S1x256_13_0).toLoadRect.idx j))
    (fun j => σ .b8 ((Rect.unit (s := S16x256) ![14, 0] S1x256.size inb_S16x256_S1x256_14_0).toLoadRect.idx j))
    (fun j => σ .b8 ((Rect.unit (s := S16x256) ![15, 0] S1x256.size inb_S16x256_S1x256_15_0).toLoadRect.idx j))

/-- A buffer after one block of 128 scores is written. -/
def writeBlock (σ : St F A) {v1 v3 : Elt F .i32} (hw1 : k0_chk1 v1 v3) (h1 : k0_cond1 v3 = 1#1) (k : Fin (k0_t1_loop v1).trips) (u : Fin 4) (row : BitVec 32)
    (f : S8192x256.Idx → Elt F .f32) : S8192x256.Idx → Elt F .f32 :=
  (Rect.unit (s := S8192x256) (k0_off3 v1 k (BitVec.ofNat 32 u.val)) S128x256.size (k0_off3_inb v1 v3 hw1 k h1 u)).overlay f
    (blockOut (k0_pay142 v1) row (scoreAt σ fun j => σ .b9 ((Rect.unit (s := S64x256x128) (k0_off2 v1 k (BitVec.ofNat 32 u.val)) S1x256x128.size (k0_off2_inb v1 v3 hw1 k h1 u)).toLoadRect.idx j)))

/-- The number of a block of 128 keys. -/
def rowOf {v1 : Elt F .i32} (k : Fin (k0_t1_loop v1).trips) (u : BitVec 32) : BitVec 32 := Scalar.addi (Scalar.muli (Scf.iv 0#32 1#32 k) 4#32) u

set_option maxHeartbeats 4000000 in
theorem run_k0_t1_body {i : grid0.Coords} {v1 : Elt F .i32} {v3 : Elt F .i32} {k0_hw1 : k0_chk1 v1 v3} {v23 : BitVec 32} {k0_h1 : k0_cond1 v3 = 1#1} {k : Fin (k0_t1_loop v1).trips} {acc : FVec F S8x256 .f32 × FVec F S8x256 .f32} {σ : St F A} :
    Run c (k0_t1_body (F := F) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1 v3 k0_hw1 v23 k0_h1 k acc) (fun _ σ' => Keep σ σ' ∧ σ' .b11 = writeBlock σ k0_hw1 k0_h1 k 3 (rowOf k 3#32) (writeBlock σ k0_hw1 k0_h1 k 2 (rowOf k 2#32)
      (writeBlock σ k0_hw1 k0_h1 k 1 (rowOf k 1#32) (writeBlock σ k0_hw1 k0_h1 k 0 (rowOf k 0#32) (σ .b11))))) σ := by
  rcases acc with ⟨_, _⟩
  unfold k0_t1_body
  refine W.bind ?_
  rw [k0_part1_eq_skeleton]
  unfold k0_part1_skel
  refine W.skip ?_
  refine W.skip ?_
  refine W.skip ?_
  refine W.skip ?_
  refine W.skip ?_
  refine W.bind (W.load (K := bank A) .b9 ?_)
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.pure ?_
  skip
  refine W.bind ?_
  rw [k0_part2_eq_skeleton]
  unfold k0_part2_skel
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.pure ?_
  skip
  refine W.bind ?_
  rw [k0_part3_eq_skeleton]
  unfold k0_part3_skel
  refine W.bind (W.load (K := bank A) .b8 ?_)
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.pure ?_
  skip
  refine W.bind ?_
  rw [k0_part4_eq_skeleton]
  unfold k0_part4_skel
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b11 ?_)
  refine W.bind (W.store (K := bank A) .b11 rfl ?_)
  refine W.pure ?_
  skip
  refine W.bind ?_
  rw [k0_part5_eq_skeleton]
  unfold k0_part5_skel
  refine W.skip ?_
  refine W.skip ?_
  refine W.skip ?_
  refine W.skip ?_
  refine W.bind (W.load (K := bank A) .b9 ?_)
  refine W.bind (W.load (K := bank A) .b7 ?_)
  refine W.bind (W.load (K := bank A) .b8 ?_)
  refine W.bind (W.load (K := bank A) .b8 ?_)
  refine W.bind (W.load (K := bank A) .b7 ?_)
  refine W.pure ?_
  skip
  refine W.bind ?_
  rw [k0_part6_eq_skeleton]
  unfold k0_part6_skel
  refine W.bind (W.load (K := bank A) .b8 ?_)
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.pure ?_
  skip
  refine W.bind ?_
  rw [k0_part7_eq_skeleton]
  unfold k0_part7_skel
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.pure ?_
  skip
  refine W.bind ?_
  rw [k0_part8_eq_skeleton]
  unfold k0_part8_skel
  refine W.bind (W.load (K := bank A) .b8 ?_)
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b11 ?_)
  refine W.bind (W.store (K := bank A) .b11 rfl ?_)
  refine W.skip ?_
  refine W.pure ?_
  skip
  refine W.bind ?_
  rw [k0_part9_eq_skeleton]
  unfold k0_part9_skel
  refine W.skip ?_
  refine W.skip ?_
  refine W.skip ?_
  refine W.skip ?_
  refine W.bind (W.load (K := bank A) .b9 ?_)
  refine W.bind (W.load (K := bank A) .b7 ?_)
  refine W.bind (W.load (K := bank A) .b8 ?_)
  refine W.bind (W.load (K := bank A) .b8 ?_)
  refine W.pure ?_
  skip
  refine W.bind ?_
  rw [k0_part10_eq_skeleton]
  unfold k0_part10_skel
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.pure ?_
  skip
  refine W.bind ?_
  rw [k0_part11_eq_skeleton]
  unfold k0_part11_skel
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.bind (W.load (K := bank A) .b8 ?_)
  refine W.pure ?_
  skip
  refine W.bind ?_
  rw [k0_part12_eq_skeleton]
  unfold k0_part12_skel
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.bind (W.load (K := bank A) .b8 ?_)
  refine W.skip ?_
  refine W.pure ?_
  skip
  refine W.bind ?_
  rw [k0_part13_eq_skeleton]
  unfold k0_part13_skel
  refine W.bind (W.load (K := bank A) .b11 ?_)
  refine W.bind (W.store (K := bank A) .b11 rfl ?_)
  refine W.skip ?_
  refine W.skip ?_
  refine W.skip ?_
  refine W.skip ?_
  refine W.bind (W.load (K := bank A) .b9 ?_)
  refine W.bind (W.load (K := bank A) .b7 ?_)
  refine W.bind (W.load (K := bank A) .b8 ?_)
  refine W.pure ?_
  skip
  refine W.bind ?_
  rw [k0_part14_eq_skeleton]
  unfold k0_part14_skel
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.pure ?_
  skip
  refine W.bind ?_
  rw [k0_part15_eq_skeleton]
  unfold k0_part15_skel
  refine W.bind (W.load (K := bank A) .b8 ?_)
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.pure ?_
  skip
  refine W.bind ?_
  rw [k0_part16_eq_skeleton]
  unfold k0_part16_skel
  refine W.bind (W.load (K := bank A) .b8 ?_)
  refine W.bind (W.load (K := bank A) .b7 ?_)
  refine W.bind (W.load (K := bank A) .b8 ?_)
  refine W.bind (W.load (K := bank A) .b8 ?_)
  refine W.bind (W.load (K := bank A) .b7 ?_)
  refine W.bind (W.load (K := bank A) .b8 ?_)
  refine W.bind (W.load (K := bank A) .b8 ?_)
  refine W.pure ?_
  skip
  refine W.bind (W.load (K := bank A) .b11 ?_)
  refine W.bind (W.store (K := bank A) .b11 rfl ?_)
  refine W.pure ?_
  refine ⟨?_, ?_⟩
  · exact (((Keep.upd (fun _ _ => rfl) rfl _).upd rfl _).upd rfl _).upd rfl _
  · simp only [Bank.upd_same]
    rfl

end Cert.KernelIdeal.Body

end
-- ==== Proof.Opening.lean ====
/- The constants of the first block's selection: with at most 256 keys before every query, every key is selected that has a score
   above the threshold -1e29, and no search is done. -/
module

public import proofs.«01_k».proof.Proof.Trip
public import Idealize.ShloMosaic.Lib.Pipeline.ValueKit
public import Idealize.ShloMosaic.Lib.Claim

@[expose] public section

noncomputable section

namespace Cert.KernelIdeal.Body

open Idealize.ShloMosaic Idealize.ShloMosaic.TcCoe Idealize.SL.RA Idealize.SL.Sem
open Cert.KernelIdeal Cert.KernelIdeal.Gen Cert.Proof

/-- The threshold below every query's scores where at most 256 keys come before it. -/
abbrev low : FVec Ideal S8x256 .f32 := fun _ => Ideal.ofBits .f32 0xEFA18F08#32

/-- The number 256 for every query. -/
abbrev full : FVec Ideal S8x256 .f32 := fun _ => Ideal.ofBits .f32 0x43800000#32

theorem f256 : Ideal.ofBits .f32 0x43800000#32 = ((256 : ℝ) : EReal) := by
  show Ideal.ieee 8 23 0x43800000#32 = _
  have h1 : ((0x43800000#32).extractLsb' (8 + 23) 1 == 1#1) = false := by decide
  have h2 : ((0x43800000#32).extractLsb' 23 8).toNat = 135 := by decide
  have h3 : ((0x43800000#32).extractLsb' 0 23).toNat = 0 := by decide
  simp only [Ideal.ieee, h1, h2, h3]
  norm_num

theorem pay157_eq : k0_pay157 (F := Ideal) 0#32 = fun _ => 1#1 := by
  funext j
  pointwise [k0_pay157, k0_pay156]
  rw [f256]
  have h : (j 1).val < 256 := (j 1).isLt
  have e : IntOp.addi (IntOp.addi (Scalar.muli 0#32 256#32) (BitVec.ofNat 32 (j 1).val)) 1#32 = BitVec.ofNat 32 ((j 1).val + 1) := by
    show 0#32 + BitVec.ofNat 32 (j 1).val + 1#32 = _
    rw [BitVec.zero_add, BitVec.ofNat_add]
  have e' : (BitVec.ofNat 32 ((j 1).val + 1)).toInt = ((j 1).val + 1 : ℤ) := by
    rw [BitVec.toInt_ofNat', Int.bmod_eq_of_le (by omega) (by omega)]
    norm_num
  rw [e, show FloatOps.sitofp (F := Ideal) FTy.f32 (BitVec.ofNat 32 ((j 1).val + 1)) = (((BitVec.ofNat 32 ((j 1).val + 1)).toInt : ℝ) : EReal) from rfl, e']
  have : (((((j 1).val + 1 : ℤ)) : ℝ) : EReal) ≤ ((256 : ℝ) : EReal) := by
    rw [EReal.coe_le_coe_iff]
    exact_mod_cast h
  rw [decide_eq_true this]
  rfl

theorem pay158_eq (x : FVec Ideal S8x256 .f32) : k0_pay158 (F := Ideal) 0#32 x = low := by
  funext j
  pointwise [k0_pay158, pay157_eq, low]

theorem pay161_eq (x : FVec Ideal S8x256 .f32) : k0_pay161 (F := Ideal) x (fun _ => 1#1) = full := by
  funext j
  pointwise [k0_pay161, full]

theorem pay162_eq (x y : FVec Ideal S8x256 .f32) : k0_pay162 (F := Ideal) x y full = (0 : EReal) := by
  pointwise [k0_pay162, full]
  refine Finset.sum_eq_zero fun a _ => Finset.sum_eq_zero fun b _ => ?_
  rw [decide_eq_false (p := Ideal.ofBits FTy.f32 1132462080#32 ≠ Ideal.ofBits FTy.f32 1132462080#32) (by simp)]
  simp [IntOp.andi, Scalar.select]

theorem pay166_eq : k0_pay166 (F := Ideal) full = (0 : EReal) := by
  pointwise [k0_pay166, k0_pay164, full]
  simp

theorem named_mask : (Named.named κ "mask" 0xF149F2CA#32 : Ideal .f32) = (⊥ : EReal) := rfl

theorem pay176_eq (x : FVec Ideal S512x256 .f32) (j) : k0_pay176 (F := Ideal) low x j
    = if Ideal.ofBits .f32 0xEFA18F08#32 ≤ x j then (0 : EReal) else ⊥ := by
  pointwise [k0_pay176, low]
  rw [named_mask]

theorem pay178_eq : k0_pay178 (F := Ideal) = fun _ => (⊥ : EReal) := by
  funext j
  pointwise [k0_pay178]
  exact named_mask

theorem pay179_eq : k0_pay179 (F := Ideal) = fun _ => (0 : EReal) := by
  funext j
  pointwise [k0_pay179]

end Cert.KernelIdeal.Body

end
-- ==== Proof.Open.lean ====
/- The first block's selection, run: the scores of the first 512 keys are written, no search is made, and each score is replaced by
   zero where the key is selected and by the mask's value where it is not. -/
module

public import proofs.«01_k».proof.Proof.Opening

@[expose] public section

noncomputable section

namespace Cert.KernelIdeal.Body

open Idealize.ShloMosaic Idealize.ShloMosaic.TcCoe Idealize.SL.RA Idealize.SL.Sem
open Cert.KernelIdeal Cert.KernelIdeal.Gen Cert.Proof

variable {A : Args} {c : Dev nD} {i : grid0.Coords}

theorem emb_full {s : Shape} {off : Fin s.rank → ℕ} (inb : ∀ a, off a + s.size a ≤ s.size a) (z : (Rect.unit off s.size inb).shape.Idx) :
    (Rect.unit off s.size inb).emb z = z :=
  funext fun a => Fin.ext (by
    show off a + 1 * (z a).val = (z a).val
    have := inb a
    omega)

theorem overlay_full {α : Type} {s : Shape} {off : Fin s.rank → ℕ} (inb : ∀ a, off a + s.size a ≤ s.size a) (f w : s.Idx → α) : (Rect.unit off s.size inb).overlay f w = w := by
  funext j
  have h := Rect.overlay_emb (Rect.unit off s.size inb) f w j
  rwa [emb_full] at h

theorem overlay_S8x256 (f w : S8x256.Idx → Elt Ideal .f32) : (Rect.unit (s := S8x256) ![0, 0] S8x256.size inb_S8x256_S8x256_0_0).overlay f w = w := overlay_full (s := S8x256) _ f w

/-- The only trip of the first block's scoring loop. -/
abbrev k0 : Fin (k0_t1_loop 0#32).trips := ⟨0, by decide⟩

theorem chk1 : k0_chk1 0#32 0#32 := k0_chk1_of (by decide) (by decide)

theorem cond1 : k0_cond1 0#32 = 1#1 := by decide

/-- The score buffer once the first 512 keys are scored. -/
def scored (σ : St Ideal A) (f : S8192x256.Idx → Elt Ideal .f32) : S8192x256.Idx → Elt Ideal .f32 :=
  writeBlock σ chk1 cond1 k0 3 (rowOf (F := Ideal) k0 3#32) (writeBlock σ chk1 cond1 k0 2 (rowOf (F := Ideal) k0 2#32)
    (writeBlock σ chk1 cond1 k0 1 (rowOf (F := Ideal) k0 1#32) (writeBlock σ chk1 cond1 k0 0 (rowOf (F := Ideal) k0 0#32) f)))

theorem Keep.writeBlock {σ₀ σ : St Ideal A} (h : Keep σ₀ σ) {v1 v3 : Elt Ideal .i32} (hw1 : k0_chk1 v1 v3) (h1 : k0_cond1 v3 = 1#1) (k u row f) :
    writeBlock σ hw1 h1 k u row f = writeBlock σ₀ hw1 h1 k u row f := by
  unfold Body.writeBlock Body.scoreAt
  rw [h .b7 rfl, h .b8 rfl, h .b9 rfl]

theorem Keep.scored {σ₀ σ : St Ideal A} (h : Keep σ₀ σ) (f) : scored σ f = scored σ₀ f := by
  unfold Body.scored
  simp only [h.writeBlock]

/-- A load, its value named. -/
theorem W.loadv (b : Buf) {r : LoadRect ((bank A).sh b)} {hl : ((bank A).mem b).view.LoadsAt r}
    {Q : (r.shape.Idx → Elt Ideal ((bank A).el b)) → St Ideal A → Prop} {σ : St Ideal A} {v} (hv : (fun j => σ b (r.idx j)) = v) (h : Q v σ) :
    Run c (Prog.lift (.load ((bank A).mem b) r hl)) Q σ := by
  subst hv
  exact W.load (K := bank A) b h

/-- A store, the buffer after it named. -/
theorem W.storev (b : Buf) (hq : (bank A).q b = fullShare) {r : Rect ((bank A).sh b)} {w : r.shape.Idx → Elt Ideal ((bank A).el b)}
    {hx : (((bank A).mem b).access r).Stores Finset.univ} {hm : Finset.univ = Finset.univ ∨ ∀ a, r.stride a = 1}
    {Q : PUnit → St Ideal A → Prop} {σ : St Ideal A} {X} (hX : r.overlay (σ b) w = X) (h : Q ⟨⟩ (Bank.upd σ b X)) :
    Run c (Prog.lift (.store ((bank A).mem b) r w Finset.univ hx hm)) Q σ := by
  subst hX
  exact W.store (K := bank A) b hq h

/-- What the first part leaves: the scores are written. -/
def Scored (σ₀ σ : St Ideal A) : Prop := Keep σ₀ σ ∧ ∃ f, σ .b11 = scored σ₀ f

theorem run_k0_part39 {σ₀ σ : St Ideal A} {k0_hw1 : k0_chk1 0#32 0#32} {v23 : BitVec 32} {k0_h1 : k0_cond1 0#32 = 1#1} (hk : Keep σ₀ σ) :
    Run c (k0_part39 (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 0#32 0#32 k0_hw1 v23 k0_h1)
      (fun a σ' => Scored σ₀ σ' ∧ a.2.2.2.1 = k0_pay157 (F := Ideal) 0#32 ∧ ∃ x, a.2.2.2.2.1 = k0_pay158 (F := Ideal) 0#32 x) σ := by
  rw [k0_part39_eq_skeleton]
  unfold k0_part39_skel
  iterate 5 refine W.skip ?_
  have e1 : (k0_t1_loop 0#32).trips = 1 := by decide
  have e2 : (k0_t2_loop 0#32).trips = 0 := by decide
  refine W.bind (W.loop (fun n _ σ' => Keep σ₀ σ' ∧ (0 < n → ∃ f, σ' .b11 = scored σ₀ f)) ⟨hk, fun h => absurd h (Nat.lt_irrefl _)⟩ (fun k a σ h => ?_) (fun a σ' h => ?_))
  · have hk : k = k0 := Fin.ext (Nat.lt_one_iff.mp (lt_of_lt_of_eq k.isLt e1))
    subst hk
    refine W.mono run_k0_t1_body ?_
    exact fun _ σ' h' => ⟨fun b hb => (h'.1 b hb).trans (h.1 b hb), fun _ => ⟨σ .b11, h'.2.trans (h.1.scored _)⟩⟩
  rcases a with ⟨_, _⟩
  refine W.bind (W.loop (fun _ _ σ' => Scored σ₀ σ') ⟨h.1, h.2 (by rw [e1]; decide)⟩ (fun k a σ h => absurd (lt_of_lt_of_eq k.isLt e2) (Nat.not_lt_zero _)) (fun a σ' h => ?_))
  rcases a with ⟨_, _⟩
  refine W.skip ?_
  refine W.bind (W.load (K := bank A) .b18 ?_)
  refine W.pure ?_
  exact ⟨h, rfl, _, rfl⟩

/-- What the second part leaves: the bounds of a search that isn't needed. -/
def Bounded (σ₀ σ : St Ideal A) : Prop := Scored σ₀ σ ∧ σ .b18 = low ∧ σ .b20 = full

theorem run_k0_part40 {σ₀ σ : St Ideal A} {v1188 v1202 x : FVec Ideal S8x256 .f32} {v1207 : Vec Ideal S8x256 .f32} (hs : Scored σ₀ σ) :
    Run c (k0_part40 (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 v1188 v1202 (k0_pay157 (F := Ideal) 0#32) (k0_pay158 (F := Ideal) 0#32 x) v1207)
      (fun a σ' => Bounded σ₀ σ' ∧ a.1 = (0 : EReal)) σ := by
  rw [k0_part40_eq_skeleton]
  unfold k0_part40_skel
  have h18 : k0_pay159 (F := Ideal) low = low := by
    funext j
    pointwise [k0_pay159, low]
  refine W.bind (W.storev .b18 rfl (X := low) ((overlay_S8x256 _ _).trans ((congrArg _ (pay158_eq x)).trans h18)) ?_)
  refine W.bind (W.load (K := bank A) .b19 ?_)
  refine W.bind (W.store (K := bank A) .b19 rfl ?_)
  refine W.bind (W.load (K := bank A) .b20 ?_)
  refine W.bind (W.storev .b20 rfl (X := full) ((overlay_S8x256 _ _).trans ((congrArg _ pay157_eq).trans (pay161_eq _))) ?_)
  refine W.bind (W.load (K := bank A) .b18 ?_)
  refine W.bind (W.load (K := bank A) .b19 ?_)
  refine W.bind (W.loadv .b20 (v := full) rfl ?_)
  refine W.pure ?_
  exact ⟨⟨⟨((hs.1.upd (b := .b18) rfl _).upd (b := .b19) rfl _).upd (b := .b20) rfl _, hs.2⟩, rfl, rfl⟩, pay162_eq _ _⟩

theorem W.dite_neg {α : Type} {p : Prop} [Decidable p] {x : p → Prog (TpuEff nD τ sig (Elt Ideal) Λ₀ .tc) α} {y : ¬p → Prog (TpuEff nD τ sig (Elt Ideal) Λ₀ .tc) α}
    {Q : α → St Ideal A → Prop} {σ : St Ideal A} (h : ¬p) (hq : Run c (y h) Q σ) : Run c (if h : p then x h else y h) Q σ := by
  rw [dif_neg h]; exact hq

theorem W.dite_pos {α : Type} {p : Prop} [Decidable p] {x : p → Prog (TpuEff nD τ sig (Elt Ideal) Λ₀ .tc) α} {y : ¬p → Prog (TpuEff nD τ sig (Elt Ideal) Λ₀ .tc) α}
    {Q : α → St Ideal A → Prop} {σ : St Ideal A} (h : p) (hq : Run c (x h) Q σ) : Run c (if h : p then x h else y h) Q σ := by
  rw [dif_pos h]; exact hq

theorem no_search : Scalar.cmpf .ogt (0 : Ideal .f32) (Scalar.ofBits .f32 0x00000000#32) = 0#1 := by
  show BitVec.ofBool (decide ((Ideal.ofBits .f32 0x00000000#32 : EReal) < 0)) = 0#1
  rw [Ideal.ofBits_zero_f32, decide_eq_false (lt_irrefl _)]
  rfl

/-- The rows of the first 512 keys. -/
abbrev rows : Rect S8192x256 := Rect.unit (s := S8192x256) (k0_off23 0#32 ⟨0, by decide⟩) S512x256.size (by decide)

/-- The score buffer once the scores are replaced. -/
def chosen (f : S8192x256.Idx → Elt Ideal .f32) : S8192x256.Idx → Elt Ideal .f32 := rows.overlay f (k0_pay176 low fun j => f (rows.toLoadRect.idx j))

/-- What the third part leaves: the selection, and the running maximum at the mask's value. -/
def Chosen (σ₀ σ : St Ideal A) : Prop := Keep σ₀ σ ∧ (∃ f, σ .b11 = chosen (scored σ₀ f)) ∧ σ .b15 = k0_pay178 (F := Ideal)

theorem run_k0_part41 {σ₀ σ : St Ideal A} {k0_h1 : k0_cond1 0#32 = 1#1} {v1196 : BitVec 32} {c0_i32_879 : BitVec 32} {c64_i32 : BitVec 32} (hs : Bounded σ₀ σ) :
    Run c (k0_part41 (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 0#32 0#32 k0_h1 v1196 (0 : EReal) c0_i32_879 c64_i32)
      (fun a σ' => Chosen σ₀ σ' ∧ a.1 = k0_pay179 (F := Ideal)) σ := by
  rw [k0_part41_eq_skeleton]
  unfold k0_part41_skel
  refine W.bind (W.loop (fun _ a σ' => a = (0 : EReal) ∧ Bounded σ₀ σ') ⟨rfl, hs⟩ (fun k a σ h => ?_) (fun a σ' h => ?_))
  · obtain ⟨rfl, h⟩ := h
    unfold k0_t3_body
    refine W.skip ?_
    refine W.skip ?_
    refine W.bind (W.assume (k0_chk2_of (by decide) _ _) ?_)
    refine W.skip ?_
    refine W.dite_neg (by rw [no_search]; decide) ?_
    exact W.pure ⟨rfl, h⟩
  obtain ⟨rfl, ⟨hk, f, hf⟩, h18, h20⟩ := h
  refine W.bind (W.loadv .b18 (v := low) (by rw [h18]; rfl) ?_)
  refine W.bind (W.loadv .b20 (v := full) (by rw [h20]; rfl) ?_)
  refine W.bind (W.load (K := bank A) .b19 ?_)
  refine W.bind (W.store (K := bank A) .b19 rfl ?_)
  refine W.skip ?_
  refine W.skip ?_
  refine W.bind (W.assume (k0_chk3_of (by decide) _ _) ?_)
  refine W.skip ?_
  have e : Scalar.cmpf .ogt (k0_pay166 (F := Ideal) full) (Scalar.ofBits .f32 0x00000000#32) = 0#1 := by
    rw [pay166_eq]; exact no_search
  have e4 : ¬k0_cond4 (Scalar.cmpf .ogt (k0_pay166 (F := Ideal) full) (Scalar.ofBits .f32 0x00000000#32)) = 1#1 := by rw [e]; decide
  have e7 : ¬k0_cond7 (Scalar.cmpf .ogt (k0_pay166 (F := Ideal) full) (Scalar.ofBits .f32 0x00000000#32)) = 1#1 := by rw [e]; decide
  refine W.dite_neg e4 ?_
  refine W.bind (W.load (K := bank A) .b19 ?_)
  refine W.dite_neg e7 ?_
  have e1 : (k0_t13_loop 0#32).trips = 1 := by decide
  have e2 : (k0_t14_loop 0#32).trips = 0 := by decide
  refine W.bind (W.loop (fun n _ σ' => Keep σ₀ σ' ∧ if n = 0 then σ' .b11 = scored σ₀ f else σ' .b11 = chosen (scored σ₀ f)) ?_ (fun k a σ h => ?_) (fun a σ' h => ?_))
  · exact ⟨hk.upd (b := .b19) rfl _, hf⟩
  · have hk : k = ⟨0, by decide⟩ := Fin.ext (Nat.lt_one_iff.mp (lt_of_lt_of_eq k.isLt e1))
    subst hk
    unfold k0_t13_body
    have h2 : σ .b11 = scored σ₀ f := h.2
    refine W.bind (W.loadv .b11 (v := fun j => scored σ₀ f (rows.toLoadRect.idx j)) (by rw [h2]; rfl) ?_)
    refine W.bind (W.load (K := bank A) .b11 ?_)
    refine W.bind (W.storev .b11 rfl (X := chosen (scored σ₀ f)) (by rw [h2]; rfl) ?_)
    exact W.pure ⟨h.1.upd (b := .b11) rfl _, rfl⟩
  have h2 : σ' .b11 = chosen (scored σ₀ f) := by
    have := h.2
    rwa [e1] at this
  refine W.bind (W.loop (fun _ _ σ' => Keep σ₀ σ' ∧ σ' .b11 = chosen (scored σ₀ f)) ⟨h.1, h2⟩ (fun k a σ h => absurd (lt_of_lt_of_eq k.isLt e2) (Nat.not_lt_zero _)) (fun a σ' h => ?_))
  refine W.bind (W.load (K := bank A) .b15 ?_)
  refine W.bind (W.storev .b15 rfl (X := k0_pay178 (F := Ideal)) (overlay_full (s := S16x8x256) _ _ _) ?_)
  refine W.bind (W.load (K := bank A) .b16 ?_)
  exact W.pure ⟨⟨h.1.upd (b := .b15) rfl _, ⟨f, h.2⟩, rfl⟩, rfl⟩

/-- What the opening leaves: the selection, the running maxima at the mask's value, the running sums and products at zero. -/
def Opened (σ₀ σ : St Ideal A) : Prop :=
  Keep σ₀ σ ∧ (∃ f, σ .b11 = chosen (scored σ₀ f)) ∧ σ .b15 = k0_pay178 (F := Ideal) ∧ σ .b16 = k0_pay200 (F := Ideal) (k0_pay179 (F := Ideal)) ∧ σ .b17 = k0_pay201 (F := Ideal)

/-- The keys and the queries of a head, as loaded. -/
abbrev keyBlk (σ : St Ideal A) : Vec Ideal S1x512x128 .bf16 := fun j => σ .b4 ((Rect.unit (s := S16x512x128) ![0, 0, 0] S1x512x128.size inb_S16x512x128_S1x512x128_0_0_0).toLoadRect.idx j)
abbrev queryBlk (σ : St Ideal A) : Vec Ideal S1x256x128 .bf16 := fun j => σ .b3 ((Rect.unit (s := S16x256x128) ![0, 0, 0] S1x256x128.size inb_S16x256x128_S1x256x128_0_0_0).toLoadRect.idx j)

theorem smem1 {β : Type} {r : Rect S272} {h1 : r.shape.numel = 1} {hp : EltTy.i32.packing = 1} {σ : St Ideal A} {Q : β → St Ideal A → Prop}
    {k : Elt Ideal .i32 → Prog (TpuEff nD τ sig (Elt Ideal) Λ₀ .tc) β} {v : BitVec 32} (hv : ∀ j, σ .b1 (r.toLoadRect.idx j) = v)
    (h : Run c (k v) Q σ) : Run c (smemLoad (p := .tc) A.arg1 r h1 hp >>= k) Q σ := by
  have e : (smemLoad (p := .tc) A.arg1 r h1 hp >>= k : Prog (TpuEff nD τ sig (Elt Ideal) Λ₀ .tc) β)
      = Prog.lift (.load A.arg1 r.toLoadRect (View.loadsAt_rect (View.loads_smem_one hp h1)))
        >>= fun f => k (f (Shape.Idx.first (h1.symm ▸ Nat.one_pos))) := rfl
  rw [e]
  refine W.bind (W.loadv .b1 (v := fun _ => v) (funext fun j => hv j) ?_)
  exact h

theorem smem2 {β : Type} {r : Rect S272} {h1 : r.shape.numel = 1} {hp : EltTy.i32.packing = 1} {σ : St Ideal A} {Q : β → St Ideal A → Prop}
    {k : Elt Ideal .i32 → Prog (TpuEff nD τ sig (Elt Ideal) Λ₀ .tc) β} {v : BitVec 32} (hv : ∀ j, σ .b2 (r.toLoadRect.idx j) = v)
    (h : Run c (k v) Q σ) : Run c (smemLoad (p := .tc) A.arg2 r h1 hp >>= k) Q σ := by
  have e : (smemLoad (p := .tc) A.arg2 r h1 hp >>= k : Prog (TpuEff nD τ sig (Elt Ideal) Λ₀ .tc) β)
      = Prog.lift (.load A.arg2 r.toLoadRect (View.loadsAt_rect (View.loads_smem_one hp h1)))
        >>= fun f => k (f (Shape.Idx.first (h1.symm ▸ Nat.one_pos))) := rfl
  rw [e]
  refine W.bind (W.loadv .b2 (v := fun _ => v) (funext fun j => hv j) ?_)
  exact h

/-- The tables' entries at a point are zero: the first query block and the first key tile. -/
def First (i : grid0.Coords) (σ : St Ideal A) : Prop :=
  (∀ j, σ .b1 ((Rect.unit (s := S272) (k0_off1 i) S1.size (k0_off1_inb i)).toLoadRect.idx j) = 0#32)
    ∧ ∀ j, σ .b2 ((Rect.unit (s := S272) (k0_off1 i) S1.size (k0_off1_inb i)).toLoadRect.idx j) = 0#32

theorem run_k0_part49 {σ : St Ideal A} (h : First i σ) :
    Run c (k0_part49 (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20)
      (fun a σ' => Opened σ σ' ∧ ∃ hw v23 v28, a = ⟨0#32, 0#32, hw, v23, v28, k0_pay202 (F := Ideal), k0_pay203 (keyBlk σ) (queryBlk σ)⟩) σ := by
  rw [k0_part49_eq_skeleton]
  unfold k0_part49_skel
  refine smem1 h.1 ?_
  refine smem2 h.2 ?_
  refine W.bind (W.assume chk1 ?_)
  iterate 20 refine W.skip ?_
  refine W.skip ?_
  refine W.dite_pos cond1 ?_
  refine W.bind (W.mono (run_k0_part39 (σ₀ := σ) fun _ _ => rfl) fun a σ' h => ?_)
  rcases a with ⟨a1, a2, a3, a4, a5, a6⟩
  obtain ⟨h, rfl, x, rfl⟩ := h
  refine W.bind (W.mono (run_k0_part40 h) fun a σ' h => ?_)
  rcases a with ⟨a1, a2, a3⟩
  obtain ⟨h, rfl⟩ := h
  refine W.bind (W.mono (run_k0_part41 h) fun a σ' h => ?_)
  rcases a with ⟨a1, a2⟩
  obtain ⟨⟨hk, hf, h15⟩, rfl⟩ := h
  refine W.bind (W.storev .b16 rfl (X := k0_pay200 (F := Ideal) (k0_pay179 (F := Ideal))) (overlay_full (s := S16x8x256) _ _ _) ?_)
  refine W.bind (W.load (K := bank A) .b17 ?_)
  refine W.bind (W.storev .b17 rfl (X := k0_pay201 (F := Ideal)) (overlay_full (s := S16x128x256) _ _ _) ?_)
  refine W.skip ?_
  refine W.skip ?_
  have hk' := (hk.upd (b := .b16) rfl (k0_pay200 (F := Ideal) (k0_pay179 (F := Ideal)))).upd (b := .b17) rfl (k0_pay201 (F := Ideal))
  refine W.bind (W.loadv .b4 (v := keyBlk σ) (by rw [hk' .b4 rfl]; rfl) ?_)
  refine W.bind (W.loadv .b3 (v := queryBlk σ) (by rw [hk' .b3 rfl]; rfl) ?_)
  exact W.pure ⟨⟨hk', hf, h15, rfl, rfl⟩, _, _, _, rfl⟩

end Cert.KernelIdeal.Body

end
-- ==== Proof.Attend.lean ====
/- The first block's attention for head 0, run: from the selection, the probabilities of the first 512 keys, their sums and the
   products with the values; the later heads leave these alone, and the quotient is written to the first 128 columns. -/
module

public import proofs.«01_k».proof.Proof.Open

@[expose] public section

noncomputable section

namespace Cert.KernelIdeal.Body

open Idealize.ShloMosaic Idealize.ShloMosaic.TcCoe Idealize.SL.RA Idealize.SL.Sem
open Cert.KernelIdeal Cert.KernelIdeal.Gen Cert.Proof

variable {A : Args} {c : Dev nD} {i : grid0.Coords} {σ₀ : St Ideal A}

/-- The selection's rows for the first key tile, as loaded. -/
def selRows (σ₀ : St Ideal A) (f : S8192x256.Idx → Elt Ideal .f32) : Vec Ideal S512x256 .f32 :=
  fun j => chosen (scored σ₀ f) ((Rect.unit (s := S8192x256) (k0_off25 0#32) S512x256.size (by decide)).toLoadRect.idx j)

/-- The running maxima, sums and products of head 0 before the first tile, as loaded. -/
def max0 : Vec Ideal S1x8x256 .f32 := fun j => k0_pay178 (F := Ideal) ((Rect.unit (s := S16x8x256) ![0, 0, 0] S1x8x256.size inb_S16x8x256_S1x8x256_0_0_0).toLoadRect.idx j)
def sum0 : Vec Ideal S1x8x256 .f32 := fun j => k0_pay200 (F := Ideal) (k0_pay179 (F := Ideal)) ((Rect.unit (s := S16x8x256) ![0, 0, 0] S1x8x256.size inb_S16x8x256_S1x8x256_0_0_0).toLoadRect.idx j)
def prod0 : Vec Ideal S1x128x256 .f32 := fun j => k0_pay201 (F := Ideal) ((Rect.unit (s := S16x128x256) ![0, 0, 0] S1x128x256.size inb_S16x128x256_S1x128x256_0_0_0).toLoadRect.idx j)

/-- The products of the keys and the queries of head 0. -/
def dots (σ₀ : St Ideal A) : FVec Ideal S1x512x256 .f32 := k0_pay204 (F := Ideal) (k0_pay203 (keyBlk σ₀) (queryBlk σ₀))

/-- The probabilities of head 0, not yet divided by their sum. -/
def probs (σ₀ : St Ideal A) (f : S8192x256.Idx → Elt Ideal .f32) : FVec Ideal S1x512x256 .bf16 :=
  k0_pay211 (F := Ideal) (k0_pay207 (dots σ₀) (selRows σ₀ f)) (k0_pay208 max0) (k0_pay209 (dots σ₀) (selRows σ₀ f))

/-- What the earlier tiles' sums and products are multiplied by. -/
def scale (σ₀ : St Ideal A) (f : S8192x256.Idx → Elt Ideal .f32) : FVec Ideal S1x8x256 .f32 :=
  k0_pay212 (F := Ideal) (k0_pay208 max0) (k0_pay209 (dots σ₀) (selRows σ₀ f))

/-- The values of head 0, as loaded. -/
abbrev valBlk (σ : St Ideal A) : Vec Ideal S1x128x512 .bf16 := fun j => σ .b5 ((Rect.unit (s := S16x128x512) ![0, 0, 0] S1x128x512.size inb_S16x128x512_S1x128x512_0_0_0).toLoadRect.idx j)

/-- The gate's first 128 columns, as loaded. -/
abbrev gateBlk (σ : St Ideal A) : Vec Ideal S256x128 .bf16 := fun j => σ .b6 ((Rect.unit (s := S256x2048) ![0, 0] S256x128.size inb_S256x2048_S256x128_0_0).toLoadRect.idx j)

/-- The probabilities' sums and their products with the values. -/
def sums (σ₀ : St Ideal A) (f : S8192x256.Idx → Elt Ideal .f32) : FVec Ideal S1x8x256 .f32 :=
  k0_pay225 (F := Ideal) (k0_pay202 (F := Ideal)) (valBlk σ₀) (probs σ₀ f) (scale σ₀ f) sum0
def prods (σ₀ : St Ideal A) (f : S8192x256.Idx → Elt Ideal .f32) : FVec Ideal S1x128x256 .f32 :=
  k0_pay224 (F := Ideal) (k0_pay202 (F := Ideal)) (valBlk σ₀) (probs σ₀ f) (scale σ₀ f) prod0

/-- The result of head 0. -/
def headOut (σ₀ : St Ideal A) (f : S8192x256.Idx → Elt Ideal .f32) : FVec Ideal S256x128 .bf16 :=
  k0_pay180 (F := Ideal) (sums σ₀ f) (prods σ₀ f) (gateBlk σ₀)

/-- A load of what the last store through the same rectangle wrote. -/
theorem ld_same {α : Type} {s : Shape} (r : Rect s) (f : s.Idx → α) (w : r.shape.Idx → α) : (fun j => r.overlay f w (r.toLoadRect.idx j)) = w :=
  funext fun j => Rect.overlay_emb r f w j

/-- A load past a store through a rectangle further on. -/
theorem ld_past {α : Type} {s : Shape} (r r' : Rect s) (f : s.Idx → α) (w : r'.shape.Idx → α) (a : Fin s.rank) (h : ∀ j, (r.toLoadRect.idx j a).val < r'.off a) :
    (fun j => r'.overlay f w (r.toLoadRect.idx j)) = fun j => f (r.toLoadRect.idx j) :=
  funext fun j => Rect.overlay_of_not_mem _ _ _ (not_mem_of_lt (r := r') (a := a) (h j))

theorem ldu_same {σ : St Ideal A} (b : Buf) (r : Rect ((bank A).sh b)) (w : r.shape.Idx → Elt Ideal ((bank A).el b)) :
    (fun j => Bank.upd σ b (r.overlay (σ b) w) b (r.toLoadRect.idx j)) = w := by
  rw [Bank.upd_same]
  exact ld_same r _ w

theorem ldu_past {σ : St Ideal A} (b : Buf) (r r' : Rect ((bank A).sh b)) (w : r'.shape.Idx → Elt Ideal ((bank A).el b)) (a : Fin ((bank A).sh b).rank)
    (h : ∀ j, (r.toLoadRect.idx j a).val < r'.off a) :
    (fun j => Bank.upd σ b (r'.overlay (σ b) w) b (r.toLoadRect.idx j)) = fun j => σ b (r.toLoadRect.idx j) := by
  rw [Bank.upd_same]
  exact ld_past r r' _ w a h

theorem ldu_ne {σ : St Ideal A} (b b' : Buf) (hb : b' ≠ b) (r : Rect ((bank A).sh b')) (X) :
    (fun j => Bank.upd σ b X b' (r.toLoadRect.idx j)) = fun j => σ b' (r.toLoadRect.idx j) := by
  rw [Bank.upd_ne _ _ hb]

theorem row0 {n1 n2 m1 m2 n : ℕ} {inb : ∀ a, (![0, 0, 0] : Fin 3 → ℕ) a + (⟨3, ![1, m1, m2]⟩ : Shape).size a ≤ (⟨3, ![n, n1, n2]⟩ : Shape).size a} (j) :
    ((Rect.unit (s := ⟨3, ![n, n1, n2]⟩) ![0, 0, 0] (⟨3, ![1, m1, m2]⟩ : Shape).size inb).toLoadRect.idx j 0).val = 0 := by
  show 0 + 1 * (j 0).val = 0
  have h : (j 0).val < 1 := (j 0).isLt
  omega

/-- What the first half of the step leaves. -/
def Mid (σ₀ : St Ideal A) (f : S8192x256.Idx → Elt Ideal .f32) (σ : St Ideal A) : Prop :=
  Keep σ₀ σ ∧ (fun j => σ .b13 ((Rect.unit (s := S2x512x256) ![0, 0, 0] S1x512x256.size inb_S2x512x256_S1x512x256_0_0_0).toLoadRect.idx j)) = probs σ₀ f
    ∧ (fun j => σ .b14 ((Rect.unit (s := S2x8x256) ![0, 0, 0] S1x8x256.size inb_S2x8x256_S1x8x256_0_0_0).toLoadRect.idx j)) = scale σ₀ f
    ∧ σ .b16 = k0_pay200 (F := Ideal) (k0_pay179 (F := Ideal)) ∧ σ .b17 = k0_pay201 (F := Ideal)

theorem run_k0_part50 {σ : St Ideal A} {k0_hw1 : k0_chk1 0#32 0#32} {v28 : BitVec 32} (h : Opened σ₀ σ) :
    Run c (k0_part50 (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 0#32 0#32 k0_hw1 v28 (k0_pay203 (keyBlk σ₀) (queryBlk σ₀)))
      (fun a σ' => Keep σ₀ σ' ∧ σ' .b16 = k0_pay200 (F := Ideal) (k0_pay179 (F := Ideal)) ∧ σ' .b17 = k0_pay201 (F := Ideal)
        ∧ ∃ f, a = ⟨k0_pay207 (dots σ₀) (selRows σ₀ f), k0_pay208 max0, k0_pay209 (dots σ₀) (selRows σ₀ f)⟩) σ := by
  obtain ⟨hk, ⟨f, h11⟩, h15, h16, h17⟩ := h
  rw [k0_part50_eq_skeleton]
  unfold k0_part50_skel
  refine W.bind (W.load (K := bank A) .b12 ?_)
  refine W.bind (W.store (K := bank A) .b12 rfl ?_)
  refine W.bind (W.load (K := bank A) .b4 ?_)
  refine W.bind (W.load (K := bank A) .b3 ?_)
  refine W.bind (W.load (K := bank A) .b12 ?_)
  refine W.bind (W.store (K := bank A) .b12 rfl ?_)
  refine W.bind (W.load (K := bank A) .b4 ?_)
  refine W.bind (W.load (K := bank A) .b3 ?_)
  refine W.bind (W.load (K := bank A) .b12 ?_)
  refine W.bind (W.store (K := bank A) .b12 rfl ?_)
  refine W.bind (W.loadv .b12 (v := dots σ₀) ?_ ?_)
  · exact (ldu_past .b12 (Rect.unit (s := S3x512x256) ![0, 0, 0] S1x512x256.size inb_S3x512x256_S1x512x256_0_0_0) (Rect.unit (s := S3x512x256) ![2, 0, 0] S1x512x256.size inb_S3x512x256_S1x512x256_2_0_0) _ (0 : Fin 3) fun j => lt_of_eq_of_lt (row0 j) (show 0 < 2 by decide)).trans
      ((ldu_past .b12 (Rect.unit (s := S3x512x256) ![0, 0, 0] S1x512x256.size inb_S3x512x256_S1x512x256_0_0_0) (Rect.unit (s := S3x512x256) ![1, 0, 0] S1x512x256.size inb_S3x512x256_S1x512x256_1_0_0) _ (0 : Fin 3) fun j => lt_of_eq_of_lt (row0 j) (show 0 < 1 by decide)).trans (ldu_same .b12 (Rect.unit (s := S3x512x256) ![0, 0, 0] S1x512x256.size inb_S3x512x256_S1x512x256_0_0_0) _))
  refine W.bind (W.loadv .b11 (v := selRows σ₀ f) (by rw [Bank.upd_ne _ _ (by decide), Bank.upd_ne _ _ (by decide), Bank.upd_ne _ _ (by decide), h11]; rfl) ?_)
  refine W.bind (W.loadv .b15 (v := max0) (by rw [Bank.upd_ne _ _ (by decide), Bank.upd_ne _ _ (by decide), Bank.upd_ne _ _ (by decide), h15]; rfl) ?_)
  exact W.pure ⟨((hk.upd (b := .b12) rfl _).upd (b := .b12) rfl _).upd (b := .b12) rfl _, h16, h17, f, rfl⟩

theorem run_k0_part51 {σ : St Ideal A} {f} (hk : Keep σ₀ σ) (h16 : σ .b16 = k0_pay200 (F := Ideal) (k0_pay179 (F := Ideal))) (h17 : σ .b17 = k0_pay201 (F := Ideal)) :
    Run c (k0_part51 (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 (k0_pay207 (dots σ₀) (selRows σ₀ f)) (k0_pay208 max0) (k0_pay209 (dots σ₀) (selRows σ₀ f)))
      (fun _ σ' => Mid σ₀ f σ') σ := by
  rw [k0_part51_eq_skeleton]
  unfold k0_part51_skel
  refine W.bind (W.load (K := bank A) .b13 ?_)
  refine W.bind (W.store (K := bank A) .b13 rfl ?_)
  refine W.bind (W.load (K := bank A) .b14 ?_)
  refine W.bind (W.store (K := bank A) .b14 rfl ?_)
  refine W.bind (W.load (K := bank A) .b15 ?_)
  refine W.bind (W.store (K := bank A) .b15 rfl ?_)
  refine W.bind (W.load (K := bank A) .b4 ?_)
  refine W.bind (W.load (K := bank A) .b3 ?_)
  refine W.bind (W.load (K := bank A) .b12 ?_)
  refine W.pure ⟨((hk.upd (b := .b13) rfl _).upd (b := .b14) rfl _).upd (b := .b15) rfl _, ?_, ?_, h16, h17⟩
  · exact (ldu_ne .b15 .b13 (by decide) _ _).trans ((ldu_ne .b14 .b13 (by decide) _ _).trans (ldu_same .b13 (Rect.unit (s := S2x512x256) ![0, 0, 0] S1x512x256.size inb_S2x512x256_S1x512x256_0_0_0) _))
  · exact (ldu_ne .b15 .b14 (by decide) _ _).trans (ldu_same .b14 (Rect.unit (s := S2x8x256) ![0, 0, 0] S1x8x256.size inb_S2x8x256_S1x8x256_0_0_0) _)

theorem run_k0_part52 {σ : St Ideal A} {f} {k0_hw1 : k0_chk1 0#32 0#32} {v28 : BitVec 32} {v93 : FVec Ideal S512x256 .f32} (h : Mid σ₀ f σ) :
    Run c (k0_part52 (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 0#32 0#32 k0_hw1 v28 v93) (fun _ σ' => Mid σ₀ f σ') σ := by
  obtain ⟨hk, h13, h14, h16, h17⟩ := h
  rw [k0_part52_eq_skeleton]
  unfold k0_part52_skel
  refine W.bind (W.store (K := bank A) .b12 rfl ?_)
  refine W.bind (W.load (K := bank A) .b12 ?_)
  refine W.bind (W.load (K := bank A) .b11 ?_)
  refine W.bind (W.load (K := bank A) .b15 ?_)
  refine W.bind (W.load (K := bank A) .b13 ?_)
  refine W.bind (W.store (K := bank A) .b13 rfl ?_)
  refine W.bind (W.load (K := bank A) .b14 ?_)
  refine W.bind (W.store (K := bank A) .b14 rfl ?_)
  refine W.bind (W.load (K := bank A) .b15 ?_)
  refine W.pure ⟨((hk.upd (b := .b12) rfl _).upd (b := .b13) rfl _).upd (b := .b14) rfl _, ?_, ?_, h16, h17⟩
  · exact (ldu_ne .b14 .b13 (by decide) _ _).trans ((ldu_past .b13 (Rect.unit (s := S2x512x256) ![0, 0, 0] S1x512x256.size inb_S2x512x256_S1x512x256_0_0_0) (Rect.unit (s := S2x512x256) ![1, 0, 0] S1x512x256.size inb_S2x512x256_S1x512x256_1_0_0) _ (0 : Fin 3) fun j => lt_of_eq_of_lt (row0 j) (show 0 < 1 by decide)).trans
      ((ldu_ne .b12 .b13 (by decide) _ _).trans h13))
  · exact (ldu_past .b14 (Rect.unit (s := S2x8x256) ![0, 0, 0] S1x8x256.size inb_S2x8x256_S1x8x256_0_0_0) (Rect.unit (s := S2x8x256) ![1, 0, 0] S1x8x256.size inb_S2x8x256_S1x8x256_1_0_0) _ (0 : Fin 3) fun j => lt_of_eq_of_lt (row0 j) (show 0 < 1 by decide)).trans
      ((ldu_ne .b13 .b14 (by decide) _ _).trans ((ldu_ne .b12 .b14 (by decide) _ _).trans h14))

/-- What head 0's step leaves. -/
def Summed (σ₀ : St Ideal A) (f : S8192x256.Idx → Elt Ideal .f32) (σ : St Ideal A) : Prop :=
  Keep σ₀ σ ∧ (fun j => σ .b16 ((Rect.unit (s := S16x8x256) ![0, 0, 0] S1x8x256.size inb_S16x8x256_S1x8x256_0_0_0).toLoadRect.idx j)) = sums σ₀ f ∧ (fun j => σ .b17 ((Rect.unit (s := S16x128x256) ![0, 0, 0] S1x128x256.size inb_S16x128x256_S1x128x256_0_0_0).toLoadRect.idx j)) = prods σ₀ f

theorem run_k0_part53 {σ : St Ideal A} {f} {v131 : FVec Ideal S1x8x256 .f32} (h : Mid σ₀ f σ) :
    Run c (k0_part53 (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 (k0_pay202 (F := Ideal)) v131) (fun _ σ' => Summed σ₀ f σ') σ := by
  obtain ⟨hk, h13, h14, h16, h17⟩ := h
  rw [k0_part53_eq_skeleton]
  unfold k0_part53_skel
  refine W.bind (W.store (K := bank A) .b15 rfl ?_)
  refine W.bind (W.loadv .b5 (v := valBlk σ₀) (by rw [Bank.upd_ne _ _ (by decide), hk .b5 rfl]; rfl) ?_)
  refine W.bind (W.loadv .b13 (v := probs σ₀ f) h13 ?_)
  refine W.bind (W.loadv .b14 (v := scale σ₀ f) h14 ?_)
  refine W.bind (W.loadv .b17 (v := prod0) (by rw [Bank.upd_ne _ _ (by decide), h17]; rfl) ?_)
  refine W.bind (W.load (K := bank A) .b17 ?_)
  refine W.bind (W.store (K := bank A) .b17 rfl ?_)
  refine W.bind (W.loadv .b16 (v := sum0) (by rw [Bank.upd_ne _ _ (by decide), Bank.upd_ne _ _ (by decide), h16]; rfl) ?_)
  refine W.bind (W.load (K := bank A) .b16 ?_)
  refine W.bind (W.store (K := bank A) .b16 rfl ?_)
  refine W.bind (W.load (K := bank A) .b4 ?_)
  refine W.pure ⟨((hk.upd (b := .b15) rfl _).upd (b := .b17) rfl _).upd (b := .b16) rfl _, ?_, ?_⟩
  · exact ldu_same .b16 (Rect.unit (s := S16x8x256) ![0, 0, 0] S1x8x256.size inb_S16x8x256_S1x8x256_0_0_0) _
  · exact (ldu_ne .b16 .b17 (by decide) _ _).trans (ldu_same .b17 (Rect.unit (s := S16x128x256) ![0, 0, 0] S1x128x256.size inb_S16x128x256_S1x128x256_0_0_0) _)

theorem Summed.froz {σ₁ σ : St Ideal A} {f} (h1 : Summed σ₀ f σ₁) (h : Froz σ₁ σ) : Summed σ₀ f σ := by
  refine ⟨fun b hb => (h.1 b hb).trans (h1.1 b hb), ?_, ?_⟩
  · refine Eq.trans ?_ h1.2.1
    exact funext fun j => h.2.1 _ (row0 j)
  · refine Eq.trans ?_ h1.2.2
    exact funext fun j => h.2.2.1 _ (row0 j)

set_option maxHeartbeats 2000000 in
theorem run_k0_part84 (h : First i σ₀) :
    Run c (k0_part84 (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20) (fun a σ' => (∃ v23 v, a = ⟨0#32, 0#32, v23, v⟩) ∧ ∃ f, Summed σ₀ f σ') σ₀ := by
  rw [k0_part84_eq_skeleton]
  unfold k0_part84_skel
  refine W.bind (W.mono (run_k0_part49 h) fun a σ' h => ?_)
  obtain ⟨h, hw, v23, v28, rfl⟩ := h
  refine W.bind (W.mono (run_k0_part50 h) fun a σ' h => ?_)
  obtain ⟨hk, h16, h17, f, rfl⟩ := h
  refine W.bind (W.mono (run_k0_part51 hk h16 h17) fun a σ' h => ?_)
  refine W.bind (W.mono (run_k0_part52 h) fun a σ' h => ?_)
  refine W.bind (W.mono (run_k0_part53 h) fun a σ₁ h1 => ?_)
  have h := Froz.refl σ₁
  refine W.bind ((show Frz c σ₁ _ from frz_k0_part54) _ h |>.mono fun x σ' h => ?_)
  rcases x with ⟨_, _⟩
  refine W.bind ((show Frz c σ₁ _ from frz_k0_part55) _ h |>.mono fun x σ' h => ?_)
  rcases x with ⟨_, _⟩
  refine W.bind ((show Frz c σ₁ _ from frz_k0_part56) _ h |>.mono fun x σ' h => ?_)
  rcases x with ⟨_, _, _⟩
  refine W.bind ((show Frz c σ₁ _ from frz_k0_part57) _ h |>.mono fun x σ' h => ?_)
  rcases x with ⟨_, _⟩
  refine W.bind ((show Frz c σ₁ _ from frz_k0_part58) _ h |>.mono fun x σ' h => ?_)
  rcases x with ⟨_, _, _, _⟩
  refine W.bind ((show Frz c σ₁ _ from frz_k0_part59) _ h |>.mono fun x σ' h => ?_)
  rcases x with ⟨_, _, _, _⟩
  refine W.bind ((show Frz c σ₁ _ from frz_k0_part60) _ h |>.mono fun x σ' h => ?_)
  rcases x with ⟨_, _, _⟩
  refine W.bind ((show Frz c σ₁ _ from frz_k0_part61) _ h |>.mono fun x σ' h => ?_)
  rcases x with ⟨_, _⟩
  refine W.bind ((show Frz c σ₁ _ from frz_k0_part62) _ h |>.mono fun x σ' h => ?_)
  rcases x with ⟨_, _⟩
  refine W.bind ((show Frz c σ₁ _ from frz_k0_part63) _ h |>.mono fun x σ' h => ?_)
  refine W.bind ((show Frz c σ₁ _ from frz_k0_part64) _ h |>.mono fun x σ' h => ?_)
  refine W.bind ((show Frz c σ₁ _ from frz_k0_part65) _ h |>.mono fun x σ' h => ?_)
  refine W.bind ((show Frz c σ₁ _ from frz_k0_part66) _ h |>.mono fun x σ' h => ?_)
  refine W.bind ((show Frz c σ₁ _ from frz_k0_part67) _ h |>.mono fun x σ' h => ?_)
  rcases x with ⟨_, _⟩
  refine W.bind ((show Frz c σ₁ _ from frz_k0_part68) _ h |>.mono fun x σ' h => ?_)
  rcases x with ⟨_, _⟩
  refine W.bind ((show Frz c σ₁ _ from frz_k0_part69) _ h |>.mono fun x σ' h => ?_)
  rcases x with ⟨_, _, _⟩
  refine W.bind ((show Frz c σ₁ _ from frz_k0_part70) _ h |>.mono fun x σ' h => ?_)
  rcases x with ⟨_, _⟩
  refine W.bind ((show Frz c σ₁ _ from frz_k0_part71) _ h |>.mono fun x σ' h => ?_)
  rcases x with ⟨_, _, _, _⟩
  refine W.bind ((show Frz c σ₁ _ from frz_k0_part72) _ h |>.mono fun x σ' h => ?_)
  rcases x with ⟨_, _, _, _⟩
  refine W.bind ((show Frz c σ₁ _ from frz_k0_part73) _ h |>.mono fun x σ' h => ?_)
  rcases x with ⟨_, _, _⟩
  refine W.bind ((show Frz c σ₁ _ from frz_k0_part74) _ h |>.mono fun x σ' h => ?_)
  rcases x with ⟨_, _⟩
  refine W.bind ((show Frz c σ₁ _ from frz_k0_part75) _ h |>.mono fun x σ' h => ?_)
  rcases x with ⟨_, _⟩
  refine W.bind ((show Frz c σ₁ _ from frz_k0_part76) _ h |>.mono fun x σ' h => ?_)
  refine W.bind ((show Frz c σ₁ _ from frz_k0_part77) _ h |>.mono fun x σ' h => ?_)
  refine W.bind ((show Frz c σ₁ _ from frz_k0_part78) _ h |>.mono fun x σ' h => ?_)
  refine W.bind ((show Frz c σ₁ _ from frz_k0_part79) _ h |>.mono fun x σ' h => ?_)
  refine W.bind ((show Frz c σ₁ _ from frz_k0_part80) _ h |>.mono fun x σ' h => ?_)
  refine W.bind ((show Frz c σ₁ _ from frz_k0_part81) _ h |>.mono fun x σ' h => ?_)
  rcases x with ⟨_, _, _⟩
  refine W.bind ((show Frz c σ₁ _ from frz_k0_part82) _ h |>.mono fun x σ' h => ?_)
  rcases x with ⟨_, _⟩
  refine W.bind ((show Frz c σ₁ _ from frz_k0_part83) _ h |>.mono fun x σ' h => ?_)
  rcases x with ⟨_, _, _, _⟩
  refine W.bind ((show Frz c σ₁ _ from frz_load17) _ h |>.mono fun x σ' h => ?_)
  refine W.bind ((show Frz c σ₁ _ from (frz_store17 (by decide))) _ h |>.mono fun x σ' h => ?_)
  refine W.bind ((show Frz c σ₁ _ from frz_load16) _ h |>.mono fun x σ' h => ?_)
  refine W.bind ((show Frz c σ₁ _ from frz_load16) _ h |>.mono fun x σ' h => ?_)
  exact W.pure ⟨⟨_, _, rfl⟩, f, h1.froz h⟩

/-- The first 128 columns of the output block hold head 0's result. -/
def Written (σ₀ : St Ideal A) (f : S8192x256.Idx → Elt Ideal .f32) (σ : St Ideal A) : Prop :=
  Keep σ₀ σ ∧ (fun j => σ .b10 ((Rect.unit (s := S256x2048) ![0, 0] S256x128.size inb_S256x2048_S256x128_0_0).toLoadRect.idx j)) = headOut σ₀ f

theorem Written.froz {σ₁ σ : St Ideal A} {f} (h1 : Written σ₀ f σ₁) (h : Froz σ₁ σ) : Written σ₀ f σ := by
  refine ⟨fun b hb => (h.1 b hb).trans (h1.1 b hb), ?_⟩
  refine Eq.trans ?_ h1.2
  refine funext fun j => h.2.2.2 _ ?_
  show 0 + 1 * (j 1).val < 128
  have h : (j 1).val < 128 := (j 1).isLt
  omega

theorem col0 (j : (Rect.unit (s := S256x2048) ![0, 0] S256x128.size inb_S256x2048_S256x128_0_0).shape.Idx) : ((Rect.unit (s := S256x2048) ![0, 0] S256x128.size inb_S256x2048_S256x128_0_0).toLoadRect.idx j (1 : Fin 2)).val < 128 := by
  show 0 + 1 * (j (1 : Fin 2)).val < 128
  have h : (j (1 : Fin 2)).val < 128 := (j (1 : Fin 2)).isLt
  omega

theorem run_k0_part42 {σ : St Ideal A} {f} (h : Summed σ₀ f σ) :
    Run c (k0_part42 (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20) (fun _ σ' => Written σ₀ f σ') σ := by
  obtain ⟨hk, h16, h17⟩ := h
  rw [k0_part42_eq_skeleton]
  unfold k0_part42_skel
  refine W.bind (W.loadv .b16 (v := sums σ₀ f) h16 ?_)
  refine W.bind (W.loadv .b17 (v := prods σ₀ f) h17 ?_)
  refine W.bind (W.loadv .b6 (v := gateBlk σ₀) (by rw [hk .b6 rfl]; rfl) ?_)
  refine W.bind (W.load (K := bank A) .b10 ?_)
  refine W.bind (W.store (K := bank A) .b10 rfl ?_)
  refine W.bind (W.load (K := bank A) .b16 ?_)
  refine W.bind (W.load (K := bank A) .b17 ?_)
  refine W.bind (W.load (K := bank A) .b6 ?_)
  refine W.bind (W.load (K := bank A) .b10 ?_)
  refine W.bind (W.store (K := bank A) .b10 rfl ?_)
  refine W.bind (W.load (K := bank A) .b16 ?_)
  refine W.pure ⟨(hk.upd (b := .b10) rfl _).upd (b := .b10) rfl _, ?_⟩
  refine (ldu_past .b10 (Rect.unit (s := S256x2048) ![0, 0] S256x128.size inb_S256x2048_S256x128_0_0) (Rect.unit (s := S256x2048) ![0, 128] S256x128.size inb_S256x2048_S256x128_0_128) _ (1 : Fin 2) fun j => ?_).trans (ldu_same .b10 (Rect.unit (s := S256x2048) ![0, 0] S256x128.size inb_S256x2048_S256x128_0_0) _)
  exact col0 j

theorem run_k0_part48 {σ : St Ideal A} {f} (h : Summed σ₀ f σ) :
    Run c (k0_part48 (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20) (fun _ σ' => Written σ₀ f σ') σ := by
  rw [k0_part48_eq_skeleton]
  unfold k0_part48_skel
  refine W.bind (W.mono (run_k0_part42 h) fun a σ₁ h1 => ?_)
  have h := Froz.refl σ₁
  refine W.bind ((show Frz c σ₁ _ from frz_k0_part43) _ h |>.mono fun x σ' h => ?_)
  refine W.bind ((show Frz c σ₁ _ from frz_k0_part44) _ h |>.mono fun x σ' h => ?_)
  refine W.bind ((show Frz c σ₁ _ from frz_k0_part45) _ h |>.mono fun x σ' h => ?_)
  refine W.bind ((show Frz c σ₁ _ from frz_k0_part46) _ h |>.mono fun x σ' h => ?_)
  refine W.bind ((show Frz c σ₁ _ from frz_k0_part47) _ h |>.mono fun x σ' h => ?_)
  refine W.bind ((show Frz c σ₁ _ from frz_load10) _ h |>.mono fun x σ' h => ?_)
  refine W.bind ((show Frz c σ₁ _ from (frz_store10 (by decide))) _ h |>.mono fun x σ' h => ?_)
  refine W.bind ((show Frz c σ₁ _ from frz_load16) _ h |>.mono fun x σ' h => ?_)
  refine W.bind ((show Frz c σ₁ _ from frz_load17) _ h |>.mono fun x σ' h => ?_)
  refine W.bind ((show Frz c σ₁ _ from frz_load6) _ h |>.mono fun x σ' h => ?_)
  refine W.bind ((show Frz c σ₁ _ from frz_load10) _ h |>.mono fun x σ' h => ?_)
  refine W.bind ((show Frz c σ₁ _ from (frz_store10 (by decide))) _ h |>.mono fun x σ' h => ?_)
  refine W.bind ((show Frz c σ₁ _ from frz_load16) _ h |>.mono fun x σ' h => ?_)
  refine W.bind ((show Frz c σ₁ _ from frz_load17) _ h |>.mono fun x σ' h => ?_)
  refine W.bind ((show Frz c σ₁ _ from frz_load6) _ h |>.mono fun x σ' h => ?_)
  exact W.pure (h1.froz h)

theorem cond8 : k0_cond8 0#32 0#32 = 1#1 := by decide

/-- The body at the first point: head 0's result is written. -/
theorem run_body (h : First i σ₀) :
    Run c (cc0_dsa_index_select_attend (F := Ideal) i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20) (fun _ σ' => ∃ f, Written σ₀ f σ') σ₀ := by
  rw [cc0_dsa_index_select_attend_eq_skeleton]
  unfold cc0_dsa_index_select_attend_skel
  refine W.bind (W.mono (run_k0_part84 h) fun a σ₁ h => ?_)
  obtain ⟨⟨v23, v, rfl⟩, f, h1⟩ := h
  have h := Froz.refl σ₁
  refine W.bind ((show Frz c σ₁ _ from (frz_store16 (by decide))) _ h |>.mono fun x σ' h => ?_)
  refine W.dite_pos cond8 ?_
  refine W.bind (W.mono (run_k0_part48 (h1.froz h)) fun a σ₂ h2 => ?_)
  have h := Froz.refl σ₂
  refine W.bind ((show Frz c σ₂ _ from frz_load10) _ h |>.mono fun x σ' h => ?_)
  refine W.bind ((show Frz c σ₂ _ from (frz_store10 (by decide))) _ h |>.mono fun x σ' h => ?_)
  exact W.pure ⟨f, h2.froz h⟩

end Cert.KernelIdeal.Body

end
-- ==== Proof.HeadValue.lean ====
/- What the first block's part of head 0 computes, element by element. -/
module

public import proofs.«01_k».proof.Proof.Attend

@[expose] public section

noncomputable section

namespace Cert.KernelIdeal.Body

open Idealize.ShloMosaic Idealize.ShloMosaic.TcCoe
open Cert.KernelIdeal Cert.KernelIdeal.Gen Cert.Proof

/-! ## The scores -/

/-- The score of one key of a block of 128 for one query, of the keys, the queries and the heads' weights. -/
def score (KI : Fin 4 → Fin 256 → Fin 128 → EReal) (QI : Fin 256 → Fin 1024 → EReal) (W : Fin 16 → Fin 256 → EReal) (u : Fin 4) (r : Fin 128) (q : Fin 256) : EReal :=
  ∑ h : Fin 16, max (∑ d : Fin 128, KI u ⟨128 * (h % 2) + r, by omega⟩ d * QI q ⟨128 * (h / 2) + d, by omega⟩) 0 * W h q

theorem sum16 (f : Fin 16 → EReal) : ∑ h, f h = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

theorem off2_eq : ∀ u : Fin 4, k0_off2 0#32 k0 (BitVec.ofNat 32 u.val) = ![u.val, 0, 0] := by decide

theorem off3_eq : ∀ u : Fin 4, k0_off3 0#32 k0 (BitVec.ofNat 32 u.val) = ![128 * u.val, 0] := by decide

variable {A : Args} (σ : St Ideal A)

/-- The index keys, index queries and heads' weights at a state. -/
def keysI {A : Args} (σ : St Ideal A) (u : Fin 4) (r : Fin 256) (d : Fin 128) : EReal := σ .b9 (ix3 ⟨u, by omega⟩ r d)
def queriesI {A : Args} (σ : St Ideal A) (q : Fin 256) (d : Fin 1024) : EReal := σ .b7 (ix2 q d)
def weightsI {A : Args} (σ : St Ideal A) (h : Fin 16) (q : Fin 256) : EReal := σ .b8 (ix2 h q)

theorem scoreAt_apply (u : Fin 4) (kb : Vec Ideal S1x256x128 .bf16) (hkb : ∀ r d, kb (ix3 0 r d) = σ .b9 (ix3 ⟨u, by omega⟩ r d)) (r : Fin 128) (q : Fin 256) :
    scoreAt σ kb (ix2 r q) = score (keysI σ) (queriesI σ) (weightsI σ) u r q := by
  unfold score keysI queriesI weightsI
  rw [sum16]
  pointwise [scoreAt, blockScore, headTerm0, headTerm1]
  simp only [hkb]

theorem sle_word {a b : ℕ} (ha : a < 2 ^ 30) (hb : b < 2 ^ 30) :
    IntOp.cmpi .sle (BitVec.ofNat 32 a) (BitVec.ofNat 32 b) = if a ≤ b then 1#1 else 0#1 := by
  have ea : ∀ a : ℕ, a < 2 ^ 30 → (BitVec.ofNat 32 a).toInt = a := fun a ha => by
    rw [BitVec.toInt_ofNat', Int.bmod_eq_of_le (by omega) (by omega)]
  show BitVec.ofBool (BitVec.sle _ _) = _
  unfold BitVec.sle
  rw [ea a ha, ea b hb]
  by_cases h : a ≤ b
  · rw [if_pos h, decide_eq_true (by exact_mod_cast h)]
    rfl
  · rw [if_neg h, decide_eq_false (by exact_mod_cast h)]
    rfl

theorem causal_apply (u : Fin 4) (r : Fin 128) (q : Fin 256) :
    k0_pay11 (k0_pay142 (F := Ideal) 0#32) (rowOf (F := Ideal) k0 (BitVec.ofNat 32 u.val)) (ix2 r q) = if 128 * u.val + r.val ≤ q.val then 1#1 else 0#1 := by
  pointwise [k0_pay11, k0_pay142]
  have e1 : ∀ u : Fin 4, Scalar.muli (rowOf (F := Ideal) k0 (BitVec.ofNat 32 u.val)) 128#32 = BitVec.ofNat 32 (128 * u.val) := by decide
  have e2 : Scalar.muli 0#32 256#32 = BitVec.ofNat 32 0 := by decide
  have e3 : IntOp.addi (Scalar.muli (rowOf (F := Ideal) k0 (BitVec.ofNat 32 u.val)) 128#32) (BitVec.ofNat 32 r.val) = BitVec.ofNat 32 (128 * u.val + r.val) := by
    rw [e1, BitVec.ofNat_add]
    rfl
  have e4 : IntOp.addi (Scalar.muli 0#32 256#32) (BitVec.ofNat 32 q.val) = BitVec.ofNat 32 q.val := by
    rw [e2]
    exact BitVec.zero_add _
  rw [e3, e4]
  exact sle_word (by omega) (by omega)

theorem block_apply (u : Fin 4) (kb : Vec Ideal S1x256x128 .bf16) (hkb : ∀ r d, kb (ix3 0 r d) = σ .b9 (ix3 ⟨u, by omega⟩ r d)) (r : Fin 128) (q : Fin 256) :
    blockOut (k0_pay142 (F := Ideal) 0#32) (rowOf (F := Ideal) k0 (BitVec.ofNat 32 u.val)) (scoreAt σ kb) (ix2 r q)
      = if 128 * u.val + r.val ≤ q.val then score (keysI σ) (queriesI σ) (weightsI σ) u r q else ⊥ := by
  pointwise [blockOut, causal_apply]
  rw [scoreAt_apply σ u kb hkb, named_mask]
  split_ifs <;> rfl

theorem writeBlock_in (u : Fin 4) (f : S8192x256.Idx → Elt Ideal .f32) (r : Fin 128) (q : Fin 256) :
    writeBlock σ chk1 cond1 k0 u (rowOf (F := Ideal) k0 (BitVec.ofNat 32 u.val)) f (ix2 ⟨128 * u + r, by omega⟩ q)
      = if 128 * u.val + r.val ≤ q.val then score (keysI σ) (queriesI σ) (weightsI σ) u r q else ⊥ := by
  unfold writeBlock
  have e : (ix2 ⟨128 * u + r, by omega⟩ q : S8192x256.Idx)
      = (Rect.unit (s := S8192x256) (k0_off3 0#32 k0 (BitVec.ofNat 32 u.val)) S128x256.size (k0_off3_inb 0#32 0#32 chk1 k0 cond1 u)).emb (ix2 r q) := by
    funext a
    refine Fin.ext ?_
    rw [Rect.emb_apply]
    fin_cases a
    · show 128 * u.val + r.val = k0_off3 0#32 k0 (BitVec.ofNat 32 u.val) 0 + 1 * r.val
      have h : k0_off3 0#32 k0 (BitVec.ofNat 32 u.val) 0 = 128 * u.val := congrFun (off3_eq u) 0
      omega
    · show q.val = k0_off3 0#32 k0 (BitVec.ofNat 32 u.val) 1 + 1 * q.val
      have h : k0_off3 0#32 k0 (BitVec.ofNat 32 u.val) 1 = 0 := congrFun (off3_eq u) 1
      omega
  have hkb : ∀ r d, (fun j => σ .b9 ((Rect.unit (s := S64x256x128) (k0_off2 0#32 k0 (BitVec.ofNat 32 u.val)) S1x256x128.size (k0_off2_inb 0#32 0#32 chk1 k0 cond1 u)).toLoadRect.idx j)) (ix3 0 r d)
      = σ .b9 (ix3 ⟨u, by omega⟩ r d) := fun r d => congrArg (σ .b9) (by
    funext a
    refine Fin.ext ?_
    fin_cases a
    · show k0_off2 0#32 k0 (BitVec.ofNat 32 u.val) 0 + 1 * 0 = u.val
      have h : k0_off2 0#32 k0 (BitVec.ofNat 32 u.val) 0 = u.val := congrFun (off2_eq u) 0
      omega
    · show k0_off2 0#32 k0 (BitVec.ofNat 32 u.val) 1 + 1 * r.val = r.val
      have h : k0_off2 0#32 k0 (BitVec.ofNat 32 u.val) 1 = 0 := congrFun (off2_eq u) 1
      omega
    · show k0_off2 0#32 k0 (BitVec.ofNat 32 u.val) 2 + 1 * d.val = d.val
      have h : k0_off2 0#32 k0 (BitVec.ofNat 32 u.val) 2 = 0 := congrFun (off2_eq u) 2
      omega)
  rw [e, Rect.overlay_emb]
  exact block_apply σ u _ hkb r q

theorem writeBlock_past (u : Fin 4) (row : BitVec 32) (f : S8192x256.Idx → Elt Ideal .f32) (k : Fin 8192) (hk : k.val < 128 * u.val) (q : Fin 256) :
    writeBlock σ chk1 cond1 k0 u row f (ix2 k q) = f (ix2 k q) := by
  unfold writeBlock
  refine Rect.overlay_of_not_mem _ _ _ (not_mem_of_lt (a := 0) ?_)
  show k.val < k0_off3 0#32 k0 (BitVec.ofNat 32 u.val) 0
  rw [off3_eq]
  exact hk

theorem scored_apply (f : S8192x256.Idx → Elt Ideal .f32) (u : Fin 4) (r : Fin 128) (q : Fin 256) :
    scored σ f (ix2 ⟨128 * u + r, by omega⟩ q) = if 128 * u.val + r.val ≤ q.val then score (keysI σ) (queriesI σ) (weightsI σ) u r q else ⊥ := by
  unfold scored
  have hr := r.isLt
  fin_cases u
  · rw [writeBlock_past _ 3 _ _ _ (by show 128 * 0 + r.val < 128 * 3; omega), writeBlock_past _ 2 _ _ _ (by show 128 * 0 + r.val < 128 * 2; omega),
      writeBlock_past _ 1 _ _ _ (by show 128 * 0 + r.val < 128 * 1; omega)]
    exact writeBlock_in σ 0 _ r q
  · rw [writeBlock_past _ 3 _ _ _ (by show 128 * 1 + r.val < 128 * 3; omega), writeBlock_past _ 2 _ _ _ (by show 128 * 1 + r.val < 128 * 2; omega)]
    exact writeBlock_in σ 1 _ r q
  · rw [writeBlock_past _ 3 _ _ _ (by show 128 * 2 + r.val < 128 * 3; omega)]
    exact writeBlock_in σ 2 _ r q
  · exact writeBlock_in σ 3 _ r q

theorem selRows_apply (f : S8192x256.Idx → Elt Ideal .f32) (k : Fin 512) (q : Fin 256) :
    selRows σ f (ix2 k q) = if Ideal.ofBits .f32 0xEFA18F08#32 ≤ scored σ f (ix2 ⟨k, by omega⟩ q) then 0 else ⊥ := by
  unfold selRows chosen
  have e : (Rect.unit (s := S8192x256) (k0_off25 0#32) S512x256.size (by decide)).toLoadRect.idx (ix2 k q) = rows.emb (ix2 k q) := by
    funext a
    refine Fin.ext ?_
    fin_cases a <;> rfl
  rw [e, Rect.overlay_emb, pay176_eq]
  have e' : rows.toLoadRect.idx (ix2 k q) = ix2 ⟨k, by omega⟩ q := by
    funext a
    refine Fin.ext ?_
    fin_cases a
    · show 0 + 1 * k.val = k.val
      omega
    · show 0 + 1 * q.val = q.val
      omega
  rw [e']

/-! ## The attention -/

theorem ninf : Ideal.ofBits .f32 0xFF800000#32 = (⊥ : EReal) := by
  show Ideal.ieee 8 23 0xFF800000#32 = _
  have h1 : ((0xFF800000#32).extractLsb' (8 + 23) 1 == 1#1) = true := by decide
  have h2 : ((0xFF800000#32).extractLsb' 23 8).toNat = 255 := by decide
  have h3 : ((0xFF800000#32).extractLsb' 0 23).toNat = 0 := by decide
  simp only [Ideal.ieee, h1, h2, h3]
  norm_num

theorem low_ne : ¬ Ideal.ofBits .f32 0xEFA18F08#32 ≤ (⊥ : EReal) := by
  show ¬ Ideal.ieee 8 23 0xEFA18F08#32 ≤ _
  have h1 : ((0xEFA18F08#32).extractLsb' (8 + 23) 1 == 1#1) = true := by decide
  have h2 : ((0xEFA18F08#32).extractLsb' 23 8).toNat = 223 := by decide
  have h3 : ((0xEFA18F08#32).extractLsb' 0 23).toNat = 2199304 := by decide
  simp only [Ideal.ieee, h1, h2, h3]
  norm_num

theorem prod_apply (V : Vec Ideal S1x128x512 .bf16) (p : FVec Ideal S1x512x256 .bf16) (s : FVec Ideal S1x8x256 .f32) (d : Fin 128) (q : Fin 256) :
    k0_pay224 (F := Ideal) (k0_pay202 (F := Ideal)) V p s prod0 (ix3 0 d q) = ∑ k : Fin 512, V (ix3 0 d k) * p (ix3 0 k q) := by
  pointwise [k0_pay224, k0_pay222, k0_pay223, k0_pay202, prod0, k0_pay201]
  rw [zero_mul, zero_add]

theorem sum_apply (V : Vec Ideal S1x128x512 .bf16) (p : FVec Ideal S1x512x256 .bf16) (s : FVec Ideal S1x8x256 .f32) (r : Fin 8) (q : Fin 256) :
    k0_pay225 (F := Ideal) (k0_pay202 (F := Ideal)) V p s sum0 (ix3 0 r q) = ∑ k : Fin 512, p (ix3 0 k q) := by
  pointwise [k0_pay225, k0_pay222, k0_pay223, k0_pay202, sum0, k0_pay200, k0_pay179]
  rw [mul_zero, zero_add]

theorem out_apply (s : FVec Ideal S1x8x256 .f32) (p : FVec Ideal S1x128x256 .f32) (g : FVec Ideal S256x128 .bf16) (q : Fin 256) (d : Fin 128) :
    k0_pay180 (F := Ideal) s p g (ix2 q d) = Ideal.div (p (ix3 0 d q)) (s (ix3 0 ⟨d % 8, by omega⟩ q)) * g (ix2 q d) := by
  pointwise [k0_pay180]

theorem max8 {z : EReal} (hz : z = ⊥) (G : Fin 64 → Fin 8 → EReal) (r : Fin 8) :
    max
        (max
          (max
            (Finset.univ.fold max z fun x : Fin 4 => Finset.univ.fold max z fun y : Fin 16 => G ⟨y * 4 + x, by omega⟩ r)
            (Finset.univ.fold max z fun x : Fin 4 => Finset.univ.fold max z fun y : Fin 16 => G ⟨y * 4 + x, by omega⟩ ⟨(r + 8 - 4) % 8, by omega⟩))
          (max
            (Finset.univ.fold max z fun x : Fin 4 => Finset.univ.fold max z fun y : Fin 16 => G ⟨y * 4 + x, by omega⟩ ⟨(r + 8 - 2) % 8, by omega⟩)
            (Finset.univ.fold max z fun x : Fin 4 => Finset.univ.fold max z fun y : Fin 16 => G ⟨y * 4 + x, by omega⟩ ⟨((r + 8 - 2) % 8 + 8 - 4) % 8, by omega⟩)))
        (max
          (max
            (Finset.univ.fold max z fun x : Fin 4 => Finset.univ.fold max z fun y : Fin 16 => G ⟨y * 4 + x, by omega⟩ ⟨(r + 8 - 1) % 8, by omega⟩)
            (Finset.univ.fold max z fun x : Fin 4 => Finset.univ.fold max z fun y : Fin 16 => G ⟨y * 4 + x, by omega⟩ ⟨((r + 8 - 1) % 8 + 8 - 4) % 8, by omega⟩))
          (max
            (Finset.univ.fold max z fun x : Fin 4 => Finset.univ.fold max z fun y : Fin 16 => G ⟨y * 4 + x, by omega⟩ ⟨((r + 8 - 1) % 8 + 8 - 2) % 8, by omega⟩)
            (Finset.univ.fold max z fun x : Fin 4 => Finset.univ.fold max z fun y : Fin 16 => G ⟨y * 4 + x, by omega⟩ ⟨(((r + 8 - 1) % 8 + 8 - 2) % 8 + 8 - 4) % 8, by omega⟩)))
      = Finset.univ.fold max ⊥ fun k : Fin 512 => G ⟨k / 8, by omega⟩ ⟨k % 8, by omega⟩ := by
  subst hz
  refine eq_of_forall_ge_iff fun b => ?_
  simp only [max_le_iff, Finset.fold_max_le, bot_le, true_and, Finset.mem_univ, true_implies]
  constructor
  · rintro ⟨⟨⟨h0, h4⟩, h2, h6⟩, ⟨h7, h3⟩, h5, h1⟩ k
    have key : ∀ s : ℕ, (hs : s < 8) → k.val % 8 = s → (∀ (x : Fin 4) (y : Fin 16), G ⟨y * 4 + x, by omega⟩ ⟨s, hs⟩ ≤ b) →
        G ⟨k / 8, by omega⟩ ⟨k % 8, by omega⟩ ≤ b := fun s hs e h => by
      have := h ⟨k / 8 % 4, by omega⟩ ⟨k / 8 / 4, by omega⟩
      have e1 : k.val / 8 / 4 * 4 + k.val / 8 % 4 = k.val / 8 := by omega
      simp only [e1, ← e] at this
      exact this
    have hc : ∀ r s : Fin 8, s.val = r.val ∨ s.val = (r.val + 8 - 4) % 8 ∨ s.val = (r.val + 8 - 2) % 8 ∨ s.val = ((r.val + 8 - 2) % 8 + 8 - 4) % 8
        ∨ s.val = (r.val + 8 - 1) % 8 ∨ s.val = ((r.val + 8 - 1) % 8 + 8 - 4) % 8 ∨ s.val = ((r.val + 8 - 1) % 8 + 8 - 2) % 8
        ∨ s.val = (((r.val + 8 - 1) % 8 + 8 - 2) % 8 + 8 - 4) % 8 := by decide
    rcases hc r ⟨k % 8, by omega⟩ with e | e | e | e | e | e | e | e
    · exact key _ r.isLt e h0
    · exact key _ _ e h4
    · exact key _ _ e h2
    · exact key _ _ e h6
    · exact key _ _ e h7
    · exact key _ _ e h3
    · exact key _ _ e h5
    · exact key _ _ e h1
  · intro h
    have key : ∀ (s : Fin 8) (x : Fin 4) (y : Fin 16), G ⟨y * 4 + x, by omega⟩ s ≤ b := fun s x y => by
      have := h ⟨(y.val * 4 + x.val) * 8 + s.val, by omega⟩
      have e1 : ((y.val * 4 + x.val) * 8 + s.val) / 8 = y.val * 4 + x.val := by omega
      have e2 : ((y.val * 4 + x.val) * 8 + s.val) % 8 = s.val := by omega
      simp only [e1, e2] at this
      exact this
    exact ⟨⟨⟨key _, key _⟩, key _, key _⟩, ⟨key _, key _⟩, key _, key _⟩

theorem max_apply (L : FVec Ideal S64x8x256 .f32) (r : Fin 8) (q : Fin 256) :
    k0_pay210 (F := Ideal) (k0_pay208 max0) (shapeCast S16x4x8x256 L shapeCasts_S64x8x256_S16x4x8x256) (ix2 r q)
      = Finset.univ.fold max ⊥ fun k : Fin 512 => L (ix3 ⟨k / 8, by omega⟩ ⟨k % 8, by omega⟩ q) := by
  pointwise [k0_pay210, k0_pay208, max0, pay178_eq]
  refine (max_eq_right bot_le).trans ?_
  exact max8 ninf (fun u s => L (ix3 u s q)) r

theorem probs_apply (L : FVec Ideal S64x8x256 .f32) (M : FVec Ideal S8x256 .f32) (k : Fin 512) (q : Fin 256) (N) :
    k0_pay211 (F := Ideal) L M N (ix3 0 k q) = Ideal.exp2 (L (ix3 ⟨k / 8, by omega⟩ ⟨k % 8, by omega⟩ q) - k0_pay210 M N (ix2 ⟨k % 8, by omega⟩ q)) := by
  pointwise [k0_pay211]
  rfl

theorem logit_apply (f) (u : Fin 64) (r : Fin 8) (q : Fin 256) :
    k0_pay207 (F := Ideal) (dots σ) (selRows σ f) (ix3 u r q)
      = ∑ x, keyBlk σ (ix3 0 ⟨u * 8 + r, by omega⟩ x) * queryBlk σ (ix3 0 q x) + selRows σ f (ix2 ⟨u * 8 + r, by omega⟩ q) := by
  pointwise [k0_pay207, dots, k0_pay204, k0_pay203]

/-- The logit of a key for a query: the product of the two, −∞ where the key is not selected. -/
def logit (s : Fin 512 → Fin 256 → EReal) (K : Fin 512 → Fin 128 → EReal) (Q : Fin 256 → Fin 128 → EReal) (q : Fin 256) (k : Fin 512) : EReal :=
  if k.val ≤ q.val ∧ Ideal.ofBits .f32 0xEFA18F08#32 ≤ s k q then ∑ d : Fin 128, K k d * Q q d else ⊥

/-- The probability of a key, not yet divided by the probabilities' sum. -/
def prob (l : Fin 512 → EReal) (k : Fin 512) : EReal := Ideal.exp2 (l k - Finset.univ.fold max ⊥ l)

/-- The scores of the first 512 keys. -/
abbrev scores (KI : Fin 4 → Fin 256 → Fin 128 → EReal) (QI : Fin 256 → Fin 1024 → EReal) (W : Fin 16 → Fin 256 → EReal) (k : Fin 512) (q : Fin 256) : EReal :=
  score KI QI W ⟨k / 128, by omega⟩ ⟨k % 128, by omega⟩ q

theorem selRows_eq (f : S8192x256.Idx → Elt Ideal .f32) (k : Fin 512) (q : Fin 256) :
    selRows σ f (ix2 k q) = if k.val ≤ q.val ∧ Ideal.ofBits .f32 0xEFA18F08#32 ≤ scores (keysI σ) (queriesI σ) (weightsI σ) k q then 0 else ⊥ := by
  rw [selRows_apply]
  have h := scored_apply σ f ⟨k / 128, by omega⟩ ⟨k % 128, by omega⟩ q
  have e : 128 * (k.val / 128) + k.val % 128 = k.val := by omega
  simp only [e] at h
  rw [h]
  by_cases hk : k.val ≤ q.val
  · rw [if_pos hk]
    simp only [hk, true_and]
  · rw [if_neg hk, if_neg low_ne, if_neg fun h => hk h.1]

theorem logit_eq (f) (k : Fin 512) (q : Fin 256) :
    k0_pay207 (F := Ideal) (dots σ) (selRows σ f) (ix3 ⟨k / 8, by omega⟩ ⟨k % 8, by omega⟩ q)
      = logit (scores (keysI σ) (queriesI σ) (weightsI σ)) (fun k d => keyBlk σ (ix3 0 k d)) (fun q d => queryBlk σ (ix3 0 q d)) q k := by
  rw [logit_apply]
  have e : k.val / 8 * 8 + k.val % 8 = k.val := by omega
  simp only [e]
  rw [selRows_eq]
  unfold logit
  split_ifs
  · exact add_zero _
  · exact EReal.add_bot _

theorem probs_eq (f) (k : Fin 512) (q : Fin 256) :
    probs σ f (ix3 0 k q) = prob (logit (scores (keysI σ) (queriesI σ) (weightsI σ)) (fun k d => keyBlk σ (ix3 0 k d)) (fun q d => queryBlk σ (ix3 0 q d)) q) k := by
  unfold probs prob
  rw [probs_apply, logit_eq]
  unfold k0_pay209
  rw [max_apply]
  simp only [logit_eq]

/-- The result of head 0 at the first block, of the six blocks read. -/
def headVal (KI : Fin 4 → Fin 256 → Fin 128 → EReal) (QI : Fin 256 → Fin 1024 → EReal) (W : Fin 16 → Fin 256 → EReal) (K : Fin 512 → Fin 128 → EReal)
    (Q : Fin 256 → Fin 128 → EReal) (V : Fin 128 → Fin 512 → EReal) (g : EReal) (q : Fin 256) (d : Fin 128) : EReal :=
  Ideal.div (∑ k : Fin 512, V d k * prob (logit (scores KI QI W) K Q q) k) (∑ k : Fin 512, prob (logit (scores KI QI W) K Q q) k) * g

theorem headOut_eq (f) (q : Fin 256) (d : Fin 128) :
    headOut σ f (ix2 q d) = headVal (keysI σ) (queriesI σ) (weightsI σ) (fun k d => keyBlk σ (ix3 0 k d)) (fun q d => queryBlk σ (ix3 0 q d))
      (fun d k => valBlk σ (ix3 0 d k)) (gateBlk σ (ix2 q d)) q d := by
  unfold headOut headVal
  rw [out_apply]
  unfold prods sums
  rw [prod_apply, sum_apply]
  simp only [probs_eq]

/-- The output's first row tile of the first head, of the program's six arguments: the queries and keys, the values, the gates,
    the index queries, the heads' weights, the index keys. -/
def firstTile (a0 : (⟨3, ![32, 8192, 128]⟩ : Shape).Idx → EReal) (a1 : (⟨3, ![16, 128, 8192]⟩ : Shape).Idx → EReal)
    (a2 : (⟨2, ![8192, 2048]⟩ : Shape).Idx → EReal) (a3 : (⟨2, ![8192, 1024]⟩ : Shape).Idx → EReal)
    (a4 : (⟨2, ![16, 8192]⟩ : Shape).Idx → EReal) (a5 : (⟨3, ![64, 256, 128]⟩ : Shape).Idx → EReal)
    (q : Fin 256) (d : Fin 128) : EReal :=
  headVal (fun u r e => a5 (ix3 ⟨u, by omega⟩ r e)) (fun q e => a3 (ix2 ⟨q, by omega⟩ e)) (fun h q => a4 (ix2 h ⟨q, by omega⟩))
    (fun k e => a0 (ix3 16 ⟨k, by omega⟩ e)) (fun q e => a0 (ix3 0 ⟨q, by omega⟩ e)) (fun e k => a1 (ix3 0 e ⟨k, by omega⟩))
    (a2 (ix2 ⟨q, by omega⟩ ⟨d, by omega⟩)) q d

end Cert.KernelIdeal.Body

end
-- ==== Proof.FirstTile.lean ====
/- The first grid point's place: which blocks it reads and writes, and that no other point writes the output's first rows. -/
module

public import proofs.«01_k».proof.Proof.Attend
public import proofs.«01_k».proof.Proof.Point
public import Idealize.ShloMosaic.Lib.Pipeline.ArrRel
public import Idealize.ShloMosaic.Lib.Pipeline.ValueKit

@[expose] public section

noncomputable section

namespace Cert.KernelIdeal.Body

open Idealize.ShloMosaic
open Idealize.ShloMosaic.TcCoe
open Idealize.SL Idealize.SL.RA Idealize.SL.Sem
open Cert.KernelIdeal Cert.KernelIdeal.Gen Cert.Proof

theorem lit0_zero : ∀ k, lit0 k = 0#32 ↔ k = 0 := by decide +kernel

theorem lit1_zero : lit1 0 = 0#32 := rfl

/-- The table entry a point reads. -/
theorem rowMajor_point (i : grid0.Coords) (j) :
    (S272.rowMajor ((Rect.unit (s := S272) (k0_off1 i) S1.size (k0_off1_inb i)).toLoadRect.idx j)).val = (i 0).val := by
  have h1 : (j 0).val < 1 := (j 0).isLt
  have h2 : (i 0).val < 272 := (i 0).isLt
  have h3 : (k0_off1 i) 0 = (i 0).val := by
    show (BitVec.ofNat 32 (i 0).val).toNat = (i 0).val
    rw [BitVec.toNat_ofNat, Nat.mod_eq_of_lt (by omega)]
  rw [Shape.rowMajor_val_one]
  show (k0_off1 i) 0 + 1 * (j 0).val = _
  omega

theorem first_point {t : Fin (cfgT (F := Ideal)).N} (ht : t.val = 0) (Y) (s : Scr Ideal) :
    First (grid0.coords t) (stateAt t Y s) := by
  have e : ((grid0.coords t) 0).val = 0 := by
    obtain rfl : t = ⟨0, by decide⟩ := Fin.ext ht
    decide +kernel
  constructor
  · intro j
    exact (lit0_zero _).mpr (Fin.ext ((rowMajor_point _ j).trans e))
  · intro j
    have : S272.rowMajor ((Rect.unit (s := S272) (k0_off1 (grid0.coords t)) S1.size (k0_off1_inb (grid0.coords t))).toLoadRect.idx j) = (0 : Fin 272) :=
      Fin.ext ((rowMajor_point _ j).trans e)
    show lit1 _ = _
    rw [this]
    exact lit1_zero

abbrev t₀ : Fin (cfgT (F := Ideal)).N := ⟨0, by decide⟩

theorem flush_first : ((cfgT (F := Ideal)).win 7).flush t₀ = true := by
  decide +kernel

variable {c : Dev nD} (m : (ℓ : Loc nD τ sig) → Idealize.ShloMosaic.Buf (Elt Ideal) ℓ)
variable (Inv : Fin ((cfgT (F := Ideal)).N + 1) → Scr Ideal → Prop) (R : Fin (cfgT (F := Ideal)).N → (S256x2048.Idx → Elt Ideal .bf16) → Prop)

theorem idx0 : ((cfgT (F := Ideal)).win 0).index t₀ = ![0, 0, 0] := by decide +kernel
theorem idx1 : ((cfgT (F := Ideal)).win 1).index t₀ = ![1, 0, 0] := by decide +kernel
theorem idx2 : ((cfgT (F := Ideal)).win 2).index t₀ = ![0, 0, 0] := by decide +kernel
theorem idx3 : ((cfgT (F := Ideal)).win 3).index t₀ = ![0, 0] := by decide +kernel
theorem idx4 : ((cfgT (F := Ideal)).win 4).index t₀ = ![0, 0] := by decide +kernel
theorem idx5 : ((cfgT (F := Ideal)).win 5).index t₀ = ![0, 0] := by decide +kernel
theorem idx6 : ((cfgT (F := Ideal)).win 6).index t₀ = ![0, 0, 0] := by decide +kernel
theorem idx7 : ∀ t, ((cfgT (F := Ideal)).win 7).index t 0 = 0 → t = t₀ := by decide +kernel

theorem found0 {Y} (h : (rdat m Inv R c).Finds 0 t₀ Y) (a : Fin 16) (b : Fin 256) (e : Fin 128) :
    Y (ix3 a b e) = m ((c.tc : Thread nD τ).loc main_arg0) (ix3 ⟨a, by omega⟩ ⟨b, by omega⟩ e) := by
  obtain ⟨d, rfl⟩ := Pipeline.RDat.finds_in_eq_fetched _ 0 rfl (by intros; rfl) (fun _ _ _ h => h) t₀ Y h
  show V₀ m c (Proc.devRef .tc (Pipeline.arrRef spec0 0)) ((((cfgT (F := Ideal)).win 0).blk t₀).view.emb (ix3 a b e)) = _
  have h := fun a => congrFun idx0 a
  blk_point [h]

theorem found1 {Y} (h : (rdat m Inv R c).Finds 1 t₀ Y) (a : Fin 16) (b : Fin 512) (e : Fin 128) :
    Y (ix3 a b e) = m ((c.tc : Thread nD τ).loc main_arg0) (ix3 ⟨16 + a, by omega⟩ ⟨b, by omega⟩ e) := by
  obtain ⟨d, rfl⟩ := Pipeline.RDat.finds_in_eq_fetched _ 1 rfl (by intros; rfl) (fun _ _ _ h => h) t₀ Y h
  show V₀ m c (Proc.devRef .tc (Pipeline.arrRef spec0 1)) ((((cfgT (F := Ideal)).win 1).blk t₀).view.emb (ix3 a b e)) = _
  have h := fun a => congrFun idx1 a
  blk_point [h]

theorem found2 {Y} (h : (rdat m Inv R c).Finds 2 t₀ Y) (a : Fin 16) (b : Fin 128) (e : Fin 512) :
    Y (ix3 a b e) = m ((c.tc : Thread nD τ).loc main_arg1) (ix3 a b ⟨e, by omega⟩) := by
  obtain ⟨d, rfl⟩ := Pipeline.RDat.finds_in_eq_fetched _ 2 rfl (by intros; rfl) (fun _ _ _ h => h) t₀ Y h
  show V₀ m c (Proc.devRef .tc (Pipeline.arrRef spec0 2)) ((((cfgT (F := Ideal)).win 2).blk t₀).view.emb (ix3 a b e)) = _
  have h := fun a => congrFun idx2 a
  blk_point [h]

theorem found3 {Y} (h : (rdat m Inv R c).Finds 3 t₀ Y) (a : Fin 256) (b : Fin 2048) :
    Y (ix2 a b) = m ((c.tc : Thread nD τ).loc main_arg2) (ix2 ⟨a, by omega⟩ b) := by
  obtain ⟨d, rfl⟩ := Pipeline.RDat.finds_in_eq_fetched _ 3 rfl (by intros; rfl) (fun _ _ _ h => h) t₀ Y h
  show V₀ m c (Proc.devRef .tc (Pipeline.arrRef spec0 3)) ((((cfgT (F := Ideal)).win 3).blk t₀).view.emb (ix2 a b)) = _
  have h := fun a => congrFun idx3 a
  blk_point [h]

theorem found4 {Y} (h : (rdat m Inv R c).Finds 4 t₀ Y) (a : Fin 256) (b : Fin 1024) :
    Y (ix2 a b) = m ((c.tc : Thread nD τ).loc main_arg3) (ix2 ⟨a, by omega⟩ b) := by
  obtain ⟨d, rfl⟩ := Pipeline.RDat.finds_in_eq_fetched _ 4 rfl (by intros; rfl) (fun _ _ _ h => h) t₀ Y h
  show V₀ m c (Proc.devRef .tc (Pipeline.arrRef spec0 4)) ((((cfgT (F := Ideal)).win 4).blk t₀).view.emb (ix2 a b)) = _
  have h := fun a => congrFun idx4 a
  blk_point [h]

theorem found5 {Y} (h : (rdat m Inv R c).Finds 5 t₀ Y) (a : Fin 16) (b : Fin 256) :
    Y (ix2 a b) = m ((c.tc : Thread nD τ).loc main_arg4) (ix2 a ⟨b, by omega⟩) := by
  obtain ⟨d, rfl⟩ := Pipeline.RDat.finds_in_eq_fetched _ 5 rfl (by intros; rfl) (fun _ _ _ h => h) t₀ Y h
  show V₀ m c (Proc.devRef .tc (Pipeline.arrRef spec0 5)) ((((cfgT (F := Ideal)).win 5).blk t₀).view.emb (ix2 a b)) = _
  have h := fun a => congrFun idx5 a
  blk_point [h]

theorem found6 {Y} (h : (rdat m Inv R c).Finds 6 t₀ Y) (a : Fin 64) (b : Fin 256) (e : Fin 128) :
    Y (ix3 a b e) = m ((c.tc : Thread nD τ).loc main_arg5) (ix3 a b e) := by
  obtain ⟨d, rfl⟩ := Pipeline.RDat.finds_in_eq_fetched _ 6 rfl (by intros; rfl) (fun _ _ _ h => h) t₀ Y h
  show V₀ m c (Proc.devRef .tc (Pipeline.arrRef spec0 6)) ((((cfgT (F := Ideal)).win 6).blk t₀).view.emb (ix3 a b e)) = _
  have h := fun a => congrFun idx6 a
  blk_point [h]

end Cert.KernelIdeal.Body

end
-- ==== Proof.FirstRun.lean ====
/- The kernel's run: the output's first row tile of the first head ends at the value `firstTile` names. -/
module

public import proofs.«01_k».proof.Proof.HeadValue
public import proofs.«01_k».proof.Proof.FirstTile
public import proofs.«01_k».proof.Proof.Frames

@[expose] public section

noncomputable section

namespace Cert.KernelIdeal.Body

open Idealize.ShloMosaic
open Idealize.ShloMosaic.TcCoe
open Idealize.SL Idealize.SL.RA Idealize.SL.Sem
open Cert.KernelIdeal Cert.KernelIdeal.Gen Cert.Proof

/-- `firstTile` of the arguments as launched. -/
def tileOf (m : (ℓ : Loc nD τ sig) → Idealize.ShloMosaic.Buf (Elt Ideal) ℓ) (c : Dev nD) (q : Fin 256) (d : Fin 128) : EReal :=
  firstTile (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) q d

/-- What the body leaves in the output's block: at the first point its first 128 columns are the tile. -/
def Tile (m : (ℓ : Loc nD τ sig) → Idealize.ShloMosaic.Buf (Elt Ideal) ℓ) (t : Fin (cfgT (F := Ideal)).N) (X : S256x2048.Idx → EReal) : Prop :=
  t = t₀ → ∀ (c : Dev nD) (q : Fin 256) (d : Fin 128), X (ix2 q ⟨d, by omega⟩) = tileOf m c q d

theorem body_first (m : (ℓ : Loc nD τ sig) → Idealize.ShloMosaic.Buf (Elt Ideal) ℓ) (c : Dev nD) :
    BodyRuns m (fun _ _ => True) (Tile m) c := by
  intro t Y s hY _
  by_cases ht : t = t₀
  · subst ht
    refine (run_body (first_point rfl Y s)).mono fun _ σ' h => ?_
    obtain ⟨f, hk, hw⟩ := h
    refine ⟨hk, trivial, fun _ c' q d => ?_⟩
    obtain rfl : c' = c := Subsingleton.elim _ _
    have h := congrFun hw (ix2 q d)
    rw [headOut_eq] at h
    have e : (Rect.unit (s := S256x2048) ![0, 0] S256x128.size inb_S256x2048_S256x128_0_0).toLoadRect.idx (ix2 q d) = ix2 q ⟨d, by omega⟩ := by
      funext a
      refine Fin.ext ?_
      fin_cases a
      · show 0 + 1 * q.val = q.val
        omega
      · show 0 + 1 * d.val = d.val
        omega
    have eI : keysI (stateAt t₀ Y s) = fun (u : Fin 4) (r : Fin 256) (e : Fin 128) => m ((c'.tc : Thread nD τ).loc main_arg5) (ix3 ⟨u, by omega⟩ r e) := by
      funext u r e
      exact found6 m _ _ (hY 6) _ _ _
    have eJ : queriesI (stateAt t₀ Y s) = fun (q : Fin 256) (e : Fin 1024) => m ((c'.tc : Thread nD τ).loc main_arg3) (ix2 ⟨q, by omega⟩ e) := by
      funext q e
      exact found4 m _ _ (hY 4) _ _
    have eW : weightsI (stateAt t₀ Y s) = fun (h : Fin 16) (q : Fin 256) => m ((c'.tc : Thread nD τ).loc main_arg4) (ix2 h ⟨q, by omega⟩) := by
      funext h q
      exact found5 m _ _ (hY 5) _ _
    have eK : (fun k e => keyBlk (stateAt t₀ Y s) (ix3 0 k e)) = fun (k : Fin 512) (e : Fin 128) => m ((c'.tc : Thread nD τ).loc main_arg0) (ix3 16 ⟨k, by omega⟩ e) := by
      funext k e
      refine (congrArg (Y 1) ?_).trans (found1 m _ _ (hY 1) 0 k e)
      funext a
      refine Fin.ext ?_
      fin_cases a
      · rfl
      · show 0 + 1 * k.val = k.val
        omega
      · show 0 + 1 * e.val = e.val
        omega
    have eQ : (fun q e => queryBlk (stateAt t₀ Y s) (ix3 0 q e)) = fun (q : Fin 256) (e : Fin 128) => m ((c'.tc : Thread nD τ).loc main_arg0) (ix3 0 ⟨q, by omega⟩ e) := by
      funext q e
      refine (congrArg (Y 0) ?_).trans (found0 m _ _ (hY 0) 0 q e)
      funext a
      refine Fin.ext ?_
      fin_cases a
      · rfl
      · show 0 + 1 * q.val = q.val
        omega
      · show 0 + 1 * e.val = e.val
        omega
    have eV : (fun e k => valBlk (stateAt t₀ Y s) (ix3 0 e k)) = fun (e : Fin 128) (k : Fin 512) => m ((c'.tc : Thread nD τ).loc main_arg1) (ix3 0 e ⟨k, by omega⟩) := by
      funext e k
      refine (congrArg (Y 2) ?_).trans (found2 m _ _ (hY 2) 0 e k)
      funext a
      refine Fin.ext ?_
      fin_cases a
      · rfl
      · show 0 + 1 * e.val = e.val
        omega
      · show 0 + 1 * k.val = k.val
        omega
    have eG : gateBlk (stateAt t₀ Y s) (ix2 q d) = m ((c'.tc : Thread nD τ).loc main_arg2) (ix2 ⟨q, by omega⟩ ⟨d, by omega⟩) := by
      refine (congrArg (Y 3) ?_).trans (found3 m _ _ (hY 3) q ⟨d, by omega⟩)
      exact e
    rw [eI, eJ, eW, eK, eQ, eV, eG] at h
    exact (congrArg (σ' .b10) e).symm.trans h
  · exact ((safe_cc0_dsa_index_select_attend (tables_stateAt t Y s) (stateAt t Y s) (fun _ _ => rfl))).mono fun _ σ' h => ⟨h, trivial, fun h => absurd h ht⟩

theorem out_index : ((cfgT (F := Ideal)).win 7).index t₀ = ![0, 0] := by decide +kernel

theorem out_size : ((cfgT (F := Ideal)).win 7).size = ![256, 2048] := rfl

theorem out_xsize : ((cfgT (F := Ideal)).win 7).xsize ((cfgT (F := Ideal)).grid.coords t₀) = ![256, 2048] := by decide +kernel

theorem run_first (m : (ℓ : Loc nD τ sig) → Idealize.ShloMosaic.Buf (Elt Ideal) ℓ) (g : Dev nD → PrngReg) :
    θ_run (defs (F := Ideal)) (onTc (τ := τ) (main (F := Ideal))) ⟨m, fun _ => 0, g⟩ (fun r => ∀ c : Dev nD,
      (∀ (q : Fin 256) (d : Fin 128), r.2.mem ((c.tc : Thread nD τ).loc main_v0) (ix2 ⟨q, by omega⟩ ⟨d, by omega⟩) = tileOf m c q d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run (defs (F := Ideal)) _ _).mono (fun r h c => ⟨fun q d => ?_,
    h.1.arr_in c 0 rfl, h.1.arr_in c 2 rfl, h.1.arr_in c 3 rfl, h.1.arr_in c 4 rfl, h.1.arr_in c 5 rfl, h.1.arr_in c 6 rfl⟩)
    (run_main m (fun _ _ => True) (Tile m) g (fun c => body_first m c) fun _ => trivial)
  obtain ⟨after, hL, hA⟩ := h.1.exists_exact c
  have h7 := hA 7
  have hm : (ix2 ⟨q, by omega⟩ ⟨d, by omega⟩ : S8192x2048.Idx) ∈ (((cfgT (F := Ideal)).win 7).blk t₀).view.set := by
    refine (Pipeline.Window.emb_mem_blk_iff ((cfgT (F := Ideal)).win 7) t₀ (ix2 ⟨q, by omega⟩ ⟨d, by omega⟩)).mpr fun a => ?_
    rw [out_index, out_size, out_xsize]
    fin_cases a
    · show 0 * 256 ≤ q.val ∧ q.val < 0 * 256 + 256
      omega
    · show 0 * 2048 ≤ d.val ∧ d.val < 0 * 2048 + 2048
      omega
  have key := Pipeline.Dat.arrAt_forall_of_flushed (((rdat m (fun _ _ => True) (Tile m)) c).withAfter after) 7
    (fun (i : S8192x2048.Idx) (v : EReal) => ∀ (q : Fin 256) (d : Fin 128), i = ix2 ⟨q, by omega⟩ ⟨d, by omega⟩ → v = tileOf m c q d)
    (by
      intro t ht y q d hi
      obtain ⟨Y, hY, hX⟩ := hL 7 t ht
      have hX : Tile m t (after 7 t) := hX
      have h0 : ((((cfgT (F := Ideal)).win 7).blk t).view.emb y 0).val = q.val := by rw [hi]; rfl
      have h1 : ((((cfgT (F := Ideal)).win 7).blk t).view.emb y 1).val = d.val := by rw [hi]; rfl
      blk_simp at h0 h1
      have h2 : ((cfgT (F := Ideal)).win 7).index t 0 = 0 := by omega
      obtain rfl := idx7 t h2
      rw [out_index] at h0 h1
      have h0 : 0 * 256 + (y 0).val = q.val := h0
      have h1 : 0 * 2048 + (y 1).val = d.val := h1
      refine Eq.trans (congrArg (after 7 t₀) ?_) (hX rfl c q d)
      funext a
      refine Fin.ext ?_
      fin_cases a
      · show (y 0).val = q.val
        omega
      · show (y 1).val = d.val
        omega) _ t₀ _ t₀.isLt flush_first hm q d rfl
  exact (congrFun h7 _).trans key

end Cert.KernelIdeal.Body

end
-- ==== Proof.KernelValue.lean ====
/- The selection and attention call's value: on the output's first row tile of the first head it is the reference's. -/
module

public import proofs.«01_k».proof.Defs
public import proofs.«01_k».proof.Proof.HeadValue
public import proofs.«01_k».proof.Proof.Gen.KernelReferenceIdeal.Run

@[expose] public section

noncomputable section

namespace Cert.KernelReferenceIdeal.Body

open Idealize.ShloMosaic Idealize.ShloMosaic.TcCoe
open Cert.KernelReferenceIdeal Cert.KernelReferenceIdeal.Gen Cert.KernelReferenceIdeal.Value
open Cert.KernelIdeal.Body (firstTile headVal prob logit scores score sle_word ninf)

theorem two_eq : Ideal.ofBits .f32 0x40000000#32 = ((2 : ℝ) : EReal) := by
  show Ideal.ieee 8 23 0x40000000#32 = _
  have h1 : ((0x40000000#32).extractLsb' (8 + 23) 1 == 1#1) = false := by decide
  have h2 : ((0x40000000#32).extractLsb' 23 8).toNat = 128 := by decide
  have h3 : ((0x40000000#32).extractLsb' 0 23).toNat = 0 := by decide
  simp only [Ideal.ieee, h1, h2, h3]
  norm_num

/-- The reference's `exp (log 2 · x)` is `2 ^ x`. -/
theorem exp_log_two (x : EReal) : Ideal.exp (Ideal.log (Ideal.ofBits .f32 0x40000000#32) * x) = Ideal.exp2 x := by
  have hp : 0 < Real.log 2 := Real.log_pos (by norm_num)
  have hl : Ideal.log (Ideal.ofBits .f32 0x40000000#32) = ((Real.log 2 : ℝ) : EReal) := by
    rw [two_eq, Ideal.log_coe, if_neg (by norm_num)]
  rw [hl]
  induction x using EReal.rec with
  | bot => rw [EReal.coe_mul_bot_of_pos hp, Ideal.exp_bot, Ideal.exp2_bot]
  | top => rw [EReal.coe_mul_top_of_pos hp, Ideal.exp_top, Ideal.exp2_top]
  | coe r =>
    rw [← EReal.coe_mul, Ideal.exp_coe, Ideal.exp2_coe]
    exact congrArg _ (Real.rpow_def_of_pos (by norm_num) r).symm

/-- A head's score of a query for a key, in the reference's order. -/
def scoreR (KI : Fin 4 → Fin 256 → Fin 128 → EReal) (QI : Fin 256 → Fin 1024 → EReal) (W : Fin 16 → Fin 256 → EReal)
    (q : Fin 256) (k : Fin 512) : EReal :=
  ∑ h : Fin 16, max (∑ e : Fin 128, KI ⟨k / 128, by omega⟩ ⟨h % 2 * 128 + k % 128, by omega⟩ e * QI q ⟨h / 2 * 128 + e, by omega⟩) 0 * W h q

/-- The masked logit, as the reference's comparisons and selection spell it. -/
def logitR (KI : Fin 4 → Fin 256 → Fin 128 → EReal) (QI : Fin 256 → Fin 1024 → EReal) (W : Fin 16 → Fin 256 → EReal)
    (K : Fin 512 → Fin 128 → EReal) (Q : Fin 256 → Fin 128 → EReal) (q : Fin 256) (k : Fin 512) : EReal :=
  Scalar.select
    (IntOp.andi (IntOp.cmpi CmpIPredicate.sle (BitVec.ofNat 32 k.val) (BitVec.ofNat 32 q.val))
      (BitVec.ofBool (decide (Ideal.ofBits FTy.f32 0xEFA18F08#32 ≤ scoreR KI QI W q k))))
    (∑ e, Q q e * K k e) (Ideal.ofBits FTy.f32 0xFF800000#32)

/-- The reference's tile, in its own order. -/
def headR (KI : Fin 4 → Fin 256 → Fin 128 → EReal) (QI : Fin 256 → Fin 1024 → EReal) (W : Fin 16 → Fin 256 → EReal)
    (K : Fin 512 → Fin 128 → EReal) (Q : Fin 256 → Fin 128 → EReal) (V : Fin 128 → Fin 512 → EReal) (g : EReal)
    (q : Fin 256) (d : Fin 128) : EReal :=
  Ideal.div
    (∑ k, Ideal.exp (Ideal.log (Ideal.ofBits .f32 0x40000000#32) * (logitR KI QI W K Q q k
      - Finset.univ.fold max (Ideal.ofBits .f32 0xFF800000#32) (fun k => logitR KI QI W K Q q k))) * V d k)
    (∑ k, Ideal.exp (Ideal.log (Ideal.ofBits .f32 0x40000000#32) * (logitR KI QI W K Q q k
      - Finset.univ.fold max (Ideal.ofBits .f32 0xFF800000#32) (fun k => logitR KI QI W K Q q k)))) * g

theorem scoreR_eq (KI QI W) (q : Fin 256) (k : Fin 512) : scoreR KI QI W q k = scores KI QI W k q := by
  unfold scoreR scores score
  refine Finset.sum_congr rfl fun h _ => ?_
  have e : ∀ e : Fin 128, KI ⟨k / 128, by omega⟩ ⟨h % 2 * 128 + k % 128, by omega⟩ e * QI q ⟨h / 2 * 128 + e, by omega⟩
      = KI ⟨k / 128, by omega⟩ ⟨128 * (h % 2) + k % 128, by omega⟩ e * QI q ⟨128 * (h / 2) + e, by omega⟩ := fun e => by
    have h1 : (⟨h % 2 * 128 + k % 128, by omega⟩ : Fin 256) = ⟨128 * (h % 2) + k % 128, by omega⟩ := Fin.ext (by show h.val % 2 * 128 + k.val % 128 = 128 * (h.val % 2) + k.val % 128; omega)
    have h2 : (⟨h / 2 * 128 + e, by omega⟩ : Fin 1024) = ⟨128 * (h / 2) + e, by omega⟩ := Fin.ext (by show h.val / 2 * 128 + e.val = 128 * (h.val / 2) + e.val; omega)
    rw [h1, h2]
  rw [Finset.sum_congr rfl fun e' _ => e e']

theorem logitR_eq (KI QI W K Q) (q : Fin 256) (k : Fin 512) : logitR KI QI W K Q q k = logit (scores KI QI W) K Q q k := by
  unfold logitR logit
  rw [scoreR_eq, sle_word (by omega) (by omega), ninf]
  by_cases h : k.val ≤ q.val <;> by_cases h' : Ideal.ofBits .f32 0xEFA18F08#32 ≤ scores KI QI W k q
  · rw [if_pos h, if_pos ⟨h, h'⟩, decide_eq_true h']
    show (∑ e, Q q e * K k e) = _
    exact Finset.sum_congr rfl fun e _ => mul_comm (Q q e) (K k e)
  · rw [if_pos h, if_neg (fun x => h' x.2), decide_eq_false h']
    rfl
  · rw [if_neg h, if_neg (fun x => h x.1), decide_eq_true h']
    rfl
  · rw [if_neg h, if_neg (fun x => h x.1), decide_eq_false h']
    rfl

theorem headR_eq (KI QI W K Q V g) (q : Fin 256) (d : Fin 128) : headR KI QI W K Q V g q d = headVal KI QI W K Q V g q d := by
  unfold headR headVal prob
  simp only [logitR_eq, exp_log_two, ninf]
  congr 2
  exact Finset.sum_congr rfl fun k _ => mul_comm _ _

set_option maxHeartbeats 2000000 in
theorem value (m : (ℓ : Loc nD τ sig) → Buf (Elt Ideal) ℓ) (c : Dev nD) (q : Fin 256) (d : Fin 128) :
    res_out0 m c (ix2 ⟨q, by omega⟩ ⟨d, by omega⟩)
      = firstTile (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) q d := by
  unfold firstTile
  rw [← headR_eq]
  generalize hR : headR _ _ _ _ _ _ _ q d = v
  pointwise [res_out0, res_main_v56]
  rw [← hR]
  rfl

end Cert.KernelReferenceIdeal.Body

end
-- ==== Proof.KernelClaim.lean ====
/- The selection and attention call's claims: its reference's frame, its idealization, and its value on the output's first row tile
   of the first head. -/
module

public import proofs.«01_k».proof.Defs
public import proofs.«01_k».proof.Proof.FirstRun
public import proofs.«01_k».proof.Proof.KernelValue

@[expose] public section

noncomputable section

namespace Cert.Proof

open Idealize.ShloMosaic Idealize.ShloMosaic.TcCoe

instance mask_facts : Cert.On_first_tile.Facts := ⟨by decide⟩

/-- Comparing two words signed, from the numbers they hold. -/
theorem slt_word {a b : ℕ} (ha : a < 2 ^ 30) (hb : b < 2 ^ 30) :
    IntOp.cmpi .slt (BitVec.ofNat 32 a) (BitVec.ofNat 32 b) = if a < b then 1#1 else 0#1 := by
  have ea : ∀ a : ℕ, a < 2 ^ 30 → (BitVec.ofNat 32 a).toInt = a := fun a ha => by
    rw [BitVec.toInt_ofNat', Int.bmod_eq_of_le (by omega) (by omega)]
  show BitVec.ofBool (BitVec.slt _ _) = _
  unfold BitVec.slt
  rw [ea a ha, ea b hb]
  by_cases h : a < b
  · rw [if_pos h, decide_eq_true (by exact_mod_cast h)]
    rfl
  · rw [if_neg h, decide_eq_false (by exact_mod_cast h)]
    rfl

/-- The mask is set at the first 256 rows' first 128 columns. -/
theorem mask_iff (a0 : FVec Ideal Cert.On_first_tile.S32x8192x128 .bf16) (a1 a2 a3 a4 a5) (i : (⟨2, ![8192, 2048]⟩ : Shape).Idx) :
    Cert.On_first_tile.fn (F := Ideal) a0 a1 a2 a3 a4 a5 i = 1#1 ↔ (i 0).val < 256 ∧ (i 1).val < 128 := by
  have h0 : (i 0).val < 8192 := (i 0).isLt
  have h1 : (i 1).val < 2048 := (i 1).isLt
  show IntOp.andi (IntOp.cmpi .slt (BitVec.ofNat 32 (i 0).val) (BitVec.ofNat 32 256)) (IntOp.cmpi .slt (BitVec.ofNat 32 (i 1).val) (BitVec.ofNat 32 128)) = 1#1 ↔ _
  rw [slt_word (by omega) (by omega), slt_word (by omega) (by omega)]
  by_cases h : (i 0).val < 256 <;> by_cases h' : (i 1).val < 128
  · rw [if_pos h, if_pos h']
    exact ⟨fun _ => ⟨h, h'⟩, fun _ => by decide⟩
  · rw [if_pos h, if_neg h']
    exact ⟨fun x => absurd x (by decide), fun x => absurd x.2 h'⟩
  · rw [if_neg h, if_pos h']
    exact ⟨fun x => absurd x (by decide), fun x => absurd x.1 h⟩
  · rw [if_neg h, if_neg h']
    exact ⟨fun x => absurd x (by decide), fun x => absurd x.1 h⟩

theorem ix2_of {i : (⟨2, ![8192, 2048]⟩ : Shape).Idx} (h : (i 0).val < 256 ∧ (i 1).val < 128) :
    i = ix2 ⟨(⟨(i 0).val, h.1⟩ : Fin 256), by omega⟩ ⟨(⟨(i 1).val, h.2⟩ : Fin 128), by omega⟩ := by
  funext a
  fin_cases a <;> rfl

theorem ref_kernel : Cert.quiescent_KernelReferenceIdeal := by
  intro m g _
  run_from Cert.KernelReferenceIdeal.Value.run m g
  all_goals first
    | exact fun _ => by simp
    | exact funext fun s => by obtain ⟨_, s | s⟩ := s <;> exact s.elim0

theorem preserves_kernel : Cert.preserves_Kernel_KernelIdeal :=
  IdealRules.named_const.statement _ _ _ _ _ rfl

theorem algebraic_kernel : Cert.algebraic_KernelIdeal_KernelReferenceIdeal_on_first_tile := by
  intro m g m' g' _ hm
  refine ⟨fun c => fun i => if h : (i 0).val < 256 ∧ (i 1).val < 128 then Cert.KernelIdeal.Body.tileOf m c ⟨(i 0).val, h.1⟩ ⟨(i 1).val, h.2⟩ else (0 : EReal), ?_, ?_⟩
  · refine (θ_run _ _ _).mono (fun r h c => ⟨fun i hi => ?_, (h c).2⟩) (Cert.KernelIdeal.Body.run_first m g)
    have hi := (mask_iff _ _ _ _ _ _ i).mp hi
    refine Eq.trans ?_ (dif_pos hi).symm
    exact (congrArg _ (ix2_of hi)).trans ((h c).1 _ _)
  · refine (θ_run _ _ _).mono (fun r h c => ⟨fun i hi => ?_, (h c).2⟩) (Cert.KernelReferenceIdeal.Value.run m' g')
    have hi := (mask_iff _ _ _ _ _ _ i).mp hi
    refine Eq.trans ?_ (dif_pos hi).symm
    obtain ⟨e0, e1, e2, e3, e4, e5⟩ := hm c
    refine (congrFun (h c).1 i).trans ((congrArg _ (ix2_of hi)).trans ((Cert.KernelReferenceIdeal.Body.value m' c ⟨(i 0).val, hi.1⟩ ⟨(i 1).val, hi.2⟩).trans ?_))
    unfold Cert.KernelIdeal.Body.tileOf
    rw [e0, e1, e2, e3, e4, e5]

end Cert.Proof

end
-- ==== Proof.Bits.Frames.lean ====
/- The frame: the body is safe at every point, so the program runs, its arguments end as launched and its semaphores at zero. -/
module

public import proofs.«01_k».proof.Defs
public import proofs.«01_k».proof.Proof.Bits.Point

@[expose] public section

noncomputable section

namespace Cert.Kernel.Body

open Idealize.ShloMosaic
open Idealize.ShloMosaic.TcCoe
open Idealize.SL Idealize.SL.RA Idealize.SL.Sem
open Cert.Kernel Cert.Kernel.Gen Cert.Proof

variable {F : FTy → Type} [FloatOps F]

theorem body_safe (m : (ℓ : Loc nD τ sig) → Idealize.ShloMosaic.Buf (Elt F) ℓ) (c : Dev nD) : BodyRuns m (fun _ _ => True) (fun _ _ => True) c :=
  fun t Y s _ _ => (safe_cc0_dsa_index_select_attend (tables_stateAt t Y s) (stateAt t Y s) (fun _ _ => rfl)).mono
    fun _ _ h => ⟨h, trivial, trivial⟩

/-- From any launch the program runs to its end, each argument as launched, every semaphore at zero. -/
theorem frame_any (m : (ℓ : Loc nD τ sig) → Idealize.ShloMosaic.Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run (defs (F := F)) _ _).mono (fun r h => ⟨fun c => ?_, h.2⟩) (run_main m (fun _ _ => True) (fun _ _ => True) g (fun c => body_safe m c) fun _ => trivial)
  exact ⟨h.1.arr_in c 0 rfl, h.1.arr_in c 2 rfl, h.1.arr_in c 3 rfl, h.1.arr_in c 4 rfl, h.1.arr_in c 5 rfl, h.1.arr_in c 6 rfl⟩

end Cert.Kernel.Body

namespace Cert.Proof

open Idealize.ShloMosaic

theorem frame_kernel : Cert.quiescent_Kernel := fun m g _ => Cert.Kernel.Body.frame_any (F := Bits) m g

end Cert.Proof

end
-- ==== Proof.GateValue.lean ====
/- The gate path: every block of the grid is the block of silu of the whole product. -/
module

public import proofs.«01_k».proof.Defs
public import proofs.«01_k».proof.Proof.Gen.GateIdeal.Frame
public import proofs.«01_k».proof.Proof.Gen.GateReferenceIdeal.Run
public import Idealize.ShloMosaic.Lib.Pipeline.ValueKit
public import Idealize.ShloMosaic.Lib.Claim

@[expose] public section

set_option maxRecDepth 16384

noncomputable section

namespace Cert.GateIdeal.Hand

open Idealize.ShloMosaic Idealize.ShloMosaic.TcCoe Idealize.SL.Sem
open Idealize.ShloMosaic.Pipeline (Dat)
open Cert.GateIdeal Cert.GateIdeal.Gen

variable (m : (ℓ : Loc nD τ sig) → Buf (Elt Ideal) ℓ)

/-- The reference's term over the argument arrays. -/
abbrev REF (X : FVec Ideal S8192x2048 .bf16) (W : FVec Ideal S2048x9296 .f32) : FVec Ideal S8192x2048 .bf16 :=
  truncf .bf16 (mulf (Host.dotGeneral Cert.GateReferenceIdeal.dot_S8192x2048_S2048x2048_S8192x2048_1_0_0_1_n_n none (extf .f32 X Cert.GateReferenceIdeal.Gen.bitsLt_bf16_f32) (extractStridedSlice Cert.GateReferenceIdeal.S2048x2048 ![0, 6144] W Cert.GateReferenceIdeal.Gen.slices_S2048x9296_S2048x2048_0_6144)) (Host.divf (broadcastInDim Cert.GateReferenceIdeal.S8192x2048 ![] Cert.GateReferenceIdeal.Gen.bcast_S_S8192x2048 (constant Cert.GateReferenceIdeal.S_ .f32 0x3F800000#32)) (addf (broadcastInDim Cert.GateReferenceIdeal.S8192x2048 ![] Cert.GateReferenceIdeal.Gen.bcast_S_S8192x2048 (constant Cert.GateReferenceIdeal.S_ .f32 0x3F800000#32)) (Host.exp (Host.negf (Host.dotGeneral Cert.GateReferenceIdeal.dot_S8192x2048_S2048x2048_S8192x2048_1_0_0_1_n_n none (extf .f32 X Cert.GateReferenceIdeal.Gen.bitsLt_bf16_f32) (extractStridedSlice Cert.GateReferenceIdeal.S2048x2048 ![0, 6144] W Cert.GateReferenceIdeal.Gen.slices_S2048x9296_S2048x2048_0_6144))))))) Cert.GateReferenceIdeal.Gen.bitsLt_bf16_f32

/-- Where each window's block sits at a point. -/
theorem idx : ∀ t : Fin cfg0.N, win0_0.index t = ![t.val / 2, 0] ∧ win0_1.index t = ![0, t.val % 2] ∧ win0_2.index t = ![t.val / 2, t.val % 2] ∧ t.val / 2 < 8 :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  rw [Ideal.logistic]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GateIdeal.Hand

namespace Cert.Proof

open Idealize.ShloMosaic

theorem algebraic_gate : Cert.algebraic_GateIdeal_GateReferenceIdeal := by
  pair_intro
  · run_from Cert.GateIdeal.Gen.run_main m g
  · run_from Cert.GateReferenceIdeal.Value.run m' g'
    exact (Cert.GateIdeal.Hand.final m c).symm

end Cert.Proof

end
-- ==== Proof.PoolValueValue.lean ====
/- The pooling mixer's values: every block of the grid is the block of the whole product. -/
module

public import proofs.«01_k».proof.Defs
public import proofs.«01_k».proof.Proof.Gen.PoolValueIdeal.Frame
public import proofs.«01_k».proof.Proof.Gen.PoolValueReferenceIdeal.Run
public import Idealize.ShloMosaic.Lib.Pipeline.ValueKit
public import Idealize.ShloMosaic.Lib.Claim

@[expose] public section

set_option maxRecDepth 16384

noncomputable section

namespace Cert.PoolValueIdeal.Hand

open Idealize.ShloMosaic Idealize.ShloMosaic.TcCoe Idealize.SL.Sem
open Idealize.ShloMosaic.Pipeline (Dat)
open Cert.PoolValueIdeal Cert.PoolValueIdeal.Gen

variable (m : (ℓ : Loc nD τ sig) → Buf (Elt Ideal) ℓ)

/-- The reference's term over the argument arrays. -/
abbrev REF (X : FVec Ideal S8192x2048 .bf16) (W : FVec Ideal S2048x4096 .f32) : FVec Ideal S8192x2048 .f32 :=
  Host.dotGeneral Cert.PoolValueReferenceIdeal.dot_S8192x2048_S2048x2048_S8192x2048_1_0_0_1_n_n none (extf .f32 X Cert.PoolValueReferenceIdeal.Gen.bitsLt_bf16_f32) (extractStridedSlice Cert.PoolValueReferenceIdeal.S2048x2048 ![0, 0] W Cert.PoolValueReferenceIdeal.Gen.slices_S2048x4096_S2048x2048_0_0)

/-- Where each window's block sits at a point. -/
theorem idx : ∀ t : Fin cfg0.N, win0_0.index t = ![t.val / 2, 0] ∧ win0_1.index t = ![0, t.val % 2] ∧ win0_2.index t = ![t.val / 2, t.val % 2] ∧ t.val / 2 < 8 :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.PoolValueIdeal.Hand

namespace Cert.Proof

open Idealize.ShloMosaic

theorem algebraic_poolValue : Cert.algebraic_PoolValueIdeal_PoolValueReferenceIdeal := by
  pair_intro
  · run_from Cert.PoolValueIdeal.Gen.run_main m g
  · run_from Cert.PoolValueReferenceIdeal.Value.run m' g'
    exact (Cert.PoolValueIdeal.Hand.final m c).symm

end Cert.Proof

end
-- ==== Proof.ValuesValue.lean ====
/- The values, transposed head by head: every block of the grid is the block of the whole transposed product. -/
module

public import proofs.«01_k».proof.Defs
public import proofs.«01_k».proof.Proof.Gen.ValuesIdeal.Frame
public import proofs.«01_k».proof.Proof.Gen.ValuesReferenceIdeal.Run
public import Idealize.ShloMosaic.Lib.Pipeline.ValueKit
public import Idealize.ShloMosaic.Lib.Claim

@[expose] public section

set_option maxRecDepth 16384

noncomputable section

namespace Cert.ValuesIdeal.Hand

open Idealize.ShloMosaic Idealize.ShloMosaic.TcCoe Idealize.SL.Sem
open Idealize.ShloMosaic.Pipeline (Dat)
open Cert.ValuesIdeal Cert.ValuesIdeal.Gen

variable (m : (ℓ : Loc nD τ sig) → Buf (Elt Ideal) ℓ)

/-- The reference's term over the argument arrays. -/
abbrev REF (X : FVec Ideal S8192x2048 .bf16) (W : FVec Ideal S2048x9296 .f32) : FVec Ideal S16x128x8192 .bf16 :=
  truncf .bf16 (transpose Cert.ValuesReferenceIdeal.S16x128x8192 [1, 2, 0] (shapeCast _ (Host.dotGeneral Cert.ValuesReferenceIdeal.dot_S8192x2048_S2048x2048_S8192x2048_1_0_0_1_n_n none (extf .f32 X Cert.ValuesReferenceIdeal.Gen.bitsLt_bf16_f32) (extractStridedSlice Cert.ValuesReferenceIdeal.S2048x2048 ![0, 4096] W Cert.ValuesReferenceIdeal.Gen.slices_S2048x9296_S2048x2048_0_4096)) Cert.ValuesReferenceIdeal.Gen.shapeCasts_S8192x2048_S8192x16x128) Cert.ValuesReferenceIdeal.Gen.transposes_S8192x16x128_S16x128x8192_1_2_0) Cert.ValuesReferenceIdeal.Gen.bitsLt_bf16_f32

/-- Where each window's block sits at a point. -/
theorem idx : ∀ t : Fin cfg0.N, win0_0.index t = ![t.val % 4, 0] ∧ win0_1.index t = ![t.val / 4, 0] ∧ win0_2.index t = ![t.val % 4, 0, t.val / 4] ∧ t.val / 4 < 8 :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun x _ => ?_
  rw [mul_comm]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ValuesIdeal.Hand

namespace Cert.Proof

open Idealize.ShloMosaic

theorem algebraic_values : Cert.algebraic_ValuesIdeal_ValuesReferenceIdeal := by
  pair_intro
  · run_from Cert.ValuesIdeal.Gen.run_main m g
  · run_from Cert.ValuesReferenceIdeal.Value.run m' g'
    exact (Cert.ValuesIdeal.Hand.final m c).symm

end Cert.Proof

end
-- ==== Proof.OutNormValue.lean ====
/- The output projection, the residual and the next norm: every block of rows is the block of the whole layer's step. -/
module

public import proofs.«01_k».proof.Defs
public import proofs.«01_k».proof.Proof.Gen.OutNormIdeal.Frame
public import proofs.«01_k».proof.Proof.Gen.OutNormReferenceIdeal.Run
public import Idealize.ShloMosaic.Lib.Pipeline.ValueKit
public import Idealize.ShloMosaic.Lib.Claim

@[expose] public section

set_option maxRecDepth 16384

noncomputable section

namespace Cert.OutNormIdeal.Hand

open Idealize.ShloMosaic Idealize.ShloMosaic.TcCoe Idealize.SL.Sem
open Idealize.ShloMosaic.Pipeline (Dat)
open Cert.OutNormIdeal Cert.OutNormIdeal.Gen

variable (m : (ℓ : Loc nD τ sig) → Buf (Elt Ideal) ℓ)

/-- A sum over 2048 lanes, taken 512 at a time. -/
theorem sum4 (f : Fin 2048 → EReal) : ∑ x, f x
    = ∑ x : Fin 512, f ⟨x, by omega⟩ + ∑ x : Fin 512, f ⟨512 + x, by omega⟩ + ∑ x : Fin 512, f ⟨1024 + x, by omega⟩ + ∑ x : Fin 512, f ⟨1536 + x, by omega⟩ := by
  rw [← Fin.sum_congr' f (show 512 + 512 + 512 + 512 = 2048 from rfl), Fin.sum_univ_add, Fin.sum_univ_add, Fin.sum_univ_add]
  rfl

/-- The residual stream after the branch. -/
abbrev RES (X : FVec Ideal S8192x2048 .bf16) (W : FVec Ideal S2048x2048 .f32) (R : FVec Ideal S8192x2048 .f32) (G : FVec Ideal S1x2048 .f32) : FVec Ideal S8192x2048 .f32 :=
  addf R (mulf (broadcastInDim Cert.OutNormReferenceIdeal.S8192x2048 ![0, 1] Cert.OutNormReferenceIdeal.Gen.bcast_S1x2048_S8192x2048_0_1 G) (Host.dotGeneral Cert.OutNormReferenceIdeal.dot_S8192x2048_S2048x2048_S8192x2048_1_0_0_1_n_n none (extf .f32 X Cert.OutNormReferenceIdeal.Gen.bitsLt_bf16_f32) W))

/-- The normed and modulated rows. -/
abbrev REF (X : FVec Ideal S8192x2048 .bf16) (W : FVec Ideal S2048x2048 .f32) (R : FVec Ideal S8192x2048 .f32) (G : FVec Ideal S1x2048 .f32) (N : FVec Ideal S2048 .f32) (C : FVec Ideal S1x2048 .f32) (H : FVec Ideal S1x2048 .f32) : FVec Ideal S8192x2048 .bf16 :=
  truncf .bf16 (addf (mulf (mulf (mulf (RES X W R G) (broadcastInDim Cert.OutNormReferenceIdeal.S8192x2048 ![0, 1] Cert.OutNormReferenceIdeal.Gen.bcast_S8192x1_S8192x2048_0_1 (Host.rsqrt (addf (Host.divf (broadcastInDim Cert.OutNormReferenceIdeal.S8192x1 ![0] Cert.OutNormReferenceIdeal.Gen.bcast_S8192_S8192x1_0 (Host.reduceAdd (mulf (RES X W R G) (RES X W R G)) (constant Cert.OutNormReferenceIdeal.S_ .f32 0x00000000#32) Cert.OutNormReferenceIdeal.Gen.reducesTo_S8192x2048_S8192_d1 Cert.OutNormReferenceIdeal.Gen.h_S_)) (broadcastInDim Cert.OutNormReferenceIdeal.S8192x1 ![] Cert.OutNormReferenceIdeal.Gen.bcast_S_S8192x1 (constant Cert.OutNormReferenceIdeal.S_ .f32 0x45000000#32))) (broadcastInDim Cert.OutNormReferenceIdeal.S8192x1 ![] Cert.OutNormReferenceIdeal.Gen.bcast_S_S8192x1 (constant Cert.OutNormReferenceIdeal.S_ .f32 0x358637BD#32)))))) (broadcastInDim Cert.OutNormReferenceIdeal.S8192x2048 ![0, 1] Cert.OutNormReferenceIdeal.Gen.bcast_S1x2048_S8192x2048_0_1 (broadcastInDim Cert.OutNormReferenceIdeal.S1x2048 ![1] Cert.OutNormReferenceIdeal.Gen.bcast_S2048_S1x2048_1 N))) (broadcastInDim Cert.OutNormReferenceIdeal.S8192x2048 ![0, 1] Cert.OutNormReferenceIdeal.Gen.bcast_S1x2048_S8192x2048_0_1 (addf (broadcastInDim Cert.OutNormReferenceIdeal.S1x2048 ![] Cert.OutNormReferenceIdeal.Gen.bcast_S_S1x2048 (constant Cert.OutNormReferenceIdeal.S_ .f32 0x3F800000#32)) C))) (broadcastInDim Cert.OutNormReferenceIdeal.S8192x2048 ![0, 1] Cert.OutNormReferenceIdeal.Gen.bcast_S1x2048_S8192x2048_0_1 H)) Cert.OutNormReferenceIdeal.Gen.bitsLt_bf16_f32

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

theorem final7 (c : Dev nD) : (dats m 0 c).arrAt 7 (cfgs 0).N
    = RES (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; unfold outsAt0; frame_out
  canon_tiles x h
  all_goals (open_payloads; pointwise [RES]; blk_point [iblk, V, idx t])

theorem final8 (c : Dev nD) : (dats m 0 c).arrAt 8 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; unfold outsAt0; frame_out
  generalize hZ : View.readCov (Val := Elt Ideal) _ _ _ = Z
  have hZ' : Z = fun y => RES (m ((c : Thread nD τ).loc main_arg0)) (m ((c : Thread nD τ).loc main_arg1)) (m ((c : Thread nD τ).loc main_arg2)) (m ((c : Thread nD τ).loc main_arg3)) (((cfg0.win 7).blk t).view.emb y) := by
    rw [← hZ, View.readCov_eq_canon']
    funext j
    rw [show (Rect.unit (s := S512x2048) ![0, 0] ![512, 2048] inb_S512x2048_S512x2048_0_0).toLoadRect.idx j = j from by
      funext a; apply Fin.ext; fin_cases a <;> simp [Rect.toLoadRect, Rect.unit, LoadRect.idx]]
    canon_tiles x h
    all_goals (open_payloads; pointwise [RES]; blk_point [iblk, V, idx t])
  clear hZ
  subst hZ'
  pointwise [k0_pay1, k0_pay2, k0_pay3, k0_pay4, k0_pay5, k0_pay6, k0_pay7, k0_pay8, k0_pay9, REF, RES]
  conv_rhs => enter [1, 1, 1, 2, 1, 1, 1]; rw [sum4]
  blk_point [iblk, V, idx t]

end Cert.OutNormIdeal.Hand

namespace Cert.Proof

open Idealize.ShloMosaic

theorem algebraic_outNorm : Cert.algebraic_OutNormIdeal_OutNormReferenceIdeal := by
  pair_intro
  · run_from Cert.OutNormIdeal.Gen.run_main m g
  · run_from Cert.OutNormReferenceIdeal.Value.run m' g'
    · exact (Cert.OutNormIdeal.Hand.final7 m c).symm
    · exact (Cert.OutNormIdeal.Hand.final8 m c).symm

end Cert.Proof

end
-- ==== Proof.OutFinalValue.lean ====
/- The output projection, the residual and the last norm: every block of rows is the block of the whole layer's step. -/
module

public import proofs.«01_k».proof.Defs
public import proofs.«01_k».proof.Proof.Gen.OutFinalIdeal.Frame
public import proofs.«01_k».proof.Proof.Gen.OutFinalReferenceIdeal.Run
public import Idealize.ShloMosaic.Lib.Pipeline.ValueKit
public import Idealize.ShloMosaic.Lib.Claim

@[expose] public section

set_option maxRecDepth 16384

noncomputable section

namespace Cert.OutFinalIdeal.Hand

open Idealize.ShloMosaic Idealize.ShloMosaic.TcCoe Idealize.SL.Sem
open Idealize.ShloMosaic.Pipeline (Dat)
open Cert.OutFinalIdeal Cert.OutFinalIdeal.Gen

variable (m : (ℓ : Loc nD τ sig) → Buf (Elt Ideal) ℓ)

/-- A sum over 2048 lanes, taken 512 at a time. -/
theorem sum4 (f : Fin 2048 → EReal) : ∑ x, f x
    = ∑ x : Fin 512, f ⟨x, by omega⟩ + ∑ x : Fin 512, f ⟨512 + x, by omega⟩ + ∑ x : Fin 512, f ⟨1024 + x, by omega⟩ + ∑ x : Fin 512, f ⟨1536 + x, by omega⟩ := by
  rw [← Fin.sum_congr' f (show 512 + 512 + 512 + 512 = 2048 from rfl), Fin.sum_univ_add, Fin.sum_univ_add, Fin.sum_univ_add]
  rfl

/-- The residual stream after the branch. -/
abbrev RES (X : FVec Ideal S8192x2048 .bf16) (W : FVec Ideal S2048x2048 .f32) (R : FVec Ideal S8192x2048 .f32) (G : FVec Ideal S1x2048 .f32) : FVec Ideal S8192x2048 .f32 :=
  addf R (mulf (broadcastInDim Cert.OutFinalReferenceIdeal.S8192x2048 ![0, 1] Cert.OutFinalReferenceIdeal.Gen.bcast_S1x2048_S8192x2048_0_1 G) (Host.dotGeneral Cert.OutFinalReferenceIdeal.dot_S8192x2048_S2048x2048_S8192x2048_1_0_0_1_n_n none (extf .f32 X Cert.OutFinalReferenceIdeal.Gen.bitsLt_bf16_f32) W))

/-- The normed rows. -/
abbrev REF (X : FVec Ideal S8192x2048 .bf16) (W : FVec Ideal S2048x2048 .f32) (R : FVec Ideal S8192x2048 .f32) (G : FVec Ideal S1x2048 .f32) (N : FVec Ideal S2048 .f32) : FVec Ideal S8192x2048 .f32 :=
  mulf (mulf (RES X W R G) (broadcastInDim Cert.OutFinalReferenceIdeal.S8192x2048 ![0, 1] Cert.OutFinalReferenceIdeal.Gen.bcast_S8192x1_S8192x2048_0_1 (Host.rsqrt (addf (Host.divf (broadcastInDim Cert.OutFinalReferenceIdeal.S8192x1 ![0] Cert.OutFinalReferenceIdeal.Gen.bcast_S8192_S8192x1_0 (Host.reduceAdd (mulf (RES X W R G) (RES X W R G)) (constant Cert.OutFinalReferenceIdeal.S_ .f32 0x00000000#32) Cert.OutFinalReferenceIdeal.Gen.reducesTo_S8192x2048_S8192_d1 Cert.OutFinalReferenceIdeal.Gen.h_S_)) (broadcastInDim Cert.OutFinalReferenceIdeal.S8192x1 ![] Cert.OutFinalReferenceIdeal.Gen.bcast_S_S8192x1 (constant Cert.OutFinalReferenceIdeal.S_ .f32 0x45000000#32))) (broadcastInDim Cert.OutFinalReferenceIdeal.S8192x1 ![] Cert.OutFinalReferenceIdeal.Gen.bcast_S_S8192x1 (constant Cert.OutFinalReferenceIdeal.S_ .f32 0x358637BD#32)))))) (broadcastInDim Cert.OutFinalReferenceIdeal.S8192x2048 ![0, 1] Cert.OutFinalReferenceIdeal.Gen.bcast_S1x2048_S8192x2048_0_1 (broadcastInDim Cert.OutFinalReferenceIdeal.S1x2048 ![1] Cert.OutFinalReferenceIdeal.Gen.bcast_S2048_S1x2048_1 N))

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

set_option maxHeartbeats 1000000 in
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; unfold outsAt0; frame_out
  generalize hZ : View.readCov (Val := Elt Ideal) _ _ _ = Z
  have hZ' : Z = fun y => RES (m ((c : Thread nD τ).loc main_arg0)) (m ((c : Thread nD τ).loc main_arg1)) (m ((c : Thread nD τ).loc main_arg2)) (m ((c : Thread nD τ).loc main_arg3)) (((cfg0.win 7).blk t).view.emb y) := by
    rw [← hZ, View.readCov_eq_canon']
    funext j
    rw [show (Rect.unit (s := S512x2048) ![0, 0] ![512, 2048] inb_S512x2048_S512x2048_0_0).toLoadRect.idx j = j from by
      funext a; apply Fin.ext; fin_cases a <;> simp [Rect.toLoadRect, Rect.unit, LoadRect.idx]]
    canon_tiles x h
    all_goals (open_payloads; pointwise [RES]; blk_point [iblk, V, idx t])
  clear hZ
  subst hZ'
  open_payloads
  pointwise [REF, RES]
  conv_rhs => enter [1, 2, 1, 1, 1]; rw [sum4]
  blk_point [iblk, V, idx t]

end Cert.OutFinalIdeal.Hand

namespace Cert.Proof

open Idealize.ShloMosaic

theorem algebraic_outFinal : Cert.algebraic_OutFinalIdeal_OutFinalReferenceIdeal := by
  pair_intro
  · run_from Cert.OutFinalIdeal.Gen.run_main m g
  · run_from Cert.OutFinalReferenceIdeal.Value.run m' g'
    exact (Cert.OutFinalIdeal.Hand.final m c).symm

end Cert.Proof

end
-- ==== Proof.lean ====
/- The certificate: the frames of every call and reference, that each idealization is its call's own text, and what the calls compute. -/
module

public import proofs.«01_k».proof.Proof.QueriesKeysValue
public import proofs.«01_k».proof.Proof.IndexerValue
public import proofs.«01_k».proof.Defs
public import proofs.«01_k».proof.Proof.Frames
public import proofs.«01_k».proof.Proof.KernelClaim
public import proofs.«01_k».proof.Proof.Bits.Frames
public import proofs.«01_k».proof.Proof.Gen.Gate.Frame
public import proofs.«01_k».proof.Proof.Gen.GateIdeal.Frame
public import proofs.«01_k».proof.Proof.Gen.GateIdeal.Value
public import proofs.«01_k».proof.Proof.Gen.GateReferenceIdeal.Run
public import proofs.«01_k».proof.Proof.Gen.PoolValue.Frame
public import proofs.«01_k».proof.Proof.Gen.PoolValueIdeal.Frame
public import proofs.«01_k».proof.Proof.Gen.PoolValueIdeal.Value
public import proofs.«01_k».proof.Proof.Gen.PoolValueReferenceIdeal.Run
public import proofs.«01_k».proof.Proof.Gen.Values.Frame
public import proofs.«01_k».proof.Proof.Gen.ValuesIdeal.Frame
public import proofs.«01_k».proof.Proof.Gen.ValuesIdeal.Value
public import proofs.«01_k».proof.Proof.Gen.ValuesReferenceIdeal.Run
public import proofs.«01_k».proof.Proof.Gen.OutNorm.Frame
public import proofs.«01_k».proof.Proof.Gen.OutNormIdeal.Frame
public import proofs.«01_k».proof.Proof.Gen.OutNormIdeal.Value
public import proofs.«01_k».proof.Proof.Gen.OutNormReferenceIdeal.Run
public import proofs.«01_k».proof.Proof.Gen.OutFinal.Frame
public import proofs.«01_k».proof.Proof.Gen.OutFinalIdeal.Frame
public import proofs.«01_k».proof.Proof.Gen.OutFinalIdeal.Value
public import proofs.«01_k».proof.Proof.Gen.OutFinalReferenceIdeal.Run
public import proofs.«01_k».proof.Proof.GateValue
public import proofs.«01_k».proof.Proof.PoolValueValue
public import proofs.«01_k».proof.Proof.ValuesValue
public import proofs.«01_k».proof.Proof.OutNormValue
public import proofs.«01_k».proof.Proof.OutFinalValue

@[expose] public section

noncomputable section

namespace Cert.Proof

open Idealize.ShloMosaic

theorem ref_gate : Cert.quiescent_GateReferenceIdeal := by
  intro m g _
  run_from Cert.GateReferenceIdeal.Value.run m g
  all_goals first
    | exact fun _ => by simp
    | exact funext fun s => by obtain ⟨_, s | s⟩ := s <;> exact s.elim0

theorem ref_poolValue : Cert.quiescent_PoolValueReferenceIdeal := by
  intro m g _
  run_from Cert.PoolValueReferenceIdeal.Value.run m g
  all_goals first
    | exact fun _ => by simp
    | exact funext fun s => by obtain ⟨_, s | s⟩ := s <;> exact s.elim0

theorem ref_values : Cert.quiescent_ValuesReferenceIdeal := by
  intro m g _
  run_from Cert.ValuesReferenceIdeal.Value.run m g
  all_goals first
    | exact fun _ => by simp
    | exact funext fun s => by obtain ⟨_, s | s⟩ := s <;> exact s.elim0

theorem ref_outNorm : Cert.quiescent_OutNormReferenceIdeal := by
  intro m g _
  run_from Cert.OutNormReferenceIdeal.Value.run m g
  all_goals first
    | exact fun _ => by simp
    | exact funext fun s => by obtain ⟨_, s | s⟩ := s <;> exact s.elim0

theorem ref_outFinal : Cert.quiescent_OutFinalReferenceIdeal := by
  intro m g _
  run_from Cert.OutFinalReferenceIdeal.Value.run m g
  all_goals first
    | exact fun _ => by simp
    | exact funext fun s => by obtain ⟨_, s | s⟩ := s <;> exact s.elim0

theorem ref_queriesKeys : Cert.quiescent_QueriesKeysReferenceIdeal := by
  intro m g _
  run_from Cert.QueriesKeysReferenceIdeal.Value.run m g
  all_goals first
    | exact fun _ => by simp
    | exact funext fun s => by obtain ⟨_, s | s⟩ := s <;> exact s.elim0

theorem ref_indexer : Cert.quiescent_IndexerReferenceIdeal := by
  intro m g _
  run_from Cert.IndexerReferenceIdeal.Value.run m g
  all_goals first
    | exact fun _ => by simp
    | exact funext fun s => by obtain ⟨_, s | s⟩ := s <;> exact s.elim0

theorem claim : Cert.Claim :=
  ⟨Cert.Kernel.Gen.facts,
    Cert.KernelIdeal.Gen.facts,
    Cert.KernelReferenceIdeal.Gen.facts,
    Cert.Gate.Gen.facts,
    Cert.GateIdeal.Gen.facts,
    Cert.GateReferenceIdeal.Gen.facts,
    Cert.PoolValue.Gen.facts,
    Cert.PoolValueIdeal.Gen.facts,
    Cert.PoolValueReferenceIdeal.Gen.facts,
    Cert.Values.Gen.facts,
    Cert.ValuesIdeal.Gen.facts,
    Cert.ValuesReferenceIdeal.Gen.facts,
    Cert.OutNorm.Gen.facts,
    Cert.OutNormIdeal.Gen.facts,
    Cert.OutNormReferenceIdeal.Gen.facts,
    Cert.OutFinal.Gen.facts,
    Cert.OutFinalIdeal.Gen.facts,
    Cert.OutFinalReferenceIdeal.Gen.facts,
    Cert.QueriesKeys.Gen.facts,
    Cert.QueriesKeysIdeal.Gen.facts,
    Cert.QueriesKeysReferenceIdeal.Gen.facts,
    Cert.Indexer.Gen.facts,
    Cert.IndexerIdeal.Gen.facts,
    Cert.IndexerReferenceIdeal.Gen.facts,
    rotate_facts,
    indexer_rotate_facts,
    mask_facts,
    frame_kernel,
    frame_kernelIdeal,
    ref_kernel,
    fun m g _ => Cert.Gate.Gen.frame m g,
    fun m g _ => Cert.GateIdeal.Gen.frame m g,
    ref_gate,
    fun m g _ => Cert.PoolValue.Gen.frame m g,
    fun m g _ => Cert.PoolValueIdeal.Gen.frame m g,
    ref_poolValue,
    fun m g _ => Cert.Values.Gen.frame m g,
    fun m g _ => Cert.ValuesIdeal.Gen.frame m g,
    ref_values,
    fun m g _ => Cert.OutNorm.Gen.frame m g,
    fun m g _ => Cert.OutNormIdeal.Gen.frame m g,
    ref_outNorm,
    fun m g _ => Cert.OutFinal.Gen.frame m g,
    fun m g _ => Cert.OutFinalIdeal.Gen.frame m g,
    ref_outFinal,
    fun m g _ => Cert.QueriesKeys.Gen.frame m g,
    fun m g _ => Cert.QueriesKeysIdeal.Gen.frame m g,
    fun m g _ => Cert.QueriesKeysIdeal.Gen.frame m g,
    ref_queriesKeys,
    fun m g _ => ref_queriesKeys m g trivial,
    fun m g _ => Cert.Indexer.Gen.frame m g,
    fun m g _ => Cert.IndexerIdeal.Gen.frame m g,
    fun m g _ => Cert.IndexerIdeal.Gen.frame m g,
    ref_indexer,
    fun m g _ => ref_indexer m g trivial,
    preserves_kernel,
    algebraic_kernel,
    trivial,
    algebraic_gate,
    trivial,
    algebraic_poolValue,
    trivial,
    algebraic_values,
    trivial,
    algebraic_outNorm,
    trivial,
    algebraic_outFinal,
    trivial,
    algebraic_queries_keys,
    trivial,
    algebraic_indexer⟩

end Cert.Proof

end
